-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9)
      ∧ r.2.mem ((c.tc : Thread Cert.Kernel9.nD Cert.Kernel9.τ).loc Cert.Kernel9.main_arg10) = m ((c.tc : Thread Cert.Kernel9.nD Cert.Kernel9.τ).loc Cert.Kernel9.main_arg10)
      ∧ r.2.mem ((c.tc : Thread Cert.Kernel9.nD Cert.Kernel9.τ).loc Cert.Kernel9.main_arg11) = m ((c.tc : Thread Cert.Kernel9.nD Cert.Kernel9.τ).loc Cert.Kernel9.main_arg11)
      ∧ r.2.mem ((c.tc : Thread Cert.Kernel9.nD Cert.Kernel9.τ).loc Cert.Kernel9.main_arg12) = m ((c.tc : Thread Cert.Kernel9.nD Cert.Kernel9.τ).loc Cert.Kernel9.main_arg12)
      ∧ r.2.mem ((c.tc : Thread Cert.Kernel9.nD Cert.Kernel9.τ).loc Cert.Kernel9.main_arg13) = m ((c.tc : Thread Cert.Kernel9.nD Cert.Kernel9.τ).loc Cert.Kernel9.main_arg13)
      ∧ r.2.mem ((c.tc : Thread Cert.Kernel9.nD Cert.Kernel9.τ).loc Cert.Kernel9.main_arg14) = m ((c.tc : Thread Cert.Kernel9.nD Cert.Kernel9.τ).loc Cert.Kernel9.main_arg14)
      ∧ r.2.mem ((c.tc : Thread Cert.Kernel9.nD Cert.Kernel9.τ).loc Cert.Kernel9.main_arg15) = m ((c.tc : Thread Cert.Kernel9.nD Cert.Kernel9.τ).loc Cert.Kernel9.main_arg15))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
      ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11)
      ∧ r.2.mem ((c.tc : Thread Cert.Kernel9Ideal.nD Cert.Kernel9Ideal.τ).loc Cert.Kernel9Ideal.main_arg12) = m ((c.tc : Thread Cert.Kernel9Ideal.nD Cert.Kernel9Ideal.τ).loc Cert.Kernel9Ideal.main_arg12)
      ∧ r.2.mem ((c.tc : Thread Cert.Kernel9Ideal.nD Cert.Kernel9Ideal.τ).loc Cert.Kernel9Ideal.main_arg13) = m ((c.tc : Thread Cert.Kernel9Ideal.nD Cert.Kernel9Ideal.τ).loc Cert.Kernel9Ideal.main_arg13)
      ∧ r.2.mem ((c.tc : Thread Cert.Kernel9Ideal.nD Cert.Kernel9Ideal.τ).loc Cert.Kernel9Ideal.main_arg14) = m ((c.tc : Thread Cert.Kernel9Ideal.nD Cert.Kernel9Ideal.τ).loc Cert.Kernel9Ideal.main_arg14)
      ∧ r.2.mem ((c.tc : Thread Cert.Kernel9Ideal.nD Cert.Kernel9Ideal.τ).loc Cert.Kernel9Ideal.main_arg15) = m ((c.tc : Thread Cert.Kernel9Ideal.nD Cert.Kernel9Ideal.τ).loc Cert.Kernel9Ideal.main_arg15))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10)
      ∧ r.2.mem ((c.tc : Thread Cert.Reference9Ideal.nD Cert.Reference9Ideal.τ).loc Cert.Reference9Ideal.main_arg11) = m ((c.tc : Thread Cert.Reference9Ideal.nD Cert.Reference9Ideal.τ).loc Cert.Reference9Ideal.main_arg11)
      ∧ r.2.mem ((c.tc : Thread Cert.Reference9Ideal.nD Cert.Reference9Ideal.τ).loc Cert.Reference9Ideal.main_arg12) = m ((c.tc : Thread Cert.Reference9Ideal.nD Cert.Reference9Ideal.τ).loc Cert.Reference9Ideal.main_arg12)
      ∧ r.2.mem ((c.tc : Thread Cert.Reference9Ideal.nD Cert.Reference9Ideal.τ).loc Cert.Reference9Ideal.main_arg13) = m ((c.tc : Thread Cert.Reference9Ideal.nD Cert.Reference9Ideal.τ).loc Cert.Reference9Ideal.main_arg13)
      ∧ r.2.mem ((c.tc : Thread Cert.Reference9Ideal.nD Cert.Reference9Ideal.τ).loc Cert.Reference9Ideal.main_arg14) = m ((c.tc : Thread Cert.Reference9Ideal.nD Cert.Reference9Ideal.τ).loc Cert.Reference9Ideal.main_arg14)
      ∧ r.2.mem ((c.tc : Thread Cert.Reference9Ideal.nD Cert.Reference9Ideal.τ).loc Cert.Reference9Ideal.main_arg15) = m ((c.tc : Thread Cert.Reference9Ideal.nD Cert.Reference9Ideal.τ).loc Cert.Reference9Ideal.main_arg15))
      ∧ r.2.sem = fun _ => 0)

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)) (v2 : (c : Dev Cert.Kernel2Ideal.nD) → Buf (Elt Ideal) ((c.tc : Thread Cert.Kernel2Ideal.nD Cert.Kernel2Ideal.τ).loc Cert.Kernel2Ideal.main_v5_2)) (v3 : (c : Dev Cert.Kernel2Ideal.nD) → Buf (Elt Ideal) ((c.tc : Thread Cert.Kernel2Ideal.nD Cert.Kernel2Ideal.τ).loc Cert.Kernel2Ideal.main_v5_3)) (v4 : (c : Dev Cert.Kernel2Ideal.nD) → Buf (Elt Ideal) ((c.tc : Thread Cert.Kernel2Ideal.nD Cert.Kernel2Ideal.τ).loc Cert.Kernel2Ideal.main_v5_4)) (v5 : (c : Dev Cert.Kernel2Ideal.nD) → Buf (Elt Ideal) ((c.tc : Thread Cert.Kernel2Ideal.nD Cert.Kernel2Ideal.τ).loc Cert.Kernel2Ideal.main_v5_5)) (v6 : (c : Dev Cert.Kernel2Ideal.nD) → Buf (Elt Ideal) ((c.tc : Thread Cert.Kernel2Ideal.nD Cert.Kernel2Ideal.τ).loc Cert.Kernel2Ideal.main_v5_6)) (v7 : (c : Dev Cert.Kernel2Ideal.nD) → Buf (Elt Ideal) ((c.tc : Thread Cert.Kernel2Ideal.nD Cert.Kernel2Ideal.τ).loc Cert.Kernel2Ideal.main_v5_7)) (v8 : (c : Dev Cert.Kernel2Ideal.nD) → Buf (Elt Ideal) ((c.tc : Thread Cert.Kernel2Ideal.nD Cert.Kernel2Ideal.τ).loc Cert.Kernel2Ideal.main_v5_8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_v5_2) = v2 c
          ∧ r.2.mem ((c.tc : Thread Cert.Kernel2Ideal.nD Cert.Kernel2Ideal.τ).loc Cert.Kernel2Ideal.main_v5_3) = v3 c
          ∧ r.2.mem ((c.tc : Thread Cert.Kernel2Ideal.nD Cert.Kernel2Ideal.τ).loc Cert.Kernel2Ideal.main_v5_4) = v4 c
          ∧ r.2.mem ((c.tc : Thread Cert.Kernel2Ideal.nD Cert.Kernel2Ideal.τ).loc Cert.Kernel2Ideal.main_v5_5) = v5 c
          ∧ r.2.mem ((c.tc : Thread Cert.Kernel2Ideal.nD Cert.Kernel2Ideal.τ).loc Cert.Kernel2Ideal.main_v5_6) = v6 c
          ∧ r.2.mem ((c.tc : Thread Cert.Kernel2Ideal.nD Cert.Kernel2Ideal.τ).loc Cert.Kernel2Ideal.main_v5_7) = v7 c
          ∧ r.2.mem ((c.tc : Thread Cert.Kernel2Ideal.nD Cert.Kernel2Ideal.τ).loc Cert.Kernel2Ideal.main_v5_8) = v8 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v103) = v0 c
          ∧ r.2.mem ((c.tc : Thread Cert.Reference2Ideal.nD Cert.Reference2Ideal.τ).loc Cert.Reference2Ideal.main_v105) = v1 c
          ∧ r.2.mem ((c.tc : Thread Cert.Reference2Ideal.nD Cert.Reference2Ideal.τ).loc Cert.Reference2Ideal.main_v106) = v2 c
          ∧ r.2.mem ((c.tc : Thread Cert.Reference2Ideal.nD Cert.Reference2Ideal.τ).loc Cert.Reference2Ideal.main_v107) = v3 c
          ∧ r.2.mem ((c.tc : Thread Cert.Reference2Ideal.nD Cert.Reference2Ideal.τ).loc Cert.Reference2Ideal.main_v102) = v4 c
          ∧ r.2.mem ((c.tc : Thread Cert.Reference2Ideal.nD Cert.Reference2Ideal.τ).loc Cert.Reference2Ideal.main_v108) = v5 c
          ∧ r.2.mem ((c.tc : Thread Cert.Reference2Ideal.nD Cert.Reference2Ideal.τ).loc Cert.Reference2Ideal.main_v109) = v6 c
          ∧ r.2.mem ((c.tc : Thread Cert.Reference2Ideal.nD Cert.Reference2Ideal.τ).loc Cert.Reference2Ideal.main_v110) = v7 c
          ∧ r.2.mem ((c.tc : Thread Cert.Reference2Ideal.nD Cert.Reference2Ideal.τ).loc Cert.Reference2Ideal.main_v111) = v8 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v18_0)) (v1 : (c : Dev Cert.Kernel3Ideal.nD) → Buf (Elt Ideal) ((c.tc : Thread Cert.Kernel3Ideal.nD Cert.Kernel3Ideal.τ).loc Cert.Kernel3Ideal.main_v18_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v18_0) = v0 c
          ∧ r.2.mem ((c.tc : Thread Cert.Kernel3Ideal.nD Cert.Kernel3Ideal.τ).loc Cert.Kernel3Ideal.main_v18_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_v19) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v10_0)) (v1 : (c : Dev Cert.Kernel4Ideal.nD) → Buf (Elt Ideal) ((c.tc : Thread Cert.Kernel4Ideal.nD Cert.Kernel4Ideal.τ).loc Cert.Kernel4Ideal.main_v10_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10_0) = v0 c
          ∧ r.2.mem ((c.tc : Thread Cert.Kernel4Ideal.nD Cert.Kernel4Ideal.τ).loc Cert.Kernel4Ideal.main_v10_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v38) = v0 c
          ∧ r.2.mem ((c.tc : Thread Cert.Reference4Ideal.nD Cert.Reference4Ideal.τ).loc Cert.Reference4Ideal.main_v41) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v20)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v20) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v17) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v6_0)) (v1 : (c : Dev Cert.Kernel6Ideal.nD) → Buf (Elt Ideal) ((c.tc : Thread Cert.Kernel6Ideal.nD Cert.Kernel6Ideal.τ).loc Cert.Kernel6Ideal.main_v6_1)) (v2 : (c : Dev Cert.Kernel6Ideal.nD) → Buf (Elt Ideal) ((c.tc : Thread Cert.Kernel6Ideal.nD Cert.Kernel6Ideal.τ).loc Cert.Kernel6Ideal.main_v6_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6_0) = v0 c
          ∧ r.2.mem ((c.tc : Thread Cert.Kernel6Ideal.nD Cert.Kernel6Ideal.τ).loc Cert.Kernel6Ideal.main_v6_1) = v1 c
          ∧ r.2.mem ((c.tc : Thread Cert.Kernel6Ideal.nD Cert.Kernel6Ideal.τ).loc Cert.Kernel6Ideal.main_v6_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v20) = v0 c
          ∧ r.2.mem ((c.tc : Thread Cert.Reference6Ideal.nD Cert.Reference6Ideal.τ).loc Cert.Reference6Ideal.main_v22) = v1 c
          ∧ r.2.mem ((c.tc : Thread Cert.Reference6Ideal.nD Cert.Reference6Ideal.τ).loc Cert.Reference6Ideal.main_v23) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)) →
    ∃ (v0 : (c : Dev Cert.Kernel7Ideal.nD) → Buf (Elt Ideal) ((c.tc : Thread Cert.Kernel7Ideal.nD Cert.Kernel7Ideal.τ).loc Cert.Kernel7Ideal.main_v12_0)) (v1 : (c : Dev Cert.Kernel7Ideal.nD) → Buf (Elt Ideal) ((c.tc : Thread Cert.Kernel7Ideal.nD Cert.Kernel7Ideal.τ).loc Cert.Kernel7Ideal.main_v12_1)) (v2 : (c : Dev Cert.Kernel7Ideal.nD) → Buf (Elt Ideal) ((c.tc : Thread Cert.Kernel7Ideal.nD Cert.Kernel7Ideal.τ).loc Cert.Kernel7Ideal.main_v12_2)) (v3 : (c : Dev Cert.Kernel7Ideal.nD) → Buf (Elt Ideal) ((c.tc : Thread Cert.Kernel7Ideal.nD Cert.Kernel7Ideal.τ).loc Cert.Kernel7Ideal.main_v12_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v12_0) = v0 c
          ∧ r.2.mem ((c.tc : Thread Cert.Kernel7Ideal.nD Cert.Kernel7Ideal.τ).loc Cert.Kernel7Ideal.main_v12_1) = v1 c
          ∧ r.2.mem ((c.tc : Thread Cert.Kernel7Ideal.nD Cert.Kernel7Ideal.τ).loc Cert.Kernel7Ideal.main_v12_2) = v2 c
          ∧ r.2.mem ((c.tc : Thread Cert.Kernel7Ideal.nD Cert.Kernel7Ideal.τ).loc Cert.Kernel7Ideal.main_v12_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v80) = v0 c
          ∧ r.2.mem ((c.tc : Thread Cert.Reference7Ideal.nD Cert.Reference7Ideal.τ).loc Cert.Reference7Ideal.main_v81) = v1 c
          ∧ r.2.mem ((c.tc : Thread Cert.Reference7Ideal.nD Cert.Reference7Ideal.τ).loc Cert.Reference7Ideal.main_v82) = v2 c
          ∧ r.2.mem ((c.tc : Thread Cert.Reference7Ideal.nD Cert.Reference7Ideal.τ).loc Cert.Reference7Ideal.main_v83) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)) →
    ∃ (v0 : (c : Dev Cert.Kernel8Ideal.nD) → Buf (Elt Ideal) ((c.tc : Thread Cert.Kernel8Ideal.nD Cert.Kernel8Ideal.τ).loc Cert.Kernel8Ideal.main_v6_0)) (v1 : (c : Dev Cert.Kernel8Ideal.nD) → Buf (Elt Ideal) ((c.tc : Thread Cert.Kernel8Ideal.nD Cert.Kernel8Ideal.τ).loc Cert.Kernel8Ideal.main_v6_1)) (v2 : (c : Dev Cert.Kernel8Ideal.nD) → Buf (Elt Ideal) ((c.tc : Thread Cert.Kernel8Ideal.nD Cert.Kernel8Ideal.τ).loc Cert.Kernel8Ideal.main_v6_2)) (v3 : (c : Dev Cert.Kernel8Ideal.nD) → Buf (Elt Ideal) ((c.tc : Thread Cert.Kernel8Ideal.nD Cert.Kernel8Ideal.τ).loc Cert.Kernel8Ideal.main_v6_3)) (v4 : (c : Dev Cert.Kernel8Ideal.nD) → Buf (Elt Ideal) ((c.tc : Thread Cert.Kernel8Ideal.nD Cert.Kernel8Ideal.τ).loc Cert.Kernel8Ideal.main_v6_4)) (v5 : (c : Dev Cert.Kernel8Ideal.nD) → Buf (Elt Ideal) ((c.tc : Thread Cert.Kernel8Ideal.nD Cert.Kernel8Ideal.τ).loc Cert.Kernel8Ideal.main_v6_5)) (v6 : (c : Dev Cert.Kernel8Ideal.nD) → Buf (Elt Ideal) ((c.tc : Thread Cert.Kernel8Ideal.nD Cert.Kernel8Ideal.τ).loc Cert.Kernel8Ideal.main_v6_6)) (v7 : (c : Dev Cert.Kernel8Ideal.nD) → Buf (Elt Ideal) ((c.tc : Thread Cert.Kernel8Ideal.nD Cert.Kernel8Ideal.τ).loc Cert.Kernel8Ideal.main_v6_7)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v6_0) = v0 c
          ∧ r.2.mem ((c.tc : Thread Cert.Kernel8Ideal.nD Cert.Kernel8Ideal.τ).loc Cert.Kernel8Ideal.main_v6_1) = v1 c
          ∧ r.2.mem ((c.tc : Thread Cert.Kernel8Ideal.nD Cert.Kernel8Ideal.τ).loc Cert.Kernel8Ideal.main_v6_2) = v2 c
          ∧ r.2.mem ((c.tc : Thread Cert.Kernel8Ideal.nD Cert.Kernel8Ideal.τ).loc Cert.Kernel8Ideal.main_v6_3) = v3 c
          ∧ r.2.mem ((c.tc : Thread Cert.Kernel8Ideal.nD Cert.Kernel8Ideal.τ).loc Cert.Kernel8Ideal.main_v6_4) = v4 c
          ∧ r.2.mem ((c.tc : Thread Cert.Kernel8Ideal.nD Cert.Kernel8Ideal.τ).loc Cert.Kernel8Ideal.main_v6_5) = v5 c
          ∧ r.2.mem ((c.tc : Thread Cert.Kernel8Ideal.nD Cert.Kernel8Ideal.τ).loc Cert.Kernel8Ideal.main_v6_6) = v6 c
          ∧ r.2.mem ((c.tc : Thread Cert.Kernel8Ideal.nD Cert.Kernel8Ideal.τ).loc Cert.Kernel8Ideal.main_v6_7) = v7 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v0) = v0 c
          ∧ r.2.mem ((c.tc : Thread Cert.Reference8Ideal.nD Cert.Reference8Ideal.τ).loc Cert.Reference8Ideal.main_v24) = v1 c
          ∧ r.2.mem ((c.tc : Thread Cert.Reference8Ideal.nD Cert.Reference8Ideal.τ).loc Cert.Reference8Ideal.main_v5) = v2 c
          ∧ r.2.mem ((c.tc : Thread Cert.Reference8Ideal.nD Cert.Reference8Ideal.τ).loc Cert.Reference8Ideal.main_v11) = v3 c
          ∧ r.2.mem ((c.tc : Thread Cert.Reference8Ideal.nD Cert.Reference8Ideal.τ).loc Cert.Reference8Ideal.main_v25) = v4 c
          ∧ r.2.mem ((c.tc : Thread Cert.Reference8Ideal.nD Cert.Reference8Ideal.τ).loc Cert.Reference8Ideal.main_v49) = v5 c
          ∧ r.2.mem ((c.tc : Thread Cert.Reference8Ideal.nD Cert.Reference8Ideal.τ).loc Cert.Reference8Ideal.main_v30) = v6 c
          ∧ r.2.mem ((c.tc : Thread Cert.Reference8Ideal.nD Cert.Reference8Ideal.τ).loc Cert.Reference8Ideal.main_v36) = v7 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)
      ∧ m' ((c.tc : Thread Cert.Reference9Ideal.nD Cert.Reference9Ideal.τ).loc Cert.Reference9Ideal.main_arg10) = m ((c.tc : Thread Cert.Kernel9Ideal.nD Cert.Kernel9Ideal.τ).loc Cert.Kernel9Ideal.main_arg10)
      ∧ m' ((c.tc : Thread Cert.Reference9Ideal.nD Cert.Reference9Ideal.τ).loc Cert.Reference9Ideal.main_arg11) = m ((c.tc : Thread Cert.Kernel9Ideal.nD Cert.Kernel9Ideal.τ).loc Cert.Kernel9Ideal.main_arg11)
      ∧ m' ((c.tc : Thread Cert.Reference9Ideal.nD Cert.Reference9Ideal.τ).loc Cert.Reference9Ideal.main_arg12) = m ((c.tc : Thread Cert.Kernel9Ideal.nD Cert.Kernel9Ideal.τ).loc Cert.Kernel9Ideal.main_arg12)
      ∧ m' ((c.tc : Thread Cert.Reference9Ideal.nD Cert.Reference9Ideal.τ).loc Cert.Reference9Ideal.main_arg13) = m ((c.tc : Thread Cert.Kernel9Ideal.nD Cert.Kernel9Ideal.τ).loc Cert.Kernel9Ideal.main_arg13)
      ∧ m' ((c.tc : Thread Cert.Reference9Ideal.nD Cert.Reference9Ideal.τ).loc Cert.Reference9Ideal.main_arg14) = m ((c.tc : Thread Cert.Kernel9Ideal.nD Cert.Kernel9Ideal.τ).loc Cert.Kernel9Ideal.main_arg14)
      ∧ m' ((c.tc : Thread Cert.Reference9Ideal.nD Cert.Reference9Ideal.τ).loc Cert.Reference9Ideal.main_arg15) = m ((c.tc : Thread Cert.Kernel9Ideal.nD Cert.Kernel9Ideal.τ).loc Cert.Kernel9Ideal.main_arg15)) →
    ∃ (v0 : (c : Dev Cert.Kernel9Ideal.nD) → Buf (Elt Ideal) ((c.tc : Thread Cert.Kernel9Ideal.nD Cert.Kernel9Ideal.τ).loc Cert.Kernel9Ideal.main_v5_0)) (v1 : (c : Dev Cert.Kernel9Ideal.nD) → Buf (Elt Ideal) ((c.tc : Thread Cert.Kernel9Ideal.nD Cert.Kernel9Ideal.τ).loc Cert.Kernel9Ideal.main_v5_1)) (v2 : (c : Dev Cert.Kernel9Ideal.nD) → Buf (Elt Ideal) ((c.tc : Thread Cert.Kernel9Ideal.nD Cert.Kernel9Ideal.τ).loc Cert.Kernel9Ideal.main_v5_2)) (v3 : (c : Dev Cert.Kernel9Ideal.nD) → Buf (Elt Ideal) ((c.tc : Thread Cert.Kernel9Ideal.nD Cert.Kernel9Ideal.τ).loc Cert.Kernel9Ideal.main_v5_3)) (v4 : (c : Dev Cert.Kernel9Ideal.nD) → Buf (Elt Ideal) ((c.tc : Thread Cert.Kernel9Ideal.nD Cert.Kernel9Ideal.τ).loc Cert.Kernel9Ideal.main_v5_4)) (v5 : (c : Dev Cert.Kernel9Ideal.nD) → Buf (Elt Ideal) ((c.tc : Thread Cert.Kernel9Ideal.nD Cert.Kernel9Ideal.τ).loc Cert.Kernel9Ideal.main_v5_5)) (v6 : (c : Dev Cert.Kernel9Ideal.nD) → Buf (Elt Ideal) ((c.tc : Thread Cert.Kernel9Ideal.nD Cert.Kernel9Ideal.τ).loc Cert.Kernel9Ideal.main_v5_6)) (v7 : (c : Dev Cert.Kernel9Ideal.nD) → Buf (Elt Ideal) ((c.tc : Thread Cert.Kernel9Ideal.nD Cert.Kernel9Ideal.τ).loc Cert.Kernel9Ideal.main_v5_7)) (v8 : (c : Dev Cert.Kernel9Ideal.nD) → Buf (Elt Ideal) ((c.tc : Thread Cert.Kernel9Ideal.nD Cert.Kernel9Ideal.τ).loc Cert.Kernel9Ideal.main_v5_8)) (v9 : (c : Dev Cert.Kernel9Ideal.nD) → Buf (Elt Ideal) ((c.tc : Thread Cert.Kernel9Ideal.nD Cert.Kernel9Ideal.τ).loc Cert.Kernel9Ideal.main_v5_9)) (v10 : (c : Dev Cert.Kernel9Ideal.nD) → Buf (Elt Ideal) ((c.tc : Thread Cert.Kernel9Ideal.nD Cert.Kernel9Ideal.τ).loc Cert.Kernel9Ideal.main_v5_10)) (v11 : (c : Dev Cert.Kernel9Ideal.nD) → Buf (Elt Ideal) ((c.tc : Thread Cert.Kernel9Ideal.nD Cert.Kernel9Ideal.τ).loc Cert.Kernel9Ideal.main_v5_11)) (v12 : (c : Dev Cert.Kernel9Ideal.nD) → Buf (Elt Ideal) ((c.tc : Thread Cert.Kernel9Ideal.nD Cert.Kernel9Ideal.τ).loc Cert.Kernel9Ideal.main_v5_12)) (v13 : (c : Dev Cert.Kernel9Ideal.nD) → Buf (Elt Ideal) ((c.tc : Thread Cert.Kernel9Ideal.nD Cert.Kernel9Ideal.τ).loc Cert.Kernel9Ideal.main_v5_13)) (v14 : (c : Dev Cert.Kernel9Ideal.nD) → Buf (Elt Ideal) ((c.tc : Thread Cert.Kernel9Ideal.nD Cert.Kernel9Ideal.τ).loc Cert.Kernel9Ideal.main_v5_14)) (v15 : (c : Dev Cert.Kernel9Ideal.nD) → Buf (Elt Ideal) ((c.tc : Thread Cert.Kernel9Ideal.nD Cert.Kernel9Ideal.τ).loc Cert.Kernel9Ideal.main_v5_15)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v5_0) = v0 c
          ∧ r.2.mem ((c.tc : Thread Cert.Kernel9Ideal.nD Cert.Kernel9Ideal.τ).loc Cert.Kernel9Ideal.main_v5_1) = v1 c
          ∧ r.2.mem ((c.tc : Thread Cert.Kernel9Ideal.nD Cert.Kernel9Ideal.τ).loc Cert.Kernel9Ideal.main_v5_2) = v2 c
          ∧ r.2.mem ((c.tc : Thread Cert.Kernel9Ideal.nD Cert.Kernel9Ideal.τ).loc Cert.Kernel9Ideal.main_v5_3) = v3 c
          ∧ r.2.mem ((c.tc : Thread Cert.Kernel9Ideal.nD Cert.Kernel9Ideal.τ).loc Cert.Kernel9Ideal.main_v5_4) = v4 c
          ∧ r.2.mem ((c.tc : Thread Cert.Kernel9Ideal.nD Cert.Kernel9Ideal.τ).loc Cert.Kernel9Ideal.main_v5_5) = v5 c
          ∧ r.2.mem ((c.tc : Thread Cert.Kernel9Ideal.nD Cert.Kernel9Ideal.τ).loc Cert.Kernel9Ideal.main_v5_6) = v6 c
          ∧ r.2.mem ((c.tc : Thread Cert.Kernel9Ideal.nD Cert.Kernel9Ideal.τ).loc Cert.Kernel9Ideal.main_v5_7) = v7 c
          ∧ r.2.mem ((c.tc : Thread Cert.Kernel9Ideal.nD Cert.Kernel9Ideal.τ).loc Cert.Kernel9Ideal.main_v5_8) = v8 c
          ∧ r.2.mem ((c.tc : Thread Cert.Kernel9Ideal.nD Cert.Kernel9Ideal.τ).loc Cert.Kernel9Ideal.main_v5_9) = v9 c
          ∧ r.2.mem ((c.tc : Thread Cert.Kernel9Ideal.nD Cert.Kernel9Ideal.τ).loc Cert.Kernel9Ideal.main_v5_10) = v10 c
          ∧ r.2.mem ((c.tc : Thread Cert.Kernel9Ideal.nD Cert.Kernel9Ideal.τ).loc Cert.Kernel9Ideal.main_v5_11) = v11 c
          ∧ r.2.mem ((c.tc : Thread Cert.Kernel9Ideal.nD Cert.Kernel9Ideal.τ).loc Cert.Kernel9Ideal.main_v5_12) = v12 c
          ∧ r.2.mem ((c.tc : Thread Cert.Kernel9Ideal.nD Cert.Kernel9Ideal.τ).loc Cert.Kernel9Ideal.main_v5_13) = v13 c
          ∧ r.2.mem ((c.tc : Thread Cert.Kernel9Ideal.nD Cert.Kernel9Ideal.τ).loc Cert.Kernel9Ideal.main_v5_14) = v14 c
          ∧ r.2.mem ((c.tc : Thread Cert.Kernel9Ideal.nD Cert.Kernel9Ideal.τ).loc Cert.Kernel9Ideal.main_v5_15) = v15 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
          ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
          ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11)
          ∧ r.2.mem ((c.tc : Thread Cert.Kernel9Ideal.nD Cert.Kernel9Ideal.τ).loc Cert.Kernel9Ideal.main_arg12) = m ((c.tc : Thread Cert.Kernel9Ideal.nD Cert.Kernel9Ideal.τ).loc Cert.Kernel9Ideal.main_arg12)
          ∧ r.2.mem ((c.tc : Thread Cert.Kernel9Ideal.nD Cert.Kernel9Ideal.τ).loc Cert.Kernel9Ideal.main_arg13) = m ((c.tc : Thread Cert.Kernel9Ideal.nD Cert.Kernel9Ideal.τ).loc Cert.Kernel9Ideal.main_arg13)
          ∧ r.2.mem ((c.tc : Thread Cert.Kernel9Ideal.nD Cert.Kernel9Ideal.τ).loc Cert.Kernel9Ideal.main_arg14) = m ((c.tc : Thread Cert.Kernel9Ideal.nD Cert.Kernel9Ideal.τ).loc Cert.Kernel9Ideal.main_arg14)
          ∧ r.2.mem ((c.tc : Thread Cert.Kernel9Ideal.nD Cert.Kernel9Ideal.τ).loc Cert.Kernel9Ideal.main_arg15) = m ((c.tc : Thread Cert.Kernel9Ideal.nD Cert.Kernel9Ideal.τ).loc Cert.Kernel9Ideal.main_arg15))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v0) = v0 c
          ∧ r.2.mem ((c.tc : Thread Cert.Reference9Ideal.nD Cert.Reference9Ideal.τ).loc Cert.Reference9Ideal.main_v24) = v1 c
          ∧ r.2.mem ((c.tc : Thread Cert.Reference9Ideal.nD Cert.Reference9Ideal.τ).loc Cert.Reference9Ideal.main_v5) = v2 c
          ∧ r.2.mem ((c.tc : Thread Cert.Reference9Ideal.nD Cert.Reference9Ideal.τ).loc Cert.Reference9Ideal.main_v11) = v3 c
          ∧ r.2.mem ((c.tc : Thread Cert.Reference9Ideal.nD Cert.Reference9Ideal.τ).loc Cert.Reference9Ideal.main_v25) = v4 c
          ∧ r.2.mem ((c.tc : Thread Cert.Reference9Ideal.nD Cert.Reference9Ideal.τ).loc Cert.Reference9Ideal.main_v49) = v5 c
          ∧ r.2.mem ((c.tc : Thread Cert.Reference9Ideal.nD Cert.Reference9Ideal.τ).loc Cert.Reference9Ideal.main_v30) = v6 c
          ∧ r.2.mem ((c.tc : Thread Cert.Reference9Ideal.nD Cert.Reference9Ideal.τ).loc Cert.Reference9Ideal.main_v36) = v7 c
          ∧ r.2.mem ((c.tc : Thread Cert.Reference9Ideal.nD Cert.Reference9Ideal.τ).loc Cert.Reference9Ideal.main_v50) = v8 c
          ∧ r.2.mem ((c.tc : Thread Cert.Reference9Ideal.nD Cert.Reference9Ideal.τ).loc Cert.Reference9Ideal.main_v74) = v9 c
          ∧ r.2.mem ((c.tc : Thread Cert.Reference9Ideal.nD Cert.Reference9Ideal.τ).loc Cert.Reference9Ideal.main_v55) = v10 c
          ∧ r.2.mem ((c.tc : Thread Cert.Reference9Ideal.nD Cert.Reference9Ideal.τ).loc Cert.Reference9Ideal.main_v61) = v11 c
          ∧ r.2.mem ((c.tc : Thread Cert.Reference9Ideal.nD Cert.Reference9Ideal.τ).loc Cert.Reference9Ideal.main_v75) = v12 c
          ∧ r.2.mem ((c.tc : Thread Cert.Reference9Ideal.nD Cert.Reference9Ideal.τ).loc Cert.Reference9Ideal.main_v99) = v13 c
          ∧ r.2.mem ((c.tc : Thread Cert.Reference9Ideal.nD Cert.Reference9Ideal.τ).loc Cert.Reference9Ideal.main_v80) = v14 c
          ∧ r.2.mem ((c.tc : Thread Cert.Reference9Ideal.nD Cert.Reference9Ideal.τ).loc Cert.Reference9Ideal.main_v86) = v15 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9)
          ∧ r.2.mem ((c.tc : Thread Cert.Reference9Ideal.nD Cert.Reference9Ideal.τ).loc Cert.Reference9Ideal.main_arg10) = m' ((c.tc : Thread Cert.Reference9Ideal.nD Cert.Reference9Ideal.τ).loc Cert.Reference9Ideal.main_arg10)
          ∧ r.2.mem ((c.tc : Thread Cert.Reference9Ideal.nD Cert.Reference9Ideal.τ).loc Cert.Reference9Ideal.main_arg11) = m' ((c.tc : Thread Cert.Reference9Ideal.nD Cert.Reference9Ideal.τ).loc Cert.Reference9Ideal.main_arg11)
          ∧ r.2.mem ((c.tc : Thread Cert.Reference9Ideal.nD Cert.Reference9Ideal.τ).loc Cert.Reference9Ideal.main_arg12) = m' ((c.tc : Thread Cert.Reference9Ideal.nD Cert.Reference9Ideal.τ).loc Cert.Reference9Ideal.main_arg12)
          ∧ r.2.mem ((c.tc : Thread Cert.Reference9Ideal.nD Cert.Reference9Ideal.τ).loc Cert.Reference9Ideal.main_arg13) = m' ((c.tc : Thread Cert.Reference9Ideal.nD Cert.Reference9Ideal.τ).loc Cert.Reference9Ideal.main_arg13)
          ∧ r.2.mem ((c.tc : Thread Cert.Reference9Ideal.nD Cert.Reference9Ideal.τ).loc Cert.Reference9Ideal.main_arg14) = m' ((c.tc : Thread Cert.Reference9Ideal.nD Cert.Reference9Ideal.τ).loc Cert.Reference9Ideal.main_arg14)
          ∧ r.2.mem ((c.tc : Thread Cert.Reference9Ideal.nD Cert.Reference9Ideal.τ).loc Cert.Reference9Ideal.main_arg15) = m' ((c.tc : Thread Cert.Reference9Ideal.nD Cert.Reference9Ideal.τ).loc Cert.Reference9Ideal.main_arg15))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite2 : Cert.Pre_finite2.Facts) (hPre_finite4 : Cert.Pre_finite4.Facts),
    quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite2.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x4096 : S_.BroadcastsInDim S1024x4096 (![] : Fin 0 → Fin S1024x4096.rank)
  bcast_S_S4096x1024 : S_.BroadcastsInDim S4096x1024 (![] : Fin 0 → Fin S4096x1024.rank)

variable [Facts]

def fn {F : FTy → Type} [FloatOps F] (main_arg0 : FVec F S8192x1024 .f32) (main_arg1 : FVec F S8192x1024 .f32) (main_arg2 : FVec F S1024 .f32) (main_arg3 : FVec F S1024 .f32) (main_arg4 : FVec F S1024x4096 .f32) (main_arg5 : FVec F S4096x1024 .f32) : IVec S8192x1024 1 × IVec S8192x1024 1 × IVec S1024 1 × IVec S1024 1 × IVec S1024x4096 1 × IVec S4096x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024x4096 .f32 := Host.absf main_arg4
  let main_cst_3 : FVec F S_ .f32 := constant S_ .f32 0x7F800000#32
  let main_v13 : FVec F S1024x4096 .f32 := broadcastInDim S1024x4096 ![] bcast_S_S1024x4096 main_cst_3
  let main_v14 : IVec S1024x4096 1 := cmpf .olt main_v12 main_v13
  let main_v15 : FVec F S4096x1024 .f32 := Host.absf main_arg5
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  (main_v2, main_v5, main_v8, main_v11, main_v14, main_v17)
-- ==== Pre_finite4.lean ====
abbrev S8192x1024 : Shape := ⟨2, ![8192, 1024]⟩
abbrev S1024 : Shape := ⟨1, ![1024]⟩
abbrev S1024x5632 : Shape := ⟨2, ![1024, 5632]⟩
abbrev S8192x5632 : Shape := ⟨2, ![8192, 5632]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S8192x5632 : S_.BroadcastsInDim S8192x5632 (![] : Fin 0 → Fin S8192x5632.rank)

variable [Facts]

def fn {F : FTy → Type} [FloatOps F] (main_arg0 : FVec F S8192x1024 .f32) (main_arg1 : FVec F S1024 .f32) (main_arg2 : FVec F S1024x5632 .f32) (main_arg3 : FVec F S8192x5632 .f32) (main_arg4 : FVec F S8192x1024 .f32) : IVec S8192x1024 1 × IVec S1024 1 × IVec S1024x5632 1 × IVec S8192x5632 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x5632 .f32 := Host.absf main_arg2
  let main_cst_1 : FVec F S_ .f32 := constant S_ .f32 0x7F800000#32
  let main_v7 : FVec F S1024x5632 .f32 := broadcastInDim S1024x5632 ![] bcast_S_S1024x5632 main_cst_1
  let main_v8 : IVec S1024x5632 1 := cmpf .olt main_v6 main_v7
  let main_v9 : FVec F S8192x5632 .f32 := Host.absf main_arg3
  let main_cst_2 : FVec F S_ .f32 := constant S_ .f32 0x7F800000#32
  let main_v10 : FVec F S8192x5632 .f32 := broadcastInDim S8192x5632 ![] bcast_S_S8192x5632 main_cst_2
  let main_v11 : IVec S8192x5632 1 := cmpf .olt main_v9 main_v10
  let main_v12 : FVec F S8192x1024 .f32 := Host.absf main_arg4
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  (main_v2, main_v5, main_v8, main_v11, main_v14)
-- ==== Kernel2.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S8192x4096 : Shape := ⟨2, ![8192, 4096]⟩
abbrev S1x128 : Shape := ⟨2, ![1, 128]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩
abbrev S1024x1024 : Shape := ⟨2, ![1024, 1024]⟩
abbrev S1x256x1024 : Shape := ⟨3, ![1, 256, 1024]⟩
abbrev S1 : Shape := ⟨1, ![1]⟩
abbrev S1x1x1 : Shape := ⟨3, ![1, 1, 1]⟩

abbrev nBuf : Space → Nat
  | .hbm => 20
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S4096x1024, .bf16⟩
  | .hbm, ⟨10, _⟩ => ⟨S4096x1024, .bf16⟩
  | .hbm, ⟨11, _⟩ => ⟨S8192x1024, .bf16⟩
  | .hbm, ⟨12, _⟩ => ⟨S8192x4096, .bf16⟩
  | .hbm, ⟨13, _⟩ => ⟨S8192x4096, .bf16⟩
  | .hbm, ⟨14, _⟩ => ⟨S8192x1024, .bf16⟩
  | .hbm, ⟨15, _⟩ => ⟨S8192x1024, .f32⟩
  | .hbm, ⟨16, _⟩ => ⟨S8192x1024, .bf16⟩
  | .hbm, ⟨17, _⟩ => ⟨S1x128, .f32⟩
  | .hbm, ⟨18, _⟩ => ⟨S1x1024, .f32⟩
  | .hbm, ⟨19, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S4096x1024, .bf16⟩
  | .local _ .vmem, ⟨7, _⟩ => ⟨S4096x1024, .bf16⟩
  | .local _ .vmem, ⟨8, _⟩ => ⟨S256x1024, .bf16⟩
  | .local _ .vmem, ⟨9, _⟩ => ⟨S256x1024, .bf16⟩
  | .local _ .vmem, ⟨10, _⟩ => ⟨S256x4096, .bf16⟩
  | .local _ .vmem, ⟨11, _⟩ => ⟨S256x4096, .bf16⟩
  | .local _ .vmem, ⟨12, _⟩ => ⟨S256x4096, .bf16⟩
  | .local _ .vmem, ⟨13, _⟩ => ⟨S256x4096, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .f32⟩
  | .local _ .vmem, ⟨17, _⟩ => ⟨S256x1024, .f32⟩
  | .local _ .vmem, ⟨18, _⟩ => ⟨S256x1024, .bf16⟩
  | .local _ .vmem, ⟨19, _⟩ => ⟨S256x1024, .bf16⟩
  | .local _ .vmem, ⟨20, _⟩ => ⟨S1x128, .f32⟩
  | .local _ .vmem, ⟨21, _⟩ => ⟨S1x1024, .f32⟩
  | .local _ .vmem, ⟨22, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev main_v5_5 : Ref sig .tc := ⟨.hbm, 16, rfl⟩
abbrev main_v5_6 : Ref sig .tc := ⟨.hbm, 17, rfl⟩
abbrev main_v5_7 : Ref sig .tc := ⟨.hbm, 18, rfl⟩
abbrev main_v5_8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem14_0 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference2Ideal.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩
abbrev S1x128 : Shape := ⟨2, ![1, 128]⟩

abbrev nBuf : Space → Nat
  | .hbm => 150
  | .vmem => 0
  | .smem => 0
  | _ => 0

abbrev hbmTy0_0 (i : Nat) : BufTy := match i % 128 with
  | 0 => ⟨S8192x1024, .f32⟩
  | 1 => ⟨S8192x1024, .f32⟩
  | 2 => ⟨S1024, .f32⟩
  | 3 => ⟨S1024, .f32⟩
  | 4 => ⟨S1024x4096, .f32⟩
  | 5 => ⟨S4096x1024, .f32⟩
  | 6 => ⟨S8192x1024, .f32⟩
  | 7 => ⟨S_, .f32⟩
  | 8 => ⟨S8192, .f32⟩
  | 9 => ⟨S8192x1, .f32⟩
  | 10 => ⟨S_, .f32⟩
  | 11 => ⟨S8192x1, .f32⟩
  | 12 => ⟨S8192x1, .f32⟩
  | 13 => ⟨S_, .f32⟩
  | 14 => ⟨S8192x1, .f32⟩
  | 15 => ⟨S8192x1, .f32⟩
  | 16 => ⟨S8192x1, .f32⟩
  | 17 => ⟨S8192x1, .f32⟩
  | 18 => ⟨S_, .f32⟩
  | 19 => ⟨S8192x1, .f32⟩
  | 20 => ⟨S8192x1, .f32⟩
  | 21 => ⟨S8192x1024, .f32⟩
  | 22 => ⟨S8192x1024, .f32⟩
  | 23 => ⟨S1x1024, .f32⟩
  | 24 => ⟨S8192x1024, .f32⟩
  | 25 => ⟨S8192x1024, .f32⟩
  | 26 => ⟨S8192x4096, .f32⟩
  | 27 => ⟨S_, .f32⟩
  | 28 => ⟨S8192x4096, .f32⟩
  | 29 => ⟨S8192x4096, .f32⟩
  | 30 => ⟨S_, .f32⟩
  | 31 => ⟨S8192x4096, .f32⟩
  | 32 => ⟨S8192x4096, .i1⟩
  | 33 => ⟨S_, .f32⟩
  | 34 => ⟨S8192x4096, .f32⟩
  | 35 => ⟨S8192x4096, .f32⟩
  | 36 => ⟨S8192x1024, .f32⟩
  | 37 => ⟨S8192x1024, .f32⟩
  | 38 => ⟨S8192x1024, .f32⟩
  | 39 => ⟨S_, .f32⟩
  | 40 => ⟨S8192, .f32⟩
  | 41 => ⟨S8192x1, .f32⟩
  | 42 => ⟨S_, .f32⟩
  | 43 => ⟨S8192x1, .f32⟩
  | 44 => ⟨S8192x1, .f32⟩
  | 45 => ⟨S_, .f32⟩
  | 46 => ⟨S8192x1, .f32⟩
  | 47 => ⟨S8192x1, .f32⟩
  | 48 => ⟨S8192x1, .f32⟩
  | 49 => ⟨S8192x1, .f32⟩
  | 50 => ⟨S_, .f32⟩
  | 51 => ⟨S8192x1, .f32⟩
  | 52 => ⟨S8192x1, .f32⟩
  | 53 => ⟨S8192x1024, .f32⟩
  | 54 => ⟨S8192x1024, .f32⟩
  | 55 => ⟨S1x1024, .f32⟩
  | 56 => ⟨S8192x1024, .f32⟩
  | 57 => ⟨S8192x1024, .f32⟩
  | 58 => ⟨S8192x1024, .f32⟩
  | 59 => ⟨S8192x1024, .f32⟩
  | 60 => ⟨S_, .f32⟩
  | 61 => ⟨S8192, .f32⟩
  | 62 => ⟨S_, .f32⟩
  | 63 => ⟨S8192, .f32⟩
  | 64 => ⟨S8192, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S8192, .f32⟩
  | 73 => ⟨S_, .f32⟩
  | 74 => ⟨S8192, .f32⟩
  | 75 => ⟨S8192, .f32⟩
  | 76 => ⟨S8192x1024, .f32⟩
  | 77 => ⟨S8192x1024, .f32⟩
  | 78 => ⟨S8192x1024, .f32⟩
  | 79 => ⟨S8192x1024, .f32⟩
  | 80 => ⟨S8192x1024, .f32⟩
  | 81 => ⟨S_, .f32⟩
  | 82 => ⟨S1024, .f32⟩
  | 83 => ⟨S1x1024, .f32⟩
  | 84 => ⟨S8192x1024, .f32⟩
  | 85 => ⟨S8192x1024, .f32⟩
  | 86 => ⟨S_, .f32⟩
  | 87 => ⟨S1024, .f32⟩
  | 88 => ⟨S8192x1024, .f32⟩
  | 89 => ⟨S_, .f32⟩
  | 90 => ⟨S8192, .f32⟩
  | 91 => ⟨S8192x1, .f32⟩
  | 92 => ⟨S8192x1024, .f32⟩
  | 93 => ⟨S8192x1024, .f32⟩
  | 94 => ⟨S8192x1, .f32⟩
  | 95 => ⟨S_, .f32⟩
  | 96 => ⟨S8192x1, .f32⟩
  | 97 => ⟨S8192x1, .f32⟩
  | 98 => ⟨S_, .f32⟩
  | 99 => ⟨S8192, .f32⟩
  | 100 => ⟨S8192x1024, .f32⟩
  | 101 => ⟨S8192x1024, .f32⟩
  | 102 => ⟨S8192x1024, .f32⟩
  | 103 => ⟨S8192x1024, .f32⟩
  | 104 => ⟨S8192x1024, .f32⟩
  | 105 => ⟨S8192x4096, .f32⟩
  | 106 => ⟨S8192x4096, .f32⟩
  | 107 => ⟨S8192x4096, .f32⟩
  | 108 => ⟨S8192x4096, .f32⟩
  | 109 => ⟨S_, .f32⟩
  | 110 => ⟨S8192x4096, .f32⟩
  | 111 => ⟨S8192x4096, .f32⟩
  | 112 => ⟨S8192x1024, .f32⟩
  | 113 => ⟨S8192x1024, .f32⟩
  | 114 => ⟨S_, .f32⟩
  | 115 => ⟨S1024, .f32⟩
  | 116 => ⟨S1x1024, .f32⟩
  | 117 => ⟨S8192x1024, .f32⟩
  | 118 => ⟨S8192x1024, .f32⟩
  | 119 => ⟨S_, .f32⟩
  | 120 => ⟨S1024, .f32⟩
  | 121 => ⟨S8192x1024, .f32⟩
  | 122 => ⟨S_, .f32⟩
  | 123 => ⟨S8192, .f32⟩
  | 124 => ⟨S8192x1, .f32⟩
  | 125 => ⟨S8192x1024, .f32⟩
  | 126 => ⟨S8192x1024, .f32⟩
  | 127 => ⟨S8192x1, .f32⟩
  | _ => ⟨S8192x1024, .f32⟩

abbrev hbmTy0_1 (i : Nat) : BufTy := match i % 128 with
  | 0 => ⟨S_, .f32⟩
  | 1 => ⟨S8192x1, .f32⟩
  | 2 => ⟨S8192x1, .f32⟩
  | 3 => ⟨S_, .f32⟩
  | 4 => ⟨S8192, .f32⟩
  | 5 => ⟨S8192x1024, .f32⟩
  | 6 => ⟨S8192x1024, .f32⟩
  | 7 => ⟨S8192x1024, .f32⟩
  | 8 => ⟨S8192x1024, .f32⟩
  | 9 => ⟨S8192x1024, .f32⟩
  | 10 => ⟨S8192x1024, .f32⟩
  | 11 => ⟨S8192x1024, .bf16⟩
  | 12 => ⟨S_, .f32⟩
  | 13 => ⟨S8192x4096, .f32⟩
  | 14 => ⟨S8192x4096, .f32⟩
  | 15 => ⟨S8192x4096, .bf16⟩
  | 16 => ⟨S8192x4096, .bf16⟩
  | 17 => ⟨S8192x1024, .bf16⟩
  | 18 => ⟨S8192x1024, .bf16⟩
  | 19 => ⟨S1x128, .f32⟩
  | 20 => ⟨S1x1024, .f32⟩
  | 21 => ⟨S1x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_cst : Ref sig .tc := ⟨.hbm, 27, rfl⟩
abbrev main_call0_v0 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_cst_7 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_8 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_9 : Ref sig .tc := ⟨.hbm, 60, rfl⟩
abbrev main_v42 : Ref sig .tc := ⟨.hbm, 61, rfl⟩
abbrev main_cst_10 : Ref sig .tc := ⟨.hbm, 62, rfl⟩
abbrev main_v43 : Ref sig .tc := ⟨.hbm, 63, rfl⟩
abbrev main_v44 : Ref sig .tc := ⟨.hbm, 64, rfl⟩
abbrev main_cst_11 : Ref sig .tc := ⟨.hbm, 65, rfl⟩
abbrev main_v45 : Ref sig .tc := ⟨.hbm, 66, rfl⟩
abbrev main_cst_12 : Ref sig .tc := ⟨.hbm, 67, rfl⟩
abbrev main_v46 : Ref sig .tc := ⟨.hbm, 68, rfl⟩
abbrev main_cst_13 : Ref sig .tc := ⟨.hbm, 69, rfl⟩
abbrev main_cst_14 : Ref sig .tc := ⟨.hbm, 70, rfl⟩
abbrev main_v47 : Ref sig .tc := ⟨.hbm, 71, rfl⟩
abbrev main_v48 : Ref sig .tc := ⟨.hbm, 72, rfl⟩
abbrev main_cst_15 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_16 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_17 : Ref sig .tc := ⟨.hbm, 86, rfl⟩
abbrev main_v60 : Ref sig .tc := ⟨.hbm, 87, rfl⟩
abbrev main_v61 : Ref sig .tc := ⟨.hbm, 88, rfl⟩
abbrev main_cst_18 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_19 : Ref sig .tc := ⟨.hbm, 95, rfl⟩
abbrev main_v67 : Ref sig .tc := ⟨.hbm, 96, rfl⟩
abbrev main_v68 : Ref sig .tc := ⟨.hbm, 97, rfl⟩
abbrev main_cst_20 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_21 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_22 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_23 : Ref sig .tc := ⟨.hbm, 119, rfl⟩
abbrev main_v87 : Ref sig .tc := ⟨.hbm, 120, rfl⟩
abbrev main_v88 : Ref sig .tc := ⟨.hbm, 121, rfl⟩
abbrev main_cst_24 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_cst_25 : Ref sig .tc := ⟨.hbm, 128, rfl⟩
abbrev main_v94 : Ref sig .tc := ⟨.hbm, 129, rfl⟩
abbrev main_v95 : Ref sig .tc := ⟨.hbm, 130, rfl⟩
abbrev main_cst_26 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_call1_cst : Ref sig .tc := ⟨.hbm, 140, rfl⟩
abbrev main_call1_v0 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩

abbrev nD : Nat := 1
abbrev τ : Topo := Topo.v7x

variable {F : FTy → Type} [FloatOps F]
-- ==== Kernel3.lean ====
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S_ : Shape := ⟨0, ![]⟩
abbrev S2048x1024 : Shape := ⟨2, ![2048, 1024]⟩
abbrev S1024x1024 : Shape := ⟨2, ![1024, 1024]⟩

abbrev nBuf : Space → Nat
  | .hbm => 31
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S4096x1024, .f32⟩
  | .hbm, ⟨3, _⟩ => ⟨S8192x1024, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .i1⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S8192x1024, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S8192x4096, .f32⟩
  | .hbm, ⟨19, _⟩ => ⟨S_, .f32⟩
  | .hbm, ⟨20, _⟩ => ⟨S8192x4096, .f32⟩
  | .hbm, ⟨21, _⟩ => ⟨S8192x4096, .f32⟩
  | .hbm, ⟨22, _⟩ => ⟨S_, .f32⟩
  | .hbm, ⟨23, _⟩ => ⟨S8192x4096, .f32⟩
  | .hbm, ⟨24, _⟩ => ⟨S8192x4096, .f32⟩
  | .hbm, ⟨25, _⟩ => ⟨S8192x4096, .bf16⟩
  | .hbm, ⟨26, _⟩ => ⟨S8192x4096, .bf16⟩
  | .hbm, ⟨27, _⟩ => ⟨S8192x1024, .bf16⟩
  | .hbm, ⟨28, _⟩ => ⟨S8192x1024, .bf16⟩
  | .hbm, ⟨29, _⟩ => ⟨S4096x1024, .bf16⟩
  | .hbm, ⟨30, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_call1_cst : Ref sig .tc := ⟨.hbm, 22, rfl⟩
abbrev main_call1_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18_0 : Ref sig .tc := ⟨.hbm, 29, rfl⟩
abbrev main_v18_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v26 : BitVec 1 := Scalar.cmpi .eq arg1 c3_i32
  let v27 : BitVec 32 := Scalar.extui v26
  let c0_i32_17 : BitVec 32 := 0#32
  let v28 : BitVec 1 := Scalar.cmpi .ne v27 c0_i32_17
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference3Ideal.lean ====
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S4096x1024, .f32⟩
  | .hbm, ⟨3, _⟩ => ⟨S8192x1024, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .i1⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S8192x1024, .f32⟩
  | .hbm, ⟨15, _⟩ => ⟨S1024x4096, .f32⟩
  | .hbm, ⟨16, _⟩ => ⟨S4096x1024, .f32⟩
  | .hbm, ⟨17, _⟩ => ⟨S8192x4096, .f32⟩
  | .hbm, ⟨18, _⟩ => ⟨S8192x4096, .f32⟩
  | .hbm, ⟨19, _⟩ => ⟨S8192x4096, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S4096x1024, .f32⟩
  | .hbm, ⟨25, _⟩ => ⟨S1024x4096, .f32⟩
  | .hbm, ⟨26, _⟩ => ⟨S4096x1024, .f32⟩
  | .hbm, ⟨27, _⟩ => ⟨S4096x1024, .bf16⟩
  | .hbm, ⟨28, _⟩ => ⟨S4096x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Kernel4.lean ====
abbrev S8192x1024 : Shape := ⟨2, ![8192, 1024]⟩
abbrev S1024 : Shape := ⟨1, ![1024]⟩
abbrev S1024x5632 : Shape := ⟨2, ![1024, 5632]⟩
abbrev S8192x5632 : Shape := ⟨2, ![8192, 5632]⟩
abbrev S_ : Shape := ⟨0, ![]⟩
abbrev S8x128 : Shape := ⟨2, ![8, 128]⟩
abbrev S8192x5120 : Shape := ⟨2, ![8192, 5120]⟩
abbrev S8192x10x512 : Shape := ⟨3, ![8192, 10, 512]⟩
abbrev S10x8192x512 : Shape := ⟨3, ![10, 8192, 512]⟩
abbrev S8192x512 : Shape := ⟨2, ![8192, 512]⟩
abbrev S5632x1024 : Shape := ⟨2, ![5632, 1024]⟩
abbrev S1x1024 : Shape := ⟨2, ![1, 1024]⟩
abbrev S8x1024 : Shape := ⟨2, ![8, 1024]⟩
abbrev S10x512x512 : Shape := ⟨3, ![10, 512, 512]⟩
abbrev S512x512 : Shape := ⟨2, ![512, 512]⟩
abbrev S512x1024 : Shape := ⟨2, ![512, 1024]⟩
abbrev S1x512x512 : Shape := ⟨3, ![1, 512, 512]⟩
abbrev S512 : Shape := ⟨1, ![512]⟩
abbrev S512x1 : Shape := ⟨2, ![512, 1]⟩

abbrev nBuf : Space → Nat
  | .hbm => 18
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S8192x5632, .f32⟩
  | .hbm, ⟨4, _⟩ => ⟨S8192x1024, .f32⟩
  | .hbm, ⟨5, _⟩ => ⟨S_, .f32⟩
  | .hbm, ⟨6, _⟩ => ⟨S8x128, .f32⟩
  | .hbm, ⟨7, _⟩ => ⟨S8192x5120, .f32⟩
  | .hbm, ⟨8, _⟩ => ⟨S8192x10x512, .f32⟩
  | .hbm, ⟨9, _⟩ => ⟨S10x8192x512, .f32⟩
  | .hbm, ⟨10, _⟩ => ⟨S10x8192x512, .bf16⟩
  | .hbm, ⟨11, _⟩ => ⟨S8192x512, .f32⟩
  | .hbm, ⟨12, _⟩ => ⟨S8192x512, .bf16⟩
  | .hbm, ⟨13, _⟩ => ⟨S5632x1024, .f32⟩
  | .hbm, ⟨14, _⟩ => ⟨S5632x1024, .bf16⟩
  | .hbm, ⟨15, _⟩ => ⟨S1x1024, .f32⟩
  | .hbm, ⟨16, _⟩ => ⟨S8192x1024, .f32⟩
  | .hbm, ⟨17, _⟩ => ⟨S8x1024, .f32⟩
  | .local _ .vmem, ⟨0, _⟩ => ⟨S10x512x512, .bf16⟩
  | .local _ .vmem, ⟨1, _⟩ => ⟨S10x512x512, .bf16⟩
  | .local _ .vmem, ⟨2, _⟩ => ⟨S512x512, .bf16⟩
  | .local _ .vmem, ⟨3, _⟩ => ⟨S512x512, .bf16⟩
  | .local _ .vmem, ⟨4, _⟩ => ⟨S5632x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference4Ideal.lean ====
abbrev S8192x1024 : Shape := ⟨2, ![8192, 1024]⟩
abbrev S1024 : Shape := ⟨1, ![1024]⟩
abbrev S1024x5632 : Shape := ⟨2, ![1024, 5632]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S7x1024 : Shape := ⟨2, ![7, 1024]⟩
abbrev S8x1024 : Shape := ⟨2, ![8, 1024]⟩

abbrev nBuf : Space → Nat
  | .hbm => 57
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S8192x5632, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x5632, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | .hbm, ⟨54, _⟩ => ⟨S_, .f32⟩
  | .hbm, ⟨55, _⟩ => ⟨S7x1024, .f32⟩
  | .hbm, ⟨56, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== Kernel5.lean ====
abbrev S8192x1024 : Shape := ⟨2, ![8192, 1024]⟩
abbrev S1024 : Shape := ⟨1, ![1024]⟩
abbrev S1024x5632 : Shape := ⟨2, ![1024, 5632]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5120 : Shape := ⟨2, ![8192, 5120]⟩
abbrev S8192x10x512 : Shape := ⟨3, ![8192, 10, 512]⟩
abbrev S10x8192x512 : Shape := ⟨3, ![10, 8192, 512]⟩
abbrev S8192x512 : Shape := ⟨2, ![8192, 512]⟩
abbrev S5632x1024 : Shape := ⟨2, ![5632, 1024]⟩
abbrev S10x512x512 : Shape := ⟨3, ![10, 512, 512]⟩
abbrev S512x512 : Shape := ⟨2, ![512, 512]⟩
abbrev S512x1024 : Shape := ⟨2, ![512, 1024]⟩
abbrev S2x512x1024 : Shape := ⟨3, ![2, 512, 1024]⟩
abbrev S2 : Shape := ⟨1, ![2]⟩
abbrev S1x512x512 : Shape := ⟨3, ![1, 512, 512]⟩
abbrev S1x512x1024 : Shape := ⟨3, ![1, 512, 1024]⟩
abbrev S1 : Shape := ⟨1, ![1]⟩

abbrev nBuf : Space → Nat
  | .hbm => 28
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S8192x5632, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x5120, .f32⟩
  | .hbm, ⟨21, _⟩ => ⟨S8192x10x512, .f32⟩
  | .hbm, ⟨22, _⟩ => ⟨S10x8192x512, .f32⟩
  | .hbm, ⟨23, _⟩ => ⟨S10x8192x512, .bf16⟩
  | .hbm, ⟨24, _⟩ => ⟨S8192x512, .f32⟩
  | .hbm, ⟨25, _⟩ => ⟨S8192x512, .bf16⟩
  | .hbm, ⟨26, _⟩ => ⟨S8192x1024, .bf16⟩
  | .hbm, ⟨27, _⟩ => ⟨S5632x1024, .bf16⟩
  | .local _ .vmem, ⟨0, _⟩ => ⟨S10x512x512, .bf16⟩
  | .local _ .vmem, ⟨1, _⟩ => ⟨S10x512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S5632x1024, .f32⟩
  | .local _ .vmem, ⟨7, _⟩ => ⟨S2x512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S8192x1024 : Shape := ⟨2, ![8192, 1024]⟩
abbrev S1024 : Shape := ⟨1, ![1024]⟩
abbrev S1024x5632 : Shape := ⟨2, ![1024, 5632]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S5632x1024 : Shape := ⟨2, ![5632, 1024]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S8192x5632, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x5632, .f32⟩
  | .hbm, ⟨21, _⟩ => ⟨S5632x1024, .f32⟩
  | .hbm, ⟨22, _⟩ => ⟨S1024x5632, .f32⟩
  | .hbm, ⟨23, _⟩ => ⟨S5632x1024, .f32⟩
  | .hbm, ⟨24, _⟩ => ⟨S5632x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel6.lean ====
abbrev S8192x1024 : Shape := ⟨2, ![8192, 1024]⟩
abbrev S1024 : Shape := ⟨1, ![1024]⟩
abbrev S1024x5632 : Shape := ⟨2, ![1024, 5632]⟩
abbrev S5632 : Shape := ⟨1, ![5632]⟩
abbrev S11x512 : Shape := ⟨2, ![11, 512]⟩
abbrev S10x512 : Shape := ⟨2, ![10, 512]⟩
abbrev S1x512 : Shape := ⟨2, ![1, 512]⟩
abbrev S11x1x512 : Shape := ⟨3, ![11, 1, 512]⟩
abbrev S1x1024 : Shape := ⟨2, ![1, 1024]⟩
abbrev S5632x1024 : Shape := ⟨2, ![5632, 1024]⟩
abbrev S10x8192x512 : Shape := ⟨3, ![10, 8192, 512]⟩
abbrev S8192x512 : Shape := ⟨2, ![8192, 512]⟩
abbrev S512x1024 : Shape := ⟨2, ![512, 1024]⟩
abbrev S10x512x512 : Shape := ⟨3, ![10, 512, 512]⟩
abbrev S512x512 : Shape := ⟨2, ![512, 512]⟩
abbrev S512 : Shape := ⟨1, ![512]⟩
abbrev S512x1 : Shape := ⟨2, ![512, 1]⟩
abbrev S1x1x512 : Shape := ⟨3, ![1, 1, 512]⟩
abbrev S1x512x512 : Shape := ⟨3, ![1, 512, 512]⟩

abbrev nBuf : Space → Nat
  | .hbm => 15
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S5632, .f32⟩
  | .hbm, ⟨4, _⟩ => ⟨S11x512, .f32⟩
  | .hbm, ⟨5, _⟩ => ⟨S10x512, .f32⟩
  | .hbm, ⟨6, _⟩ => ⟨S1x512, .f32⟩
  | .hbm, ⟨7, _⟩ => ⟨S11x512, .f32⟩
  | .hbm, ⟨8, _⟩ => ⟨S11x1x512, .f32⟩
  | .hbm, ⟨9, _⟩ => ⟨S1x1024, .f32⟩
  | .hbm, ⟨10, _⟩ => ⟨S5632x1024, .f32⟩
  | .hbm, ⟨11, _⟩ => ⟨S5632x1024, .bf16⟩
  | .hbm, ⟨12, _⟩ => ⟨S10x8192x512, .bf16⟩
  | .hbm, ⟨13, _⟩ => ⟨S8192x512, .bf16⟩
  | .hbm, ⟨14, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S5632x1024, .bf16⟩
  | .local _ .vmem, ⟨4, _⟩ => ⟨S11x1x512, .f32⟩
  | .local _ .vmem, ⟨5, _⟩ => ⟨S10x512x512, .bf16⟩
  | .local _ .vmem, ⟨6, _⟩ => ⟨S10x512x512, .bf16⟩
  | .local _ .vmem, ⟨7, _⟩ => ⟨S512x512, .bf16⟩
  | .local _ .vmem, ⟨8, _⟩ => ⟨S512x512, .bf16⟩
  | .local _ .vmem, ⟨9, _⟩ => ⟨S512x1024, .bf16⟩
  | .local _ .vmem, ⟨10, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S11x1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S8192x1024 : Shape := ⟨2, ![8192, 1024]⟩
abbrev S1024 : Shape := ⟨1, ![1024]⟩
abbrev S1024x5632 : Shape := ⟨2, ![1024, 5632]⟩
abbrev S5632 : Shape := ⟨1, ![5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S1x5632 : Shape := ⟨2, ![1, 5632]⟩
abbrev S8192x5120 : Shape := ⟨2, ![8192, 5120]⟩
abbrev S8192x10x512 : Shape := ⟨3, ![8192, 10, 512]⟩
abbrev S10x8192x512 : Shape := ⟨3, ![10, 8192, 512]⟩
abbrev S8192x512 : Shape := ⟨2, ![8192, 512]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S5632, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x5632, .f32⟩
  | .hbm, ⟨21, _⟩ => ⟨S1x5632, .f32⟩
  | .hbm, ⟨22, _⟩ => ⟨S8192x5632, .f32⟩
  | .hbm, ⟨23, _⟩ => ⟨S8192x5632, .f32⟩
  | .hbm, ⟨24, _⟩ => ⟨S8192x5120, .f32⟩
  | .hbm, ⟨25, _⟩ => ⟨S8192x10x512, .f32⟩
  | .hbm, ⟨26, _⟩ => ⟨S10x8192x512, .f32⟩
  | .hbm, ⟨27, _⟩ => ⟨S10x8192x512, .bf16⟩
  | .hbm, ⟨28, _⟩ => ⟨S8192x512, .f32⟩
  | .hbm, ⟨29, _⟩ => ⟨S8192x512, .bf16⟩
  | .hbm, ⟨30, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Kernel7.lean ====
abbrev S8192x512 : Shape := ⟨2, ![8192, 512]⟩
abbrev S8192x5632 : Shape := ⟨2, ![8192, 5632]⟩
abbrev S8192x1024 : Shape := ⟨2, ![8192, 1024]⟩
abbrev S512x1024 : Shape := ⟨2, ![512, 1024]⟩
abbrev S3x1024 : Shape := ⟨2, ![3, 1024]⟩
abbrev S1024 : Shape := ⟨1, ![1024]⟩
abbrev S1024x1024 : Shape := ⟨2, ![1024, 1024]⟩
abbrev S1024x512 : Shape := ⟨2, ![1024, 512]⟩
abbrev S8192x5120 : Shape := ⟨2, ![8192, 5120]⟩
abbrev S8192x10x512 : Shape := ⟨3, ![8192, 10, 512]⟩
abbrev S10x8192x512 : Shape := ⟨3, ![10, 8192, 512]⟩
abbrev S1x1024 : Shape := ⟨2, ![1, 1024]⟩
abbrev S6x8192x1024 : Shape := ⟨3, ![6, 8192, 1024]⟩
abbrev S512x512 : Shape := ⟨2, ![512, 512]⟩
abbrev S2x512x512 : Shape := ⟨3, ![2, 512, 512]⟩
abbrev S6x512x1024 : Shape := ⟨3, ![6, 512, 1024]⟩
abbrev S2x520x512 : Shape := ⟨3, ![2, 520, 512]⟩
abbrev S2x8x512 : Shape := ⟨3, ![2, 8, 512]⟩
abbrev S1x512x1024 : Shape := ⟨3, ![1, 512, 1024]⟩
abbrev S1x512x512 : Shape := ⟨3, ![1, 512, 512]⟩
abbrev S1x512 : Shape := ⟨2, ![1, 512]⟩
abbrev S8x512 : Shape := ⟨2, ![8, 512]⟩
abbrev S1x8x512 : Shape := ⟨3, ![1, 8, 512]⟩

abbrev nBuf : Space → Nat
  | .hbm => 25
  | .vmem => 28
  | .smem => 0
  | _ => 0

abbrev bufTy : (tb : Table) → Fin (tcTables nBuf tb) → BufTy
  | .hbm, ⟨0, _⟩ => ⟨S8192x512, .f32⟩
  | .hbm, ⟨1, _⟩ => ⟨S8192x5632, .f32⟩
  | .hbm, ⟨2, _⟩ => ⟨S8192x1024, .f32⟩
  | .hbm, ⟨3, _⟩ => ⟨S512x1024, .f32⟩
  | .hbm, ⟨4, _⟩ => ⟨S512x1024, .f32⟩
  | .hbm, ⟨5, _⟩ => ⟨S3x1024, .f32⟩
  | .hbm, ⟨6, _⟩ => ⟨S1024, .f32⟩
  | .hbm, ⟨7, _⟩ => ⟨S1024x1024, .f32⟩
  | .hbm, ⟨8, _⟩ => ⟨S1024x1024, .f32⟩
  | .hbm, ⟨9, _⟩ => ⟨S1024x512, .f32⟩
  | .hbm, ⟨10, _⟩ => ⟨S1024x512, .f32⟩
  | .hbm, ⟨11, _⟩ => ⟨S1024x1024, .f32⟩
  | .hbm, ⟨12, _⟩ => ⟨S1024x1024, .bf16⟩
  | .hbm, ⟨13, _⟩ => ⟨S8192x512, .bf16⟩
  | .hbm, ⟨14, _⟩ => ⟨S8192x5120, .f32⟩
  | .hbm, ⟨15, _⟩ => ⟨S8192x10x512, .f32⟩
  | .hbm, ⟨16, _⟩ => ⟨S10x8192x512, .f32⟩
  | .hbm, ⟨17, _⟩ => ⟨S10x8192x512, .bf16⟩
  | .hbm, ⟨18, _⟩ => ⟨S1024x1024, .bf16⟩
  | .hbm, ⟨19, _⟩ => ⟨S1024x1024, .bf16⟩
  | .hbm, ⟨20, _⟩ => ⟨S1x1024, .f32⟩
  | .hbm, ⟨21, _⟩ => ⟨S8192x1024, .f32⟩
  | .hbm, ⟨22, _⟩ => ⟨S8192x512, .bf16⟩
  | .hbm, ⟨23, _⟩ => ⟨S8192x1024, .bf16⟩
  | .hbm, ⟨24, _⟩ => ⟨S6x8192x1024, .bf16⟩
  | .local _ .vmem, ⟨0, _⟩ => ⟨S512x512, .bf16⟩
  | .local _ .vmem, ⟨1, _⟩ => ⟨S512x512, .bf16⟩
  | .local _ .vmem, ⟨2, _⟩ => ⟨S2x512x512, .bf16⟩
  | .local _ .vmem, ⟨3, _⟩ => ⟨S2x512x512, .bf16⟩
  | .local _ .vmem, ⟨4, _⟩ => ⟨S2x512x512, .bf16⟩
  | .local _ .vmem, ⟨5, _⟩ => ⟨S2x512x512, .bf16⟩
  | .local _ .vmem, ⟨6, _⟩ => ⟨S2x512x512, .bf16⟩
  | .local _ .vmem, ⟨7, _⟩ => ⟨S2x512x512, .bf16⟩
  | .local _ .vmem, ⟨8, _⟩ => ⟨S2x512x512, .bf16⟩
  | .local _ .vmem, ⟨9, _⟩ => ⟨S2x512x512, .bf16⟩
  | .local _ .vmem, ⟨10, _⟩ => ⟨S2x512x512, .bf16⟩
  | .local _ .vmem, ⟨11, _⟩ => ⟨S2x512x512, .bf16⟩
  | .local _ .vmem, ⟨12, _⟩ => ⟨S512x1024, .f32⟩
  | .local _ .vmem, ⟨13, _⟩ => ⟨S512x1024, .f32⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S3x1024, .f32⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | .local _ .vmem, ⟨21, _⟩ => ⟨S512x512, .bf16⟩
  | .local _ .vmem, ⟨22, _⟩ => ⟨S512x512, .bf16⟩
  | .local _ .vmem, ⟨23, _⟩ => ⟨S512x1024, .bf16⟩
  | .local _ .vmem, ⟨24, _⟩ => ⟨S512x1024, .bf16⟩
  | .local _ .vmem, ⟨25, _⟩ => ⟨S6x512x1024, .bf16⟩
  | .local _ .vmem, ⟨26, _⟩ => ⟨S6x512x1024, .bf16⟩
  | .local _ .vmem, ⟨27, _⟩ => ⟨S2x520x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev main_v12_3 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_5 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S6x512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference7Ideal.lean ====
abbrev S8192x512 : Shape := ⟨2, ![8192, 512]⟩
abbrev S8192x5632 : Shape := ⟨2, ![8192, 5632]⟩
abbrev S8192x1024 : Shape := ⟨2, ![8192, 1024]⟩
abbrev S512x1024 : Shape := ⟨2, ![512, 1024]⟩
abbrev S3x1024 : Shape := ⟨2, ![3, 1024]⟩
abbrev S1024 : Shape := ⟨1, ![1024]⟩
abbrev S1024x1024 : Shape := ⟨2, ![1024, 1024]⟩
abbrev S_ : Shape := ⟨0, ![]⟩
abbrev S4x2048x1024 : Shape := ⟨3, ![4, 2048, 1024]⟩
abbrev S4x2050x1024 : Shape := ⟨3, ![4, 2050, 1024]⟩
abbrev S1x1024 : Shape := ⟨2, ![1, 1024]⟩
abbrev S1x1x1024 : Shape := ⟨3, ![1, 1, 1024]⟩
abbrev S1x8192x1024 : Shape := ⟨3, ![1, 8192, 1024]⟩
abbrev S6x8192x1024 : Shape := ⟨3, ![6, 8192, 1024]⟩

abbrev nBuf : Space → Nat
  | .hbm => 105
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x5632, .f32⟩
  | .hbm, ⟨2, _⟩ => ⟨S8192x1024, .f32⟩
  | .hbm, ⟨3, _⟩ => ⟨S512x1024, .f32⟩
  | .hbm, ⟨4, _⟩ => ⟨S512x1024, .f32⟩
  | .hbm, ⟨5, _⟩ => ⟨S3x1024, .f32⟩
  | .hbm, ⟨6, _⟩ => ⟨S1024, .f32⟩
  | .hbm, ⟨7, _⟩ => ⟨S1024x1024, .f32⟩
  | .hbm, ⟨8, _⟩ => ⟨S1024x1024, .f32⟩
  | .hbm, ⟨9, _⟩ => ⟨S8192x512, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x512, .f32⟩
  | .hbm, ⟨16, _⟩ => ⟨S8192x512, .f32⟩
  | .hbm, ⟨17, _⟩ => ⟨S_, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S_, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S_, .f32⟩
  | .hbm, ⟨26, _⟩ => ⟨S8192x512, .f32⟩
  | .hbm, ⟨27, _⟩ => ⟨S8192x512, .f32⟩
  | .hbm, ⟨28, _⟩ => ⟨S_, .f32⟩
  | .hbm, ⟨29, _⟩ => ⟨S8192x512, .f32⟩
  | .hbm, ⟨30, _⟩ => ⟨S8192x512, .f32⟩
  | .hbm, ⟨31, _⟩ => ⟨S8192x512, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S4x2048x1024, .f32⟩
  | .hbm, ⟨44, _⟩ => ⟨S_, .i32⟩
  | .hbm, ⟨45, _⟩ => ⟨S_, .f32⟩
  | .hbm, ⟨46, _⟩ => ⟨S4x2050x1024, .f32⟩
  | .hbm, ⟨47, _⟩ => ⟨S1x1024, .f32⟩
  | .hbm, ⟨48, _⟩ => ⟨S1024, .f32⟩
  | .hbm, ⟨49, _⟩ => ⟨S4x2048x1024, .f32⟩
  | .hbm, ⟨50, _⟩ => ⟨S1x1x1024, .f32⟩
  | .hbm, ⟨51, _⟩ => ⟨S4x2048x1024, .f32⟩
  | .hbm, ⟨52, _⟩ => ⟨S4x2048x1024, .f32⟩
  | .hbm, ⟨53, _⟩ => ⟨S1x1x1024, .f32⟩
  | .hbm, ⟨54, _⟩ => ⟨S4x2048x1024, .f32⟩
  | .hbm, ⟨55, _⟩ => ⟨S4x2048x1024, .f32⟩
  | .hbm, ⟨56, _⟩ => ⟨S1x1024, .f32⟩
  | .hbm, ⟨57, _⟩ => ⟨S1024, .f32⟩
  | .hbm, ⟨58, _⟩ => ⟨S4x2048x1024, .f32⟩
  | .hbm, ⟨59, _⟩ => ⟨S1x1x1024, .f32⟩
  | .hbm, ⟨60, _⟩ => ⟨S4x2048x1024, .f32⟩
  | .hbm, ⟨61, _⟩ => ⟨S4x2048x1024, .f32⟩
  | .hbm, ⟨62, _⟩ => ⟨S4x2048x1024, .f32⟩
  | .hbm, ⟨63, _⟩ => ⟨S1x1024, .f32⟩
  | .hbm, ⟨64, _⟩ => ⟨S1024, .f32⟩
  | .hbm, ⟨65, _⟩ => ⟨S4x2048x1024, .f32⟩
  | .hbm, ⟨66, _⟩ => ⟨S1x1x1024, .f32⟩
  | .hbm, ⟨67, _⟩ => ⟨S4x2048x1024, .f32⟩
  | .hbm, ⟨68, _⟩ => ⟨S4x2048x1024, .f32⟩
  | .hbm, ⟨69, _⟩ => ⟨S4x2048x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S_, .f32⟩
  | .hbm, ⟨76, _⟩ => ⟨S8192x1024, .f32⟩
  | .hbm, ⟨77, _⟩ => ⟨S8192x1024, .f32⟩
  | .hbm, ⟨78, _⟩ => ⟨S_, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S_, .f32⟩
  | .hbm, ⟨84, _⟩ => ⟨S8192x1024, .f32⟩
  | .hbm, ⟨85, _⟩ => ⟨S8192x1024, .f32⟩
  | .hbm, ⟨86, _⟩ => ⟨S_, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S8192x1024, .f32⟩
  | .hbm, ⟨93, _⟩ => ⟨S1x8192x1024, .f32⟩
  | .hbm, ⟨94, _⟩ => ⟨S1x8192x1024, .f32⟩
  | .hbm, ⟨95, _⟩ => ⟨S1x8192x1024, .f32⟩
  | .hbm, ⟨96, _⟩ => ⟨S1x8192x1024, .f32⟩
  | .hbm, ⟨97, _⟩ => ⟨S1x8192x1024, .f32⟩
  | .hbm, ⟨98, _⟩ => ⟨S1x8192x1024, .f32⟩
  | .hbm, ⟨99, _⟩ => ⟨S6x8192x1024, .f32⟩
  | .hbm, ⟨100, _⟩ => ⟨S8192x1024, .f32⟩
  | .hbm, ⟨101, _⟩ => ⟨S8192x1024, .f32⟩
  | .hbm, ⟨102, _⟩ => ⟨S8192x512, .bf16⟩
  | .hbm, ⟨103, _⟩ => ⟨S8192x1024, .bf16⟩
  | .hbm, ⟨104, _⟩ => ⟨S6x8192x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c : Ref sig .tc := ⟨.hbm, 44, rfl⟩
abbrev main_call0_v0 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_5 : Ref sig .tc := ⟨.hbm, 75, rfl⟩
abbrev main_v58 : Ref sig .tc := ⟨.hbm, 76, rfl⟩
abbrev main_v59 : Ref sig .tc := ⟨.hbm, 77, rfl⟩
abbrev main_cst_6 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_7 : Ref sig .tc := ⟨.hbm, 83, rfl⟩
abbrev main_v64 : Ref sig .tc := ⟨.hbm, 84, rfl⟩
abbrev main_v65 : Ref sig .tc := ⟨.hbm, 85, rfl⟩
abbrev main_cst_8 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩

abbrev nD : Nat := 1
abbrev τ : Topo := Topo.v7x

variable {F : FTy → Type} [FloatOps F]
-- ==== Kernel8.lean ====
abbrev S8x512x128 : Shape := ⟨3, ![8, 512, 128]⟩
abbrev S512x128 : Shape := ⟨2, ![512, 128]⟩
abbrev S8x128x512 : Shape := ⟨3, ![8, 128, 512]⟩
abbrev S8x128x1024 : Shape := ⟨3, ![8, 128, 1024]⟩
abbrev S1024x1024 : Shape := ⟨2, ![1024, 1024]⟩
abbrev S1x128x1024 : Shape := ⟨3, ![1, 128, 1024]⟩
abbrev S128x1024 : Shape := ⟨2, ![128, 1024]⟩
abbrev S128x512 : Shape := ⟨2, ![128, 512]⟩

abbrev nBuf : Space → Nat
  | .hbm => 22
  | .vmem => 15
  | .smem => 0
  | _ => 0

abbrev bufTy : (tb : Table) → Fin (tcTables nBuf tb) → BufTy
  | .hbm, ⟨0, _⟩ => ⟨S8x512x128, .f32⟩
  | .hbm, ⟨1, _⟩ => ⟨S8x512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .hbm, ⟨8, _⟩ => ⟨S8x128x512, .f32⟩
  | .hbm, ⟨9, _⟩ => ⟨S8x128x512, .f32⟩
  | .hbm, ⟨10, _⟩ => ⟨S8x128x1024, .f32⟩
  | .hbm, ⟨11, _⟩ => ⟨S8x128x1024, .bf16⟩
  | .hbm, ⟨12, _⟩ => ⟨S1024x1024, .bf16⟩
  | .hbm, ⟨13, _⟩ => ⟨S8x128x1024, .bf16⟩
  | .hbm, ⟨14, _⟩ => ⟨S512x128, .f32⟩
  | .hbm, ⟨15, _⟩ => ⟨S512x128, .f32⟩
  | .hbm, ⟨16, _⟩ => ⟨S512x128, .f32⟩
  | .hbm, ⟨17, _⟩ => ⟨S512x128, .f32⟩
  | .hbm, ⟨18, _⟩ => ⟨S512x128, .f32⟩
  | .hbm, ⟨19, _⟩ => ⟨S512x128, .f32⟩
  | .hbm, ⟨20, _⟩ => ⟨S512x128, .f32⟩
  | .hbm, ⟨21, _⟩ => ⟨S512x128, .f32⟩
  | .local _ .vmem, ⟨0, _⟩ => ⟨S8x128x1024, .bf16⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | _, _ => ⟨S8x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v6_4 : Ref sig .tc := ⟨.hbm, 18, rfl⟩
abbrev main_v6_5 : Ref sig .tc := ⟨.hbm, 19, rfl⟩
abbrev main_v6_6 : Ref sig .tc := ⟨.hbm, 20, rfl⟩
abbrev main_v6_7 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S512x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S512x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S512x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S512x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S512x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S512x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]
-- ==== Reference8Ideal.lean ====
abbrev S8x512x128 : Shape := ⟨3, ![8, 512, 128]⟩
abbrev S512x128 : Shape := ⟨2, ![512, 128]⟩
abbrev S_ : Shape := ⟨0, ![]⟩

abbrev nBuf : Space → Nat
  | .hbm => 78
  | .vmem => 0
  | .smem => 0
  | _ => 0

abbrev bufTy : (tb : Table) → Fin (tcTables nBuf tb) → BufTy
  | .hbm, ⟨0, _⟩ => ⟨S8x512x128, .f32⟩
  | .hbm, ⟨1, _⟩ => ⟨S8x512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .hbm, ⟨8, _⟩ => ⟨S_, .f32⟩
  | .hbm, ⟨9, _⟩ => ⟨S512x128, .f32⟩
  | .hbm, ⟨10, _⟩ => ⟨S_, .f32⟩
  | .hbm, ⟨11, _⟩ => ⟨S512x128, .f32⟩
  | .hbm, ⟨12, _⟩ => ⟨S512x128, .f32⟩
  | .hbm, ⟨13, _⟩ => ⟨S_, .f32⟩
  | .hbm, ⟨14, _⟩ => ⟨S512x128, .f32⟩
  | .hbm, ⟨15, _⟩ => ⟨S512x128, .f32⟩
  | .hbm, ⟨16, _⟩ => ⟨S512x128, .f32⟩
  | .hbm, ⟨17, _⟩ => ⟨S_, .f32⟩
  | .hbm, ⟨18, _⟩ => ⟨S512x128, .f32⟩
  | .hbm, ⟨19, _⟩ => ⟨S512x128, .f32⟩
  | .hbm, ⟨20, _⟩ => ⟨S512x128, .f32⟩
  | .hbm, ⟨21, _⟩ => ⟨S_, .f32⟩
  | .hbm, ⟨22, _⟩ => ⟨S512x128, .f32⟩
  | .hbm, ⟨23, _⟩ => ⟨S512x128, .f32⟩
  | .hbm, ⟨24, _⟩ => ⟨S512x128, .f32⟩
  | .hbm, ⟨25, _⟩ => ⟨S_, .f32⟩
  | .hbm, ⟨26, _⟩ => ⟨S512x128, .f32⟩
  | .hbm, ⟨27, _⟩ => ⟨S512x128, .f32⟩
  | .hbm, ⟨28, _⟩ => ⟨S_, .f32⟩
  | .hbm, ⟨29, _⟩ => ⟨S512x128, .f32⟩
  | .hbm, ⟨30, _⟩ => ⟨S512x128, .f32⟩
  | .hbm, ⟨31, _⟩ => ⟨S512x128, .f32⟩
  | .hbm, ⟨32, _⟩ => ⟨S_, .f32⟩
  | .hbm, ⟨33, _⟩ => ⟨S512x128, .f32⟩
  | .hbm, ⟨34, _⟩ => ⟨S512x128, .f32⟩
  | .hbm, ⟨35, _⟩ => ⟨S512x128, .f32⟩
  | .hbm, ⟨36, _⟩ => ⟨S_, .f32⟩
  | .hbm, ⟨37, _⟩ => ⟨S512x128, .f32⟩
  | .hbm, ⟨38, _⟩ => ⟨S512x128, .f32⟩
  | .hbm, ⟨39, _⟩ => ⟨S512x128, .f32⟩
  | .hbm, ⟨40, _⟩ => ⟨S_, .f32⟩
  | .hbm, ⟨41, _⟩ => ⟨S512x128, .f32⟩
  | .hbm, ⟨42, _⟩ => ⟨S512x128, .f32⟩
  | .hbm, ⟨43, _⟩ => ⟨S_, .f32⟩
  | .hbm, ⟨44, _⟩ => ⟨S512x128, .f32⟩
  | .hbm, ⟨45, _⟩ => ⟨S_, .f32⟩
  | .hbm, ⟨46, _⟩ => ⟨S512x128, .f32⟩
  | .hbm, ⟨47, _⟩ => ⟨S512x128, .f32⟩
  | .hbm, ⟨48, _⟩ => ⟨S_, .f32⟩
  | .hbm, ⟨49, _⟩ => ⟨S512x128, .f32⟩
  | .hbm, ⟨50, _⟩ => ⟨S512x128, .f32⟩
  | .hbm, ⟨51, _⟩ => ⟨S512x128, .f32⟩
  | .hbm, ⟨52, _⟩ => ⟨S_, .f32⟩
  | .hbm, ⟨53, _⟩ => ⟨S512x128, .f32⟩
  | .hbm, ⟨54, _⟩ => ⟨S512x128, .f32⟩
  | .hbm, ⟨55, _⟩ => ⟨S512x128, .f32⟩
  | .hbm, ⟨56, _⟩ => ⟨S_, .f32⟩
  | .hbm, ⟨57, _⟩ => ⟨S512x128, .f32⟩
  | .hbm, ⟨58, _⟩ => ⟨S512x128, .f32⟩
  | .hbm, ⟨59, _⟩ => ⟨S512x128, .f32⟩
  | .hbm, ⟨60, _⟩ => ⟨S_, .f32⟩
  | .hbm, ⟨61, _⟩ => ⟨S512x128, .f32⟩
  | .hbm, ⟨62, _⟩ => ⟨S512x128, .f32⟩
  | .hbm, ⟨63, _⟩ => ⟨S_, .f32⟩
  | .hbm, ⟨64, _⟩ => ⟨S512x128, .f32⟩
  | .hbm, ⟨65, _⟩ => ⟨S512x128, .f32⟩
  | .hbm, ⟨66, _⟩ => ⟨S512x128, .f32⟩
  | .hbm, ⟨67, _⟩ => ⟨S_, .f32⟩
  | .hbm, ⟨68, _⟩ => ⟨S512x128, .f32⟩
  | .hbm, ⟨69, _⟩ => ⟨S512x128, .f32⟩
  | .hbm, ⟨70, _⟩ => ⟨S512x128, .f32⟩
  | .hbm, ⟨71, _⟩ => ⟨S_, .f32⟩
  | .hbm, ⟨72, _⟩ => ⟨S512x128, .f32⟩
  | .hbm, ⟨73, _⟩ => ⟨S512x128, .f32⟩
  | .hbm, ⟨74, _⟩ => ⟨S512x128, .f32⟩
  | .hbm, ⟨75, _⟩ => ⟨S_, .f32⟩
  | .hbm, ⟨76, _⟩ => ⟨S512x128, .f32⟩
  | .hbm, ⟨77, _⟩ => ⟨S512x128, .f32⟩
  | _, _ => ⟨S8x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_cst_1 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_4 : Ref sig .tc := ⟨.hbm, 25, rfl⟩
abbrev main_v12 : Ref sig .tc := ⟨.hbm, 26, rfl⟩
abbrev main_v13 : Ref sig .tc := ⟨.hbm, 27, rfl⟩
abbrev main_cst_5 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_6 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_7 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_8 : Ref sig .tc := ⟨.hbm, 40, rfl⟩
abbrev main_v23 : Ref sig .tc := ⟨.hbm, 41, rfl⟩
abbrev main_v24 : Ref sig .tc := ⟨.hbm, 42, rfl⟩
abbrev main_cst_9 : Ref sig .tc := ⟨.hbm, 43, rfl⟩
abbrev main_v25 : Ref sig .tc := ⟨.hbm, 44, rfl⟩
abbrev main_cst_10 : Ref sig .tc := ⟨.hbm, 45, rfl⟩
abbrev main_v26 : Ref sig .tc := ⟨.hbm, 46, rfl⟩
abbrev main_v27 : Ref sig .tc := ⟨.hbm, 47, rfl⟩
abbrev main_cst_11 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_12 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_13 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_14 : Ref sig .tc := ⟨.hbm, 60, rfl⟩
abbrev main_v37 : Ref sig .tc := ⟨.hbm, 61, rfl⟩
abbrev main_v38 : Ref sig .tc := ⟨.hbm, 62, rfl⟩
abbrev main_cst_15 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_16 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_17 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_18 : Ref sig .tc := ⟨.hbm, 75, rfl⟩
abbrev main_v48 : Ref sig .tc := ⟨.hbm, 76, rfl⟩
abbrev main_v49 : Ref sig .tc := ⟨.hbm, 77, rfl⟩

abbrev nD : Nat := 1
abbrev τ : Topo := Topo.v7x

variable {F : FTy → Type} [FloatOps F]
-- ==== Kernel9.lean ====
abbrev S8x1024x512 : Shape := ⟨3, ![8, 1024, 512]⟩
abbrev S8x128x1024 : Shape := ⟨3, ![8, 128, 1024]⟩
abbrev S8x512x1024 : Shape := ⟨3, ![8, 512, 1024]⟩
abbrev S1024x512 : Shape := ⟨2, ![1024, 512]⟩
abbrev S128x1024 : Shape := ⟨2, ![128, 1024]⟩
abbrev S512x1024 : Shape := ⟨2, ![512, 1024]⟩
abbrev S8x32x1024 : Shape := ⟨3, ![8, 32, 1024]⟩
abbrev S1024x128 : Shape := ⟨2, ![1024, 128]⟩
abbrev S32x1024 : Shape := ⟨2, ![32, 1024]⟩
abbrev S1x128x1024 : Shape := ⟨3, ![1, 128, 1024]⟩
abbrev S1x32x1024 : Shape := ⟨3, ![1, 32, 1024]⟩

abbrev nBuf : Space → Nat
  | .hbm => 37
  | .vmem => 64
  | .smem => 0
  | _ => 0

abbrev bufTy : (tb : Table) → Fin (tcTables nBuf tb) → BufTy
  | .hbm, ⟨0, _⟩ => ⟨S8x1024x512, .f32⟩
  | .hbm, ⟨1, _⟩ => ⟨S8x128x1024, .f32⟩
  | .hbm, ⟨2, _⟩ => ⟨S8x128x1024, .f32⟩
  | .hbm, ⟨3, _⟩ => ⟨S8x512x1024, .f32⟩
  | .hbm, ⟨4, _⟩ => ⟨S1024x512, .f32⟩
  | .hbm, ⟨5, _⟩ => ⟨S128x1024, .f32⟩
  | .hbm, ⟨6, _⟩ => ⟨S128x1024, .f32⟩
  | .hbm, ⟨7, _⟩ => ⟨S512x1024, .f32⟩
  | .hbm, ⟨8, _⟩ => ⟨S1024x512, .f32⟩
  | .hbm, ⟨9, _⟩ => ⟨S128x1024, .f32⟩
  | .hbm, ⟨10, _⟩ => ⟨S128x1024, .f32⟩
  | .hbm, ⟨11, _⟩ => ⟨S512x1024, .f32⟩
  | .hbm, ⟨12, _⟩ => ⟨S1024x512, .f32⟩
  | .hbm, ⟨13, _⟩ => ⟨S128x1024, .f32⟩
  | .hbm, ⟨14, _⟩ => ⟨S128x1024, .f32⟩
  | .hbm, ⟨15, _⟩ => ⟨S512x1024, .f32⟩
  | .hbm, ⟨16, _⟩ => ⟨S8x512x1024, .f32⟩
  | .hbm, ⟨17, _⟩ => ⟨S8x512x1024, .bf16⟩
  | .hbm, ⟨18, _⟩ => ⟨S8x128x1024, .bf16⟩
  | .hbm, ⟨19, _⟩ => ⟨S8x128x1024, .bf16⟩
  | .hbm, ⟨20, _⟩ => ⟨S8x512x1024, .bf16⟩
  | .hbm, ⟨21, _⟩ => ⟨S1024x512, .f32⟩
  | .hbm, ⟨22, _⟩ => ⟨S1024x512, .f32⟩
  | .hbm, ⟨23, _⟩ => ⟨S1024x512, .f32⟩
  | .hbm, ⟨24, _⟩ => ⟨S1024x512, .f32⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S512x1024, .f32⟩
  | .hbm, ⟨34, _⟩ => ⟨S512x1024, .f32⟩
  | .hbm, ⟨35, _⟩ => ⟨S512x1024, .f32⟩
  | .hbm, ⟨36, _⟩ => ⟨S512x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S8x32x1024, .bf16⟩
  | .local _ .vmem, ⟨3, _⟩ => ⟨S8x32x1024, .bf16⟩
  | .local _ .vmem, ⟨4, _⟩ => ⟨S8x32x1024, .bf16⟩
  | .local _ .vmem, ⟨5, _⟩ => ⟨S8x32x1024, .bf16⟩
  | .local _ .vmem, ⟨6, _⟩ => ⟨S8x128x1024, .bf16⟩
  | .local _ .vmem, ⟨7, _⟩ => ⟨S8x128x1024, .bf16⟩
  | .local _ .vmem, ⟨8, _⟩ => ⟨S1024x128, .f32⟩
  | .local _ .vmem, ⟨9, _⟩ => ⟨S1024x128, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | .local _ .vmem, ⟨14, _⟩ => ⟨S128x1024, .f32⟩
  | .local _ .vmem, ⟨15, _⟩ => ⟨S128x1024, .f32⟩
  | .local _ .vmem, ⟨16, _⟩ => ⟨S1024x128, .f32⟩
  | .local _ .vmem, ⟨17, _⟩ => ⟨S1024x128, .f32⟩
  | .local _ .vmem, ⟨18, _⟩ => ⟨S32x1024, .f32⟩
  | .local _ .vmem, ⟨19, _⟩ => ⟨S32x1024, .f32⟩
  | .local _ .vmem, ⟨20, _⟩ => ⟨S32x1024, .f32⟩
  | .local _ .vmem, ⟨21, _⟩ => ⟨S32x1024, .f32⟩
  | .local _ .vmem, ⟨22, _⟩ => ⟨S128x1024, .f32⟩
  | .local _ .vmem, ⟨23, _⟩ => ⟨S128x1024, .f32⟩
  | .local _ .vmem, ⟨24, _⟩ => ⟨S1024x128, .f32⟩
  | .local _ .vmem, ⟨25, _⟩ => ⟨S1024x128, .f32⟩
  | .local _ .vmem, ⟨26, _⟩ => ⟨S32x1024, .f32⟩
  | .local _ .vmem, ⟨27, _⟩ => ⟨S32x1024, .f32⟩
  | .local _ .vmem, ⟨28, _⟩ => ⟨S32x1024, .f32⟩
  | .local _ .vmem, ⟨29, _⟩ => ⟨S32x1024, .f32⟩
  | .local _ .vmem, ⟨30, _⟩ => ⟨S128x1024, .f32⟩
  | .local _ .vmem, ⟨31, _⟩ => ⟨S128x1024, .f32⟩
  | .local _ .vmem, ⟨32, _⟩ => ⟨S1024x128, .f32⟩
  | .local _ .vmem, ⟨33, _⟩ => ⟨S1024x128, .f32⟩
  | .local _ .vmem, ⟨34, _⟩ => ⟨S1024x128, .f32⟩
  | .local _ .vmem, ⟨35, _⟩ => ⟨S1024x128, .f32⟩
  | .local _ .vmem, ⟨36, _⟩ => ⟨S1024x128, .f32⟩
  | .local _ .vmem, ⟨37, _⟩ => ⟨S1024x128, .f32⟩
  | .local _ .vmem, ⟨38, _⟩ => ⟨S1024x128, .f32⟩
  | .local _ .vmem, ⟨39, _⟩ => ⟨S1024x128, .f32⟩
  | .local _ .vmem, ⟨40, _⟩ => ⟨S32x1024, .f32⟩
  | .local _ .vmem, ⟨41, _⟩ => ⟨S32x1024, .f32⟩
  | .local _ .vmem, ⟨42, _⟩ => ⟨S32x1024, .f32⟩
  | .local _ .vmem, ⟨43, _⟩ => ⟨S32x1024, .f32⟩
  | .local _ .vmem, ⟨44, _⟩ => ⟨S32x1024, .f32⟩
  | .local _ .vmem, ⟨45, _⟩ => ⟨S32x1024, .f32⟩
  | .local _ .vmem, ⟨46, _⟩ => ⟨S32x1024, .f32⟩
  | .local _ .vmem, ⟨47, _⟩ => ⟨S32x1024, .f32⟩
  | .local _ .vmem, ⟨48, _⟩ => ⟨S32x1024, .f32⟩
  | .local _ .vmem, ⟨49, _⟩ => ⟨S32x1024, .f32⟩
  | .local _ .vmem, ⟨50, _⟩ => ⟨S32x1024, .f32⟩
  | .local _ .vmem, ⟨51, _⟩ => ⟨S32x1024, .f32⟩
  | .local _ .vmem, ⟨52, _⟩ => ⟨S32x1024, .f32⟩
  | .local _ .vmem, ⟨53, _⟩ => ⟨S32x1024, .f32⟩
  | .local _ .vmem, ⟨54, _⟩ => ⟨S32x1024, .f32⟩
  | .local _ .vmem, ⟨55, _⟩ => ⟨S32x1024, .f32⟩
  | .local _ .vmem, ⟨56, _⟩ => ⟨S128x1024, .f32⟩
  | .local _ .vmem, ⟨57, _⟩ => ⟨S128x1024, .f32⟩
  | .local _ .vmem, ⟨58, _⟩ => ⟨S128x1024, .f32⟩
  | .local _ .vmem, ⟨59, _⟩ => ⟨S128x1024, .f32⟩
  | .local _ .vmem, ⟨60, _⟩ => ⟨S128x1024, .f32⟩
  | .local _ .vmem, ⟨61, _⟩ => ⟨S128x1024, .f32⟩
  | .local _ .vmem, ⟨62, _⟩ => ⟨S128x1024, .f32⟩
  | .local _ .vmem, ⟨63, _⟩ => ⟨S128x1024, .f32⟩
  | _, _ => ⟨S8x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5_0 : Ref sig .tc := ⟨.hbm, 21, rfl⟩
abbrev main_v5_1 : Ref sig .tc := ⟨.hbm, 22, rfl⟩
abbrev main_v5_2 : Ref sig .tc := ⟨.hbm, 23, rfl⟩
abbrev main_v5_3 : Ref sig .tc := ⟨.hbm, 24, rfl⟩
abbrev main_v5_4 : Ref sig .tc := ⟨.hbm, 25, rfl⟩
abbrev main_v5_5 : Ref sig .tc := ⟨.hbm, 26, rfl⟩
abbrev main_v5_6 : Ref sig .tc := ⟨.hbm, 27, rfl⟩
abbrev main_v5_7 : Ref sig .tc := ⟨.hbm, 28, rfl⟩
abbrev main_v5_8 : Ref sig .tc := ⟨.hbm, 29, rfl⟩
abbrev main_v5_9 : Ref sig .tc := ⟨.hbm, 30, rfl⟩
abbrev main_v5_10 : Ref sig .tc := ⟨.hbm, 31, rfl⟩
abbrev main_v5_11 : Ref sig .tc := ⟨.hbm, 32, rfl⟩
abbrev main_v5_12 : Ref sig .tc := ⟨.hbm, 33, rfl⟩
abbrev main_v5_13 : Ref sig .tc := ⟨.hbm, 34, rfl⟩
abbrev main_v5_14 : Ref sig .tc := ⟨.hbm, 35, rfl⟩
abbrev main_v5_15 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg24_1 : Ref sig .tc := ⟨.vmem, 49, rfl⟩
abbrev cc0_stg25_0 : Ref sig .tc := ⟨.vmem, 50, rfl⟩
abbrev cc0_stg25_1 : Ref sig .tc := ⟨.vmem, 51, rfl⟩
abbrev cc0_stg26_0 : Ref sig .tc := ⟨.vmem, 52, rfl⟩
abbrev cc0_stg26_1 : Ref sig .tc := ⟨.vmem, 53, rfl⟩
abbrev cc0_stg27_0 : Ref sig .tc := ⟨.vmem, 54, rfl⟩
abbrev cc0_stg27_1 : Ref sig .tc := ⟨.vmem, 55, rfl⟩
abbrev cc0_stg28_0 : Ref sig .tc := ⟨.vmem, 56, rfl⟩
abbrev cc0_stg28_1 : Ref sig .tc := ⟨.vmem, 57, rfl⟩
abbrev cc0_stg29_0 : Ref sig .tc := ⟨.vmem, 58, rfl⟩
abbrev cc0_stg29_1 : Ref sig .tc := ⟨.vmem, 59, rfl⟩
abbrev cc0_stg30_0 : Ref sig .tc := ⟨.vmem, 60, rfl⟩
abbrev cc0_stg30_1 : Ref sig .tc := ⟨.vmem, 61, rfl⟩
abbrev cc0_stg31_0 : Ref sig .tc := ⟨.vmem, 62, rfl⟩
abbrev cc0_stg31_1 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem24_1 : DmaSem sig := 49
abbrev cc0_sem25_0 : DmaSem sig := 50
abbrev cc0_sem25_1 : DmaSem sig := 51
abbrev cc0_sem26_0 : DmaSem sig := 52
abbrev cc0_sem26_1 : DmaSem sig := 53
abbrev cc0_sem27_0 : DmaSem sig := 54
abbrev cc0_sem27_1 : DmaSem sig := 55
abbrev cc0_sem28_0 : DmaSem sig := 56
abbrev cc0_sem28_1 : DmaSem sig := 57
abbrev cc0_sem29_0 : DmaSem sig := 58
abbrev cc0_sem29_1 : DmaSem sig := 59
abbrev cc0_sem30_0 : DmaSem sig := 60
abbrev cc0_sem30_1 : DmaSem sig := 61
abbrev cc0_sem31_0 : DmaSem sig := 62
abbrev cc0_sem31_1 : DmaSem sig := 63

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_28 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_29 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_30 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_31 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x32x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S32x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S32x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1024x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1024x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1024x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S32x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S32x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S32x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S32x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S32x1024 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S32x1024 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S32x1024 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S32x1024 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S128x1024 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S128x1024 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S128x1024 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S128x1024 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]
-- ==== Reference9Ideal.lean ====
abbrev S8x1024x512 : Shape := ⟨3, ![8, 1024, 512]⟩
abbrev S8x128x1024 : Shape := ⟨3, ![8, 128, 1024]⟩
abbrev S8x512x1024 : Shape := ⟨3, ![8, 512, 1024]⟩
abbrev S1024x512 : Shape := ⟨2, ![1024, 512]⟩
abbrev S128x1024 : Shape := ⟨2, ![128, 1024]⟩
abbrev S512x1024 : Shape := ⟨2, ![512, 1024]⟩
abbrev S_ : Shape := ⟨0, ![]⟩

abbrev nBuf : Space → Nat
  | .hbm => 156
  | .vmem => 0
  | .smem => 0
  | _ => 0

abbrev hbmTy0_0 (i : Nat) : BufTy := match i % 128 with
  | 0 => ⟨S8x1024x512, .f32⟩
  | 1 => ⟨S8x128x1024, .f32⟩
  | 2 => ⟨S8x128x1024, .f32⟩
  | 3 => ⟨S8x512x1024, .f32⟩
  | 4 => ⟨S1024x512, .f32⟩
  | 5 => ⟨S128x1024, .f32⟩
  | 6 => ⟨S128x1024, .f32⟩
  | 7 => ⟨S512x1024, .f32⟩
  | 8 => ⟨S1024x512, .f32⟩
  | 9 => ⟨S128x1024, .f32⟩
  | 10 => ⟨S128x1024, .f32⟩
  | 11 => ⟨S512x1024, .f32⟩
  | 12 => ⟨S1024x512, .f32⟩
  | 13 => ⟨S128x1024, .f32⟩
  | 14 => ⟨S128x1024, .f32⟩
  | 15 => ⟨S512x1024, .f32⟩
  | 16 => ⟨S_, .f32⟩
  | 17 => ⟨S1024x512, .f32⟩
  | 18 => ⟨S_, .f32⟩
  | 19 => ⟨S1024x512, .f32⟩
  | 20 => ⟨S1024x512, .f32⟩
  | 21 => ⟨S_, .f32⟩
  | 22 => ⟨S1024x512, .f32⟩
  | 23 => ⟨S1024x512, .f32⟩
  | 24 => ⟨S1024x512, .f32⟩
  | 25 => ⟨S_, .f32⟩
  | 26 => ⟨S1024x512, .f32⟩
  | 27 => ⟨S1024x512, .f32⟩
  | 28 => ⟨S1024x512, .f32⟩
  | 29 => ⟨S_, .f32⟩
  | 30 => ⟨S1024x512, .f32⟩
  | 31 => ⟨S1024x512, .f32⟩
  | 32 => ⟨S1024x512, .f32⟩
  | 33 => ⟨S_, .f32⟩
  | 34 => ⟨S1024x512, .f32⟩
  | 35 => ⟨S1024x512, .f32⟩
  | 36 => ⟨S_, .f32⟩
  | 37 => ⟨S1024x512, .f32⟩
  | 38 => ⟨S1024x512, .f32⟩
  | 39 => ⟨S1024x512, .f32⟩
  | 40 => ⟨S_, .f32⟩
  | 41 => ⟨S1024x512, .f32⟩
  | 42 => ⟨S1024x512, .f32⟩
  | 43 => ⟨S1024x512, .f32⟩
  | 44 => ⟨S_, .f32⟩
  | 45 => ⟨S1024x512, .f32⟩
  | 46 => ⟨S1024x512, .f32⟩
  | 47 => ⟨S1024x512, .f32⟩
  | 48 => ⟨S_, .f32⟩
  | 49 => ⟨S1024x512, .f32⟩
  | 50 => ⟨S1024x512, .f32⟩
  | 51 => ⟨S_, .f32⟩
  | 52 => ⟨S128x1024, .f32⟩
  | 53 => ⟨S_, .f32⟩
  | 54 => ⟨S128x1024, .f32⟩
  | 55 => ⟨S128x1024, .f32⟩
  | 56 => ⟨S_, .f32⟩
  | 57 => ⟨S128x1024, .f32⟩
  | 58 => ⟨S128x1024, .f32⟩
  | 59 => ⟨S128x1024, .f32⟩
  | 60 => ⟨S_, .f32⟩
  | 61 => ⟨S128x1024, .f32⟩
  | 62 => ⟨S128x1024, .f32⟩
  | 63 => ⟨S128x1024, .f32⟩
  | 64 => ⟨S_, .f32⟩
  | 65 => ⟨S128x1024, .f32⟩
  | 66 => ⟨S128x1024, .f32⟩
  | 67 => ⟨S128x1024, .f32⟩
  | 68 => ⟨S_, .f32⟩
  | 69 => ⟨S128x1024, .f32⟩
  | 70 => ⟨S128x1024, .f32⟩
  | 71 => ⟨S_, .f32⟩
  | 72 => ⟨S128x1024, .f32⟩
  | 73 => ⟨S128x1024, .f32⟩
  | 74 => ⟨S128x1024, .f32⟩
  | 75 => ⟨S_, .f32⟩
  | 76 => ⟨S128x1024, .f32⟩
  | 77 => ⟨S128x1024, .f32⟩
  | 78 => ⟨S128x1024, .f32⟩
  | 79 => ⟨S_, .f32⟩
  | 80 => ⟨S128x1024, .f32⟩
  | 81 => ⟨S128x1024, .f32⟩
  | 82 => ⟨S128x1024, .f32⟩
  | 83 => ⟨S_, .f32⟩
  | 84 => ⟨S128x1024, .f32⟩
  | 85 => ⟨S128x1024, .f32⟩
  | 86 => ⟨S_, .f32⟩
  | 87 => ⟨S128x1024, .f32⟩
  | 88 => ⟨S_, .f32⟩
  | 89 => ⟨S128x1024, .f32⟩
  | 90 => ⟨S128x1024, .f32⟩
  | 91 => ⟨S_, .f32⟩
  | 92 => ⟨S128x1024, .f32⟩
  | 93 => ⟨S128x1024, .f32⟩
  | 94 => ⟨S128x1024, .f32⟩
  | 95 => ⟨S_, .f32⟩
  | 96 => ⟨S128x1024, .f32⟩
  | 97 => ⟨S128x1024, .f32⟩
  | 98 => ⟨S128x1024, .f32⟩
  | 99 => ⟨S_, .f32⟩
  | 100 => ⟨S128x1024, .f32⟩
  | 101 => ⟨S128x1024, .f32⟩
  | 102 => ⟨S128x1024, .f32⟩
  | 103 => ⟨S_, .f32⟩
  | 104 => ⟨S128x1024, .f32⟩
  | 105 => ⟨S128x1024, .f32⟩
  | 106 => ⟨S_, .f32⟩
  | 107 => ⟨S128x1024, .f32⟩
  | 108 => ⟨S128x1024, .f32⟩
  | 109 => ⟨S128x1024, .f32⟩
  | 110 => ⟨S_, .f32⟩
  | 111 => ⟨S128x1024, .f32⟩
  | 112 => ⟨S128x1024, .f32⟩
  | 113 => ⟨S128x1024, .f32⟩
  | 114 => ⟨S_, .f32⟩
  | 115 => ⟨S128x1024, .f32⟩
  | 116 => ⟨S128x1024, .f32⟩
  | 117 => ⟨S128x1024, .f32⟩
  | 118 => ⟨S_, .f32⟩
  | 119 => ⟨S128x1024, .f32⟩
  | 120 => ⟨S128x1024, .f32⟩
  | 121 => ⟨S_, .f32⟩
  | 122 => ⟨S512x1024, .f32⟩
  | 123 => ⟨S_, .f32⟩
  | 124 => ⟨S512x1024, .f32⟩
  | 125 => ⟨S512x1024, .f32⟩
  | 126 => ⟨S_, .f32⟩
  | 127 => ⟨S512x1024, .f32⟩
  | _ => ⟨S8x1024x512, .f32⟩

abbrev hbmTy0_1 (i : Nat) : BufTy := match i % 128 with
  | 0 => ⟨S512x1024, .f32⟩
  | 1 => ⟨S512x1024, .f32⟩
  | 2 => ⟨S_, .f32⟩
  | 3 => ⟨S512x1024, .f32⟩
  | 4 => ⟨S512x1024, .f32⟩
  | 5 => ⟨S512x1024, .f32⟩
  | 6 => ⟨S_, .f32⟩
  | 7 => ⟨S512x1024, .f32⟩
  | 8 => ⟨S512x1024, .f32⟩
  | 9 => ⟨S512x1024, .f32⟩
  | 10 => ⟨S_, .f32⟩
  | 11 => ⟨S512x1024, .f32⟩
  | 12 => ⟨S512x1024, .f32⟩
  | 13 => ⟨S_, .f32⟩
  | 14 => ⟨S512x1024, .f32⟩
  | 15 => ⟨S512x1024, .f32⟩
  | 16 => ⟨S512x1024, .f32⟩
  | 17 => ⟨S_, .f32⟩
  | 18 => ⟨S512x1024, .f32⟩
  | 19 => ⟨S512x1024, .f32⟩
  | 20 => ⟨S512x1024, .f32⟩
  | 21 => ⟨S_, .f32⟩
  | 22 => ⟨S512x1024, .f32⟩
  | 23 => ⟨S512x1024, .f32⟩
  | 24 => ⟨S512x1024, .f32⟩
  | 25 => ⟨S_, .f32⟩
  | 26 => ⟨S512x1024, .f32⟩
  | 27 => ⟨S512x1024, .f32⟩
  | _ => ⟨S8x1024x512, .f32⟩

abbrev hbmTy (i : Nat) : BufTy := match i / 128 with
  | 0 => hbmTy0_0 i
  | 1 => hbmTy0_1 i
  | _ => ⟨S8x1024x512, .f32⟩

abbrev bufTy : (tb : Table) → Fin (tcTables nBuf tb) → BufTy
  | .hbm, ⟨i, _⟩ => hbmTy i
  | _, _ => ⟨S8x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_cst_1 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_cst_2 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst_3 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_4 : Ref sig .tc := ⟨.hbm, 33, rfl⟩
abbrev main_v12 : Ref sig .tc := ⟨.hbm, 34, rfl⟩
abbrev main_v13 : Ref sig .tc := ⟨.hbm, 35, rfl⟩
abbrev main_cst_5 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_cst_6 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_cst_7 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_8 : Ref sig .tc := ⟨.hbm, 48, rfl⟩
abbrev main_v23 : Ref sig .tc := ⟨.hbm, 49, rfl⟩
abbrev main_v24 : Ref sig .tc := ⟨.hbm, 50, rfl⟩
abbrev main_cst_9 : Ref sig .tc := ⟨.hbm, 51, rfl⟩
abbrev main_v25 : Ref sig .tc := ⟨.hbm, 52, rfl⟩
abbrev main_cst_10 : Ref sig .tc := ⟨.hbm, 53, rfl⟩
abbrev main_v26 : Ref sig .tc := ⟨.hbm, 54, rfl⟩
abbrev main_v27 : Ref sig .tc := ⟨.hbm, 55, rfl⟩
abbrev main_cst_11 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_cst_12 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_cst_13 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_cst_14 : Ref sig .tc := ⟨.hbm, 68, rfl⟩
abbrev main_v37 : Ref sig .tc := ⟨.hbm, 69, rfl⟩
abbrev main_v38 : Ref sig .tc := ⟨.hbm, 70, rfl⟩
abbrev main_cst_15 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_cst_16 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_cst_17 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_cst_18 : Ref sig .tc := ⟨.hbm, 83, rfl⟩
abbrev main_v48 : Ref sig .tc := ⟨.hbm, 84, rfl⟩
abbrev main_v49 : Ref sig .tc := ⟨.hbm, 85, rfl⟩
abbrev main_cst_19 : Ref sig .tc := ⟨.hbm, 86, rfl⟩
abbrev main_v50 : Ref sig .tc := ⟨.hbm, 87, rfl⟩
abbrev main_cst_20 : Ref sig .tc := ⟨.hbm, 88, rfl⟩
abbrev main_v51 : Ref sig .tc := ⟨.hbm, 89, rfl⟩
abbrev main_v52 : Ref sig .tc := ⟨.hbm, 90, rfl⟩
abbrev main_cst_21 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_cst_22 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_cst_23 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_cst_24 : Ref sig .tc := ⟨.hbm, 103, rfl⟩
abbrev main_v62 : Ref sig .tc := ⟨.hbm, 104, rfl⟩
abbrev main_v63 : Ref sig .tc := ⟨.hbm, 105, rfl⟩
abbrev main_cst_25 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_cst_26 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_cst_27 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_cst_28 : Ref sig .tc := ⟨.hbm, 118, rfl⟩
abbrev main_v73 : Ref sig .tc := ⟨.hbm, 119, rfl⟩
abbrev main_v74 : Ref sig .tc := ⟨.hbm, 120, rfl⟩
abbrev main_cst_29 : Ref sig .tc := ⟨.hbm, 121, rfl⟩
abbrev main_v75 : Ref sig .tc := ⟨.hbm, 122, rfl⟩
abbrev main_cst_30 : Ref sig .tc := ⟨.hbm, 123, rfl⟩
abbrev main_v76 : Ref sig .tc := ⟨.hbm, 124, rfl⟩
abbrev main_v77 : Ref sig .tc := ⟨.hbm, 125, rfl⟩
abbrev main_cst_31 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_cst_32 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_cst_33 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_cst_34 : Ref sig .tc := ⟨.hbm, 138, rfl⟩
abbrev main_v87 : Ref sig .tc := ⟨.hbm, 139, rfl⟩
abbrev main_v88 : Ref sig .tc := ⟨.hbm, 140, rfl⟩
abbrev main_cst_35 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_cst_36 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_cst_37 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_cst_38 : Ref sig .tc := ⟨.hbm, 153, rfl⟩
abbrev main_v98 : Ref sig .tc := ⟨.hbm, 154, rfl⟩
abbrev main_v99 : Ref sig .tc := ⟨.hbm, 155, rfl⟩

abbrev nD : Nat := 1
abbrev τ : Topo := Topo.v7x

variable {F : FTy → Type} [FloatOps F]
-- ==== Proof.Reals.lean ====
module

public import Idealize.ShloMosaic.Lib.Pipeline.ValueKit
public import Idealize.ShloMosaic.Lib.IdealHost
public import Idealize.ShloMosaic.Lib.Claim

@[expose] public section

noncomputable section

/-! Extended reals that are real numbers, and how the operations of the two programs act on them. -/

namespace Cert.Step

open Idealize.ShloMosaic
open scoped BigOperators

/-- `x` is a real number (neither infinity). -/
def Re (x : EReal) : Prop := ∃ r : ℝ, x = (r : EReal)

theorem Re.coe (r : ℝ) : Re (r : EReal) := ⟨r, rfl⟩

theorem Re.zero : Re 0 := ⟨0, rfl⟩

theorem Re.add {x y : EReal} (hx : Re x) (hy : Re y) : Re (x + y) := by
  obtain ⟨a, rfl⟩ := hx; obtain ⟨b, rfl⟩ := hy
  exact ⟨a + b, (EReal.coe_add a b).symm⟩

theorem Re.mul {x y : EReal} (hx : Re x) (hy : Re y) : Re (x * y) := by
  obtain ⟨a, rfl⟩ := hx; obtain ⟨b, rfl⟩ := hy
  exact ⟨a * b, (EReal.coe_mul a b).symm⟩

theorem Re.sub {x y : EReal} (hx : Re x) (hy : Re y) : Re (x - y) := by
  obtain ⟨a, rfl⟩ := hx; obtain ⟨b, rfl⟩ := hy
  exact ⟨a - b, (EReal.coe_sub a b).symm⟩

theorem Re.max {x y : EReal} (hx : Re x) (hy : Re y) : Re (max x y) := by
  rcases max_choice x y with h | h <;> rw [h] <;> assumption

/-- A finite sum of real numbers, taken in the extended reals, is their sum. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem Re.sum {ι : Type*} [Fintype ι] {f : ι → EReal} (h : ∀ i, Re (f i)) : Re (∑ i, f i) := by
  choose r hr using h
  exact ⟨∑ i, r i, by rw [← coe_sum]; exact Finset.sum_congr rfl fun i _ => hr i⟩

/-- Division by a nonzero real. -/
theorem div_coe' (a : ℝ) {b : ℝ} (hb : b ≠ 0) : Ideal.div (a : EReal) (b : EReal) = ((a / b : ℝ) : EReal) := by
  rw [Ideal.div_coe hb, ← EReal.coe_mul]; congr 1; ring

/-- The reciprocal root of a positive real. -/
theorem rsqrt_pos {a : ℝ} (ha : 0 < a) : Ideal.rsqrt (a : EReal) = (((Real.sqrt a)⁻¹ : ℝ) : EReal) := by
  rw [Ideal.rsqrt_coe, if_neg (not_lt.2 ha.le), if_neg ha.ne']

theorem Re.tanh {x : EReal} (hx : Re x) : Re (Ideal.tanh x) := by
  obtain ⟨a, rfl⟩ := hx; exact ⟨_, Ideal.tanh_coe a⟩

theorem Re.logistic {x : EReal} (hx : Re x) : Re (Ideal.logistic x) := by
  obtain ⟨a, rfl⟩ := hx; exact ⟨_, Ideal.logistic_coe a⟩

/-- The f32 word of `1024`. -/
theorem c1024 : Ideal.ofBits .f32 1149239296#32 = ((1024 : ℝ) : EReal) := by
  simp [Ideal.ofBits, Ideal.ieee]; rw [← EReal.coe_mul]; norm_num
/-- The f32 word of `2`. -/
theorem c2 : Ideal.ofBits .f32 1073741824#32 = ((2 : ℝ) : EReal) := by
  simp [Ideal.ofBits, Ideal.ieee]; rw [← EReal.coe_mul]; norm_num
/-- The f32 word of `1/2`. -/
theorem cHalf : Ideal.ofBits .f32 1056964608#32 = (((1 : ℝ) / 2 : ℝ) : EReal) := by
  simp [Ideal.ofBits, Ideal.ieee]; rw [← EReal.coe_mul]; norm_num
/-- The f32 word of `-1/2`. -/
theorem cNegHalf : Ideal.ofBits .f32 3204448256#32 = ((-(1 : ℝ) / 2 : ℝ) : EReal) := by
  simp [Ideal.ofBits, Ideal.ieee]; rw [← EReal.coe_mul]; norm_num
/-- The f32 word of `1/1024`. -/
theorem cInv1024 : Ideal.ofBits .f32 981467136#32 = (((1 : ℝ) / 1024 : ℝ) : EReal) := by
  simp [Ideal.ofBits, Ideal.ieee]; rw [← EReal.coe_mul]; norm_num
/-- The f32 word of `1/2048`. -/
theorem cInv2048 : Ideal.ofBits .f32 973078528#32 = (((1 : ℝ) / 2048 : ℝ) : EReal) := by
  simp [Ideal.ofBits, Ideal.ieee]; rw [← EReal.coe_mul]; norm_num
/-- The norm's `eps` is a positive real. -/
theorem cEps : ∃ e : ℝ, 0 < e ∧ Ideal.ofBits .f32 897988541#32 = (e : EReal) := by
  refine ⟨(8796093 : ℝ) * 2 ^ (-43 : ℤ), by positivity, ?_⟩
  simp [Ideal.ofBits, Ideal.ieee]

end Cert.Step

end
-- ==== Proof.MlpMath.lean ====
module

public import proofs.«01_k».proof.Proof.Reals

@[expose] public section

noncomputable section

/-! The MLP with its norm and the loss, one row (token) at a time, and the gradients: the forms the kernel
computes and the forms the differentiated reference computes, equal on real numbers. -/

namespace Cert.Step

open Idealize.ShloMosaic
open scoped BigOperators

/-- A row of 1024 entries. -/
abbrev Row := Fin 1024 → EReal

/-- The mean square of a row plus `eps`. -/
def ms (h : Row) : EReal :=
  Ideal.div (∑ x, h x * h x) (Ideal.ofBits .f32 1149239296#32) + Ideal.ofBits .f32 897988541#32

/-- The reciprocal root mean square of a row. -/
def rs (h : Row) : EReal := Ideal.rsqrt (ms h)

/-- The row scaled to unit root mean square. -/
def hat (h : Row) : Row := fun k => h k * rs h

/-- The norm of a row with its gain `g`. -/
def nrm (h g : Row) : Row := fun k => hat h k * g k

/-- The gradient of the norm at the row `h` with gain `g` applied to the cotangent `d`, in the kernel's form. -/
def nrmGrad (h g d : Row) : Row := fun k =>
  rs h * (d k * g k - hat h k * Ideal.div (∑ x, d x * g x * hat h x) (Ideal.ofBits .f32 1149239296#32))

/-- The factor of `h` in the gradient of the norm, as the differentiated reference computes it. -/
def nrmCoef (h g d : Row) : EReal :=
  Ideal.div ((∑ x, h x * (d x * g x)) * (Ideal.ofBits .f32 3204448256#32 * Ideal.div (rs h) (ms h)))
    (Ideal.ofBits .f32 1149239296#32)

/-- The gradient of the norm as the differentiated reference computes it. -/
def nrmGradR (h g d : Row) : Row := fun k =>
  d k * g k * rs h + h k * nrmCoef h g d + nrmCoef h g d * h k

/-- The mean square of a real row is a positive real. -/
theorem ms_real {h : Row} (hh : ∀ k, Re (h k)) : ∃ a : ℝ, 0 < a ∧ ms h = (a : EReal) := by
  choose r hr using hh
  obtain ⟨e, he, hE⟩ := cEps
  have h1 : (∑ x, h x * h x) = ((∑ x, r x * r x : ℝ) : EReal) := by
    rw [← coe_sum]; exact Finset.sum_congr rfl fun i _ => by rw [hr i, EReal.coe_mul]
  refine ⟨(∑ x, r x * r x) / 1024 + e, ?_, ?_⟩
  · have : 0 ≤ ∑ x, r x * r x := Finset.sum_nonneg fun i _ => mul_self_nonneg _
    positivity
  · rw [ms, h1, c1024, div_coe' _ (by norm_num), hE, ← EReal.coe_add]

theorem Re.rs {h : Row} (hh : ∀ k, Re (h k)) : Re (rs h) := by
  obtain ⟨a, ha, hm⟩ := ms_real hh
  rw [Step.rs, hm, rsqrt_pos ha]; exact Re.coe _

theorem Re.div1024 {x : EReal} (hx : Re x) : Re (Ideal.div x (Ideal.ofBits .f32 1149239296#32)) := by
  obtain ⟨a, rfl⟩ := hx
  rw [c1024, div_coe' _ (by norm_num)]; exact Re.coe _

theorem Re.hat {h : Row} (hh : ∀ k, Re (h k)) (k : Fin 1024) : Re (hat h k) := (hh k).mul (Re.rs hh)

theorem Re.nrm {h g : Row} (hh : ∀ k, Re (h k)) (hg : ∀ k, Re (g k)) (k : Fin 1024) : Re (nrm h g k) :=
  (Re.hat hh k).mul (hg k)

theorem Re.nrmGrad {h g d : Row} (hh : ∀ k, Re (h k)) (hg : ∀ k, Re (g k)) (hd : ∀ k, Re (d k)) (k : Fin 1024) :
    Re (nrmGrad h g d k) :=
  (Re.rs hh).mul (((hd k).mul (hg k)).sub ((Re.hat hh k).mul
    (Re.div1024 (Re.sum fun x => ((hd x).mul (hg x)).mul (Re.hat hh x)))))

/-- The two forms of the gradient of the norm agree on real rows. -/
theorem nrmGradR_eq {h g d : Row} (hh : ∀ k, Re (h k)) (hg : ∀ k, Re (g k)) (hd : ∀ k, Re (d k)) :
    nrmGradR h g d = nrmGrad h g d := by
  obtain ⟨a, ha, hm⟩ := ms_real hh
  have hr : rs h = (((Real.sqrt a)⁻¹ : ℝ) : EReal) := by rw [rs, hm, rsqrt_pos ha]
  choose h' hh' using hh
  choose g' hg' using hg
  choose d' hd' using hd
  set r : ℝ := (Real.sqrt a)⁻¹ with hrdef
  have hrr : r * r * a = 1 := by
    rw [hrdef]
    have h1 : Real.sqrt a * Real.sqrt a = a := Real.mul_self_sqrt ha.le
    have h2 : Real.sqrt a ≠ 0 := (Real.sqrt_pos.2 ha).ne'
    field_simp; nlinarith [h1]
  have hra : r / a = r * r * r := by
    rw [div_eq_iff ha.ne']; calc r = r * (r * r * a) := by rw [hrr, mul_one]
      _ = _ := by ring
  have s1 : (∑ x, h x * (d x * g x)) = ((∑ x, h' x * (d' x * g' x) : ℝ) : EReal) := by
    rw [← coe_sum]; exact Finset.sum_congr rfl fun i _ => by rw [hh', hd', hg', EReal.coe_mul, EReal.coe_mul]
  have s2 : (∑ x, d x * g x * hat h x) = (((∑ x, h' x * (d' x * g' x)) * r : ℝ) : EReal) := by
    rw [Finset.sum_mul, ← coe_sum]
    refine Finset.sum_congr rfl fun i _ => ?_
    rw [hat, hh', hd', hg', hr, ← EReal.coe_mul, ← EReal.coe_mul, ← EReal.coe_mul]; congr 1; ring
  funext k
  have hc : nrmCoef h g d = (((∑ x, h' x * (d' x * g' x)) * (-1 / 2 * (r * r * r)) / 1024 : ℝ) : EReal) := by
    rw [nrmCoef, s1, hr, hm, cNegHalf, div_coe' _ ha.ne', hra, ← EReal.coe_mul, ← EReal.coe_mul, c1024,
      div_coe' _ (by norm_num)]
  rw [nrmGradR, nrmGrad, hc, s2, c1024, div_coe' _ (by norm_num), hat, hh', hd', hg', hr]
  simp only [← EReal.coe_mul, ← EReal.coe_add, ← EReal.coe_sub]
  congr 1; ring

variable (g2 g3 : Row) (W1 : Fin 1024 → Fin 4096 → EReal) (W2 : Fin 4096 → Row)

/-- The hidden activations of the row before the square. -/
def rl (h : Row) : Fin 4096 → EReal := fun f => max (∑ k, nrm h g2 k * W1 k f) 0

/-- The row after the MLP and its residual. -/
def h2 (h : Row) : Row := fun k => h k + ∑ f, rl g2 W1 h f * rl g2 W1 h f * W2 f k

/-- The error of the row against its target. -/
def err (h t : Row) : Row := fun k => nrm (h2 g2 W1 W2 h) g3 k - t k

/-- The gradient of the loss with respect to the last norm's result. -/
def dy (h t : Row) : Row := fun k => err g2 g3 W1 W2 h t k * Ideal.ofBits .f32 981467136#32

/-- The gradient with respect to the row after the MLP. -/
def dh2 (h t : Row) : Row := nrmGrad (h2 g2 W1 W2 h) g3 (dy g2 g3 W1 W2 h t)

/-- The gradient with respect to the product before the squared ReLU. -/
def df (h t : Row) : Fin 4096 → EReal := fun f =>
  (∑ k, dh2 g2 g3 W1 W2 h t k * W2 f k) * (Ideal.ofBits .f32 1073741824#32 * rl g2 W1 h f)

/-- The gradient with respect to the first norm's result. -/
def dxn (h t : Row) : Row := fun k => ∑ f, df g2 g3 W1 W2 h t f * W1 k f

/-- The gradient with respect to the row before the MLP. -/
def dh1 (h t : Row) : Row := fun k => dh2 g2 g3 W1 W2 h t k + nrmGrad h g2 (dxn g2 g3 W1 W2 h t) k

section
variable {g2 g3 W1 W2} {h t : Row}
variable (hg2 : ∀ k, Re (g2 k)) (hg3 : ∀ k, Re (g3 k)) (hW1 : ∀ k f, Re (W1 k f)) (hW2 : ∀ f k, Re (W2 f k))
  (hh : ∀ k, Re (h k)) (ht : ∀ k, Re (t k))
include hg2 hW1 hh

theorem Re.rl (f : Fin 4096) : Re (rl g2 W1 h f) :=
  (Re.sum fun k => (Re.nrm hh hg2 k).mul (hW1 k f)).max Re.zero

include hW2

theorem Re.h2 (k : Fin 1024) : Re (h2 g2 W1 W2 h k) :=
  (hh k).add (Re.sum fun f => ((Re.rl hg2 hW1 hh f).mul (Re.rl hg2 hW1 hh f)).mul (hW2 f k))

include hg3 ht

theorem Re.err (k : Fin 1024) : Re (err g2 g3 W1 W2 h t k) :=
  (Re.nrm (Re.h2 hg2 hW1 hW2 hh) hg3 k).sub (ht k)

theorem Re.dy (k : Fin 1024) : Re (dy g2 g3 W1 W2 h t k) := by
  refine (Re.err hg2 hg3 hW1 hW2 hh ht k).mul ?_
  rw [cInv1024]; exact Re.coe _

theorem Re.dh2 (k : Fin 1024) : Re (dh2 g2 g3 W1 W2 h t k) :=
  Re.nrmGrad (Re.h2 hg2 hW1 hW2 hh) hg3 (Re.dy hg2 hg3 hW1 hW2 hh ht) k

theorem Re.df (f : Fin 4096) : Re (df g2 g3 W1 W2 h t f) := by
  refine (Re.sum fun k => (Re.dh2 hg2 hg3 hW1 hW2 hh ht k).mul (hW2 f k)).mul (Re.mul ?_ (Re.rl hg2 hW1 hh f))
  rw [c2]; exact Re.coe _

theorem Re.dxn (k : Fin 1024) : Re (dxn g2 g3 W1 W2 h t k) :=
  Re.sum fun f => (Re.df hg2 hg3 hW1 hW2 hh ht f).mul (hW1 k f)

end

/-- The derivative of `e²/2` scaled by `1/1024`, as the differentiated reference spells it. -/
theorem dy_eq {e : EReal} (he : Re e) :
    e * Ideal.div (Ideal.ofBits .f32 1056964608#32) (Ideal.ofBits .f32 1149239296#32)
      + Ideal.div (Ideal.ofBits .f32 1056964608#32) (Ideal.ofBits .f32 1149239296#32) * e
      = e * Ideal.ofBits .f32 981467136#32 := by
  obtain ⟨a, rfl⟩ := he
  rw [cHalf, c1024, div_coe' _ (by norm_num), cInv1024]
  simp only [← EReal.coe_mul, ← EReal.coe_add]
  congr 1; ring

/-- The derivative of the squared ReLU, as the differentiated reference spells it. -/
theorem df_eq {p x : EReal} (hp : Re p) (hx : Re x) :
    (if 0 < p then max p 0 * x + x * max p 0 else 0) = x * (Ideal.ofBits .f32 1073741824#32 * max p 0) := by
  obtain ⟨a, rfl⟩ := hp
  obtain ⟨b, rfl⟩ := hx
  split
  · next h =>
    rw [max_eq_left h.le, c2]
    simp only [← EReal.coe_mul, ← EReal.coe_add]
    congr 1; ring
  · next h => rw [max_eq_right (not_lt.1 h), mul_zero, mul_zero]

/-- Half the sum over rows of the mean squares is the sum of the tiles' scaled sums: one tile's part. -/
theorem loss_eq {n : ℕ} {e : Fin n → Row} (he : ∀ i k, Re (e i k)) :
    Ideal.ofBits .f32 1056964608#32 * ∑ i, Ideal.div (∑ k, e i k * e i k) (Ideal.ofBits .f32 1149239296#32)
      = ∑ i, Ideal.ofBits .f32 973078528#32 * ∑ k, e i k * e i k := by
  choose r hr using he
  have h1 : ∀ i, (∑ k, e i k * e i k) = ((∑ k, r i k * r i k : ℝ) : EReal) := fun i => by
    rw [← coe_sum]; exact Finset.sum_congr rfl fun k _ => by rw [hr, EReal.coe_mul]
  simp only [h1, cHalf, cInv2048, c1024]
  have h2 : ∀ i, Ideal.div ((∑ k, r i k * r i k : ℝ) : EReal) ((1024 : ℝ) : EReal) = (((∑ k, r i k * r i k) / 1024 : ℝ) : EReal) :=
    fun i => div_coe' _ (by norm_num)
  simp only [h2, ← EReal.coe_mul, coe_sum]
  congr 1
  rw [Finset.mul_sum]
  exact Finset.sum_congr rfl fun i _ => by ring

end Cert.Step

end
-- ==== Proof.MlpPay.lean ====
module

public import proofs.«01_k».proof.Proof.Gen.Kernel2Ideal.Skeleton
public import Idealize.ShloMosaic.Lib.Pipeline.ValueKit
public import proofs.«01_k».proof.Proof.MlpMath

@[expose] public section

set_option maxRecDepth 16384

noncomputable section

/-! What the MLP kernel's body computes at a grid point, row by row: each value of its body, at row `p` of the
block, is the row function of `MlpMath` at the row `hb p` of the input block. -/

namespace Cert.Kernel2Ideal.Pay
open Cert.Kernel2Ideal Cert.Kernel2Ideal.Gen Idealize.ShloMosaic Idealize.ShloMosaic.TcCoe Idealize.SL.Sem
open Cert.Step
open scoped BigOperators

/-- Column `f` of tile `s` of the hidden axis. -/
abbrev tl (s : Fin 4) (f : Fin 1024) : Fin 4096 := ⟨s.val * 1024 + f.val, by omega⟩

/-- A sum over the hidden axis is the sum of its four tiles' sums. -/
theorem sum_tl (F : Fin 4096 → EReal) :
    ∑ f, F f = ((((∑ f, F (tl 0 f)) + ∑ f, F (tl 1 f)) + ∑ f, F (tl 2 f)) + ∑ f, F (tl 3 f)) := by
  rw [Fin.sum_univ_tiles 4 1024 rfl F, Fin.sum_univ_four]

variable (x0 x1 : Vec Ideal S256x1024 .f32) (x2 x3 : Vec Ideal S1x1024 .f32) (x4 x5 : Vec Ideal S4096x1024 .bf16)

/-- Row `p` of the input block. -/
def hb (p : Fin 256) : Row := fun k => x0 (ix2 p k)
/-- The gain `g` as a row. -/
def gr (x : Vec Ideal S1x1024 .f32) : Row := fun k => x (ix2 0 k)
/-- The first weight, from its transposed block. -/
def w1 : Fin 1024 → Fin 4096 → EReal := fun k f => x4 (ix2 f k)
/-- The second weight. -/
def w2 : Fin 4096 → Row := fun f k => x5 (ix2 f k)

/-- `v` is the tile of rows `1024 s` to `1024 s + 1023` of the weight block `x`. -/
def Tile (x : Vec Ideal S4096x1024 .bf16) (s : Fin 4) (v : Vec Ideal S1024x1024 .bf16) : Prop :=
  ∀ f k, (v (ix2 f k) : EReal) = x (ix2 (tl s f) k)

theorem p9 (p : Fin 256) (z : Fin 1) : (k0_pay9 (F := Ideal) x0 (ix2 p z) : EReal) = rs (hb x0 p) := by
  show (_ : EReal) = _
  pointwise [k0_pay9]
  rfl

theorem p10 (p : Fin 256) (k : Fin 1024) : (k0_pay10 (F := Ideal) x0 (ix2 p k) : EReal) = hat (hb x0 p) k := by
  show (_ : EReal) = _
  rw [hat, ← p9 x0 p 0]
  pointwise [k0_pay10]
  rfl

theorem p11 (p : Fin 256) (k : Fin 1024) :
    (k0_pay11 (F := Ideal) x0 x2 (ix2 p k) : EReal) = nrm (hb x0 p) (gr x2) k := by
  show (_ : EReal) = _
  rw [nrm, ← p10 x0 p]
  pointwise [k0_pay11]
  rfl

section tiles
variable {v20 v32 v45 v58 v29 v41 v54 v67 : Vec Ideal S1024x1024 .bf16}
variable (a0 : Tile x4 0 v20) (a1 : Tile x4 1 v32) (a2 : Tile x4 2 v45) (a3 : Tile x4 3 v58)
  (b0 : Tile x5 0 v29) (b1 : Tile x5 1 v41) (b2 : Tile x5 2 v54) (b3 : Tile x5 3 v67)

include a0 in
theorem p12 (p : Fin 256) (f : Fin 1024) :
    (k0_pay12 (F := Ideal) x0 x2 v20 (ix2 p f) : EReal) = rl (gr x2) (w1 x4) (hb x0 p) (tl 0 f) := by
  show (_ : EReal) = _
  simp only [rl, w1, ← p11 x0 x2, ← a0 f]
  pointwise [k0_pay12]

include a1 in
theorem p16 (p : Fin 256) (f : Fin 1024) :
    (k0_pay16 (F := Ideal) (k0_pay11 x0 x2) (k0_pay15 v32) (ix2 p f) : EReal) = rl (gr x2) (w1 x4) (hb x0 p) (tl 1 f) := by
  show (_ : EReal) = _
  simp only [rl, w1, ← p11 x0 x2, ← a1 f]
  pointwise [k0_pay16, k0_pay15]

include a2 in
theorem p18 (p : Fin 256) (f : Fin 1024) :
    (k0_pay18 (F := Ideal) (k0_pay11 x0 x2) v45 (ix2 p f) : EReal) = rl (gr x2) (w1 x4) (hb x0 p) (tl 2 f) := by
  show (_ : EReal) = _
  simp only [rl, w1, ← p11 x0 x2, ← a2 f]
  pointwise [k0_pay18]

include a3 in
theorem p21 (p : Fin 256) (f : Fin 1024) :
    (k0_pay21 (F := Ideal) (k0_pay11 x0 x2) v58 (ix2 p f) : EReal) = rl (gr x2) (w1 x4) (hb x0 p) (tl 3 f) := by
  show (_ : EReal) = _
  simp only [rl, w1, ← p11 x0 x2, ← a3 f]
  pointwise [k0_pay21]

include a0 a1 a2 a3 b0 b1 b2 b3 in
theorem p24 (p : Fin 256) (k : Fin 1024) :
    (k0_pay24 (F := Ideal) x0
        (k0_pay20 (k0_pay11 x0 x2) (k0_pay14 x0 x2 v20 v29) (k0_pay15 v32) v41 v45 v54)
        (k0_pay23 (k0_pay11 x0 x2) v58) v67 (ix2 p k) : EReal)
      = h2 (gr x2) (w1 x4) (w2 x5) (hb x0 p) k := by
  show (_ : EReal) = _
  rw [h2, sum_tl]
  simp only [w2, ← p12 x0 x2 x4 a0, ← p16 x0 x2 x4 a1, ← p18 x0 x2 x4 a2, ← p21 x0 x2 x4 a3, ← b0 _ k, ← b1 _ k, ← b2 _ k, ← b3 _ k]
  pointwise [k0_pay24, k0_pay20, k0_pay23, k0_pay14]
  rfl

end tiles
/-! ### After the MLP: the last norm, the loss and its gradient, at rows `R p` -/

section second
variable {v57 : FVec Ideal S256x1024 .f32} {v66 : FVec Ideal S256x1024 .bf16} {v67 : Vec Ideal S1024x1024 .bf16}
variable {R : Fin 256 → Row} (hR : ∀ p k, (k0_pay24 (F := Ideal) x0 v57 v66 v67 (ix2 p k) : EReal) = R p k)
include hR

theorem p25 (p : Fin 256) (z : Fin 1) : (k0_pay25 (F := Ideal) x0 v57 v66 v67 (ix2 p z) : EReal) = rs (R p) := by
  show (_ : EReal) = _
  simp only [rs, ms, ← hR]
  pointwise [k0_pay25]

theorem p26 (p : Fin 256) (k : Fin 1024) : (k0_pay26 (F := Ideal) x0 v57 v66 v67 (ix2 p k) : EReal) = hat (R p) k := by
  show (_ : EReal) = _
  rw [hat, ← p25 x0 hR p 0, ← hR]
  pointwise [k0_pay26]

theorem p27 (p : Fin 256) (k : Fin 1024) :
    (k0_pay27 (F := Ideal) x0 v57 v66 v67 x3 x1 (ix2 p k) : EReal) = nrm (R p) (gr x3) k - hb x1 p k := by
  show (_ : EReal) = _
  rw [nrm, ← p26 x0 hR p k]
  pointwise [k0_pay27]
  rfl

theorem p28 (v88 : Vec Ideal S1x128 .f32) (j : S1x128.Idx) :
    (k0_pay28 (F := Ideal) x0 v57 v66 v67 x3 x1 v88 j : EReal)
      = v88 j + Ideal.ofBits .f32 973078528#32 * ∑ p, ∑ k, (nrm (R p) (gr x3) k - hb x1 p k) * (nrm (R p) (gr x3) k - hb x1 p k) := by
  show (_ : EReal) = _
  simp only [← p27 x0 x1 x3 hR]
  pointwise [k0_pay28]

theorem p29 (p : Fin 256) (k : Fin 1024) :
    (k0_pay29 (F := Ideal) x0 v57 v66 v67 x3 x1 (ix2 p k) : EReal)
      = (nrm (R p) (gr x3) k - hb x1 p k) * Ideal.ofBits .f32 981467136#32 := by
  show (_ : EReal) = _
  rw [← p27 x0 x1 x3 hR]
  pointwise [k0_pay29]

theorem p30 (v101 : Vec Ideal S1x1024 .f32) (z : Fin 1) (k : Fin 1024) :
    (k0_pay30 (F := Ideal) x0 v57 v66 v67 x3 x1 v101 (ix2 z k) : EReal)
      = v101 (ix2 z k) + ∑ p, (nrm (R p) (gr x3) k - hb x1 p k) * Ideal.ofBits .f32 981467136#32 * hat (R p) k := by
  show (_ : EReal) = _
  simp only [← p29 x0 x1 x3 hR, ← p26 x0 hR]
  pointwise [k0_pay30]

end second

/-! ### The gradient through the last norm, the second weight, the squared ReLU and the first weight -/

section third
variable {v79 : FVec Ideal S256x1 .f32} {v81 v100 : FVec Ideal S256x1024 .f32} {R D : Fin 256 → Row}

/-- The gradient of the last norm. -/
theorem p31 (h79 : ∀ p z, (v79 (ix2 p z) : EReal) = rs (R p)) (h81 : ∀ p k, (v81 (ix2 p k) : EReal) = hat (R p) k)
    (h100 : ∀ p k, (v100 (ix2 p k) : EReal) = D p k) (p : Fin 256) (k : Fin 1024) :
    (k0_pay31 (F := Ideal) v79 v81 v100 x3 (ix2 p k) : EReal) = nrmGrad (R p) (gr x3) (D p) k := by
  show (_ : EReal) = _
  simp only [nrmGrad, ← h81, ← h79 p 0, ← h100]
  pointwise [k0_pay31]
  rfl

variable {E : Fin 256 → Row} (hE : ∀ p k, (k0_pay31 (F := Ideal) v79 v81 v100 x3 (ix2 p k) : EReal) = E p k)
include hE

theorem p32 (p : Fin 256) (k : Fin 1024) : (k0_pay32 (F := Ideal) v79 v81 v100 x3 (ix2 p k) : EReal) = E p k := by
  show (_ : EReal) = _
  rw [← hE]
  pointwise [k0_pay32]

variable {v124 v138 v153 v168 v135 v149 v164 v179 : Vec Ideal S1024x1024 .bf16} {v127 v141 v156 v171 : Vec Ideal S256x1024 .bf16}
variable (b0 : Tile x5 0 v124) (b1 : Tile x5 1 v138) (b2 : Tile x5 2 v153) (b3 : Tile x5 3 v168)
  (a0 : Tile x4 0 v135) (a1 : Tile x4 1 v149) (a2 : Tile x4 2 v164) (a3 : Tile x4 3 v179)

include b0 in
theorem p33 (p : Fin 256) (f : Fin 1024) :
    (k0_pay33 (F := Ideal) v79 v81 v100 x3 v124 v127 (ix2 p f) : EReal)
      = (∑ k, E p k * w2 x5 (tl 0 f) k) * (Ideal.ofBits .f32 1073741824#32 * v127 (ix2 p f)) := by
  show (_ : EReal) = _
  simp only [w2, ← p32 x3 hE, ← b0 f]
  pointwise [k0_pay33]

include b1 in
theorem p36 (p : Fin 256) (f : Fin 1024) :
    (k0_pay36 (F := Ideal) (k0_pay35 v79 v81 v100 x3 v138) v141 (ix2 p f) : EReal)
      = (∑ k, E p k * w2 x5 (tl 1 f) k) * (Ideal.ofBits .f32 1073741824#32 * v141 (ix2 p f)) := by
  show (_ : EReal) = _
  simp only [w2, ← p32 x3 hE, ← b1 f]
  pointwise [k0_pay36, k0_pay35]

include b2 in
theorem p37 (p : Fin 256) (f : Fin 1024) :
    (k0_pay37 (F := Ideal) (k0_pay32 v79 v81 v100 x3) v153 v156 (ix2 p f) : EReal)
      = (∑ k, E p k * w2 x5 (tl 2 f) k) * (Ideal.ofBits .f32 1073741824#32 * v156 (ix2 p f)) := by
  show (_ : EReal) = _
  simp only [w2, ← p32 x3 hE, ← b2 f]
  pointwise [k0_pay37]

include b3 in
theorem p1 (p : Fin 256) (f : Fin 1024) :
    (k0_pay1 (F := Ideal) (k0_pay39 (k0_pay32 v79 v81 v100 x3) v168) (k0_pay40 v171) (ix2 p f) : EReal)
      = (∑ k, E p k * w2 x5 (tl 3 f) k) * (Ideal.ofBits .f32 1073741824#32 * v171 (ix2 p f)) := by
  show (_ : EReal) = _
  simp only [w2, ← p32 x3 hE, ← b3 f]
  pointwise [k0_pay1, k0_pay39, k0_pay40]

variable {L : Fin 256 → Fin 4096 → EReal}
  (l0 : ∀ p f, (v127 (ix2 p f) : EReal) = L p (tl 0 f)) (l1 : ∀ p f, (v141 (ix2 p f) : EReal) = L p (tl 1 f))
  (l2 : ∀ p f, (v156 (ix2 p f) : EReal) = L p (tl 2 f)) (l3 : ∀ p f, (v171 (ix2 p f) : EReal) = L p (tl 3 f))
include b0 b1 b2 b3 a0 a1 a2 a3 l0 l1 l2 l3

theorem p2 (p : Fin 256) (k : Fin 1024) :
    (k0_pay2 (F := Ideal)
        (k0_pay38 (k0_pay32 v79 v81 v100 x3) (k0_pay34 v79 v81 v100 x3 v124 v127 v135) (k0_pay35 v79 v81 v100 x3 v138)
          v141 v149 v153 v156 v164)
        (k0_pay39 (k0_pay32 v79 v81 v100 x3) v168) (k0_pay40 v171) v179 (ix2 p k) : EReal)
      = ∑ f, (∑ d, E p d * w2 x5 f d) * (Ideal.ofBits .f32 1073741824#32 * L p f) * w1 x4 k f := by
  show (_ : EReal) = _
  rw [sum_tl]
  simp only [w1, ← l0, ← l1, ← l2, ← l3, ← p33 x3 x5 hE b0, ← p36 x3 x5 hE b1, ← p37 x3 x5 hE b2, ← p1 x3 x5 hE b3,
    ← a0 _ k, ← a1 _ k, ← a2 _ k, ← a3 _ k]
  pointwise [k0_pay2, k0_pay38, k0_pay34]

end third

section fourth
variable {v11 : FVec Ideal S256x1 .f32} {v13 v121 v167 v170 v175 : FVec Ideal S256x1024 .f32} {v179 : Vec Ideal S1024x1024 .bf16}
variable {X : Fin 256 → Row} (hX : ∀ p k, (k0_pay2 (F := Ideal) v167 v170 v175 v179 (ix2 p k) : EReal) = X p k)
variable {Y E : Fin 256 → Row} (h11 : ∀ p z, (v11 (ix2 p z) : EReal) = rs (Y p)) (h13 : ∀ p k, (v13 (ix2 p k) : EReal) = hat (Y p) k)
  (h121 : ∀ p k, (v121 (ix2 p k) : EReal) = E p k)
include hX h13

theorem p3 (v183 : Vec Ideal S1x1024 .f32) (z : Fin 1) (k : Fin 1024) :
    (k0_pay3 (F := Ideal) v13 v167 v170 v175 v179 v183 (ix2 z k) : EReal)
      = v183 (ix2 z k) + ∑ p, X p k * hat (Y p) k := by
  show (_ : EReal) = _
  simp only [← hX, ← h13]
  pointwise [k0_pay3]

include h11 h121

theorem p4 (p : Fin 256) (k : Fin 1024) :
    (k0_pay4 (F := Ideal) v11 v13 v121 v167 v170 v175 v179 x2 (ix2 p k) : EReal)
      = E p k + nrmGrad (Y p) (gr x2) (X p) k := by
  show (_ : EReal) = _
  simp only [nrmGrad, ← h13, ← h11 p 0, ← h121, ← hX]
  pointwise [k0_pay4]
  rfl

theorem p5 (p : Fin 256) (k : Fin 1024) :
    (k0_pay5 (F := Ideal) v11 v13 v121 v167 v170 v175 v179 x2 (ix2 p k) : EReal)
      = E p k + nrmGrad (Y p) (gr x2) (X p) k := by
  show (_ : EReal) = _
  rw [← p4 x2 hX h11 h13 h121 p k]
  pointwise [k0_pay5]

end fourth

end Cert.Kernel2Ideal.Pay

end
-- ==== Proof.MlpBlk.lean ====
module

public import proofs.«01_k».proof.Proof.Gen.Kernel2Ideal.Value
public import Idealize.ShloMosaic.Lib.Pipeline.ValueKit
public import Idealize.ShloMosaic.Lib.Claim
public import proofs.«01_k».proof.Proof.MlpPay

@[expose] public section

set_option maxRecDepth 16384

noncomputable section

namespace Cert.Kernel2Ideal.Val
open Cert.Kernel2Ideal Cert.Kernel2Ideal.Gen Cert.Kernel2Ideal.Pay Idealize.ShloMosaic Idealize.ShloMosaic.TcCoe Idealize.SL.Sem
open Cert.Step
open scoped BigOperators

variable (m : (ℓ : Loc nD τ sig) → Buf (Elt Ideal) ℓ)

/-- Four column tiles written one by one are the array they are tiles of. -/
theorem canon4 {w0 w1 w2 w3 : Vec Ideal S256x1024 .bf16} {L : Fin 256 → Fin 4096 → EReal}
    (e0 : ∀ p f, (w0 (ix2 p f) : EReal) = L p (tl 0 f)) (e1 : ∀ p f, (w1 (ix2 p f) : EReal) = L p (tl 1 f))
    (e2 : ∀ p f, (w2 (ix2 p f) : EReal) = L p (tl 2 f)) (e3 : ∀ p f, (w3 (ix2 p f) : EReal) = L p (tl 3 f))
    (y : S256x4096.Idx) :
    (View.canon (Val := Elt Ideal) (e := .bf16) (s := S256x4096)
      [⟨Rect.unit ![0, 3072] ![256, 1024] inb_S256x4096_S256x1024_0_3072, w3⟩,
        ⟨Rect.unit ![0, 2048] ![256, 1024] inb_S256x4096_S256x1024_0_2048, w2⟩,
        ⟨Rect.unit ![0, 1024] ![256, 1024] inb_S256x4096_S256x1024_0_1024, w1⟩,
        ⟨Rect.unit ![0, 0] ![256, 1024] inb_S256x4096_S256x1024_0_0, w0⟩] y : EReal) = L (y 0) (y 1) := by
  canon_tiles x h
  all_goals obtain ⟨p, f, rfl⟩ : ∃ p f, x = ix2 p f := ⟨x 0, x 1, eq_ix2 x⟩
  · exact (e3 p f).trans (congrArg₂ L (Fin.ext h0.symm) (Fin.ext (h1.trans rfl).symm))
  · exact (e2 p f).trans (congrArg₂ L (Fin.ext h0.symm) (Fin.ext (h1.trans rfl).symm))
  · exact (e1 p f).trans (congrArg₂ L (Fin.ext h0.symm) (Fin.ext (h1.trans rfl).symm))
  · exact (e0 p f).trans (congrArg₂ L (Fin.ext h0.symm) (Fin.ext (h1.trans (Nat.zero_add _).symm).symm))

theorem tile0 (x : Vec Ideal S4096x1024 .bf16) :
    Tile x 0 (View.ld x (Rect.unit ![0, 0] ![1024, 1024] inb_S4096x1024_S1024x1024_0_0)) := by
  intro f k
  show (_ : EReal) = _
  pointwise
  exact congrArg (fun z => x (ix2 z k)) (Fin.ext (Nat.zero_add _).symm)

theorem tile1 (x : Vec Ideal S4096x1024 .bf16) :
    Tile x 1 (View.ld x (Rect.unit ![1024, 0] ![1024, 1024] inb_S4096x1024_S1024x1024_1024_0)) := by
  intro f k
  show (_ : EReal) = _
  pointwise
  rfl

theorem tile2 (x : Vec Ideal S4096x1024 .bf16) :
    Tile x 2 (View.ld x (Rect.unit ![2048, 0] ![1024, 1024] inb_S4096x1024_S1024x1024_2048_0)) := by
  intro f k
  show (_ : EReal) = _
  pointwise
  rfl

theorem tile3 (x : Vec Ideal S4096x1024 .bf16) :
    Tile x 3 (View.ld x (Rect.unit ![3072, 0] ![1024, 1024] inb_S4096x1024_S1024x1024_3072_0)) := by
  intro f k
  show (_ : EReal) = _
  pointwise
  rfl

section back
variable {sg : RefSig} {κ : Kind} {sp : Space} (v : View sg κ sp S256x4096 .bf16) {w0 w1 w2 w3 : Vec Ideal S256x1024 .bf16} {L : Fin 256 → Fin 4096 → EReal}
    (e0 : ∀ p f, (w0 (ix2 p f) : EReal) = L p (tl 0 f)) (e1 : ∀ p f, (w1 (ix2 p f) : EReal) = L p (tl 1 f))
    (e2 : ∀ p f, (w2 (ix2 p f) : EReal) = L p (tl 2 f)) (e3 : ∀ p f, (w3 (ix2 p f) : EReal) = L p (tl 3 f))
include e0 e1 e2 e3

/-- Tile 0 read back after the four tiles are written. -/
theorem back0 (p : Fin 256) (f : Fin 1024) :
    ((v.readCov (Val := Elt Ideal)
      [⟨Rect.unit ![0, 3072] ![256, 1024] inb_S256x4096_S256x1024_0_3072, w3⟩,
        ⟨Rect.unit ![0, 2048] ![256, 1024] inb_S256x4096_S256x1024_0_2048, w2⟩,
        ⟨Rect.unit ![0, 1024] ![256, 1024] inb_S256x4096_S256x1024_0_1024, w1⟩,
        ⟨Rect.unit ![0, 0] ![256, 1024] inb_S256x4096_S256x1024_0_0, w0⟩]
      (Rect.unit (s := S256x4096) (![0, 0] : Fin 2 → ℕ) (![256, 1024] : Fin 2 → ℕ) inb_S256x4096_S256x1024_0_0).toLoadRect) (ix2 p f) : EReal) =
      L p (tl 0 f) := by
  rw [View.readCov_eq_canon']
  refine (canon4 e0 e1 e2 e3 _).trans (congrArg₂ L (Fin.ext ?_) (Fin.ext ?_))
  · show 0 + 1 * p.val = p.val
    omega
  · show 0 + 1 * f.val = 0 * 1024 + f.val
    omega

/-- Tile 1 read back after the four tiles are written. -/
theorem back1 (p : Fin 256) (f : Fin 1024) :
    ((v.readCov (Val := Elt Ideal)
      [⟨Rect.unit ![0, 3072] ![256, 1024] inb_S256x4096_S256x1024_0_3072, w3⟩,
        ⟨Rect.unit ![0, 2048] ![256, 1024] inb_S256x4096_S256x1024_0_2048, w2⟩,
        ⟨Rect.unit ![0, 1024] ![256, 1024] inb_S256x4096_S256x1024_0_1024, w1⟩,
        ⟨Rect.unit ![0, 0] ![256, 1024] inb_S256x4096_S256x1024_0_0, w0⟩]
      (Rect.unit (s := S256x4096) (![0, 1024] : Fin 2 → ℕ) (![256, 1024] : Fin 2 → ℕ) inb_S256x4096_S256x1024_0_1024).toLoadRect) (ix2 p f) : EReal) =
      L p (tl 1 f) := by
  rw [View.readCov_eq_canon']
  refine (canon4 e0 e1 e2 e3 _).trans (congrArg₂ L (Fin.ext ?_) (Fin.ext ?_))
  · show 0 + 1 * p.val = p.val
    omega
  · show 1024 + 1 * f.val = 1 * 1024 + f.val
    omega

/-- Tile 2 read back after the four tiles are written. -/
theorem back2 (p : Fin 256) (f : Fin 1024) :
    ((v.readCov (Val := Elt Ideal)
      [⟨Rect.unit ![0, 3072] ![256, 1024] inb_S256x4096_S256x1024_0_3072, w3⟩,
        ⟨Rect.unit ![0, 2048] ![256, 1024] inb_S256x4096_S256x1024_0_2048, w2⟩,
        ⟨Rect.unit ![0, 1024] ![256, 1024] inb_S256x4096_S256x1024_0_1024, w1⟩,
        ⟨Rect.unit ![0, 0] ![256, 1024] inb_S256x4096_S256x1024_0_0, w0⟩]
      (Rect.unit (s := S256x4096) (![0, 2048] : Fin 2 → ℕ) (![256, 1024] : Fin 2 → ℕ) inb_S256x4096_S256x1024_0_2048).toLoadRect) (ix2 p f) : EReal) =
      L p (tl 2 f) := by
  rw [View.readCov_eq_canon']
  refine (canon4 e0 e1 e2 e3 _).trans (congrArg₂ L (Fin.ext ?_) (Fin.ext ?_))
  · show 0 + 1 * p.val = p.val
    omega
  · show 2048 + 1 * f.val = 2 * 1024 + f.val
    omega

/-- Tile 3 read back after the four tiles are written. -/
theorem back3 (p : Fin 256) (f : Fin 1024) :
    ((v.readCov (Val := Elt Ideal)
      [⟨Rect.unit ![0, 3072] ![256, 1024] inb_S256x4096_S256x1024_0_3072, w3⟩,
        ⟨Rect.unit ![0, 2048] ![256, 1024] inb_S256x4096_S256x1024_0_2048, w2⟩,
        ⟨Rect.unit ![0, 1024] ![256, 1024] inb_S256x4096_S256x1024_0_1024, w1⟩,
        ⟨Rect.unit ![0, 0] ![256, 1024] inb_S256x4096_S256x1024_0_0, w0⟩]
      (Rect.unit (s := S256x4096) (![0, 3072] : Fin 2 → ℕ) (![256, 1024] : Fin 2 → ℕ) inb_S256x4096_S256x1024_0_3072).toLoadRect) (ix2 p f) : EReal) =
      L p (tl 3 f) := by
  rw [View.readCov_eq_canon']
  refine (canon4 e0 e1 e2 e3 _).trans (congrArg₂ L (Fin.ext ?_) (Fin.ext ?_))
  · show 0 + 1 * p.val = p.val
    omega
  · show 3072 + 1 * f.val = 3 * 1024 + f.val
    omega

end back

/-- The block indices over the 32 grid points. -/
theorem idx : ∀ t : Fin cfg0.N, win0_0.index t = ![t.val, 0] ∧ win0_1.index t = ![t.val, 0] ∧ win0_2.index t = ![0, 0] ∧ win0_3.index t = ![0, 0] ∧ win0_4.index t = ![0, 0] ∧ win0_5.index t = ![0, 0] ∧ win0_6.index t = ![t.val, 0] ∧ win0_7.index t = ![t.val, 0] ∧ win0_8.index t = ![t.val, 0] ∧ win0_9.index t = ![t.val, 0] ∧ win0_10.index t = ![t.val, 0] ∧ win0_11.index t = ![t.val, 0] ∧ win0_12.index t = ![0, 0] ∧ win0_13.index t = ![0, 0] ∧ win0_14.index t = ![0, 0] :=
  (by decide +kernel : ∀ t : Fin grid0.N, _)

theorem t_lt (t : Fin cfg0.N) : t.val < 32 := lt_of_lt_of_eq t.isLt N_0
/-- Row `p` of block `t`. -/
abbrev rw' (t : Fin cfg0.N) (p : Fin 256) : Fin 8192 := ⟨t.val * 256 + p.val, by have := t_lt t; omega⟩

variable (c : Dev nD)
/-- Row `i` of the hidden states, of the targets, the gains and the weights, in the arguments' memory. -/
def H (i : Fin 8192) : Row := fun k => m ((c : Thread nD τ).loc main_arg0) (ix2 i k)
def T (i : Fin 8192) : Row := fun k => m ((c : Thread nD τ).loc main_arg1) (ix2 i k)
def G2 : Row := fun k => m ((c : Thread nD τ).loc main_arg2) (ix1 k)
def G3 : Row := fun k => m ((c : Thread nD τ).loc main_arg3) (ix1 k)
def A1 (k : Fin 1024) (f : Fin 4096) : EReal := m ((c : Thread nD τ).loc main_arg4) (ix2 k f)
def A2 (f : Fin 4096) : Row := fun k => m ((c : Thread nD τ).loc main_arg5) (ix2 f k)

theorem hb0 (t : Fin cfg0.N) (p : Fin 256) : hb (iblk m c 0 t) p = H m c (rw' t p) := by
  funext k
  obtain ⟨i0, i1, i2, i3, i4, i5, -⟩ := idx t
  show (_ : EReal) = _
  unfold hb H
  blk_ext [iblk, V, i0]

theorem hb1 (t : Fin cfg0.N) (p : Fin 256) : hb (iblk m c 1 t) p = T m c (rw' t p) := by
  funext k
  obtain ⟨i0, i1, i2, i3, i4, i5, -⟩ := idx t
  show (_ : EReal) = _
  unfold hb T
  blk_ext [iblk, V, i1]

theorem gr2 (t : Fin cfg0.N) : gr (iblk m c 2 t) = G2 m c := by
  funext k
  obtain ⟨i0, i1, i2, i3, i4, i5, -⟩ := idx t
  show (_ : EReal) = _
  unfold gr G2
  blk_simp [iblk]
  entry_read
  pointwise
  blk_ext [i2]

theorem gr3 (t : Fin cfg0.N) : gr (iblk m c 3 t) = G3 m c := by
  funext k
  obtain ⟨i0, i1, i2, i3, i4, i5, -⟩ := idx t
  show (_ : EReal) = _
  unfold gr G3
  blk_simp [iblk]
  entry_read
  pointwise
  blk_ext [i3]

theorem w14 (t : Fin cfg0.N) : w1 (iblk m c 4 t) = A1 m c := by
  funext k f
  obtain ⟨i0, i1, i2, i3, i4, i5, -⟩ := idx t
  show (_ : EReal) = _
  unfold w1 A1
  blk_simp [iblk]
  entry_read
  pointwise
  blk_ext [i4]

theorem w25 (t : Fin cfg0.N) : w2 (iblk m c 5 t) = A2 m c := by
  funext f k
  obtain ⟨i0, i1, i2, i3, i4, i5, -⟩ := idx t
  show (_ : EReal) = _
  unfold w2 A2
  blk_simp [iblk]
  entry_read
  pointwise
  blk_ext [i5]

end Cert.Kernel2Ideal.Val
end
-- ==== Proof.MlpPoint.lean ====
module

public import proofs.«01_k».proof.Proof.MlpBlk

@[expose] public section

set_option maxRecDepth 16384

noncomputable section

/-! The values the MLP kernel's body leaves in each output block at a grid point, from its blocks. -/

namespace Cert.Kernel2Ideal.Val
open Cert.Kernel2Ideal Cert.Kernel2Ideal.Gen Cert.Kernel2Ideal.Pay Idealize.ShloMosaic Idealize.ShloMosaic.TcCoe Idealize.SL.Sem
open Cert.Step
open scoped BigOperators

section point
variable (x0 x1 : Vec Ideal S256x1024 .f32) (x2 x3 : Vec Ideal S1x1024 .f32) (x4 x5 : Vec Ideal S4096x1024 .bf16)
variable {sg : RefSig} {κ : Kind} {sp : Space} (v : View sg κ sp S256x4096 .bf16)

/-- The four tiles of a weight block. -/
abbrev u0 (x : Vec Ideal S4096x1024 .bf16) : Vec Ideal S1024x1024 .bf16 := View.ld x (Rect.unit ![0, 0] ![1024, 1024] inb_S4096x1024_S1024x1024_0_0)
abbrev u1 (x : Vec Ideal S4096x1024 .bf16) : Vec Ideal S1024x1024 .bf16 := View.ld x (Rect.unit ![1024, 0] ![1024, 1024] inb_S4096x1024_S1024x1024_1024_0)
abbrev u2 (x : Vec Ideal S4096x1024 .bf16) : Vec Ideal S1024x1024 .bf16 := View.ld x (Rect.unit ![2048, 0] ![1024, 1024] inb_S4096x1024_S1024x1024_2048_0)
abbrev u3 (x : Vec Ideal S4096x1024 .bf16) : Vec Ideal S1024x1024 .bf16 := View.ld x (Rect.unit ![3072, 0] ![1024, 1024] inb_S4096x1024_S1024x1024_3072_0)

abbrev c57 := k0_pay20 (F := Ideal) (k0_pay11 x0 x2) (k0_pay14 x0 x2 (u0 x4) (u0 x5)) (k0_pay15 (u1 x4)) (u1 x5) (u2 x4) (u2 x5)
abbrev c66 := k0_pay23 (F := Ideal) (k0_pay11 x0 x2) (u3 x4)
abbrev c79 := k0_pay25 (F := Ideal) x0 (c57 x0 x2 x4 x5) (c66 x0 x2 x4) (u3 x5)
abbrev c81 := k0_pay26 (F := Ideal) x0 (c57 x0 x2 x4 x5) (c66 x0 x2 x4) (u3 x5)
abbrev c100 := k0_pay29 (F := Ideal) x0 (c57 x0 x2 x4 x5) (c66 x0 x2 x4) (u3 x5) x3 x1
abbrev c121 := k0_pay31 (F := Ideal) (c79 x0 x2 x4 x5) (c81 x0 x2 x4 x5) (c100 x0 x1 x2 x3 x4 x5) x3
abbrev c122 := k0_pay32 (F := Ideal) (c79 x0 x2 x4 x5) (c81 x0 x2 x4 x5) (c100 x0 x1 x2 x3 x4 x5) x3

/-- The pieces of the activations' block. -/
abbrev rps : List ((r : Rect S256x4096) × (r.shape.Idx → Elt Ideal .bf16)) :=
  [⟨Rect.unit ![0, 3072] ![256, 1024] inb_S256x4096_S256x1024_0_3072, k0_pay22 (F := Ideal) (k0_pay11 x0 x2) (u3 x4)⟩,
    ⟨Rect.unit ![0, 2048] ![256, 1024] inb_S256x4096_S256x1024_0_2048, k0_pay19 (F := Ideal) (k0_pay11 x0 x2) (u2 x4)⟩,
    ⟨Rect.unit ![0, 1024] ![256, 1024] inb_S256x4096_S256x1024_0_1024, k0_pay17 (F := Ideal) (k0_pay11 x0 x2) (k0_pay15 (u1 x4))⟩,
    ⟨Rect.unit ![0, 0] ![256, 1024] inb_S256x4096_S256x1024_0_0, k0_pay13 (F := Ideal) x0 x2 (u0 x4)⟩]

abbrev k0 : Vec Ideal S256x1024 .bf16 := v.readCov (Val := Elt Ideal) (rps x0 x2 x4) (Rect.unit (s := S256x4096) (![0, 0] : Fin 2 → ℕ) (![256, 1024] : Fin 2 → ℕ) inb_S256x4096_S256x1024_0_0).toLoadRect
abbrev k1 : Vec Ideal S256x1024 .bf16 := v.readCov (Val := Elt Ideal) (rps x0 x2 x4) (Rect.unit (s := S256x4096) (![0, 1024] : Fin 2 → ℕ) (![256, 1024] : Fin 2 → ℕ) inb_S256x4096_S256x1024_0_1024).toLoadRect
abbrev k2 : Vec Ideal S256x1024 .bf16 := v.readCov (Val := Elt Ideal) (rps x0 x2 x4) (Rect.unit (s := S256x4096) (![0, 2048] : Fin 2 → ℕ) (![256, 1024] : Fin 2 → ℕ) inb_S256x4096_S256x1024_0_2048).toLoadRect
abbrev k3 : Vec Ideal S256x1024 .bf16 := v.readCov (Val := Elt Ideal) (rps x0 x2 x4) (Rect.unit (s := S256x4096) (![0, 3072] : Fin 2 → ℕ) (![256, 1024] : Fin 2 → ℕ) inb_S256x4096_S256x1024_0_3072).toLoadRect

theorem p13 (p : Fin 256) (f : Fin 1024) :
    (k0_pay13 (F := Ideal) x0 x2 (u0 x4) (ix2 p f) : EReal) = rl (gr x2) (w1 x4) (hb x0 p) (tl 0 f) := by
  rw [← p12 x0 x2 x4 (tile0 x4) p f]
  show (_ : EReal) = _
  pointwise [k0_pay13]

theorem p17 (p : Fin 256) (f : Fin 1024) :
    (k0_pay17 (F := Ideal) (k0_pay11 x0 x2) (k0_pay15 (u1 x4)) (ix2 p f) : EReal) = rl (gr x2) (w1 x4) (hb x0 p) (tl 1 f) := by
  rw [← p16 x0 x2 x4 (tile1 x4) p f]
  show (_ : EReal) = _
  pointwise [k0_pay17]

theorem p19 (p : Fin 256) (f : Fin 1024) :
    (k0_pay19 (F := Ideal) (k0_pay11 x0 x2) (u2 x4) (ix2 p f) : EReal) = rl (gr x2) (w1 x4) (hb x0 p) (tl 2 f) := by
  rw [← p18 x0 x2 x4 (tile2 x4) p f]
  show (_ : EReal) = _
  pointwise [k0_pay19]

theorem p22 (p : Fin 256) (f : Fin 1024) :
    (k0_pay22 (F := Ideal) (k0_pay11 x0 x2) (u3 x4) (ix2 p f) : EReal) = rl (gr x2) (w1 x4) (hb x0 p) (tl 3 f) := by
  rw [← p21 x0 x2 x4 (tile3 x4) p f]
  show (_ : EReal) = _
  pointwise [k0_pay22]

/-- The block of the hidden activations. -/
theorem q7 (y : S256x4096.Idx) :
    (View.canon (Val := Elt Ideal) (e := .bf16) (s := S256x4096) (rps x0 x2 x4) y : EReal) = rl (gr x2) (w1 x4) (hb x0 (y 0)) (y 1) :=
  canon4 (L := fun p => rl (gr x2) (w1 x4) (hb x0 p)) (p13 x0 x2 x4) (p17 x0 x2 x4) (p19 x0 x2 x4) (p22 x0 x2 x4) y

theorem q7' (p : Fin 256) (f : Fin 4096) :
    (View.canon (Val := Elt Ideal) (e := .bf16) (s := S256x4096) (rps x0 x2 x4) (ix2 p f) : EReal) = rl (gr x2) (w1 x4) (hb x0 p) f :=
  q7 x0 x2 x4 (ix2 p f)

theorem qk0 (p : Fin 256) (f : Fin 1024) : (k0 x0 x2 x4 v (ix2 p f) : EReal) = rl (gr x2) (w1 x4) (hb x0 p) (tl 0 f) :=
  back0 (L := fun p => rl (gr x2) (w1 x4) (hb x0 p)) v (p13 x0 x2 x4) (p17 x0 x2 x4) (p19 x0 x2 x4) (p22 x0 x2 x4) p f
theorem qk1 (p : Fin 256) (f : Fin 1024) : (k1 x0 x2 x4 v (ix2 p f) : EReal) = rl (gr x2) (w1 x4) (hb x0 p) (tl 1 f) :=
  back1 (L := fun p => rl (gr x2) (w1 x4) (hb x0 p)) v (p13 x0 x2 x4) (p17 x0 x2 x4) (p19 x0 x2 x4) (p22 x0 x2 x4) p f
theorem qk2 (p : Fin 256) (f : Fin 1024) : (k2 x0 x2 x4 v (ix2 p f) : EReal) = rl (gr x2) (w1 x4) (hb x0 p) (tl 2 f) :=
  back2 (L := fun p => rl (gr x2) (w1 x4) (hb x0 p)) v (p13 x0 x2 x4) (p17 x0 x2 x4) (p19 x0 x2 x4) (p22 x0 x2 x4) p f
theorem qk3 (p : Fin 256) (f : Fin 1024) : (k3 x0 x2 x4 v (ix2 p f) : EReal) = rl (gr x2) (w1 x4) (hb x0 p) (tl 3 f) :=
  back3 (L := fun p => rl (gr x2) (w1 x4) (hb x0 p)) v (p13 x0 x2 x4) (p17 x0 x2 x4) (p19 x0 x2 x4) (p22 x0 x2 x4) p f

theorem q24 (p : Fin 256) (k : Fin 1024) :
    (k0_pay24 (F := Ideal) x0 (c57 x0 x2 x4 x5) (c66 x0 x2 x4) (u3 x5) (ix2 p k) : EReal) = h2 (gr x2) (w1 x4) (w2 x5) (hb x0 p) k :=
  p24 x0 x2 x4 x5 (tile0 x4) (tile1 x4) (tile2 x4) (tile3 x4) (tile0 x5) (tile1 x5) (tile2 x5) (tile3 x5) p k

/-- The gradient with respect to the rows after the MLP. -/
theorem q31 (p : Fin 256) (k : Fin 1024) :
    (c121 x0 x1 x2 x3 x4 x5 (ix2 p k) : EReal) = dh2 (gr x2) (gr x3) (w1 x4) (w2 x5) (hb x0 p) (hb x1 p) k :=
  p31 x3 (R := fun p => h2 (gr x2) (w1 x4) (w2 x5) (hb x0 p)) (D := fun p => dy (gr x2) (gr x3) (w1 x4) (w2 x5) (hb x0 p) (hb x1 p))
    (p25 x0 (q24 x0 x2 x4 x5)) (p26 x0 (q24 x0 x2 x4 x5)) (p29 x0 x1 x3 (q24 x0 x2 x4 x5)) p k

theorem q32 (p : Fin 256) (k : Fin 1024) :
    (c122 x0 x1 x2 x3 x4 x5 (ix2 p k) : EReal) = dh2 (gr x2) (gr x3) (w1 x4) (w2 x5) (hb x0 p) (hb x1 p) k :=
  p32 x3 (E := fun p => dh2 (gr x2) (gr x3) (w1 x4) (w2 x5) (hb x0 p) (hb x1 p)) (q31 x0 x1 x2 x3 x4 x5) p k

/-- The pieces of the block of the gradient before the squared ReLU. -/
abbrev dps : List ((r : Rect S256x4096) × (r.shape.Idx → Elt Ideal .bf16)) :=
  [⟨Rect.unit ![0, 3072] ![256, 1024] inb_S256x4096_S256x1024_0_3072,
      k0_pay1 (F := Ideal) (k0_pay39 (c122 x0 x1 x2 x3 x4 x5) (u3 x5)) (k0_pay40 (k3 x0 x2 x4 v))⟩,
    ⟨Rect.unit ![0, 2048] ![256, 1024] inb_S256x4096_S256x1024_0_2048,
      k0_pay37 (F := Ideal) (c122 x0 x1 x2 x3 x4 x5) (u2 x5) (k2 x0 x2 x4 v)⟩,
    ⟨Rect.unit ![0, 1024] ![256, 1024] inb_S256x4096_S256x1024_0_1024,
      k0_pay36 (F := Ideal) (k0_pay35 (c79 x0 x2 x4 x5) (c81 x0 x2 x4 x5) (c100 x0 x1 x2 x3 x4 x5) x3 (u1 x5)) (k1 x0 x2 x4 v)⟩,
    ⟨Rect.unit ![0, 0] ![256, 1024] inb_S256x4096_S256x1024_0_0,
      k0_pay33 (F := Ideal) (c79 x0 x2 x4 x5) (c81 x0 x2 x4 x5) (c100 x0 x1 x2 x3 x4 x5) x3 (u0 x5) (k0 x0 x2 x4 v)⟩]

/-- The block of the gradient before the squared ReLU. -/
theorem q8 (y : S256x4096.Idx) :
    (View.canon (Val := Elt Ideal) (e := .bf16) (s := S256x4096) (dps x0 x1 x2 x3 x4 x5 v) y : EReal)
      = df (gr x2) (gr x3) (w1 x4) (w2 x5) (hb x0 (y 0)) (hb x1 (y 0)) (y 1) :=
  canon4 (L := fun p => df (gr x2) (gr x3) (w1 x4) (w2 x5) (hb x0 p) (hb x1 p))
    (fun p f => (p33 x3 x5 (q31 x0 x1 x2 x3 x4 x5) (tile0 x5) p f).trans (by rw [qk0]; rfl))
    (fun p f => (p36 x3 x5 (q31 x0 x1 x2 x3 x4 x5) (tile1 x5) p f).trans (by rw [qk1]; rfl))
    (fun p f => (p37 x3 x5 (q31 x0 x1 x2 x3 x4 x5) (tile2 x5) p f).trans (by rw [qk2]; rfl))
    (fun p f => (p1 x3 x5 (q31 x0 x1 x2 x3 x4 x5) (tile3 x5) p f).trans (by rw [qk3]; rfl)) y

theorem q8' (p : Fin 256) (f : Fin 4096) :
    (View.canon (Val := Elt Ideal) (e := .bf16) (s := S256x4096) (dps x0 x1 x2 x3 x4 x5 v) (ix2 p f) : EReal)
      = df (gr x2) (gr x3) (w1 x4) (w2 x5) (hb x0 p) (hb x1 p) f :=
  q8 x0 x1 x2 x3 x4 x5 v (ix2 p f)

abbrev c167 := k0_pay38 (F := Ideal) (c122 x0 x1 x2 x3 x4 x5)
  (k0_pay34 (c79 x0 x2 x4 x5) (c81 x0 x2 x4 x5) (c100 x0 x1 x2 x3 x4 x5) x3 (u0 x5) (k0 x0 x2 x4 v) (u0 x4))
  (k0_pay35 (c79 x0 x2 x4 x5) (c81 x0 x2 x4 x5) (c100 x0 x1 x2 x3 x4 x5) x3 (u1 x5)) (k1 x0 x2 x4 v) (u1 x4) (u2 x5) (k2 x0 x2 x4 v) (u2 x4)
abbrev c170 := k0_pay39 (F := Ideal) (c122 x0 x1 x2 x3 x4 x5) (u3 x5)
abbrev c175 := k0_pay40 (F := Ideal) (k3 x0 x2 x4 v)

/-- The gradient with respect to the first norm's result. -/
theorem q2 (p : Fin 256) (k : Fin 1024) :
    (k0_pay2 (F := Ideal) (c167 x0 x1 x2 x3 x4 x5 v) (c170 x0 x1 x2 x3 x4 x5) (c175 x0 x2 x4 v) (u3 x4) (ix2 p k) : EReal)
      = dxn (gr x2) (gr x3) (w1 x4) (w2 x5) (hb x0 p) (hb x1 p) k :=
  p2 x3 x4 x5 (q31 x0 x1 x2 x3 x4 x5) (tile0 x5) (tile1 x5) (tile2 x5) (tile3 x5) (tile0 x4) (tile1 x4) (tile2 x4) (tile3 x4)
    (L := fun p => rl (gr x2) (w1 x4) (hb x0 p)) (qk0 x0 x2 x4 v) (qk1 x0 x2 x4 v) (qk2 x0 x2 x4 v) (qk3 x0 x2 x4 v) p k

/-- The gradient with respect to the rows before the MLP. -/
theorem q10 (p : Fin 256) (k : Fin 1024) :
    (k0_pay4 (F := Ideal) (k0_pay9 x0) (k0_pay10 x0) (c121 x0 x1 x2 x3 x4 x5) (c167 x0 x1 x2 x3 x4 x5 v) (c170 x0 x1 x2 x3 x4 x5)
        (c175 x0 x2 x4 v) (u3 x4) x2 (ix2 p k) : EReal)
      = dh1 (gr x2) (gr x3) (w1 x4) (w2 x5) (hb x0 p) (hb x1 p) k :=
  p4 x2 (q2 x0 x1 x2 x3 x4 x5 v) (Y := hb x0) (p9 x0) (p10 x0) (q31 x0 x1 x2 x3 x4 x5) p k

theorem q11 (p : Fin 256) (k : Fin 1024) :
    (k0_pay5 (F := Ideal) (k0_pay9 x0) (k0_pay10 x0) (c121 x0 x1 x2 x3 x4 x5) (c167 x0 x1 x2 x3 x4 x5 v) (c170 x0 x1 x2 x3 x4 x5)
        (c175 x0 x2 x4 v) (u3 x4) x2 (ix2 p k) : EReal)
      = dh1 (gr x2) (gr x3) (w1 x4) (w2 x5) (hb x0 p) (hb x1 p) k :=
  p5 x2 (q2 x0 x1 x2 x3 x4 x5 v) (Y := hb x0) (p9 x0) (p10 x0) (q31 x0 x1 x2 x3 x4 x5) p k

/-- What a point adds to the loss. -/
theorem q12 (a : Vec Ideal S1x128 .f32) (j : S1x128.Idx) :
    (k0_pay28 (F := Ideal) x0 (c57 x0 x2 x4 x5) (c66 x0 x2 x4) (u3 x5) x3 x1 a j : EReal)
      = a j + Ideal.ofBits .f32 973078528#32 * ∑ p, ∑ k,
          err (gr x2) (gr x3) (w1 x4) (w2 x5) (hb x0 p) (hb x1 p) k * err (gr x2) (gr x3) (w1 x4) (w2 x5) (hb x0 p) (hb x1 p) k :=
  p28 x0 x1 x3 (q24 x0 x2 x4 x5) a j

/-- What a point adds to the gradient of the last gain. -/
theorem q13 (a : Vec Ideal S1x1024 .f32) (z : Fin 1) (k : Fin 1024) :
    (k0_pay30 (F := Ideal) x0 (c57 x0 x2 x4 x5) (c66 x0 x2 x4) (u3 x5) x3 x1 a (ix2 z k) : EReal)
      = a (ix2 z k) + ∑ p, dy (gr x2) (gr x3) (w1 x4) (w2 x5) (hb x0 p) (hb x1 p) k * hat (h2 (gr x2) (w1 x4) (w2 x5) (hb x0 p)) k :=
  p30 x0 x1 x3 (q24 x0 x2 x4 x5) a z k

/-- What a point adds to the gradient of the first gain. -/
theorem q14 (a : Vec Ideal S1x1024 .f32) (z : Fin 1) (k : Fin 1024) :
    (k0_pay3 (F := Ideal) (k0_pay10 x0) (c167 x0 x1 x2 x3 x4 x5 v) (c170 x0 x1 x2 x3 x4 x5) (c175 x0 x2 x4 v) (u3 x4) a (ix2 z k) : EReal)
      = a (ix2 z k) + ∑ p, dxn (gr x2) (gr x3) (w1 x4) (w2 x5) (hb x0 p) (hb x1 p) k * hat (hb x0 p) k :=
  p3 (q2 x0 x1 x2 x3 x4 x5 v) (Y := hb x0) (p10 x0) a z k

end point

end Cert.Kernel2Ideal.Val
end
-- ==== Proof.MlpVal.lean ====
module

public import proofs.«01_k».proof.Proof.MlpPoint

@[expose] public section

set_option maxRecDepth 16384

noncomputable section

/-! The arrays the MLP kernel leaves, in the row functions of `MlpMath` at the arguments' rows. -/

namespace Cert.Kernel2Ideal.Val
open Cert.Kernel2Ideal Cert.Kernel2Ideal.Gen Cert.Kernel2Ideal.Pay Idealize.ShloMosaic Idealize.ShloMosaic.TcCoe Idealize.SL.Sem
open Cert.Step
open scoped BigOperators

variable (m : (ℓ : Loc nD τ sig) → Buf (Elt Ideal) ℓ) (c : Dev nD)

abbrev Dh2 (i : Fin 8192) : Row := dh2 (G2 m c) (G3 m c) (A1 m c) (A2 m c) (H m c i) (T m c i)
abbrev Df (i : Fin 8192) : Fin 4096 → EReal := df (G2 m c) (G3 m c) (A1 m c) (A2 m c) (H m c i) (T m c i)
abbrev Dh1 (i : Fin 8192) : Row := dh1 (G2 m c) (G3 m c) (A1 m c) (A2 m c) (H m c i) (T m c i)

theorem o6 (t : Fin cfg0.N) (p : Fin 256) (k : Fin 1024) :
    ((outsAt0 m c t.val t.isLt).1 (ix2 p k) : EReal) = nrm (H m c (rw' t p)) (G2 m c) k := by
  rcases Decidable.em (t.val % 32 = 0) with h | h
  · rw [outsAt0_A m c t h]; frame_out
    exact (p11 (iblk m c 0 t) (iblk m c 2 t) p k).trans (by simp only [hb0, gr2])
  · rw [outsAt0_B m c t h]; frame_out
    exact (p11 (iblk m c 0 t) (iblk m c 2 t) p k).trans (by simp only [hb0, gr2])

theorem final6 : (dats m 0 c).arrAt 6 cfg0.N = fun i => nrm (H m c (i 0)) (G2 m c) (i 1) := by
  refine (dats m 0 c).arrAt_eq_of_covers 6 _ (by decide +kernel) fun t hf y => ?_
  obtain ⟨p, k, rfl⟩ : ∃ (p : Fin 256) (k : Fin 1024), y = ix2 p k := ⟨y 0, y 1, eq_ix2 y⟩
  blk_simp
  rw [after0_6]
  refine (o6 m c t p k).trans ?_
  obtain ⟨-, -, -, -, -, -, i6, -⟩ := idx t
  have e : (win0_6.blk t).view.emb (ix2 p k) = ix2 (rw' t p) k := by blk_ext [i6]
  rw [e]
  rfl

theorem o7 (t : Fin cfg0.N) (p : Fin 256) (k : Fin 4096) :
    ((outsAt0 m c t.val t.isLt).2.1 (ix2 p k) : EReal) = rl (G2 m c) (A1 m c) (H m c (rw' t p)) k := by
  rcases Decidable.em (t.val % 32 = 0) with h | h
  · rw [outsAt0_A m c t h]; frame_out
    exact (q7' (iblk m c 0 t) (iblk m c 2 t) (iblk m c 4 t) p k).trans (by simp only [hb0, gr2, w14])
  · rw [outsAt0_B m c t h]; frame_out
    exact (q7' (iblk m c 0 t) (iblk m c 2 t) (iblk m c 4 t) p k).trans (by simp only [hb0, gr2, w14])

theorem final7 : (dats m 0 c).arrAt 7 cfg0.N = fun i => rl (G2 m c) (A1 m c) (H m c (i 0)) (i 1) := by
  refine (dats m 0 c).arrAt_eq_of_covers 7 _ (by decide +kernel) fun t hf y => ?_
  obtain ⟨p, k, rfl⟩ : ∃ (p : Fin 256) (k : Fin 4096), y = ix2 p k := ⟨y 0, y 1, eq_ix2 y⟩
  blk_simp
  rw [after0_7]
  refine (o7 m c t p k).trans ?_
  obtain ⟨-, -, -, -, -, -, -, i7, -⟩ := idx t
  have e : (win0_7.blk t).view.emb (ix2 p k) = ix2 (rw' t p) k := by blk_ext [i7]
  rw [e]
  rfl

theorem o8 (t : Fin cfg0.N) (p : Fin 256) (k : Fin 4096) :
    ((outsAt0 m c t.val t.isLt).2.2.1 (ix2 p k) : EReal) = Df m c (rw' t p) k := by
  rcases Decidable.em (t.val % 32 = 0) with h | h
  · rw [outsAt0_A m c t h]; frame_out
    exact (q8' (iblk m c 0 t) (iblk m c 1 t) (iblk m c 2 t) (iblk m c 3 t) (iblk m c 4 t) (iblk m c 5 t) (ms0_7 t).view p k).trans (by simp only [hb0, hb1, gr2, gr3, w14, w25])
  · rw [outsAt0_B m c t h]; frame_out
    exact (q8' (iblk m c 0 t) (iblk m c 1 t) (iblk m c 2 t) (iblk m c 3 t) (iblk m c 4 t) (iblk m c 5 t) (ms0_7 t).view p k).trans (by simp only [hb0, hb1, gr2, gr3, w14, w25])

theorem final8 : (dats m 0 c).arrAt 8 cfg0.N = fun i => Df m c (i 0) (i 1) := by
  refine (dats m 0 c).arrAt_eq_of_covers 8 _ (by decide +kernel) fun t hf y => ?_
  obtain ⟨p, k, rfl⟩ : ∃ (p : Fin 256) (k : Fin 4096), y = ix2 p k := ⟨y 0, y 1, eq_ix2 y⟩
  blk_simp
  rw [after0_8]
  refine (o8 m c t p k).trans ?_
  obtain ⟨-, -, -, -, -, -, -, -, i8, -⟩ := idx t
  have e : (win0_8.blk t).view.emb (ix2 p k) = ix2 (rw' t p) k := by blk_ext [i8]
  rw [e]
  rfl

theorem o9 (t : Fin cfg0.N) (p : Fin 256) (k : Fin 1024) :
    ((outsAt0 m c t.val t.isLt).2.2.2.1 (ix2 p k) : EReal) = Dh2 m c (rw' t p) k := by
  rcases Decidable.em (t.val % 32 = 0) with h | h
  · rw [outsAt0_A m c t h]; frame_out
    exact (q32 (iblk m c 0 t) (iblk m c 1 t) (iblk m c 2 t) (iblk m c 3 t) (iblk m c 4 t) (iblk m c 5 t) p k).trans (by simp only [hb0, hb1, gr2, gr3, w14, w25])
  · rw [outsAt0_B m c t h]; frame_out
    exact (q32 (iblk m c 0 t) (iblk m c 1 t) (iblk m c 2 t) (iblk m c 3 t) (iblk m c 4 t) (iblk m c 5 t) p k).trans (by simp only [hb0, hb1, gr2, gr3, w14, w25])

theorem final9 : (dats m 0 c).arrAt 9 cfg0.N = fun i => Dh2 m c (i 0) (i 1) := by
  refine (dats m 0 c).arrAt_eq_of_covers 9 _ (by decide +kernel) fun t hf y => ?_
  obtain ⟨p, k, rfl⟩ : ∃ (p : Fin 256) (k : Fin 1024), y = ix2 p k := ⟨y 0, y 1, eq_ix2 y⟩
  blk_simp
  rw [after0_9]
  refine (o9 m c t p k).trans ?_
  obtain ⟨-, -, -, -, -, -, -, -, -, i9, -⟩ := idx t
  have e : (win0_9.blk t).view.emb (ix2 p k) = ix2 (rw' t p) k := by blk_ext [i9]
  rw [e]
  rfl

theorem o10 (t : Fin cfg0.N) (p : Fin 256) (k : Fin 1024) :
    ((outsAt0 m c t.val t.isLt).2.2.2.2.1 (ix2 p k) : EReal) = Dh1 m c (rw' t p) k := by
  rcases Decidable.em (t.val % 32 = 0) with h | h
  · rw [outsAt0_A m c t h]; frame_out
    exact (q10 (iblk m c 0 t) (iblk m c 1 t) (iblk m c 2 t) (iblk m c 3 t) (iblk m c 4 t) (iblk m c 5 t) (ms0_7 t).view p k).trans (by simp only [hb0, hb1, gr2, gr3, w14, w25])
  · rw [outsAt0_B m c t h]; frame_out
    exact (q10 (iblk m c 0 t) (iblk m c 1 t) (iblk m c 2 t) (iblk m c 3 t) (iblk m c 4 t) (iblk m c 5 t) (ms0_7 t).view p k).trans (by simp only [hb0, hb1, gr2, gr3, w14, w25])

theorem final10 : (dats m 0 c).arrAt 10 cfg0.N = fun i => Dh1 m c (i 0) (i 1) := by
  refine (dats m 0 c).arrAt_eq_of_covers 10 _ (by decide +kernel) fun t hf y => ?_
  obtain ⟨p, k, rfl⟩ : ∃ (p : Fin 256) (k : Fin 1024), y = ix2 p k := ⟨y 0, y 1, eq_ix2 y⟩
  blk_simp
  rw [after0_10]
  refine (o10 m c t p k).trans ?_
  obtain ⟨-, -, -, -, -, -, -, -, -, -, i10, -⟩ := idx t
  have e : (win0_10.blk t).view.emb (ix2 p k) = ix2 (rw' t p) k := by blk_ext [i10]
  rw [e]
  rfl

theorem o11 (t : Fin cfg0.N) (p : Fin 256) (k : Fin 1024) :
    ((outsAt0 m c t.val t.isLt).2.2.2.2.2.1 (ix2 p k) : EReal) = Dh1 m c (rw' t p) k := by
  rcases Decidable.em (t.val % 32 = 0) with h | h
  · rw [outsAt0_A m c t h]; frame_out
    exact (q11 (iblk m c 0 t) (iblk m c 1 t) (iblk m c 2 t) (iblk m c 3 t) (iblk m c 4 t) (iblk m c 5 t) (ms0_7 t).view p k).trans (by simp only [hb0, hb1, gr2, gr3, w14, w25])
  · rw [outsAt0_B m c t h]; frame_out
    exact (q11 (iblk m c 0 t) (iblk m c 1 t) (iblk m c 2 t) (iblk m c 3 t) (iblk m c 4 t) (iblk m c 5 t) (ms0_7 t).view p k).trans (by simp only [hb0, hb1, gr2, gr3, w14, w25])

theorem final11 : (dats m 0 c).arrAt 11 cfg0.N = fun i => Dh1 m c (i 0) (i 1) := by
  refine (dats m 0 c).arrAt_eq_of_covers 11 _ (by decide +kernel) fun t hf y => ?_
  obtain ⟨p, k, rfl⟩ : ∃ (p : Fin 256) (k : Fin 1024), y = ix2 p k := ⟨y 0, y 1, eq_ix2 y⟩
  blk_simp
  rw [after0_11]
  refine (o11 m c t p k).trans ?_
  obtain ⟨-, -, -, -, -, -, -, -, -, -, -, i11, -⟩ := idx t
  have e : (win0_11.blk t).view.emb (ix2 p k) = ix2 (rw' t p) k := by blk_ext [i11]
  rw [e]
  rfl

/-- The sum over the rows, block by block. -/
theorem sum_rows (F : Fin 8192 → EReal) : ∑ t : Fin cfg0.N, ∑ p, F (rw' t p) = ∑ i, F i := by
  rw [Fin.sum_univ_tiles 32 256 (by norm_num) F]
  exact Fintype.sum_equiv (finCongr N_0) _ _ fun t => rfl

/-- What a row adds to the loss, to the gradient of the last gain and to the gradient of the first. -/
abbrev Ls (i : Fin 8192) : EReal := ∑ k, err (G2 m c) (G3 m c) (A1 m c) (A2 m c) (H m c i) (T m c i) k * err (G2 m c) (G3 m c) (A1 m c) (A2 m c) (H m c i) (T m c i) k
abbrev Dg3 (k : Fin 1024) (i : Fin 8192) : EReal := dy (G2 m c) (G3 m c) (A1 m c) (A2 m c) (H m c i) (T m c i) k * hat (h2 (G2 m c) (A1 m c) (A2 m c) (H m c i)) k
abbrev Dg2 (k : Fin 1024) (i : Fin 8192) : EReal := dxn (G2 m c) (G3 m c) (A1 m c) (A2 m c) (H m c i) (T m c i) k * hat (H m c i) k

theorem z6 (j : S1x128.Idx) : (k0_pay6 (F := Ideal) j : EReal) = 0 := by
  show (_ : EReal) = _
  pointwise [k0_pay6]
theorem z7 (j : S1x1024.Idx) : (k0_pay7 (F := Ideal) j : EReal) = 0 := by
  show (_ : EReal) = _
  pointwise [k0_pay7]
theorem z8 (j : S1x1024.Idx) : (k0_pay8 (F := Ideal) j : EReal) = 0 := by
  show (_ : EReal) = _
  pointwise [k0_pay8]

theorem o12A (t : Fin cfg0.N) (h : t.val % 32 = 0) (z : Fin 1) (k : Fin 128) :
    ((outsAt0 m c t.val t.isLt).2.2.2.2.2.2.1 (ix2 z k) : EReal) = 0 + Ideal.ofBits .f32 973078528#32 * ∑ p, Ls m c (rw' t p) := by
  rw [outsAt0_A m c t h]; frame_out
  exact (q12 (iblk m c 0 t) (iblk m c 1 t) (iblk m c 2 t) (iblk m c 3 t) (iblk m c 4 t) (iblk m c 5 t) _ (ix2 z k)).trans (by simp only [z6, hb0, hb1, gr2, gr3, w14, w25])

theorem o12B (t : Fin cfg0.N) (h : ¬t.val % 32 = 0) (z : Fin 1) (k : Fin 128) :
    ((outsAt0 m c t.val t.isLt).2.2.2.2.2.2.1 (ix2 z k) : EReal)
      = (outsAt0 m c (t.val - 1) (Nat.lt_of_le_of_lt (Nat.sub_le _ _) t.isLt)).2.2.2.2.2.2.1 (ix2 z k) + Ideal.ofBits .f32 973078528#32 * ∑ p, Ls m c (rw' t p) := by
  rw [outsAt0_B m c t h]; frame_out
  exact (q12 (iblk m c 0 t) (iblk m c 1 t) (iblk m c 2 t) (iblk m c 3 t) (iblk m c 4 t) (iblk m c 5 t) _ (ix2 z k)).trans (by simp only [hb0, hb1, gr2, gr3, w14, w25])

theorem o12 (t : Fin cfg0.N) (ht : t.val + 1 = cfg0.N) (z : Fin 1) (k : Fin 128) :
    ((outsAt0 m c t.val t.isLt).2.2.2.2.2.2.1 (ix2 z k) : EReal) = ∑ t : Fin cfg0.N, Ideal.ofBits .f32 973078528#32 * ∑ p, Ls m c (rw' t p) := by
  refine (Pipeline.eq_sum_fin_of_reset_step_apply_last (M := EReal)
    (fun n h (k : Fin 128) => ((outsAt0 m c n h).2.2.2.2.2.2.1 (ix2 z k) : EReal)) 32 (fun _ => 0)
    (fun t k => Ideal.ofBits .f32 973078528#32 * ∑ p, Ls m c (rw' t p))
    (fun t h k => o12A m c t h z k) (fun t h k => o12B m c t h z k) (le_of_eq N_0) t ht k).trans ?_
  exact zero_add _

theorem final12 : (dats m 0 c).arrAt 12 cfg0.N = fun i => ∑ t : Fin cfg0.N, Ideal.ofBits .f32 973078528#32 * ∑ p, Ls m c (rw' t p) := by
  refine (dats m 0 c).arrAt_eq_of_covers 12 _ (by decide +kernel) fun t hf y => ?_
  obtain ⟨z, k, rfl⟩ : ∃ (z : Fin 1) (k : Fin 128), y = ix2 z k := ⟨y 0, y 1, eq_ix2 y⟩
  blk_simp
  rw [after0_12]
  refine (o12 m c t (by have h1 := (flush0_12 t).mp hf; have h2 := t_lt t; have h3 : cfg0.N = 32 := N_0; omega) z k).trans ?_
  rfl

theorem o13A (t : Fin cfg0.N) (h : t.val % 32 = 0) (z : Fin 1) (k : Fin 1024) :
    ((outsAt0 m c t.val t.isLt).2.2.2.2.2.2.2.1 (ix2 z k) : EReal) = 0 + ∑ p, Dg3 m c k (rw' t p) := by
  rw [outsAt0_A m c t h]; frame_out
  exact (q13 (iblk m c 0 t) (iblk m c 1 t) (iblk m c 2 t) (iblk m c 3 t) (iblk m c 4 t) (iblk m c 5 t) _ z k).trans (by simp only [z7, hb0, hb1, gr2, gr3, w14, w25])

theorem o13B (t : Fin cfg0.N) (h : ¬t.val % 32 = 0) (z : Fin 1) (k : Fin 1024) :
    ((outsAt0 m c t.val t.isLt).2.2.2.2.2.2.2.1 (ix2 z k) : EReal)
      = (outsAt0 m c (t.val - 1) (Nat.lt_of_le_of_lt (Nat.sub_le _ _) t.isLt)).2.2.2.2.2.2.2.1 (ix2 z k) + ∑ p, Dg3 m c k (rw' t p) := by
  rw [outsAt0_B m c t h]; frame_out
  exact (q13 (iblk m c 0 t) (iblk m c 1 t) (iblk m c 2 t) (iblk m c 3 t) (iblk m c 4 t) (iblk m c 5 t) _ z k).trans (by simp only [hb0, hb1, gr2, gr3, w14, w25])

theorem o13 (t : Fin cfg0.N) (ht : t.val + 1 = cfg0.N) (z : Fin 1) (k : Fin 1024) :
    ((outsAt0 m c t.val t.isLt).2.2.2.2.2.2.2.1 (ix2 z k) : EReal) = ∑ i, Dg3 m c k i := by
  refine (Pipeline.eq_sum_fin_of_reset_step_apply_last (M := EReal)
    (fun n h (k : Fin 1024) => ((outsAt0 m c n h).2.2.2.2.2.2.2.1 (ix2 z k) : EReal)) 32 (fun _ => 0)
    (fun t k => ∑ p, Dg3 m c k (rw' t p))
    (fun t h k => o13A m c t h z k) (fun t h k => o13B m c t h z k) (le_of_eq N_0) t ht k).trans ?_
  exact (zero_add _).trans (sum_rows fun i => Dg3 m c k i)

theorem final13 : (dats m 0 c).arrAt 13 cfg0.N = fun i => ∑ r, Dg3 m c (i 1) r := by
  refine (dats m 0 c).arrAt_eq_of_covers 13 _ (by decide +kernel) fun t hf y => ?_
  obtain ⟨z, k, rfl⟩ : ∃ (z : Fin 1) (k : Fin 1024), y = ix2 z k := ⟨y 0, y 1, eq_ix2 y⟩
  blk_simp
  rw [after0_13]
  refine (o13 m c t (by have h1 := (flush0_13 t).mp hf; have h2 := t_lt t; have h3 : cfg0.N = 32 := N_0; omega) z k).trans ?_
  obtain ⟨-, -, -, -, -, -, -, -, -, -, -, -, -, i13, -⟩ := idx t
  have e : (win0_13.blk t).view.emb (ix2 z k) = ix2 z k := by blk_ext [i13]
  rw [e]
  rfl

theorem o14A (t : Fin cfg0.N) (h : t.val % 32 = 0) (z : Fin 1) (k : Fin 1024) :
    ((outsAt0 m c t.val t.isLt).2.2.2.2.2.2.2.2 (ix2 z k) : EReal) = 0 + ∑ p, Dg2 m c k (rw' t p) := by
  rw [outsAt0_A m c t h]; frame_out
  exact (q14 (iblk m c 0 t) (iblk m c 1 t) (iblk m c 2 t) (iblk m c 3 t) (iblk m c 4 t) (iblk m c 5 t) (ms0_7 t).view _ z k).trans (by simp only [z8, hb0, hb1, gr2, gr3, w14, w25])

theorem o14B (t : Fin cfg0.N) (h : ¬t.val % 32 = 0) (z : Fin 1) (k : Fin 1024) :
    ((outsAt0 m c t.val t.isLt).2.2.2.2.2.2.2.2 (ix2 z k) : EReal)
      = (outsAt0 m c (t.val - 1) (Nat.lt_of_le_of_lt (Nat.sub_le _ _) t.isLt)).2.2.2.2.2.2.2.2 (ix2 z k) + ∑ p, Dg2 m c k (rw' t p) := by
  rw [outsAt0_B m c t h]; frame_out
  exact (q14 (iblk m c 0 t) (iblk m c 1 t) (iblk m c 2 t) (iblk m c 3 t) (iblk m c 4 t) (iblk m c 5 t) (ms0_7 t).view _ z k).trans (by simp only [hb0, hb1, gr2, gr3, w14, w25])

theorem o14 (t : Fin cfg0.N) (ht : t.val + 1 = cfg0.N) (z : Fin 1) (k : Fin 1024) :
    ((outsAt0 m c t.val t.isLt).2.2.2.2.2.2.2.2 (ix2 z k) : EReal) = ∑ i, Dg2 m c k i := by
  refine (Pipeline.eq_sum_fin_of_reset_step_apply_last (M := EReal)
    (fun n h (k : Fin 1024) => ((outsAt0 m c n h).2.2.2.2.2.2.2.2 (ix2 z k) : EReal)) 32 (fun _ => 0)
    (fun t k => ∑ p, Dg2 m c k (rw' t p))
    (fun t h k => o14A m c t h z k) (fun t h k => o14B m c t h z k) (le_of_eq N_0) t ht k).trans ?_
  exact (zero_add _).trans (sum_rows fun i => Dg2 m c k i)

theorem final14 : (dats m 0 c).arrAt 14 cfg0.N = fun i => ∑ r, Dg2 m c (i 1) r := by
  refine (dats m 0 c).arrAt_eq_of_covers 14 _ (by decide +kernel) fun t hf y => ?_
  obtain ⟨z, k, rfl⟩ : ∃ (z : Fin 1) (k : Fin 1024), y = ix2 z k := ⟨y 0, y 1, eq_ix2 y⟩
  blk_simp
  rw [after0_14]
  refine (o14 m c t (by have h1 := (flush0_14 t).mp hf; have h2 := t_lt t; have h3 : cfg0.N = 32 := N_0; omega) z k).trans ?_
  obtain ⟨-, -, -, -, -, -, -, -, -, -, -, -, -, -, i14⟩ := idx t
  have e : (win0_14.blk t).view.emb (ix2 z k) = ix2 z k := by blk_ext [i14]
  rw [e]
  rfl

end Cert.Kernel2Ideal.Val
end
-- ==== Proof.MlpRef.lean ====
module

public import proofs.«01_k».proof.Proof.Gen.Reference2Ideal.Run
public import Idealize.ShloMosaic.Lib.Pipeline.ValueKit
public import proofs.«01_k».proof.Proof.MlpMath

@[expose] public section

set_option maxRecDepth 16384

noncomputable section

/-! The reference of the MLP's call, row by row: each named term of its run is the row function of `MlpMath`. -/

namespace Cert.Reference2Ideal.Value
open Cert.Reference2Ideal Cert.Reference2Ideal.Gen Idealize.ShloMosaic Idealize.ShloMosaic.TcCoe Idealize.SL.Sem
open Idealize.ShloMosaic.StableHlo Cert.Step
open scoped BigOperators

variable (V0 : Valuation τ sig (Elt Ideal))

/-- Row `i` of the input. -/
def H (i : Fin 8192) : Row := fun k => V0 (Proc.devRef .tc main_arg0) (ix2 i k)
/-- Row `i` of the target. -/
def T (i : Fin 8192) : Row := fun k => V0 (Proc.devRef .tc main_arg1) (ix2 i k)
/-- The first norm's gain. -/
def G2 : Row := fun k => V0 (Proc.devRef .tc main_arg2) (ix1 k)
/-- The last norm's gain. -/
def G3 : Row := fun k => V0 (Proc.devRef .tc main_arg3) (ix1 k)
/-- The first weight. -/
def A1 : Fin 1024 → Fin 4096 → EReal := fun k f => V0 (Proc.devRef .tc main_arg4) (ix2 k f)
/-- The second weight. -/
def A2 : Fin 4096 → Row := fun f k => V0 (Proc.devRef .tc main_arg5) (ix2 f k)

theorem r6 (i : Fin 8192) (z : Fin 1) : (res_main_v6 V0 (ix2 i z) : EReal) = ms (H V0 i) := by
  show (_ : EReal) = _
  pointwise [res_main_v6]
  rfl

theorem r7 (i : Fin 8192) (z : Fin 1) : (res_main_v7 V0 (ix2 i z) : EReal) = rs (H V0 i) := by
  rw [rs, ← r6 V0 i z]; rfl

theorem r12 (i : Fin 8192) (k : Fin 1024) : (res_main_v12 V0 (ix2 i k) : EReal) = hat (H V0 i) k := by
  show (_ : EReal) = _
  pointwise [res_main_v12]
  rw [hat, ← r7 V0 i 0]
  rfl

theorem r15 (i : Fin 8192) (k : Fin 1024) : (res_main_v15 V0 (ix2 i k) : EReal) = nrm (H V0 i) (G2 V0) k := by
  show (_ : EReal) = _
  pointwise [res_main_v15, res_main_v13]
  rw [nrm, ← r12 V0 i k]
  rfl

theorem r17 (i : Fin 8192) (f : Fin 4096) : (res_main_v17 V0 (ix2 i f) : EReal) = rl (G2 V0) (A1 V0) (H V0 i) f := by
  show (_ : EReal) = _
  simp only [rl, ← r15]
  pointwise [res_main_v17, res_main_v16]
  rfl

theorem r23 (i : Fin 8192) (k : Fin 1024) :
    (res_main_v23 V0 (ix2 i k) : EReal) = h2 (G2 V0) (A1 V0) (A2 V0) (H V0 i) k := by
  show (_ : EReal) = _
  simp only [h2, ← r17]
  pointwise [res_main_v23]
  rfl

theorem r30 (i : Fin 8192) (z : Fin 1) :
    (res_main_v30 V0 (ix2 i z) : EReal) = ms (h2 (G2 V0) (A1 V0) (A2 V0) (H V0 i)) := by
  show (_ : EReal) = _
  simp only [ms, ← r23]
  pointwise [res_main_v30]

theorem r31 (i : Fin 8192) (z : Fin 1) :
    (res_main_v31 V0 (ix2 i z) : EReal) = rs (h2 (G2 V0) (A1 V0) (A2 V0) (H V0 i)) := by
  rw [rs, ← r30 V0 i z]; rfl

theorem r36 (i : Fin 8192) (k : Fin 1024) :
    (res_main_v36 V0 (ix2 i k) : EReal) = hat (h2 (G2 V0) (A1 V0) (A2 V0) (H V0 i)) k := by
  show (_ : EReal) = _
  pointwise [res_main_v36]
  rw [hat, ← r31 V0 i 0, ← r23 V0 i k]

theorem r40 (i : Fin 8192) (k : Fin 1024) :
    (res_main_v40 V0 (ix2 i k) : EReal) = err (G2 V0) (G3 V0) (A1 V0) (A2 V0) (H V0 i) (T V0 i) k := by
  show (_ : EReal) = _
  simp only [err, nrm, ← r36]
  pointwise [res_main_v40, res_main_v37]
  rfl

/-- Every entry of the six arguments is a real number. -/
structure Real : Prop where
  hh : ∀ i k, Re (H V0 i k)
  ht : ∀ i k, Re (T V0 i k)
  hg2 : ∀ k, Re (G2 V0 k)
  hg3 : ∀ k, Re (G3 V0 k)
  hA1 : ∀ k f, Re (A1 V0 k f)
  hA2 : ∀ f k, Re (A2 V0 f k)

variable {V0} (R : Real V0)
include R

theorem r54 (i : Fin 8192) (k : Fin 1024) :
    (res_main_v54 V0 (ix2 i k) : EReal) = dy (G2 V0) (G3 V0) (A1 V0) (A2 V0) (H V0 i) (T V0 i) k := by
  rw [dy, ← dy_eq (Re.err R.hg2 R.hg3 R.hA1 R.hA2 (R.hh i) (R.ht i) k), ← r40]
  show (_ : EReal) = _
  pointwise [res_main_v54, res_main_v51]

theorem r59 (i : Fin 8192) (k : Fin 1024) :
    (res_main_v59 V0 (ix2 i k) : EReal) = dy (G2 V0) (G3 V0) (A1 V0) (A2 V0) (H V0 i) (T V0 i) k * G3 V0 k := by
  rw [← r54 R]
  show (_ : EReal) = _
  pointwise [res_main_v59, res_main_v37]
  rfl

theorem r70 (i : Fin 8192) (k : Fin 1024) :
    (res_main_v70 V0 (ix2 i k) : EReal)
      = nrmCoef (h2 (G2 V0) (A1 V0) (A2 V0) (H V0 i)) (G3 V0) (dy (G2 V0) (G3 V0) (A1 V0) (A2 V0) (H V0 i) (T V0 i)) := by
  simp only [nrmCoef, ← r59 R, ← r23, ← r30 V0 i 0, ← r31 V0 i 0]
  show (_ : EReal) = _
  pointwise [res_main_v70]
  rw [Fin.sum_univ_one]

theorem r74 (i : Fin 8192) (k : Fin 1024) :
    (res_main_v74 V0 (ix2 i k) : EReal) = dh2 (G2 V0) (G3 V0) (A1 V0) (A2 V0) (H V0 i) (T V0 i) k := by
  rw [dh2, ← nrmGradR_eq (Re.h2 R.hg2 R.hA1 R.hA2 (R.hh i)) R.hg3 (Re.dy R.hg2 R.hg3 R.hA1 R.hA2 (R.hh i) (R.ht i)),
    nrmGradR, ← r59 R, ← r31 V0 i 0, ← r23, ← r70 R i k]
  show (_ : EReal) = _
  pointwise [res_main_v74]

theorem r75 (i : Fin 8192) (f : Fin 4096) :
    (res_main_v75 V0 (ix2 i f) : EReal)
      = ∑ k, dh2 (G2 V0) (G3 V0) (A1 V0) (A2 V0) (H V0 i) (T V0 i) k * A2 V0 f k := by
  simp only [← r74 R]
  show (_ : EReal) = _
  pointwise [res_main_v75]
  rfl

theorem r80 (i : Fin 8192) (f : Fin 4096) :
    (res_main_v80 V0 (ix2 i f) : EReal) = df (G2 V0) (G3 V0) (A1 V0) (A2 V0) (H V0 i) (T V0 i) f := by
  have h16 : (res_main_v16 V0 (ix2 i f) : EReal) = ∑ k, nrm (H V0 i) (G2 V0) k * A1 V0 k f := by
    simp only [← r15]
    show (_ : EReal) = _
    pointwise [res_main_v16]
    rfl
  rw [df, rl, ← df_eq (Re.sum fun k => (Re.nrm (R.hh i) R.hg2 k).mul (R.hA1 k f))
    (Re.sum fun k => (Re.dh2 R.hg2 R.hg3 R.hA1 R.hA2 (R.hh i) (R.ht i) k).mul (R.hA2 f k)), ← h16, ← r75 R]
  show (_ : EReal) = _
  pointwise [res_main_v80, res_main_v17]

theorem r81 (i : Fin 8192) (k : Fin 1024) :
    (res_main_v81 V0 (ix2 i k) : EReal) = dxn (G2 V0) (G3 V0) (A1 V0) (A2 V0) (H V0 i) (T V0 i) k := by
  simp only [dxn, ← r80 R]
  show (_ : EReal) = _
  pointwise [res_main_v81]
  rfl

theorem r86 (i : Fin 8192) (k : Fin 1024) :
    (res_main_v86 V0 (ix2 i k) : EReal)
      = dxn (G2 V0) (G3 V0) (A1 V0) (A2 V0) (H V0 i) (T V0 i) k * G2 V0 k := by
  rw [← r81 R]
  show (_ : EReal) = _
  pointwise [res_main_v86, res_main_v13]
  rfl

theorem r97 (i : Fin 8192) (k : Fin 1024) :
    (res_main_v97 V0 (ix2 i k) : EReal)
      = nrmCoef (H V0 i) (G2 V0) (dxn (G2 V0) (G3 V0) (A1 V0) (A2 V0) (H V0 i) (T V0 i)) := by
  simp only [nrmCoef, ← r86 R, ← r6 V0 i 0, ← r7 V0 i 0]
  show (_ : EReal) = _
  pointwise [res_main_v97]
  rw [Fin.sum_univ_one]
  rfl

/-- The result `dh1` of the reference. -/
theorem o102 (i : Fin 8192) (k : Fin 1024) :
    ((addf (res_main_v74 V0) (addf (addf (mulf (res_main_v86 V0) (broadcastInDim S8192x1024 ![0, 1] bcast_S8192x1_S8192x1024_0_1 (res_main_v7 V0))) (mulf (V0 (Proc.devRef .tc main_arg0)) (res_main_v97 V0))) (mulf (res_main_v97 V0) (V0 (Proc.devRef .tc main_arg0)))) : FVec Ideal S8192x1024 .f32) (ix2 i k) : EReal)
      = dh1 (G2 V0) (G3 V0) (A1 V0) (A2 V0) (H V0 i) (T V0 i) k := by
  rw [dh1, ← nrmGradR_eq (R.hh i) R.hg2 (Re.dxn R.hg2 R.hg3 R.hA1 R.hA2 (R.hh i) (R.ht i)), nrmGradR,
    ← r86 R, ← r74 R, ← r7 V0 i 0, ← r97 R i k]
  show (_ : EReal) = _
  pointwise
  rfl

/-- The loss of the reference. -/
theorem o109 (j : S1x128.Idx) :
    ((broadcastInDim S1x128 ![] bcast_S_S1x128 (mulf (constant S_ .f32 0x3F000000#32) (Host.reduceAdd (Host.divf (Host.reduceAdd (mulf (res_main_v40 V0) (res_main_v40 V0)) (constant S_ .f32 0x00000000#32) reducesTo_S8192x1024_S8192_d1 h_S_) (broadcastInDim S8192 ![] bcast_S_S8192 (constant S_ .f32 0x44800000#32))) (constant S_ .f32 0x00000000#32) reducesTo_S8192_S_d0 h_S_)) : FVec Ideal S1x128 .f32) j : EReal)
      = ∑ i : Fin 8192, Ideal.ofBits .f32 973078528#32 * ∑ k, err (G2 V0) (G3 V0) (A1 V0) (A2 V0) (H V0 i) (T V0 i) k
          * err (G2 V0) (G3 V0) (A1 V0) (A2 V0) (H V0 i) (T V0 i) k := by
  rw [← loss_eq fun i k => Re.err R.hg2 R.hg3 R.hA1 R.hA2 (R.hh i) (R.ht i) k]
  simp only [← r40]
  show (_ : EReal) = _
  pointwise

/-- The gradient of the last norm's gain, of the reference. -/
theorem o110 (z : Fin 1) (k : Fin 1024) :
    ((shapeCast _ (Host.reduceAdd (shapeCast _ (Host.reduceAdd (mulf (res_main_v36 V0) (res_main_v54 V0)) (constant S_ .f32 0x00000000#32) reducesTo_S8192x1024_S1024_d0 h_S_) shapeCasts_S1024_S1x1024) (constant S_ .f32 0x00000000#32) reducesTo_S1x1024_S1024_d0 h_S_) shapeCasts_S1024_S1x1024 : FVec Ideal S1x1024 .f32) (ix2 z k) : EReal)
      = ∑ i : Fin 8192, dy (G2 V0) (G3 V0) (A1 V0) (A2 V0) (H V0 i) (T V0 i) k * hat (h2 (G2 V0) (A1 V0) (A2 V0) (H V0 i)) k := by
  simp only [← r54 R, ← r36]
  show (_ : EReal) = _
  pointwise
  rw [Fin.sum_univ_one]
  exact Finset.sum_congr rfl fun i _ => mul_comm _ _

/-- The gradient of the first norm's gain, of the reference. -/
theorem o111 (z : Fin 1) (k : Fin 1024) :
    ((shapeCast _ (Host.reduceAdd (shapeCast _ (Host.reduceAdd (mulf (res_main_v12 V0) (res_main_v81 V0)) (constant S_ .f32 0x00000000#32) reducesTo_S8192x1024_S1024_d0 h_S_) shapeCasts_S1024_S1x1024) (constant S_ .f32 0x00000000#32) reducesTo_S1x1024_S1024_d0 h_S_) shapeCasts_S1024_S1x1024 : FVec Ideal S1x1024 .f32) (ix2 z k) : EReal)
      = ∑ i : Fin 8192, dxn (G2 V0) (G3 V0) (A1 V0) (A2 V0) (H V0 i) (T V0 i) k * hat (H V0 i) k := by
  simp only [← r81 R, ← r12]
  show (_ : EReal) = _
  pointwise
  rw [Fin.sum_univ_one]
  exact Finset.sum_congr rfl fun i _ => mul_comm _ _

end Cert.Reference2Ideal.Value

end
-- ==== Proof.Finite.lean ====
module

public import proofs.«01_k».proof.Proof.Reals

@[expose] public section

noncomputable section

/-! The precondition's comparison `|x| < +∞` says that `x` is a real number. -/

namespace Cert.Step

open Idealize.ShloMosaic

/-- The f32 word of `+∞`. -/
theorem cInf : Ideal.ofBits .f32 2139095040#32 = (⊤ : EReal) := by
  simp [Ideal.ofBits, Ideal.ieee]

theorem re_of_cmp {x y : EReal} (hy : y = ⊤) (h : Ideal.cmp .olt (Max.max x (-x)) y = 1#1) : Re x := by
  subst hy
  unfold Ideal.cmp at h
  have h2 : Max.max x (-x) < ⊤ := by
    by_contra hn
    simp [hn] at h
  rw [max_lt_iff] at h2
  induction x using EReal.rec with
  | bot => simp at h2
  | coe r => exact Re.coe r
  | top => simp at h2

/-- An array whose comparison `|x| < +∞` holds at each index holds real numbers. -/
theorem re_of_abs_lt {s : Shape} {x y : FVec Ideal s .f32} (hy : ∀ j, (y j : EReal) = ⊤)
    (h : cmpf .olt (Host.absf x) y = fun _ => 1#1) (j : s.Idx) : Re (x j : EReal) :=
  re_of_cmp (hy j) (congrFun h j)

end Cert.Step

end
-- ==== Proof.MlpAlg.lean ====
module

public import proofs.«01_k».proof.Defs
public import proofs.«01_k».proof.Proof.MlpVal
public import proofs.«01_k».proof.Proof.MlpRef
public import proofs.«01_k».proof.Proof.Finite
public import proofs.«01_k».proof.Proof.Gen.Pre_finite2
public import proofs.«01_k».proof.Proof.Gen.Kernel2Ideal.Frame
public import Idealize.ShloMosaic.Adequacy
public import Idealize.ShloMosaic.Init

@[expose] public section

set_option maxRecDepth 16384

noncomputable section

/-! The MLP's kernel and its reference leave the same results. -/

namespace Cert.Mlp
open Idealize.ShloMosaic Idealize.ShloMosaic.TcCoe Idealize.SL.Sem Cert.Step
open scoped BigOperators

section args
variable (m : (ℓ : Loc Cert.Kernel2Ideal.nD Cert.Kernel2Ideal.τ Cert.Kernel2Ideal.sig) → Buf (Elt Ideal) ℓ)
  (m' : (ℓ : Loc Cert.Reference2Ideal.nD Cert.Reference2Ideal.τ Cert.Reference2Ideal.sig) → Buf (Elt Ideal) ℓ) (c : Dev 1)
variable (hagree : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5))
include hagree

abbrev VR : Valuation Cert.Reference2Ideal.τ Cert.Reference2Ideal.sig (Elt Ideal) := StableHlo.launchContents m' c

theorem eH : Cert.Reference2Ideal.Value.H (VR m' c) = Cert.Kernel2Ideal.Val.H m c :=
  funext fun i => funext fun k => congrFun hagree.1 (ix2 i k)
theorem eT : Cert.Reference2Ideal.Value.T (VR m' c) = Cert.Kernel2Ideal.Val.T m c :=
  funext fun i => funext fun k => congrFun hagree.2.1 (ix2 i k)
theorem eG2 : Cert.Reference2Ideal.Value.G2 (VR m' c) = Cert.Kernel2Ideal.Val.G2 m c :=
  funext fun k => congrFun hagree.2.2.1 (ix1 k)
theorem eG3 : Cert.Reference2Ideal.Value.G3 (VR m' c) = Cert.Kernel2Ideal.Val.G3 m c :=
  funext fun k => congrFun hagree.2.2.2.1 (ix1 k)
theorem eA1 : Cert.Reference2Ideal.Value.A1 (VR m' c) = Cert.Kernel2Ideal.Val.A1 m c :=
  funext fun k => funext fun f => congrFun hagree.2.2.2.2.1 (ix2 k f)
theorem eA2 : Cert.Reference2Ideal.Value.A2 (VR m' c) = Cert.Kernel2Ideal.Val.A2 m c :=
  funext fun f => funext fun k => congrFun hagree.2.2.2.2.2 (ix2 f k)

/-- Under the precondition the six arguments hold real numbers. -/
theorem real (hpre : Pre_Kernel2Ideal_finite2 m) : Cert.Reference2Ideal.Value.Real (VR m' c) := by
  obtain ⟨p0, p1, p2, p3, p4, p5⟩ := hpre c
  refine ⟨fun i k => ?_, fun i k => ?_, fun k => ?_, fun k => ?_, fun k f => ?_, fun f k => ?_⟩
  · rw [eH m m' c hagree]; exact re_of_abs_lt (fun _ => cInf) p0 (ix2 i k)
  · rw [eT m m' c hagree]; exact re_of_abs_lt (fun _ => cInf) p1 (ix2 i k)
  · rw [eG2 m m' c hagree]; exact re_of_abs_lt (fun _ => cInf) p2 (ix1 k)
  · rw [eG3 m m' c hagree]; exact re_of_abs_lt (fun _ => cInf) p3 (ix1 k)
  · rw [eA1 m m' c hagree]; exact re_of_abs_lt (fun _ => cInf) p4 (ix2 k f)
  · rw [eA2 m m' c hagree]; exact re_of_abs_lt (fun _ => cInf) p5 (ix2 f k)

end args

/-- A real factor goes into a sum of real numbers. -/
theorem mul_sum {ι : Type*} [Fintype ι] {a : EReal} (ha : Re a) {F : ι → EReal} (hF : ∀ i, Re (F i)) :
    a * ∑ i, F i = ∑ i, a * F i := by
  obtain ⟨r, rfl⟩ := ha
  choose f hf using hF
  simp only [hf]
  rw [coe_sum, ← EReal.coe_mul, Finset.mul_sum, ← coe_sum]
  exact Finset.sum_congr rfl fun i _ => EReal.coe_mul _ _

set_option maxHeartbeats 1600000 in
open Cert.Reference2Ideal.Value in
theorem algebraic : Cert.algebraic_Kernel2Ideal_Reference2Ideal_pre_finite2 := by
  pair_intro
  · run_from Cert.Kernel2Ideal.Value.run_blocks m g
  · run_from Cert.Reference2Ideal.Value.run m' g'
    all_goals have R := real m m' c (hagree c) hpre
    · refine Eq.trans ?_ (Cert.Kernel2Ideal.Val.final6 m c).symm
      funext y
      obtain ⟨i, k, rfl⟩ : ∃ (i : Fin 8192) (k : Fin 1024), y = ix2 i k := ⟨y 0, y 1, eq_ix2 y⟩
      refine (r15 (VR m' c) i k).trans ?_
      rw [eH m m' c (hagree c), eG2 m m' c (hagree c)]
      rfl
    · refine Eq.trans ?_ (Cert.Kernel2Ideal.Val.final7 m c).symm
      funext y
      obtain ⟨i, k, rfl⟩ : ∃ (i : Fin 8192) (k : Fin 4096), y = ix2 i k := ⟨y 0, y 1, eq_ix2 y⟩
      refine (r17 (VR m' c) i k).trans ?_
      rw [eH m m' c (hagree c), eG2 m m' c (hagree c), eA1 m m' c (hagree c)]
      rfl
    · refine Eq.trans ?_ (Cert.Kernel2Ideal.Val.final8 m c).symm
      funext y
      obtain ⟨i, k, rfl⟩ : ∃ (i : Fin 8192) (k : Fin 4096), y = ix2 i k := ⟨y 0, y 1, eq_ix2 y⟩
      refine (r80 R i k).trans ?_
      rw [eH m m' c (hagree c), eG2 m m' c (hagree c), eA1 m m' c (hagree c), eT m m' c (hagree c), eG3 m m' c (hagree c), eA2 m m' c (hagree c)]
      rfl
    · refine Eq.trans ?_ (Cert.Kernel2Ideal.Val.final9 m c).symm
      funext y
      obtain ⟨i, k, rfl⟩ : ∃ (i : Fin 8192) (k : Fin 1024), y = ix2 i k := ⟨y 0, y 1, eq_ix2 y⟩
      refine (r74 R i k).trans ?_
      rw [eH m m' c (hagree c), eG2 m m' c (hagree c), eA1 m m' c (hagree c), eT m m' c (hagree c), eG3 m m' c (hagree c), eA2 m m' c (hagree c)]
      rfl
    · refine Eq.trans ?_ (Cert.Kernel2Ideal.Val.final10 m c).symm
      rw [← (hagree c).1]
      funext y
      obtain ⟨i, k, rfl⟩ : ∃ (i : Fin 8192) (k : Fin 1024), y = ix2 i k := ⟨y 0, y 1, eq_ix2 y⟩
      refine (o102 R i k).trans ?_
      rw [eH m m' c (hagree c), eG2 m m' c (hagree c), eA1 m m' c (hagree c), eT m m' c (hagree c), eG3 m m' c (hagree c), eA2 m m' c (hagree c)]
      rfl
    · refine Eq.trans ?_ (Cert.Kernel2Ideal.Val.final11 m c).symm
      rw [← (hagree c).1]
      funext y
      obtain ⟨i, k, rfl⟩ : ∃ (i : Fin 8192) (k : Fin 1024), y = ix2 i k := ⟨y 0, y 1, eq_ix2 y⟩
      refine (o102 R i k).trans ?_
      rw [eH m m' c (hagree c), eG2 m m' c (hagree c), eA1 m m' c (hagree c), eT m m' c (hagree c), eG3 m m' c (hagree c), eA2 m m' c (hagree c)]
      rfl
    · refine Eq.trans ?_ (Cert.Kernel2Ideal.Val.final12 m c).symm
      funext y
      refine (o109 R y).trans ?_
      have hc : Re (Ideal.ofBits .f32 973078528#32) := by rw [cInv2048]; exact Re.coe _
      rw [← mul_sum hc fun i => Re.sum fun k => (Re.err R.hg2 R.hg3 R.hA1 R.hA2 (R.hh i) (R.ht i) k).mul (Re.err R.hg2 R.hg3 R.hA1 R.hA2 (R.hh i) (R.ht i) k),
        ← Cert.Kernel2Ideal.Val.sum_rows, mul_sum hc fun t => Re.sum fun p => Re.sum fun k =>
          (Re.err R.hg2 R.hg3 R.hA1 R.hA2 (R.hh _) (R.ht _) k).mul (Re.err R.hg2 R.hg3 R.hA1 R.hA2 (R.hh _) (R.ht _) k)]
      rw [eH m m' c (hagree c), eG2 m m' c (hagree c), eA1 m m' c (hagree c), eT m m' c (hagree c), eG3 m m' c (hagree c), eA2 m m' c (hagree c)]
    · refine Eq.trans ?_ (Cert.Kernel2Ideal.Val.final13 m c).symm
      funext y
      obtain ⟨i, k, rfl⟩ : ∃ (i : Fin 1) (k : Fin 1024), y = ix2 i k := ⟨y 0, y 1, eq_ix2 y⟩
      refine (o110 R i k).trans ?_
      rw [eH m m' c (hagree c), eG2 m m' c (hagree c), eA1 m m' c (hagree c), eT m m' c (hagree c), eG3 m m' c (hagree c), eA2 m m' c (hagree c)]
      rfl
    · refine Eq.trans ?_ (Cert.Kernel2Ideal.Val.final14 m c).symm
      funext y
      obtain ⟨i, k, rfl⟩ : ∃ (i : Fin 1) (k : Fin 1024), y = ix2 i k := ⟨y 0, y 1, eq_ix2 y⟩
      refine (o111 R i k).trans ?_
      rw [eH m m' c (hagree c), eG2 m m' c (hagree c), eA1 m m' c (hagree c), eT m m' c (hagree c), eG3 m m' c (hagree c), eA2 m m' c (hagree c)]
      rfl

end Cert.Mlp
end
-- ==== Proof.WgradMath.lean ====
module

public import Idealize.ShloMosaic.Lib.Pipeline.ValueKit
public import proofs.«01_k».proof.Proof.Reals

@[expose] public section

set_option maxRecDepth 16384

noncomputable section

/-! The gradients of the feed-forward layer's two weights, entry by entry: `relu(xn W1)² W2` is the layer, `d` the
gradient that reaches its output. -/

namespace Cert.Wgrad
open Idealize.ShloMosaic
open scoped BigOperators

variable (xn : Fin 8192 → Fin 1024 → EReal) (w1 : Fin 1024 → Fin 4096 → EReal) (w2 : Fin 4096 → Fin 1024 → EReal)
  (d : Fin 8192 → Fin 1024 → EReal)

/-- The hidden layer before its activation. -/
def pre (i : Fin 8192) (f : Fin 4096) : EReal := ∑ k, xn i k * w1 k f
/-- The activation before it is squared. -/
def rel (i : Fin 8192) (f : Fin 4096) : EReal := max (pre xn w1 i f) 0
/-- The gradient that reaches the squared activation. -/
def up (i : Fin 8192) (f : Fin 4096) : EReal := ∑ k, d i k * w2 f k
/-- The gradient that reaches the hidden layer. -/
def dpre (i : Fin 8192) (f : Fin 4096) : EReal :=
  if 0 < pre xn w1 i f then rel xn w1 i f * up w2 d i f + up w2 d i f * rel xn w1 i f else 0
/-- The first weight's gradient, transposed. -/
def dw1 (f : Fin 4096) (k : Fin 1024) : EReal := ∑ i, dpre xn w1 w2 d i f * xn i k
/-- The second weight's gradient. -/
def dw2 (f : Fin 4096) (k : Fin 1024) : EReal := ∑ i, rel xn w1 i f * rel xn w1 i f * d i k

end Cert.Wgrad
end
-- ==== Proof.WgradVal.lean ====
module

public import proofs.«01_k».proof.Proof.Gen.Kernel3Ideal.Value
public import Idealize.ShloMosaic.Lib.Pipeline.ValueKit
public import Idealize.ShloMosaic.Lib.Claim
public import Idealize.ShloMosaic.Lib.Pipeline.ReadBack
public import proofs.«01_k».proof.Proof.WgradMath

@[expose] public section

set_option maxRecDepth 16384

noncomputable section

/-! The arrays the weight gradients' kernel leaves, entry by entry, in the arrays its call is given. -/

namespace Cert.Kernel3Ideal.Val
open Cert.Kernel3Ideal Cert.Kernel3Ideal.Gen Idealize.ShloMosaic Idealize.ShloMosaic.TcCoe Idealize.SL.Sem
open Cert.Wgrad
open scoped BigOperators

variable (m : (ℓ : Loc nD τ sig) → Buf (Elt Ideal) ℓ) (c : Dev nD)

/-- The normalised rows. -/
def Xn (i : Fin 8192) (k : Fin 1024) : EReal := m ((c.tc : Thread nD τ).loc main_arg0) (ix2 i k)
/-- The first weight. -/
def A1 (k : Fin 1024) (f : Fin 4096) : EReal := m ((c.tc : Thread nD τ).loc main_arg1) (ix2 k f)
/-- The second weight. -/
def A2 (f : Fin 4096) (k : Fin 1024) : EReal := m ((c.tc : Thread nD τ).loc main_arg2) (ix2 f k)
/-- The gradient of the layer's output. -/
def Do (i : Fin 8192) (k : Fin 1024) : EReal := m ((c.tc : Thread nD τ).loc main_arg3) (ix2 i k)

/-- Row `p` of the row tile of grid point `t`. -/
abbrev rw' (t : Fin cfg0.N) (p : Fin 2048) : Fin 8192 := ⟨(t.val % 4) * 2048 + p.val, by omega⟩
theorem t_lt (t : Fin cfg0.N) : t.val < 16 := lt_of_lt_of_eq t.isLt N_0
/-- Column `f` of the hidden tile of grid point `t`. -/
abbrev hd (t : Fin cfg0.N) (f : Fin 1024) : Fin 4096 := ⟨(t.val / 4) * 1024 + f.val, by have := t_lt t; omega⟩

set_option maxHeartbeats 2000000 in
/-- The saved activation the call is given. -/
theorem v14_at (i : Fin 8192) (f : Fin 4096) :
    (V m c main_v14 (ix2 i f) : EReal) = rel (Xn m c) (A1 m c) i f := by
  show (_ : EReal) = _
  simp only [V, hostOps0, hostOps0_1, hostOps0_2, hostOps0_3, hostOps0_4, List.flatten_cons, List.flatten_nil, List.append_nil,
    List.cons_append, List.nil_append, StableHlo.TRef.binary, StableHlo.TRef.nullary, StableHlo.TRef.unary,
    StableHlo.TRef.toBuf, StableHlo.TRef.ofBuf, cast_eq]
  after_results
  pointwise
  rfl

set_option maxHeartbeats 2000000 in
/-- The hidden layer's gradient the call is given. -/
theorem v15_at (i : Fin 8192) (f : Fin 4096) :
    (V m c main_v15 (ix2 i f) : EReal) = dpre (Xn m c) (A1 m c) (A2 m c) (Do m c) i f := by
  show (_ : EReal) = _
  simp only [V, hostOps0, hostOps0_1, hostOps0_2, hostOps0_3, hostOps0_4, List.flatten_cons, List.flatten_nil, List.append_nil,
    List.cons_append, List.nil_append, StableHlo.TRef.binary, StableHlo.TRef.nullary, StableHlo.TRef.unary,
    StableHlo.TRef.toBuf, StableHlo.TRef.ofBuf, cast_eq]
  after_results
  pointwise
  rfl

/-- The windows' block indices at each grid point: hidden tile `t / 4`, row tile `t % 4`. -/
theorem idx : ∀ t : Fin cfg0.N, win0_0.index t = ![t.val % 4, t.val / 4] ∧ win0_1.index t = ![t.val % 4, t.val / 4]
    ∧ win0_2.index t = ![t.val % 4, 0] ∧ win0_3.index t = ![t.val % 4, 0] ∧ win0_4.index t = ![t.val / 4, 0]
    ∧ win0_5.index t = ![t.val / 4, 0] :=
  (by decide +kernel : ∀ t : Fin grid0.N, win0_0.index t = ![t.val % 4, t.val / 4] ∧ win0_1.index t = ![t.val % 4, t.val / 4]
    ∧ win0_2.index t = ![t.val % 4, 0] ∧ win0_3.index t = ![t.val % 4, 0] ∧ win0_4.index t = ![t.val / 4, 0]
    ∧ win0_5.index t = ![t.val / 4, 0])

theorem pay3 (r : Vec Ideal S2048x1024 .bf16) (a : Vec Ideal S1024x1024 .f32) (d : Vec Ideal S2048x1024 .bf16) (f k : Fin 1024) :
    (k0_pay3 (F := Ideal) r a d (ix2 f k) : EReal) = a (ix2 f k) + ∑ p : Fin 2048, r (ix2 p f) * r (ix2 p f) * d (ix2 p k) := by
  show (_ : EReal) = _
  pointwise [k0_pay3]

theorem pay4 (a : Vec Ideal S1024x1024 .f32) (d x : Vec Ideal S2048x1024 .bf16) (f k : Fin 1024) :
    (k0_pay4 (F := Ideal) a d x (ix2 f k) : EReal) = a (ix2 f k) + ∑ p : Fin 2048, d (ix2 p f) * x (ix2 p k) := by
  show (_ : EReal) = _
  pointwise [k0_pay4]

theorem pay1 (f k : Fin 1024) : (k0_pay1 (F := Ideal) (ix2 f k) : EReal) = 0 := by
  show (_ : EReal) = _
  pointwise [k0_pay1]
theorem pay2 (f k : Fin 1024) : (k0_pay2 (F := Ideal) (ix2 f k) : EReal) = 0 := by
  show (_ : EReal) = _
  pointwise [k0_pay2]

theorem b0 (t : Fin cfg0.N) (p : Fin 2048) (f : Fin 1024) :
    (iblk m c 0 t (ix2 p f) : EReal) = rel (Xn m c) (A1 m c) (rw' t p) (hd t f) := by
  obtain ⟨i0, i1, -⟩ := idx t
  have e : (win0_0.blk t).view.emb (ix2 p f) = ix2 (rw' t p) (hd t f) := by blk_ext [i0]
  refine Eq.trans ?_ (v14_at m c (rw' t p) (hd t f))
  blk_simp [iblk]
  rw [e]

theorem b1 (t : Fin cfg0.N) (p : Fin 2048) (f : Fin 1024) :
    (iblk m c 1 t (ix2 p f) : EReal) = dpre (Xn m c) (A1 m c) (A2 m c) (Do m c) (rw' t p) (hd t f) := by
  obtain ⟨i0, i1, -⟩ := idx t
  have e : (win0_1.blk t).view.emb (ix2 p f) = ix2 (rw' t p) (hd t f) := by blk_ext [i1]
  refine Eq.trans ?_ (v15_at m c (rw' t p) (hd t f))
  blk_simp [iblk]
  rw [e]

theorem b2 (t : Fin cfg0.N) (p : Fin 2048) (k : Fin 1024) :
    (iblk m c 2 t (ix2 p k) : EReal) = Do m c (rw' t p) k := by
  obtain ⟨i0, i1, i2, i3, i4, i5⟩ := idx t
  show (_ : EReal) = _
  blk_simp [iblk]
  entry_read
  pointwise
  unfold Do
  blk_ext [i2]

theorem b3 (t : Fin cfg0.N) (p : Fin 2048) (k : Fin 1024) :
    (iblk m c 3 t (ix2 p k) : EReal) = Xn m c (rw' t p) k := by
  obtain ⟨i0, i1, i2, i3, i4, i5⟩ := idx t
  show (_ : EReal) = _
  blk_simp [iblk]
  entry_read
  pointwise
  unfold Xn
  blk_ext [i3]

/-- What grid point `t` adds to the first weight's gradient. -/
def g1 (t : Fin cfg0.N) (f k : Fin 1024) : EReal :=
  ∑ p, dpre (Xn m c) (A1 m c) (A2 m c) (Do m c) (rw' t p) (hd t f) * Xn m c (rw' t p) k
/-- What grid point `t` adds to the second weight's gradient. -/
def g2 (t : Fin cfg0.N) (f k : Fin 1024) : EReal :=
  ∑ p, rel (Xn m c) (A1 m c) (rw' t p) (hd t f) * rel (Xn m c) (A1 m c) (rw' t p) (hd t f) * Do m c (rw' t p) k

theorem pay4' (t : Fin cfg0.N) (a : Vec Ideal S1024x1024 .f32) (f k : Fin 1024) :
    (k0_pay4 (F := Ideal) a (iblk m c 1 t) (iblk m c 3 t) (ix2 f k) : EReal) = a (ix2 f k) + g1 m c t f k := by
  refine (pay4 a (iblk m c 1 t) (iblk m c 3 t) f k).trans (congrArg _ (Finset.sum_congr rfl fun p _ => ?_))
  exact congrArg₂ (· * ·) (b1 m c t p f) (b3 m c t p k)

theorem pay3' (t : Fin cfg0.N) (a : Vec Ideal S1024x1024 .f32) (f k : Fin 1024) :
    (k0_pay3 (F := Ideal) (iblk m c 0 t) a (iblk m c 2 t) (ix2 f k) : EReal) = a (ix2 f k) + g2 m c t f k := by
  refine (pay3 (iblk m c 0 t) a (iblk m c 2 t) f k).trans (congrArg _ (Finset.sum_congr rfl fun p _ => ?_))
  exact congrArg₂ (· * ·) (congrArg₂ (· * ·) (b0 m c t p f) (b0 m c t p f)) (b2 m c t p k)

/-- The first accumulator starts from zero at a hidden tile's first grid point. -/
theorem s1A (t : Fin cfg0.N) (h : t.val % 4 = 0) (f k : Fin 1024) :
    ((outsAt0 m c t.val t.isLt).2.2.1 (ix2 f k) : EReal) = 0 + g1 m c t f k := by
  rw [outsAt0_A m c t h (by omega)]; frame_out
  exact (pay4' m c t _ f k).trans (by rw [pay1])

/-- At the others it adds to what the point before left. -/
theorem s1B (t : Fin cfg0.N) (h : ¬t.val % 4 = 0) (f k : Fin 1024) :
    ((outsAt0 m c t.val t.isLt).2.2.1 (ix2 f k) : EReal)
      = (outsAt0 m c (t.val - 1) (Nat.lt_of_le_of_lt (Nat.sub_le _ _) t.isLt)).2.2.1 (ix2 f k) + g1 m c t f k := by
  rcases Decidable.em (t.val % 4 = 3) with h1 | h1
  · rw [outsAt0_C m c t h h1]; frame_out
    exact (pay4' m c t _ f k).trans (congrArg (fun v : Vec Ideal S1024x1024 .f32 => (v (ix2 f k) : EReal) + _) (Idealize.ShloMosaic.read_unread_whole _ _ _))
  · rw [outsAt0_B m c t h h1]; frame_out
    exact (pay4' m c t _ f k).trans (congrArg (fun v : Vec Ideal S1024x1024 .f32 => (v (ix2 f k) : EReal) + _) (Idealize.ShloMosaic.read_unread_whole _ _ _))

/-- The second accumulator starts from zero at a hidden tile's first grid point. -/
theorem s2A (t : Fin cfg0.N) (h : t.val % 4 = 0) (f k : Fin 1024) :
    ((outsAt0 m c t.val t.isLt).2.2.2 (ix2 f k) : EReal) = 0 + g2 m c t f k := by
  rw [outsAt0_A m c t h (by omega)]; frame_out
  exact (pay3' m c t _ f k).trans (by rw [pay2])

/-- At the others it adds to what the point before left. -/
theorem s2B (t : Fin cfg0.N) (h : ¬t.val % 4 = 0) (f k : Fin 1024) :
    ((outsAt0 m c t.val t.isLt).2.2.2 (ix2 f k) : EReal)
      = (outsAt0 m c (t.val - 1) (Nat.lt_of_le_of_lt (Nat.sub_le _ _) t.isLt)).2.2.2 (ix2 f k) + g2 m c t f k := by
  rcases Decidable.em (t.val % 4 = 3) with h1 | h1
  · rw [outsAt0_C m c t h h1]; frame_out
    exact (pay3' m c t _ f k).trans (congrArg (fun v : Vec Ideal S1024x1024 .f32 => (v (ix2 f k) : EReal) + _) (Idealize.ShloMosaic.read_unread_whole _ _ _))
  · rw [outsAt0_B m c t h h1]; frame_out
    exact (pay3' m c t _ f k).trans (congrArg (fun v : Vec Ideal S1024x1024 .f32 => (v (ix2 f k) : EReal) + _) (Idealize.ShloMosaic.read_unread_whole _ _ _))

/-- A sum over all rows is the sum of the row tiles' sums of one hidden tile's grid points. -/
theorem sum_rows (F : Fin 8192 → EReal) (t : Fin cfg0.N) (h : t.val % 4 = 4 - 1) :
    ∑ s : Fin 4, ∑ p, F (rw' ⟨4 * (t.val / 4) + s.val, Pipeline.run_point_lt_of_flush t h s⟩ p) = ∑ i, F i := by
  rw [Fin.sum_univ_tiles 4 2048 rfl F]
  refine Finset.sum_congr rfl fun s _ => Finset.sum_congr rfl fun p _ => congrArg F (Fin.ext ?_)
  show (4 * (t.val / 4) + s.val) % 4 * 2048 + p.val = _
  have : (4 * (t.val / 4) + s.val) % 4 = s.val := by omega
  rw [this]

theorem hd_run (t : Fin cfg0.N) (h : t.val % 4 = 4 - 1) (s : Fin 4) (f : Fin 1024) :
    hd ⟨4 * (t.val / 4) + s.val, Pipeline.run_point_lt_of_flush t h s⟩ f = hd t f := by
  apply Fin.ext
  show (4 * (t.val / 4) + s.val) / 4 * 1024 + f.val = t.val / 4 * 1024 + f.val
  have : (4 * (t.val / 4) + s.val) / 4 = t.val / 4 := by omega
  rw [this]

/-- The first accumulator at a hidden tile's last grid point. -/
theorem s1 (t : Fin cfg0.N) (h : t.val % 4 = 4 - 1) (f k : Fin 1024) :
    ((outsAt0 m c t.val t.isLt).2.2.1 (ix2 f k) : EReal) = dw1 (Xn m c) (A1 m c) (A2 m c) (Do m c) (hd t f) k := by
  refine (Pipeline.eq_sum_fin_of_reset_step_apply_of_flush (M := EReal)
    (fun n h (k : Fin 1024) => ((outsAt0 m c n h).2.2.1 (ix2 f k) : EReal)) 4 (fun _ => 0)
    (fun t k => g1 m c t f k) (fun t h k => s1A m c t h f k) (fun t h k => s1B m c t h f k) t h k).trans ?_
  refine (zero_add _).trans ((Finset.sum_congr rfl fun s _ => ?_).trans (sum_rows (fun i => dpre (Xn m c) (A1 m c) (A2 m c) (Do m c) i (hd t f) * Xn m c i k) t h))
  show g1 m c _ f k = _
  unfold g1
  rw [hd_run t h s f]

/-- The second accumulator at a hidden tile's last grid point. -/
theorem s2 (t : Fin cfg0.N) (h : t.val % 4 = 4 - 1) (f k : Fin 1024) :
    ((outsAt0 m c t.val t.isLt).2.2.2 (ix2 f k) : EReal) = dw2 (Xn m c) (A1 m c) (Do m c) (hd t f) k := by
  refine (Pipeline.eq_sum_fin_of_reset_step_apply_of_flush (M := EReal)
    (fun n h (k : Fin 1024) => ((outsAt0 m c n h).2.2.2 (ix2 f k) : EReal)) 4 (fun _ => 0)
    (fun t k => g2 m c t f k) (fun t h k => s2A m c t h f k) (fun t h k => s2B m c t h f k) t h k).trans ?_
  refine (zero_add _).trans ((Finset.sum_congr rfl fun s _ => ?_).trans (sum_rows (fun i => rel (Xn m c) (A1 m c) i (hd t f) * rel (Xn m c) (A1 m c) i (hd t f) * Do m c i k) t h))
  show g2 m c _ f k = _
  unfold g2
  rw [hd_run t h s f]

/-- At a hidden tile's last grid point the first output's block is the first accumulator. -/
theorem o4 (t : Fin cfg0.N) (h : t.val % 4 = 3) (f k : Fin 1024) :
    ((outsAt0 m c t.val t.isLt).1 (ix2 f k) : EReal) = dw1 (Xn m c) (A1 m c) (A2 m c) (Do m c) (hd t f) k := by
  rw [← s1 m c t h f k, outsAt0_C m c t (by omega) h]; frame_out
  show (_ : EReal) = _
  pointwise [k0_pay5]

theorem o5 (t : Fin cfg0.N) (h : t.val % 4 = 3) (f k : Fin 1024) :
    ((outsAt0 m c t.val t.isLt).2.1 (ix2 f k) : EReal) = dw2 (Xn m c) (A1 m c) (Do m c) (hd t f) k := by
  rw [← s2 m c t h f k, outsAt0_C m c t (by omega) h]; frame_out
  show (_ : EReal) = _
  pointwise [k0_pay6]

theorem final4 : (dats m 0 c).arrAt 4 cfg0.N = fun i => dw1 (Xn m c) (A1 m c) (A2 m c) (Do m c) (i 0) (i 1) := by
  refine (dats m 0 c).arrAt_eq_of_covers 4 _ (by decide +kernel) fun t hf y => ?_
  obtain ⟨f, k, rfl⟩ : ∃ (f : Fin 1024) (k : Fin 1024), y = ix2 f k := ⟨y 0, y 1, eq_ix2 y⟩
  blk_simp
  rw [after0_4]
  refine (o4 m c t ((flush0_4 t).mp hf) f k).trans ?_
  obtain ⟨-, -, -, -, i4, -⟩ := idx t
  have e : (win0_4.blk t).view.emb (ix2 f k) = ix2 (hd t f) k := by blk_ext [i4]
  rw [e]
  rfl

theorem final5 : (dats m 0 c).arrAt 5 cfg0.N = fun i => dw2 (Xn m c) (A1 m c) (Do m c) (i 0) (i 1) := by
  refine (dats m 0 c).arrAt_eq_of_covers 5 _ (by decide +kernel) fun t hf y => ?_
  obtain ⟨f, k, rfl⟩ : ∃ (f : Fin 1024) (k : Fin 1024), y = ix2 f k := ⟨y 0, y 1, eq_ix2 y⟩
  blk_simp
  rw [after0_5]
  refine (o5 m c t ((flush0_5 t).mp hf) f k).trans ?_
  obtain ⟨-, -, -, -, -, i5⟩ := idx t
  have e : (win0_5.blk t).view.emb (ix2 f k) = ix2 (hd t f) k := by blk_ext [i5]
  rw [e]
  rfl

end Cert.Kernel3Ideal.Val
end
-- ==== Proof.WgradAlg.lean ====
module

public import proofs.«01_k».proof.Defs
public import proofs.«01_k».proof.Proof.WgradVal
public import proofs.«01_k».proof.Proof.Gen.Reference3Ideal.Run
public import proofs.«01_k».proof.Proof.Gen.Kernel3Ideal.Frame
public import Idealize.ShloMosaic.Adequacy
public import Idealize.ShloMosaic.Init

@[expose] public section

set_option maxRecDepth 16384

noncomputable section

/-! The weight gradients' kernel and its reference leave the same results. -/

namespace Cert.Wgrad
open Idealize.ShloMosaic Idealize.ShloMosaic.TcCoe Idealize.SL.Sem
open scoped BigOperators

set_option maxHeartbeats 1600000 in
theorem algebraic : Cert.algebraic_Kernel3Ideal_Reference3Ideal := by
  pair_intro
  · run_from Cert.Kernel3Ideal.Value.run_blocks m g
  · run_from Cert.Reference3Ideal.Value.run m' g'
    · refine Eq.trans ?_ (Cert.Kernel3Ideal.Val.final4 m c).symm
      funext y
      obtain ⟨f, k, rfl⟩ : ∃ (f : Fin 4096) (k : Fin 1024), y = ix2 f k := ⟨y 0, y 1, eq_ix2 y⟩
      show (_ : EReal) = _
      pointwise
      rfl
    · refine Eq.trans ?_ (Cert.Kernel3Ideal.Val.final5 m c).symm
      funext y
      obtain ⟨f, k, rfl⟩ : ∃ (f : Fin 4096) (k : Fin 1024), y = ix2 f k := ⟨y 0, y 1, eq_ix2 y⟩
      show (_ : EReal) = _
      pointwise
      exact Finset.sum_congr rfl fun i _ => mul_comm _ _

end Cert.Wgrad
end
-- ==== Proof.InprojVal.lean ====
module

public import proofs.«01_k».proof.Proof.Gen.Kernel6Ideal.Value
public import Idealize.ShloMosaic.Lib.Pipeline.ValueKit
public import Idealize.ShloMosaic.Lib.Claim
public import proofs.«01_k».proof.Proof.MlpMath

@[expose] public section

set_option maxRecDepth 16384

noncomputable section

/-! The arrays the input projection's kernel leaves, entry by entry, in its arguments. -/

namespace Cert.Step
open scoped BigOperators

/-- Column `j` of the projection of the normalised row `h` with gain `g`. -/
def proj (h g : Row) (w : Fin 1024 → Fin 5632 → EReal) (b : Fin 5632 → EReal) (j : Fin 5632) : EReal :=
  (∑ k, nrm h g k * w k j) + b j

/-- Column `q` of chunk `j`: the chunks are the columns after the first 512. -/
abbrev ch (j : Fin 10) (q : Fin 512) : Fin 5632 := ⟨(j.val + 1) * 512 + q.val, by omega⟩
/-- Column `q` of the first 512 columns. -/
abbrev ch0 (q : Fin 512) : Fin 5632 := ⟨q.val, by omega⟩

end Cert.Step

namespace Cert.Kernel6Ideal.Val
open Cert.Kernel6Ideal Cert.Kernel6Ideal.Gen Idealize.ShloMosaic Idealize.ShloMosaic.TcCoe Idealize.SL.Sem
open Cert.Step
open scoped BigOperators

variable (m : (ℓ : Loc nD τ sig) → Buf (Elt Ideal) ℓ) (c : Dev nD)

/-- Row `i` of the input. -/
def X (i : Fin 8192) : Row := fun k => m ((c.tc : Thread nD τ).loc main_arg0) (ix2 i k)
/-- The norm's gain. -/
def G : Row := fun k => m ((c.tc : Thread nD τ).loc main_arg1) (ix1 k)
/-- The projection's weight. -/
def W (k : Fin 1024) (j : Fin 5632) : EReal := m ((c.tc : Thread nD τ).loc main_arg2) (ix2 k j)
/-- The projection's bias. -/
def B (j : Fin 5632) : EReal := m ((c.tc : Thread nD τ).loc main_arg3) (ix1 j)

/-- Row `p` of the tile of grid point `t`. -/
abbrev rw' (t : Fin cfg0.N) (p : Fin 512) : Fin 8192 := ⟨t.val * 512 + p.val, by have := lt_of_lt_of_eq t.isLt N_0; omega⟩

theorem idx : ∀ t : Fin cfg0.N, win0_0.index t = ![t.val, 0] ∧ win0_1.index t = ![0, 0] ∧ win0_2.index t = ![0, 0]
    ∧ win0_3.index t = ![0, 0, 0] ∧ win0_4.index t = ![0, t.val, 0] ∧ win0_5.index t = ![t.val, 0] ∧ win0_6.index t = ![t.val, 0] :=
  (by decide +kernel : ∀ t : Fin grid0.N, win0_0.index t = ![t.val, 0] ∧ win0_1.index t = ![0, 0] ∧ win0_2.index t = ![0, 0]
    ∧ win0_3.index t = ![0, 0, 0] ∧ win0_4.index t = ![0, t.val, 0] ∧ win0_5.index t = ![t.val, 0] ∧ win0_6.index t = ![t.val, 0])

section point
variable (x0 : Vec Ideal S512x1024 .f32) (x1 : Vec Ideal S1x1024 .f32) (x2 : Vec Ideal S5632x1024 .bf16) (x3 : Vec Ideal S11x1x512 .f32)

def hb (p : Fin 512) : Row := fun k => x0 (ix2 p k)
def gr : Row := fun k => x1 (ix2 0 k)

theorem p2 (p : Fin 512) (k : Fin 1024) : (k0_pay2 (F := Ideal) x0 x1 (ix2 p k) : EReal) = nrm (hb x0 p) (gr x1) k := by
  show (_ : EReal) = _
  pointwise [k0_pay2]
  rfl

/-- Column `q` of chunk `j` at row `p` of the block. -/
def pv (j : Fin 10) (p q : Fin 512) : EReal :=
  (∑ k, nrm (hb x0 p) (gr x1) k * x2 (ix2 (ch j q) k)) + x3 (ix3 (⟨j.val, by omega⟩ : Fin 11) 0 q)

theorem o4 (j : Fin 10) (p q : Fin 512) :
    (out0_4 (F := Ideal) x0 x1 x2 x3 (ix3 j p q) : EReal) = pv x0 x1 x2 x3 j p q := by
  unfold out0_4
  unfold pv
  simp only [← p2]
  canon_tiles x h
  all_goals
    have h0' : j.val = _ := h0
    have x0_0 : (x 0).val < 1 := x0_lt
    have e1 : p = x 1 := Fin.ext h1
    have e2 : q = x 2 := Fin.ext h2
    open_payloads
    pointwise
    rw [e1, e2]
    refine congrArg₂ _ (Finset.sum_congr rfl fun k _ => congrArg₂ _ rfl ?_) ?_
    · exact congrArg x2 (congrArg₂ ix2 (Fin.ext (by simp only [ch]; omega)) rfl)
    · exact congrArg (fun a => x3 (ix3 a 0 (x 2))) (Fin.ext (by first | (simp only []; omega) | (show 0 = j.val; omega) | (show 1 = j.val; omega)))

theorem o5 (p q : Fin 512) :
    (out0_5 (F := Ideal) x0 x1 x2 x3 (ix2 p q) : EReal) = (∑ k, nrm (hb x0 p) (gr x1) k * x2 (ix2 (ch0 q) k)) + x3 (ix3 10 0 q) := by
  unfold out0_5
  simp only [← p2]
  canon_tiles x h
  have e0 : p = x 0 := Fin.ext h0
  have e1 : q = x 1 := Fin.ext h1
  open_payloads
  pointwise
  rw [e0, e1]

theorem o6 (p : Fin 512) (k : Fin 1024) :
    (out0_6 (F := Ideal) x0 x1 x2 x3 (ix2 p k) : EReal) = nrm (hb x0 p) (gr x1) k := by
  unfold out0_6
  simp only [← p2]
  canon_tiles x h
  have e0 : p = x 0 := Fin.ext h0
  have e1 : k = x 1 := Fin.ext h1
  open_payloads
  pointwise
  rw [e0, e1]
  exact congrArg (k0_pay2 x0 x1) (eq_ix2 x)

end point

/-! The blocks the launch reads, in the arguments. -/

set_option maxHeartbeats 2000000 in
theorem v3_at (k : Fin 1024) : (V m c main_v3 (ix2 0 k) : EReal) = G m c k := by
  show (_ : EReal) = _
  simp only [V, hostOps0, hostOps0_1, hostOps0_2, StableHlo.TRef.binary, StableHlo.TRef.nullary, StableHlo.TRef.unary,
    StableHlo.TRef.toBuf, StableHlo.TRef.ofBuf, cast_eq, List.flatten_cons, List.flatten_nil, List.append_nil, List.cons_append,
    List.nil_append]
  after_results
  pointwise
  rfl

set_option maxHeartbeats 2000000 in
theorem v5_at (j : Fin 5632) (k : Fin 1024) : (V m c main_v5 (ix2 j k) : EReal) = W m c k j := by
  show (_ : EReal) = _
  simp only [V, hostOps0, hostOps0_1, hostOps0_2, StableHlo.TRef.binary, StableHlo.TRef.nullary, StableHlo.TRef.unary,
    StableHlo.TRef.toBuf, StableHlo.TRef.ofBuf, cast_eq, List.flatten_cons, List.flatten_nil, List.append_nil, List.cons_append,
    List.nil_append]
  after_results
  pointwise
  rfl

set_option maxHeartbeats 2000000 in
theorem v2_at (j : Fin 10) (q : Fin 512) : (V m c main_v2 (ix3 (⟨j.val, by omega⟩ : Fin 11) 0 q) : EReal) = B m c (ch j q) := by
  show (_ : EReal) = _
  simp only [V, hostOps0, hostOps0_1, hostOps0_2, StableHlo.TRef.binary, StableHlo.TRef.nullary, StableHlo.TRef.unary,
    StableHlo.TRef.toBuf, StableHlo.TRef.ofBuf, cast_eq, List.flatten_cons, List.flatten_nil, List.append_nil, List.cons_append,
    List.nil_append]
  after_results
  pointwise
  exact congrArg (fun a => m ((c.tc : Thread nD τ).loc main_arg3) (ix1 a)) (Fin.ext (by simp only [ch]; omega))

set_option maxHeartbeats 2000000 in
theorem v2_last (q : Fin 512) : (V m c main_v2 (ix3 10 0 q) : EReal) = B m c (ch0 q) := by
  show (_ : EReal) = _
  simp only [V, hostOps0, hostOps0_1, hostOps0_2, StableHlo.TRef.binary, StableHlo.TRef.nullary, StableHlo.TRef.unary,
    StableHlo.TRef.toBuf, StableHlo.TRef.ofBuf, cast_eq, List.flatten_cons, List.flatten_nil, List.append_nil, List.cons_append,
    List.nil_append]
  after_results
  pointwise
  rfl

theorem b0 (t : Fin cfg0.N) (p : Fin 512) : hb (iblk m c 0 t) p = X m c (rw' t p) := by
  funext k
  have h := idx t
  show (iblk m c 0 t (ix2 p k) : EReal) = _
  blk_ext [iblk, V, h.1]

theorem b1 (t : Fin cfg0.N) : gr (iblk m c 1 t) = G m c := by
  funext k
  have h := (idx t).2.1
  have e : (win0_1.blk t).view.emb (ix2 0 k) = ix2 0 k := by blk_ext [h]
  refine Eq.trans ?_ (v3_at m c k)
  show (iblk m c 1 t (ix2 0 k) : EReal) = _
  blk_simp [iblk]
  rw [e]

theorem b2 (t : Fin cfg0.N) (j : Fin 5632) (k : Fin 1024) : (iblk m c 2 t (ix2 j k) : EReal) = W m c k j := by
  have h := (idx t).2.2.1
  have e : (win0_2.blk t).view.emb (ix2 j k) = ix2 j k := by blk_ext [h]
  refine Eq.trans ?_ (v5_at m c j k)
  show (_ : EReal) = _
  blk_simp [iblk]
  rw [e]

theorem b3 (t : Fin cfg0.N) (j : Fin 11) (q : Fin 512) : (iblk m c 3 t (ix3 j 0 q) : EReal) = V m c main_v2 (ix3 j 0 q) := by
  have h := (idx t).2.2.2.1
  have e : (win0_3.blk t).view.emb (ix3 j 0 q) = ix3 j 0 q := by blk_ext [h]
  show (_ : EReal) = _
  blk_simp [iblk]
  rw [e]

theorem out4 (t : Fin cfg0.N) (j : Fin 10) (p q : Fin 512) :
    (out0_4 (F := Ideal) (iblk m c 0 t) (iblk m c 1 t) (iblk m c 2 t) (iblk m c 3 t) (ix3 j p q) : EReal)
      = proj (X m c (rw' t p)) (G m c) (W m c) (B m c) (ch j q) := by
  refine (o4 _ _ _ _ j p q).trans ?_
  unfold pv
  rw [b0, b1, b3, v2_at]
  exact congrArg (· + _) (Finset.sum_congr rfl fun k _ => congrArg (_ * ·) (b2 m c t _ k))

theorem out5 (t : Fin cfg0.N) (p q : Fin 512) :
    (out0_5 (F := Ideal) (iblk m c 0 t) (iblk m c 1 t) (iblk m c 2 t) (iblk m c 3 t) (ix2 p q) : EReal)
      = proj (X m c (rw' t p)) (G m c) (W m c) (B m c) (ch0 q) := by
  refine (o5 _ _ _ _ p q).trans ?_
  rw [b0, b1, b3, v2_last]
  exact congrArg (· + _) (Finset.sum_congr rfl fun k _ => congrArg (_ * ·) (b2 m c t _ k))

theorem out6 (t : Fin cfg0.N) (p : Fin 512) (k : Fin 1024) :
    (out0_6 (F := Ideal) (iblk m c 0 t) (iblk m c 1 t) (iblk m c 2 t) (iblk m c 3 t) (ix2 p k) : EReal)
      = nrm (X m c (rw' t p)) (G m c) k := by
  refine (o6 _ _ _ _ p k).trans ?_
  rw [b0, b1]

theorem final4 : (dats m 0 c).arrAt 4 cfg0.N = fun i => proj (X m c (i 1)) (G m c) (W m c) (B m c) (ch (i 0) (i 2)) := by
  refine (dats m 0 c).arrAt_eq_of_covers 4 _ (by decide +kernel) fun t hf y => ?_
  obtain ⟨j, p, q, rfl⟩ : ∃ (j : Fin 10) (p q : Fin 512), y = ix3 j p q := ⟨y 0, y 1, y 2, eq_ix3 y⟩
  blk_simp
  rw [after0_4]
  refine (out4 m c t j p q).trans ?_
  obtain ⟨-, -, -, -, i4, -⟩ := idx t
  have e : (win0_4.blk t).view.emb (ix3 j p q) = ix3 j (rw' t p) q := by blk_ext [i4]
  rw [e]
  rfl

theorem final5 : (dats m 0 c).arrAt 5 cfg0.N = fun i => proj (X m c (i 0)) (G m c) (W m c) (B m c) (ch0 (i 1)) := by
  refine (dats m 0 c).arrAt_eq_of_covers 5 _ (by decide +kernel) fun t hf y => ?_
  obtain ⟨p, q, rfl⟩ : ∃ (p q : Fin 512), y = ix2 p q := ⟨y 0, y 1, eq_ix2 y⟩
  blk_simp
  rw [after0_5]
  refine (out5 m c t p q).trans ?_
  obtain ⟨-, -, -, -, -, i5, -⟩ := idx t
  have e : (win0_5.blk t).view.emb (ix2 p q) = ix2 (rw' t p) q := by blk_ext [i5]
  rw [e]
  rfl

theorem final6 : (dats m 0 c).arrAt 6 cfg0.N = fun i => nrm (X m c (i 0)) (G m c) (i 1) := by
  refine (dats m 0 c).arrAt_eq_of_covers 6 _ (by decide +kernel) fun t hf y => ?_
  obtain ⟨p, k, rfl⟩ : ∃ (p : Fin 512) (k : Fin 1024), y = ix2 p k := ⟨y 0, y 1, eq_ix2 y⟩
  blk_simp
  rw [after0_6]
  refine (out6 m c t p k).trans ?_
  obtain ⟨-, -, -, -, -, -, i6⟩ := idx t
  have e : (win0_6.blk t).view.emb (ix2 p k) = ix2 (rw' t p) k := by blk_ext [i6]
  rw [e]
  rfl

end Cert.Kernel6Ideal.Val
end
-- ==== Proof.InprojAlg.lean ====
module

public import proofs.«01_k».proof.Defs
public import proofs.«01_k».proof.Proof.InprojVal
public import proofs.«01_k».proof.Proof.Gen.Reference6Ideal.Run
public import proofs.«01_k».proof.Proof.Gen.Kernel6Ideal.Frame
public import Idealize.ShloMosaic.Adequacy
public import Idealize.ShloMosaic.Init

@[expose] public section

set_option maxRecDepth 16384

noncomputable section

/-! The input projection's kernel and its reference leave the same results. -/

namespace Cert.Inproj
open Idealize.ShloMosaic Idealize.ShloMosaic.TcCoe Idealize.SL.Sem
open scoped BigOperators

set_option maxHeartbeats 1600000 in
theorem algebraic : Cert.algebraic_Kernel6Ideal_Reference6Ideal := by
  pair_intro
  · run_from Cert.Kernel6Ideal.Value.run_blocks m g
  · run_from Cert.Reference6Ideal.Value.run m' g'
    · refine Eq.trans ?_ (Cert.Kernel6Ideal.Val.final4 m c).symm
      funext y
      obtain ⟨j, p, q, rfl⟩ : ∃ (j : Fin 10) (p : Fin 8192) (q : Fin 512), y = ix3 j p q := ⟨y 0, y 1, y 2, eq_ix3 y⟩
      show (_ : EReal) = _
      pointwise
      have e : ∀ h, (⟨512 + (j.val * 512 + q.val), h⟩ : Fin 5632) = Cert.Step.ch j q := fun h =>
        Fin.ext (by simp only [Cert.Step.ch]; omega)
      rw [e]
      rfl
    · refine Eq.trans ?_ (Cert.Kernel6Ideal.Val.final5 m c).symm
      funext y
      obtain ⟨p, q, rfl⟩ : ∃ (p : Fin 8192) (q : Fin 512), y = ix2 p q := ⟨y 0, y 1, eq_ix2 y⟩
      show (_ : EReal) = _
      pointwise
      rfl
    · refine Eq.trans ?_ (Cert.Kernel6Ideal.Val.final6 m c).symm
      funext y
      obtain ⟨p, k, rfl⟩ : ∃ (p : Fin 8192) (k : Fin 1024), y = ix2 p k := ⟨y 0, y 1, eq_ix2 y⟩
      show (_ : EReal) = _
      pointwise
      rfl

end Cert.Inproj
end
-- ==== Proof.InbwdVal.lean ====
module

public import proofs.«01_k».proof.Proof.Gen.Kernel4Ideal.Value
public import Idealize.ShloMosaic.Lib.Pipeline.ValueKit
public import Idealize.ShloMosaic.Lib.Pipeline.ReadBack
public import Idealize.ShloMosaic.Lib.Claim
public import Idealize.ShloMosaic.Lib.WritesUnit
public import proofs.«01_k».proof.Proof.MlpMath

@[expose] public section

set_option maxRecDepth 16384

noncomputable section

/-! The arrays the gradient kernel of the norm and the input projection leaves, entry by entry, in its arguments. -/

namespace Cert.Step
open Idealize.ShloMosaic
open scoped BigOperators

/-- Column `q` of tile `j`: the columns come in eleven tiles of 512. -/
abbrev col (j : Fin 11) (q : Fin 512) : Fin 5632 := ⟨j.val * 512 + q.val, by omega⟩

/-- The gradient with respect to the norm's result: the projection's cotangent times the transposed weight. -/
def dpx (d : Fin 5632 → EReal) (w : Fin 1024 → Fin 5632 → EReal) : Row := fun k => ∑ j, d j * w k j

theorem sum11 (F : Fin 11 → EReal) :
    F 0 + F 1 + F 2 + F 3 + F 4 + F 5 + F 6 + F 7 + F 8 + F 9 + F 10 = ∑ j, F j := by
  rw [Fin.sum_univ_castSucc, Fin.sum_univ_castSucc, Fin.sum_univ_castSucc, Fin.sum_univ_eight]
  rfl

/-- The sum over the columns, tile by tile. -/
theorem sum_cols (F : Fin 5632 → EReal) :
    (∑ q, F (col 0 q)) + (∑ q, F (col 1 q)) + (∑ q, F (col 2 q)) + (∑ q, F (col 3 q)) + (∑ q, F (col 4 q))
      + (∑ q, F (col 5 q)) + (∑ q, F (col 6 q)) + (∑ q, F (col 7 q)) + (∑ q, F (col 8 q)) + (∑ q, F (col 9 q))
      + (∑ q, F (col 10 q)) = ∑ j, F j := by
  exact (sum11 fun j => ∑ q, F (col j q)).trans (Fin.sum_univ_tiles 11 512 (by norm_num) F).symm

end Cert.Step

namespace Cert.Kernel4Ideal.Val
open Cert.Kernel4Ideal Cert.Kernel4Ideal.Gen Idealize.ShloMosaic Idealize.ShloMosaic.TcCoe Idealize.SL.Sem
open Cert.Step
open scoped BigOperators

variable (m : (ℓ : Loc nD τ sig) → Buf (Elt Ideal) ℓ) (c : Dev nD)

/-- Row `i` of the input. -/
def X (i : Fin 8192) : Row := fun k => m ((c.tc : Thread nD τ).loc main_arg0) (ix2 i k)
/-- The norm's gain. -/
def G : Row := fun k => m ((c.tc : Thread nD τ).loc main_arg1) (ix1 k)
/-- The projection's weight. -/
def W (k : Fin 1024) (j : Fin 5632) : EReal := m ((c.tc : Thread nD τ).loc main_arg2) (ix2 k j)
/-- Row `i` of the projection's cotangent. -/
def Dp (i : Fin 8192) (j : Fin 5632) : EReal := m ((c.tc : Thread nD τ).loc main_arg3) (ix2 i j)
/-- Row `i` of the residual's cotangent. -/
def Dh (i : Fin 8192) : Row := fun k => m ((c.tc : Thread nD τ).loc main_arg4) (ix2 i k)

/-- Row `p` of the tile of grid point `t`. -/
abbrev rw' (t : Fin cfg0.N) (p : Fin 512) : Fin 8192 := ⟨t.val * 512 + p.val, by have := lt_of_lt_of_eq t.isLt N_0; omega⟩

theorem t_lt (t : Fin cfg0.N) : t.val < 16 := lt_of_lt_of_eq t.isLt N_0

theorem idx : ∀ t : Fin cfg0.N, win0_0.index t = ![0, t.val, 0] ∧ win0_1.index t = ![t.val, 0] ∧ win0_2.index t = ![0, 0]
    ∧ win0_3.index t = ![t.val, 0] ∧ win0_4.index t = ![t.val, 0] ∧ win0_5.index t = ![0, 0] ∧ win0_6.index t = ![t.val, 0]
    ∧ win0_7.index t = ![0, 0] :=
  (by decide +kernel : ∀ t : Fin grid0.N, win0_0.index t = ![0, t.val, 0] ∧ win0_1.index t = ![t.val, 0] ∧ win0_2.index t = ![0, 0]
    ∧ win0_3.index t = ![t.val, 0] ∧ win0_4.index t = ![t.val, 0] ∧ win0_5.index t = ![0, 0] ∧ win0_6.index t = ![t.val, 0]
    ∧ win0_7.index t = ![0, 0])

section point
variable (x0 : Vec Ideal S10x512x512 .bf16) (x1 : Vec Ideal S512x512 .bf16) (x2 : Vec Ideal S5632x1024 .bf16)
  (x3 x4 : Vec Ideal S512x1024 .f32) (x5 : Vec Ideal S1x1024 .f32)

/-- Row `p` of a block. -/
def hb (p : Fin 512) : Row := fun k => x3 (ix2 p k)
/-- The gain of a block. -/
def gr : Row := fun k => x5 (ix2 0 k)

/-- The sum of the first four tiles' products, and of the first nine's. -/
abbrev c25 := k0_pay3 (F := Ideal) x1 (View.ld x2 (Rect.unit ![0, 0] ![512, 1024] inb_S5632x1024_S512x1024_0_0)) (View.ld x0 (Rect.unit ![0, 0, 0] ![1, 512, 512] inb_S10x512x512_S1x512x512_0_0_0)) (View.ld x2 (Rect.unit ![512, 0] ![512, 1024] inb_S5632x1024_S512x1024_512_0)) (View.ld x0 (Rect.unit ![1, 0, 0] ![1, 512, 512] inb_S10x512x512_S1x512x512_1_0_0)) (View.ld x2 (Rect.unit ![1024, 0] ![512, 1024] inb_S5632x1024_S512x1024_1024_0)) (View.ld x0 (Rect.unit ![2, 0, 0] ![1, 512, 512] inb_S10x512x512_S1x512x512_2_0_0)) (View.ld x2 (Rect.unit ![1536, 0] ![512, 1024] inb_S5632x1024_S512x1024_1536_0))
abbrev c55 := k0_pay5 (F := Ideal) (c25 x0 x1 x2) (k0_pay4 (View.ld x0 (Rect.unit ![3, 0, 0] ![1, 512, 512] inb_S10x512x512_S1x512x512_3_0_0))) (View.ld x2 (Rect.unit ![2048, 0] ![512, 1024] inb_S5632x1024_S512x1024_2048_0)) (View.ld x0 (Rect.unit ![4, 0, 0] ![1, 512, 512] inb_S10x512x512_S1x512x512_4_0_0)) (View.ld x2 (Rect.unit ![2560, 0] ![512, 1024] inb_S5632x1024_S512x1024_2560_0)) (View.ld x0 (Rect.unit ![5, 0, 0] ![1, 512, 512] inb_S10x512x512_S1x512x512_5_0_0)) (View.ld x2 (Rect.unit ![3072, 0] ![512, 1024] inb_S5632x1024_S512x1024_3072_0)) (View.ld x0 (Rect.unit ![6, 0, 0] ![1, 512, 512] inb_S10x512x512_S1x512x512_6_0_0)) (View.ld x2 (Rect.unit ![3584, 0] ![512, 1024] inb_S5632x1024_S512x1024_3584_0)) (View.ld x0 (Rect.unit ![7, 0, 0] ![1, 512, 512] inb_S10x512x512_S1x512x512_7_0_0)) (View.ld x2 (Rect.unit ![4096, 0] ![512, 1024] inb_S5632x1024_S512x1024_4096_0))
abbrev c57 := k0_pay6 (F := Ideal) (View.ld x0 (Rect.unit ![8, 0, 0] ![1, 512, 512] inb_S10x512x512_S1x512x512_8_0_0))

variable {D : Fin 512 → Fin 5632 → EReal} (e0 : ∀ j p q, (x0 (ix3 j p q) : EReal) = D p (col ⟨j.val + 1, by omega⟩ q))
  (e1 : ∀ p q, (x1 (ix2 p q) : EReal) = D p (col 0 q))
include e0 e1

theorem p25 (p : Fin 512) (k : Fin 1024) : (c25 x0 x1 x2 (ix2 p k) : EReal)
    = (∑ q, D p (col 0 q) * x2 (ix2 (col 0 q) k)) + (∑ q, D p (col 1 q) * x2 (ix2 (col 1 q) k))
      + (∑ q, D p (col 2 q) * x2 (ix2 (col 2 q) k)) + (∑ q, D p (col 3 q) * x2 (ix2 (col 3 q) k)) := by
  show (_ : EReal) = _
  pointwise [k0_pay3]
  simp only [e0, e1]
  rfl

omit e1 in
theorem p55 (y : FVec Ideal S512x1024 .f32) (p : Fin 512) (k : Fin 1024) :
    (k0_pay5 (F := Ideal) y (k0_pay4 (View.ld x0 (Rect.unit ![3, 0, 0] ![1, 512, 512] inb_S10x512x512_S1x512x512_3_0_0))) (View.ld x2 (Rect.unit ![2048, 0] ![512, 1024] inb_S5632x1024_S512x1024_2048_0)) (View.ld x0 (Rect.unit ![4, 0, 0] ![1, 512, 512] inb_S10x512x512_S1x512x512_4_0_0)) (View.ld x2 (Rect.unit ![2560, 0] ![512, 1024] inb_S5632x1024_S512x1024_2560_0)) (View.ld x0 (Rect.unit ![5, 0, 0] ![1, 512, 512] inb_S10x512x512_S1x512x512_5_0_0)) (View.ld x2 (Rect.unit ![3072, 0] ![512, 1024] inb_S5632x1024_S512x1024_3072_0)) (View.ld x0 (Rect.unit ![6, 0, 0] ![1, 512, 512] inb_S10x512x512_S1x512x512_6_0_0)) (View.ld x2 (Rect.unit ![3584, 0] ![512, 1024] inb_S5632x1024_S512x1024_3584_0)) (View.ld x0 (Rect.unit ![7, 0, 0] ![1, 512, 512] inb_S10x512x512_S1x512x512_7_0_0)) (View.ld x2 (Rect.unit ![4096, 0] ![512, 1024] inb_S5632x1024_S512x1024_4096_0)) (ix2 p k) : EReal)
    = y (ix2 p k) + (∑ q, D p (col 4 q) * x2 (ix2 (col 4 q) k)) + (∑ q, D p (col 5 q) * x2 (ix2 (col 5 q) k))
      + (∑ q, D p (col 6 q) * x2 (ix2 (col 6 q) k)) + (∑ q, D p (col 7 q) * x2 (ix2 (col 7 q) k))
      + (∑ q, D p (col 8 q) * x2 (ix2 (col 8 q) k)) := by
  show (_ : EReal) = _
  pointwise [k0_pay5, k0_pay4]
  simp only [e0]
  rfl

omit e1 in
theorem p67' (y : FVec Ideal S512x1024 .f32) (p : Fin 512) (k : Fin 1024) :
    (k0_pay7 (F := Ideal) y (c57 x0) (View.ld x2 (Rect.unit ![4608, 0] ![512, 1024] inb_S5632x1024_S512x1024_4608_0)) (View.ld x0 (Rect.unit ![9, 0, 0] ![1, 512, 512] inb_S10x512x512_S1x512x512_9_0_0)) (View.ld x2 (Rect.unit ![5120, 0] ![512, 1024] inb_S5632x1024_S512x1024_5120_0)) (ix2 p k) : EReal)
    = y (ix2 p k) + (∑ q, D p (col 9 q) * x2 (ix2 (col 9 q) k)) + (∑ q, D p (col 10 q) * x2 (ix2 (col 10 q) k)) := by
  show (_ : EReal) = _
  pointwise [k0_pay7, k0_pay6]
  simp only [e0]
  rfl

theorem p67 (p : Fin 512) (k : Fin 1024) : (k0_pay7 (F := Ideal) (c55 x0 x1 x2) (c57 x0) (View.ld x2 (Rect.unit ![4608, 0] ![512, 1024] inb_S5632x1024_S512x1024_4608_0)) (View.ld x0 (Rect.unit ![9, 0, 0] ![1, 512, 512] inb_S10x512x512_S1x512x512_9_0_0)) (View.ld x2 (Rect.unit ![5120, 0] ![512, 1024] inb_S5632x1024_S512x1024_5120_0)) (ix2 p k) : EReal)
    = dpx (D p) (fun k j => x2 (ix2 j k)) k := by
  refine Eq.trans ?_ (sum_cols fun j => D p j * x2 (ix2 j k))
  refine (p67' x0 x2 e0 _ p k).trans ?_
  refine (congrArg (fun a : EReal => a + _ + _) (p55 x0 x2 e0 _ p k)).trans ?_
  rw [p25 x0 x1 x2 e0 e1]

/-- The block's contribution to the gradient of the gain. -/
theorem p10 (y : Vec Ideal S1x1024 .f32) (k : Fin 1024) : (k0_pay10 (F := Ideal) (c55 x0 x1 x2) (c57 x0) (View.ld x2 (Rect.unit ![4608, 0] ![512, 1024] inb_S5632x1024_S512x1024_4608_0)) (View.ld x0 (Rect.unit ![9, 0, 0] ![1, 512, 512] inb_S10x512x512_S1x512x512_9_0_0)) (View.ld x2 (Rect.unit ![5120, 0] ![512, 1024] inb_S5632x1024_S512x1024_5120_0)) x3 y (ix2 0 k) : EReal)
    = y (ix2 0 k) + ∑ p, dpx (D p) (fun k j => x2 (ix2 j k)) k * hat (hb x3 p) k := by
  simp only [← p67 x0 x1 x2 e0 e1]
  generalize c55 x0 x1 x2 = z
  show (_ : EReal) = _
  pointwise [k0_pay10, k0_pay9, k0_pay8]
  rfl

/-- The block of the gradient with respect to the input. -/
theorem p1 (p : Fin 512) (k : Fin 1024) : (k0_pay1 (F := Ideal) (k0_pay8 x3) (k0_pay9 x3)
      (k0_pay11 (c55 x0 x1 x2) (c57 x0) (View.ld x2 (Rect.unit ![4608, 0] ![512, 1024] inb_S5632x1024_S512x1024_4608_0)) (View.ld x0 (Rect.unit ![9, 0, 0] ![1, 512, 512] inb_S10x512x512_S1x512x512_9_0_0)) (View.ld x2 (Rect.unit ![5120, 0] ![512, 1024] inb_S5632x1024_S512x1024_5120_0)) x5) x4
      (k0_pay12 (c55 x0 x1 x2) (c57 x0) (View.ld x2 (Rect.unit ![4608, 0] ![512, 1024] inb_S5632x1024_S512x1024_4608_0)) (View.ld x0 (Rect.unit ![9, 0, 0] ![1, 512, 512] inb_S10x512x512_S1x512x512_9_0_0)) (View.ld x2 (Rect.unit ![5120, 0] ![512, 1024] inb_S5632x1024_S512x1024_5120_0)) x3 x5) (Scalar.ofBits .f32 0x44800000#32) (ix2 p k) : EReal)
    = x4 (ix2 p k) + nrmGrad (hb x3 p) (gr x5) (dpx (D p) (fun k j => x2 (ix2 j k))) k := by
  simp only [nrmGrad, ← p67 x0 x1 x2 e0 e1]
  generalize c55 x0 x1 x2 = z
  show (_ : EReal) = _
  pointwise [k0_pay1, k0_pay12, k0_pay11, k0_pay9, k0_pay8]
  rfl

end point

theorem b0 (t : Fin cfg0.N) (j : Fin 10) (p q : Fin 512) :
    (iblk m c 0 t (ix3 j p q) : EReal) = Dp m c (rw' t p) (col ⟨j.val + 1, by omega⟩ q) := by
  have h := (idx t).1
  have e : (win0_0.blk t).view.emb (ix3 j p q) = ix3 j (rw' t p) q := by blk_ext [h]
  show (_ : EReal) = _
  blk_simp [iblk]
  rw [e]
  entry_read
  pointwise
  exact congrArg (Dp m c (rw' t p)) (Fin.ext (by simp only [col]; omega))

theorem b1 (t : Fin cfg0.N) (p q : Fin 512) : (iblk m c 1 t (ix2 p q) : EReal) = Dp m c (rw' t p) (col 0 q) := by
  have h := (idx t).2.1
  have e : (win0_1.blk t).view.emb (ix2 p q) = ix2 (rw' t p) q := by blk_ext [h]
  show (_ : EReal) = _
  blk_simp [iblk]
  rw [e]
  entry_read
  pointwise
  exact congrArg (Dp m c (rw' t p)) (Fin.ext (by simp only [col, Fin.val_zero]; omega))

theorem b2 (t : Fin cfg0.N) (j : Fin 5632) (k : Fin 1024) : (iblk m c 2 t (ix2 j k) : EReal) = W m c k j := by
  have h := (idx t).2.2.1
  show (_ : EReal) = _
  blk_simp [iblk]
  entry_read
  pointwise
  blk_ext [h]

theorem b3 (t : Fin cfg0.N) (p : Fin 512) : hb (iblk m c 3 t) p = X m c (rw' t p) := by
  funext k
  have h := (idx t).2.2.2.1
  show (iblk m c 3 t (ix2 p k) : EReal) = _
  blk_ext [iblk, V, h]

theorem b4 (t : Fin cfg0.N) (p : Fin 512) (k : Fin 1024) : (iblk m c 4 t (ix2 p k) : EReal) = Dh m c (rw' t p) k := by
  have h := (idx t).2.2.2.2.1
  show (_ : EReal) = _
  blk_ext [iblk, V, h]

theorem b5 (t : Fin cfg0.N) : gr (iblk m c 5 t) = G m c := by
  funext k
  have h := (idx t).2.2.2.2.2.1
  show (iblk m c 5 t (ix2 0 k) : EReal) = _
  blk_simp [iblk]
  entry_read
  pointwise
  blk_ext [h]

theorem w2 (t : Fin cfg0.N) : (fun k j => (iblk m c 2 t (ix2 j k) : EReal)) = W m c :=
  funext fun k => funext fun j => b2 m c t j k

/-- The gradient with respect to row `i` of the input. -/
def Dx (i : Fin 8192) : Row := fun k => Dh m c i k + nrmGrad (X m c i) (G m c) (dpx (Dp m c i) (W m c)) k

theorem o6 (t : Fin cfg0.N) (p : Fin 512) (k : Fin 1024) :
    ((outsAt0 m c t.val t.isLt).1 (ix2 p k) : EReal) = Dx m c (rw' t p) k := by
  rcases Decidable.em (t.val % 16 = 0) with h | h
  · rw [outsAt0_A m c t h]; frame_out
    exact (p1 (iblk m c 0 t) (iblk m c 1 t) (iblk m c 2 t) (iblk m c 3 t) (iblk m c 4 t) (iblk m c 5 t)
      (b0 m c t) (b1 m c t) p k).trans (by rw [b3, b4, b5, w2]; rfl)
  · rw [outsAt0_B m c t h]; frame_out
    exact (p1 (iblk m c 0 t) (iblk m c 1 t) (iblk m c 2 t) (iblk m c 3 t) (iblk m c 4 t) (iblk m c 5 t)
      (b0 m c t) (b1 m c t) p k).trans (by rw [b3, b4, b5, w2]; rfl)

theorem final6 : (dats m 0 c).arrAt 6 cfg0.N = fun i => Dx m c (i 0) (i 1) := by
  refine (dats m 0 c).arrAt_eq_of_covers 6 _ (by decide +kernel) fun t hf y => ?_
  obtain ⟨p, k, rfl⟩ : ∃ (p : Fin 512) (k : Fin 1024), y = ix2 p k := ⟨y 0, y 1, eq_ix2 y⟩
  blk_simp
  rw [after0_6]
  refine (o6 m c t p k).trans ?_
  obtain ⟨-, -, -, -, -, -, i6, -⟩ := idx t
  have e : (win0_6.blk t).view.emb (ix2 p k) = ix2 (rw' t p) k := by blk_ext [i6]
  rw [e]
  rfl

/-- What row `i` adds to the gradient of the gain. -/
abbrev Dg (k : Fin 1024) (i : Fin 8192) : EReal := dpx (Dp m c i) (W m c) k * hat (X m c i) k

theorem pz (j : S8x1024.Idx) : (k0_pay2 (F := Ideal) j : EReal) = 0 := by
  show (_ : EReal) = _
  pointwise [k0_pay2]

section rows
variable (z : Vec Ideal S1x1024 .f32)

/-- Row 0 of the gain's block after the block is set to zero and row 0 is written. -/
theorem row0 (k : Fin 1024) : (View.canon (Val := Elt Ideal) (e := .f32) (s := S8x1024)
      [⟨Rect.unit ![0, 0] ![1, 1024] inb_S8x1024_S1x1024_0_0, z⟩,
        ⟨Rect.unit ![0, 0] ![8, 1024] inb_S8x1024_S8x1024_0_0, k0_pay2 (F := Ideal)⟩] (ix2 0 k) : EReal) = z (ix2 0 k) := by
  have e : (ix2 0 k : S8x1024.Idx) = (Rect.unit (s := S8x1024) ![0, 0] ![1, 1024] inb_S8x1024_S1x1024_0_0).emb (ix2 0 k) := by
    funext a
    refine Fin.ext ?_
    fin_cases a
    · rfl
    · show k.val = 0 + 1 * k.val
      omega
  rw [e, View.canon_cons_emb]

/-- The other rows. -/
theorem rows (r : Fin 8) (hr : 0 < r.val) (k : Fin 1024) : (View.canon (Val := Elt Ideal) (e := .f32) (s := S8x1024)
      [⟨Rect.unit ![0, 0] ![1, 1024] inb_S8x1024_S1x1024_0_0, z⟩,
        ⟨Rect.unit ![0, 0] ![8, 1024] inb_S8x1024_S8x1024_0_0, k0_pay2 (F := Ideal)⟩] (ix2 r k) : EReal) = 0 := by
  rw [View.canon_cons_of_not_mem]
  · have e : (ix2 r k : S8x1024.Idx) = (Rect.unit (s := S8x1024) ![0, 0] ![8, 1024] inb_S8x1024_S8x1024_0_0).emb (ix2 r k) := by
      funext a
      refine Fin.ext ?_
      fin_cases a
      · show r.val = 0 + 1 * r.val
        omega
      · show k.val = 0 + 1 * k.val
        omega
    rw [e, View.canon_cons_emb]
    exact pz _
  · refine Rect.not_mem_set_of_axis _ _ 0 0 1 rfl rfl rfl (Or.inr ?_)
    exact hr

variable {sg : RefSig} {κ : Kind} {sp : Space} (v : View sg κ sp S8x1024 .f32)

/-- Row 0 read back after the block is set to zero. -/
theorem back (k : Fin 1024) : ((v.readCov (Val := Elt Ideal) [⟨Rect.unit ![0, 0] ![8, 1024] inb_S8x1024_S8x1024_0_0, k0_pay2 (F := Ideal)⟩]
      (Rect.unit (s := S8x1024) (![0, 0] : Fin 2 → ℕ) (![1, 1024] : Fin 2 → ℕ) inb_S8x1024_S1x1024_0_0).toLoadRect) (ix2 0 k) : EReal) = 0 := by
  rw [View.readCov_eq_canon']
  have e : ∀ y : S8x1024.Idx, y = (Rect.unit (s := S8x1024) ![0, 0] ![8, 1024] inb_S8x1024_S8x1024_0_0).emb y := fun y => by
    funext a
    refine Fin.ext ?_
    fin_cases a
    · show (y 0).val = 0 + 1 * (y 0).val
      omega
    · show (y 1).val = 0 + 1 * (y 1).val
      omega
  refine (congrArg _ (e _)).trans ((View.canon_cons_emb _ _ _ _).trans (pz _))

end rows

theorem o7A (t : Fin cfg0.N) (h : t.val % 16 = 0) (k : Fin 1024) :
    ((outsAt0 m c t.val t.isLt).2 (ix2 0 k) : EReal) = 0 + ∑ p, Dg m c k (rw' t p) := by
  rw [outsAt0_A m c t h]; frame_out
  refine (row0 _ k).trans ?_
  refine (p10 (iblk m c 0 t) (iblk m c 1 t) (iblk m c 2 t) (iblk m c 3 t) (b0 m c t) (b1 m c t) _ k).trans ?_
  rw [w2]
  simp only [b3]
  exact congrArg (· + _) (back _ k)

theorem o7Az (t : Fin cfg0.N) (h : t.val % 16 = 0) (r : Fin 8) (hr : 0 < r.val) (k : Fin 1024) :
    ((outsAt0 m c t.val t.isLt).2 (ix2 r k) : EReal) = 0 := by
  rw [outsAt0_A m c t h]; frame_out
  exact rows _ r hr k

theorem o7B (t : Fin cfg0.N) (h : ¬ t.val % 16 = 0) (k : Fin 1024) :
    ((outsAt0 m c t.val t.isLt).2 (ix2 0 k) : EReal)
      = (outsAt0 m c (t.val - 1) (Nat.lt_of_le_of_lt (Nat.sub_le _ _) t.isLt)).2 (ix2 0 k) + ∑ p, Dg m c k (rw' t p) := by
  rw [outsAt0_B m c t h]; frame_out
  refine (View.read_writes_cons_rows_of_mem (Val := Elt Ideal) (o := 0) _ _ inb_S8x1024_S1x1024_0_0 _ _ (ix2 0 k) (ix2 0 k) rfl rfl rfl).trans ?_
  refine (p10 (iblk m c 0 t) (iblk m c 1 t) (iblk m c 2 t) (iblk m c 3 t) (b0 m c t) (b1 m c t) _ k).trans ?_
  rw [w2]
  simp only [b3]
  refine congrArg (· + _) ?_
  show (_ : EReal) = _
  pointwise

theorem o7Bz (t : Fin cfg0.N) (h : ¬ t.val % 16 = 0) (r : Fin 8) (hr : 0 < r.val) (k : Fin 1024) :
    ((outsAt0 m c t.val t.isLt).2 (ix2 r k) : EReal)
      = (outsAt0 m c (t.val - 1) (Nat.lt_of_le_of_lt (Nat.sub_le _ _) t.isLt)).2 (ix2 r k) := by
  rw [outsAt0_B m c t h]; frame_out
  refine (View.read_writes_cons_rows_of_not_mem (Val := Elt Ideal) (o := 0) (W := 1) _ _ inb_S8x1024_S1x1024_0_0 _ _ (ix2 r k) rfl rfl (Or.inr hr)).trans ?_
  exact congrFun (Memref.IsWhole.read_unread _ _) _

/-- The sum over the rows, block by block. -/
theorem sum_rows (F : Fin 8192 → EReal) : ∑ t : Fin cfg0.N, ∑ p, F (rw' t p) = ∑ i, F i := by
  rw [Fin.sum_univ_tiles 16 512 (by norm_num) F]
  exact Fintype.sum_equiv (finCongr N_0) _ _ fun t => rfl

theorem o7 (t : Fin cfg0.N) (ht : t.val + 1 = cfg0.N) (k : Fin 1024) :
    ((outsAt0 m c t.val t.isLt).2 (ix2 0 k) : EReal) = ∑ i, Dg m c k i := by
  refine (Pipeline.eq_sum_fin_of_reset_step_apply_last (M := EReal)
    (fun n h (k : Fin 1024) => ((outsAt0 m c n h).2 (ix2 0 k) : EReal)) 16 (fun _ => 0)
    (fun t k => ∑ p, Dg m c k (rw' t p))
    (fun t h k => o7A m c t h k) (fun t h k => o7B m c t h k) (le_of_eq N_0) t ht k).trans ?_
  exact (zero_add _).trans (sum_rows fun i => Dg m c k i)

theorem o7z (r : Fin 8) (hr : 0 < r.val) (k : Fin 1024) : ∀ (n : ℕ) (hn : n < cfg0.N),
    ((outsAt0 m c n hn).2 (ix2 r k) : EReal) = 0
  | 0, hn => o7Az m c ⟨0, hn⟩ rfl r hr k
  | n + 1, hn => by
    have hN : n + 1 < 16 := t_lt ⟨n + 1, hn⟩
    exact (o7Bz m c ⟨n + 1, hn⟩ (by show ¬ (n + 1) % 16 = 0; omega) r hr k).trans (o7z r hr k n _)

/-- The gradient of the gain, padded with zeros to eight rows. -/
def Dg8 (r : Fin 8) (k : Fin 1024) : EReal := if r.val = 0 then ∑ i, Dg m c k i else 0

theorem final7 : (dats m 0 c).arrAt 7 cfg0.N = fun i => Dg8 m c (i 0) (i 1) := by
  refine (dats m 0 c).arrAt_eq_of_covers 7 _ (by decide +kernel) fun t hf y => ?_
  obtain ⟨r, k, rfl⟩ : ∃ (r : Fin 8) (k : Fin 1024), y = ix2 r k := ⟨y 0, y 1, eq_ix2 y⟩
  blk_simp
  rw [after0_7]
  obtain ⟨-, -, -, -, -, -, -, i7⟩ := idx t
  have e : (win0_7.blk t).view.emb (ix2 r k) = ix2 r k := by blk_ext [i7]
  rw [e]
  show _ = Dg8 m c r k
  rcases Decidable.em (r = 0) with h | h
  · subst h
    refine Eq.trans ?_ (if_pos rfl).symm
    exact o7 m c t (by have h1 := (flush0_7 t).mp hf; have h2 := t_lt t; have h3 : cfg0.N = 16 := N_0; omega) k
  · refine (o7z m c r (Nat.pos_of_ne_zero fun e => h (Fin.ext e)) k t.val t.isLt).trans ?_
    exact (if_neg fun e => h (Fin.ext e)).symm

end Cert.Kernel4Ideal.Val
end
-- ==== Proof.InbwdAlg.lean ====
module

public import proofs.«01_k».proof.Defs
public import proofs.«01_k».proof.Proof.InbwdVal
public import proofs.«01_k».proof.Proof.Finite
public import proofs.«01_k».proof.Proof.Gen.Pre_finite4
public import proofs.«01_k».proof.Proof.Gen.Reference4Ideal.Run
public import proofs.«01_k».proof.Proof.Gen.Kernel4Ideal.Frame
public import Idealize.ShloMosaic.Adequacy
public import Idealize.ShloMosaic.Init

@[expose] public section

set_option maxRecDepth 16384

noncomputable section

/-! The gradient kernel of the norm and the input projection and its reference leave the same results. -/

namespace Cert.Inbwd
open Idealize.ShloMosaic Idealize.ShloMosaic.TcCoe Idealize.SL.Sem Cert.Step
open scoped BigOperators

/-- Under the precondition a row of the input, the gain and a row of the cotangent of the norm's result are real. -/
theorem real (m : (ℓ : Loc Cert.Kernel4Ideal.nD Cert.Kernel4Ideal.τ Cert.Kernel4Ideal.sig) → Buf (Elt Ideal) ℓ)
    (hpre : Cert.Pre_Kernel4Ideal_finite4 m) (c : Dev 1) (i : Fin 8192) :
    (∀ k, Re (Cert.Kernel4Ideal.Val.X m c i k)) ∧ (∀ k, Re (Cert.Kernel4Ideal.Val.G m c k))
      ∧ ∀ k, Re (dpx (Cert.Kernel4Ideal.Val.Dp m c i) (Cert.Kernel4Ideal.Val.W m c) k) := by
  obtain ⟨p0, p1, p2, p3, p4⟩ := hpre c
  refine ⟨fun k => ?_, fun k => ?_, fun k => Re.sum fun j => Re.mul ?_ ?_⟩
  · exact re_of_abs_lt (fun _ => cInf) p0 (ix2 i k)
  · exact re_of_abs_lt (fun _ => cInf) p1 (ix1 k)
  · exact re_of_abs_lt (fun _ => cInf) p3 (ix2 i j)
  · exact re_of_abs_lt (fun _ => cInf) p2 (ix2 k j)

set_option maxHeartbeats 1600000 in
/-- From arguments that are real numbers and agree, the kernel and the differentiated reference leave the same
gradient of the input and the same gradient of the gain. -/
theorem algebraic : Cert.algebraic_Kernel4Ideal_Reference4Ideal_pre_finite4 := by
  pair_intro
  · run_from Cert.Kernel4Ideal.Value.run_blocks m g
  · run_from Cert.Reference4Ideal.Value.run m' g'
    all_goals obtain ⟨h0, h1, h2, h3, h4⟩ := hagree c
    · refine Eq.trans ?_ (Cert.Kernel4Ideal.Val.final6 m c).symm
      funext y
      obtain ⟨p, q, rfl⟩ : ∃ (p : Fin 8192) (q : Fin 1024), y = ix2 p q := ⟨y 0, y 1, eq_ix2 y⟩
      obtain ⟨rx, rg, rd⟩ := real m hpre c p
      show (_ : EReal) = Cert.Kernel4Ideal.Val.Dx m c p q
      rw [Cert.Kernel4Ideal.Val.Dx, ← nrmGradR_eq rx rg rd]
      pointwise [Cert.Reference4Ideal.Value.res_main_v38]
      rw [h0, h1, h2, h3, h4]
      simp only [Fintype.sum_unique]
      rfl
    · refine Eq.trans ?_ (Cert.Kernel4Ideal.Val.final7 m c).symm
      funext y
      obtain ⟨r, k, rfl⟩ : ∃ (r : Fin 8) (k : Fin 1024), y = ix2 r k := ⟨y 0, y 1, eq_ix2 y⟩
      show (_ : EReal) = Cert.Kernel4Ideal.Val.Dg8 m c r k
      pointwise
      rw [h2, h3]
      simp only [Fintype.sum_unique]
      rw [Cert.Kernel4Ideal.Val.Dg8]
      by_cases h : r.val = 0
      · rw [dif_pos (by omega), if_pos h]
        exact Finset.sum_congr rfl fun i _ => mul_comm _ _
      · rw [dif_neg (by omega), if_neg h]

end Cert.Inbwd
end
-- ==== Proof.InwgRun.lean ====
module

public import proofs.«01_k».proof.Proof.Gen.Kernel5Ideal.Frame
public import Idealize.ShloMosaic.Lib.Pipeline.FrameValue

@[expose] public section

set_option maxRecDepth 16384

noncomputable section

/-! The last grid point of the projection's weight gradient: what its copies leave in the result. -/

namespace Cert.Kernel5Ideal.Val
open Cert.Kernel5Ideal Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 2000000 in set_option sl_exec.dmaWindow true in set_option sl_exec.dmaWindowSet true in
/-- The body at the last grid point: the pieces it leaves in the accumulator and, over any earlier contents of the two-slot
buffer, the pieces its copies leave in the result. -/
noncomputable def runC (c : Dev nD) (i : grid0.Coords) (arg1 : Memref sig .tc .vmem S10x512x512 .bf16) (harg1 : arg1.IsWhole) (arg2 : Memref sig .tc .vmem S512x512 .bf16) (harg2 : arg2.IsWhole) (arg3 : Memref sig .tc .vmem S512x1024 .bf16) (harg3 : arg3.IsWhole) (arg5 : Memref sig .tc .vmem S5632x1024 .f32) (harg5 : arg5.IsWhole) (arg6 : Memref sig .tc .vmem S2x512x1024 .bf16) (harg6 : arg6.IsWhole) (hc0 : ¬cond0_0 i) (hc1 : cond0_1 i)
    (hd0 : Disjoint (((Memref.whole main_v20).slice (Rect.unit (s := S5632x1024) ![512, 0] S512x1024.size inb_S5632x1024_S512x1024_512_0) (fun _ => rfl))).view.set (((Memref.whole main_v20).slice (Rect.unit (s := S5632x1024) ![0, 0] S512x1024.size inb_S5632x1024_S512x1024_0_0) (fun _ => rfl))).view.set) (hd1 : Disjoint (((Memref.whole main_v20).slice (Rect.unit (s := S5632x1024) ![1024, 0] S512x1024.size inb_S5632x1024_S512x1024_1024_0) (fun _ => rfl))).view.set (((Memref.whole main_v20).slice (Rect.unit (s := S5632x1024) ![512, 0] S512x1024.size inb_S5632x1024_S512x1024_512_0) (fun _ => rfl))).view.set) (hd2 : Disjoint (((Memref.whole main_v20).slice (Rect.unit (s := S5632x1024) ![1536, 0] S512x1024.size inb_S5632x1024_S512x1024_1536_0) (fun _ => rfl))).view.set (((Memref.whole main_v20).slice (Rect.unit (s := S5632x1024) ![1024, 0] S512x1024.size inb_S5632x1024_S512x1024_1024_0) (fun _ => rfl))).view.set) (hd3 : Disjoint (((Memref.whole main_v20).slice (Rect.unit (s := S5632x1024) ![2048, 0] S512x1024.size inb_S5632x1024_S512x1024_2048_0) (fun _ => rfl))).view.set (((Memref.whole main_v20).slice (Rect.unit (s := S5632x1024) ![1536, 0] S512x1024.size inb_S5632x1024_S512x1024_1536_0) (fun _ => rfl))).view.set) (hd4 : Disjoint (((Memref.whole main_v20).slice (Rect.unit (s := S5632x1024) ![2560, 0] S512x1024.size inb_S5632x1024_S512x1024_2560_0) (fun _ => rfl))).view.set (((Memref.whole main_v20).slice (Rect.unit (s := S5632x1024) ![2048, 0] S512x1024.size inb_S5632x1024_S512x1024_2048_0) (fun _ => rfl))).view.set) (hd5 : Disjoint (((Memref.whole main_v20).slice (Rect.unit (s := S5632x1024) ![3072, 0] S512x1024.size inb_S5632x1024_S512x1024_3072_0) (fun _ => rfl))).view.set (((Memref.whole main_v20).slice (Rect.unit (s := S5632x1024) ![2560, 0] S512x1024.size inb_S5632x1024_S512x1024_2560_0) (fun _ => rfl))).view.set) (hd6 : Disjoint (((Memref.whole main_v20).slice (Rect.unit (s := S5632x1024) ![3584, 0] S512x1024.size inb_S5632x1024_S512x1024_3584_0) (fun _ => rfl))).view.set (((Memref.whole main_v20).slice (Rect.unit (s := S5632x1024) ![3072, 0] S512x1024.size inb_S5632x1024_S512x1024_3072_0) (fun _ => rfl))).view.set) (hd7 : Disjoint (((Memref.whole main_v20).slice (Rect.unit (s := S5632x1024) ![4096, 0] S512x1024.size inb_S5632x1024_S512x1024_4096_0) (fun _ => rfl))).view.set (((Memref.whole main_v20).slice (Rect.unit (s := S5632x1024) ![3584, 0] S512x1024.size inb_S5632x1024_S512x1024_3584_0) (fun _ => rfl))).view.set) (hd8 : Disjoint (((Memref.whole main_v20).slice (Rect.unit (s := S5632x1024) ![4608, 0] S512x1024.size inb_S5632x1024_S512x1024_4608_0) (fun _ => rfl))).view.set (((Memref.whole main_v20).slice (Rect.unit (s := S5632x1024) ![4096, 0] S512x1024.size inb_S5632x1024_S512x1024_4096_0) (fun _ => rfl))).view.set) (hd9 : Disjoint (((Memref.whole main_v20).slice (Rect.unit (s := S5632x1024) ![5120, 0] S512x1024.size inb_S5632x1024_S512x1024_5120_0) (fun _ => rfl))).view.set (((Memref.whole main_v20).slice (Rect.unit (s := S5632x1024) ![4608, 0] S512x1024.size inb_S5632x1024_S512x1024_4608_0) (fun _ => rfl))).view.set)
    (x0 : Vec F S10x512x512 .bf16) (x1 : Vec F S512x512 .bf16) (x2 : Vec F S512x1024 .bf16) (xs0 : Vec F S5632x1024 .f32) :
    Σ' (LS0 : List (View.Piece (Elt F) S5632x1024 .f32)) (LH : Buf (Elt F) (arg6.view.loc (c : Thread nD τ)) → List (View.Piece (Elt F) S5632x1024 .bf16)),
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg5 fullShare xs0 ∗ (∃ d, owns (c : Thread nD τ) arg6 fullShare d) ∗ semVal ((c : Thread nD τ), SemLoc.dma 6) 0 ∗ semVal ((c : Thread nD τ), SemLoc.dma 7) 0 ∗ (∃ f, hbPt0 c hbM0_0 f) ∗ owes (c : Thread nD τ) 0 W
            ∗ (iprop(owns (c : Thread nD τ) arg1 fullShare x0 ∗ owns (c : Thread nD τ) arg2 fullShare x1 ∗ owns (c : Thread nD τ) arg3 fullShare x2 ∗ (∃ f, arg5.view.loc (c : Thread nD τ) ↦[arg5.view.set]{fullShare} arg5.view.writes (Elt F) f LS0) ∗ (∃ d, owns (c : Thread nD τ) arg6 fullShare d) ∗ semVal ((c : Thread nD τ), SemLoc.dma 6) 0 ∗ semVal ((c : Thread nD τ), SemLoc.dma 7) 0 ∗ (∃ f, ∃ g, hbPt0 c hbM0_0 (hbM0_0.view.writes (Elt F) f (LH g))) ∗ (∃ W', owes (c : Thread nD τ) 0 W')) -∗ K ⟨⟩))
          ⊢ wp frame (wpE (defs₀ (F := F)) Variants.none c none) Set.univ (cc0_inproj_wgrad i arg1 harg1 arg2 harg2 arg3 harg3 (Memref.whole main_v20) (Memref.isWhole_whole _) arg5 harg5 arg6 harg6 cc0_scratch2) K := by
  refine ⟨?_, ?_, fun W K => ?run⟩
  case run =>
    simp only [cc0_inproj_wgrad_eq_skeleton]; unfold cc0_inproj_wgrad_skel
    simp only [k0_part7_eq_skeleton, k0_part8_eq_skeleton, k0_part9_eq_skeleton, k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%fs0, %hfs0, HS0⟩, ⟨%ds1, %fs1, -, HS1⟩, Hq0, Hq1, ⟨%fw0, Hh0⟩, HW, Hk⟩
    obtain rfl := harg1.eq_unread hf0; obtain rfl := harg2.eq_unread hf1; obtain rfl := harg3.eq_unread hf2; obtain rfl := harg5.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    isplitl [HS1]
    · iexists _, _; isplitr; swap; · iexact HS1
      ipureintro; rfl
    isplitl [Hq0]; · iexact Hq0
    isplitl [Hq1]; · iexact Hq1
    isplitl [Hh0]; · iexists _, fs1; iexact Hh0
    iexists _; iexact HW

end Cert.Kernel5Ideal.Val

end
-- ==== Proof.InwgOut.lean ====
module

public import proofs.«01_k».proof.Proof.InwgRun
public import Idealize.ShloMosaic.Lib.Pipeline.FrameValue
public import Idealize.ShloMosaic.Lib.Pipeline.ValueKit

@[expose] public section

set_option maxRecDepth 16384

noncomputable section

/-! The projection's weight gradient: the copies of its last grid point leave the accumulator in the result. -/

namespace Cert.Kernel5Ideal.Val
open Cert.Kernel5Ideal Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (Pipeline.UD sig nD τ) ℕ

/-- The accumulator's pieces are those of the frame's run. -/
theorem runC_fst (c : Dev nD) (i : grid0.Coords) (arg1 : Memref sig .tc .vmem S10x512x512 .bf16) (harg1 : arg1.IsWhole) (arg2 : Memref sig .tc .vmem S512x512 .bf16) (harg2 : arg2.IsWhole) (arg3 : Memref sig .tc .vmem S512x1024 .bf16) (harg3 : arg3.IsWhole) (arg5 : Memref sig .tc .vmem S5632x1024 .f32) (harg5 : arg5.IsWhole) (arg6 : Memref sig .tc .vmem S2x512x1024 .bf16) (harg6 : arg6.IsWhole) (hc0 : ¬cond0_0 i) (hc1 : cond0_1 i)
    (hd0 : Disjoint (((Memref.whole main_v20).slice (Rect.unit (s := S5632x1024) ![512, 0] S512x1024.size inb_S5632x1024_S512x1024_512_0) (fun _ => rfl))).view.set (((Memref.whole main_v20).slice (Rect.unit (s := S5632x1024) ![0, 0] S512x1024.size inb_S5632x1024_S512x1024_0_0) (fun _ => rfl))).view.set) (hd1 : Disjoint (((Memref.whole main_v20).slice (Rect.unit (s := S5632x1024) ![1024, 0] S512x1024.size inb_S5632x1024_S512x1024_1024_0) (fun _ => rfl))).view.set (((Memref.whole main_v20).slice (Rect.unit (s := S5632x1024) ![512, 0] S512x1024.size inb_S5632x1024_S512x1024_512_0) (fun _ => rfl))).view.set) (hd2 : Disjoint (((Memref.whole main_v20).slice (Rect.unit (s := S5632x1024) ![1536, 0] S512x1024.size inb_S5632x1024_S512x1024_1536_0) (fun _ => rfl))).view.set (((Memref.whole main_v20).slice (Rect.unit (s := S5632x1024) ![1024, 0] S512x1024.size inb_S5632x1024_S512x1024_1024_0) (fun _ => rfl))).view.set) (hd3 : Disjoint (((Memref.whole main_v20).slice (Rect.unit (s := S5632x1024) ![2048, 0] S512x1024.size inb_S5632x1024_S512x1024_2048_0) (fun _ => rfl))).view.set (((Memref.whole main_v20).slice (Rect.unit (s := S5632x1024) ![1536, 0] S512x1024.size inb_S5632x1024_S512x1024_1536_0) (fun _ => rfl))).view.set) (hd4 : Disjoint (((Memref.whole main_v20).slice (Rect.unit (s := S5632x1024) ![2560, 0] S512x1024.size inb_S5632x1024_S512x1024_2560_0) (fun _ => rfl))).view.set (((Memref.whole main_v20).slice (Rect.unit (s := S5632x1024) ![2048, 0] S512x1024.size inb_S5632x1024_S512x1024_2048_0) (fun _ => rfl))).view.set) (hd5 : Disjoint (((Memref.whole main_v20).slice (Rect.unit (s := S5632x1024) ![3072, 0] S512x1024.size inb_S5632x1024_S512x1024_3072_0) (fun _ => rfl))).view.set (((Memref.whole main_v20).slice (Rect.unit (s := S5632x1024) ![2560, 0] S512x1024.size inb_S5632x1024_S512x1024_2560_0) (fun _ => rfl))).view.set) (hd6 : Disjoint (((Memref.whole main_v20).slice (Rect.unit (s := S5632x1024) ![3584, 0] S512x1024.size inb_S5632x1024_S512x1024_3584_0) (fun _ => rfl))).view.set (((Memref.whole main_v20).slice (Rect.unit (s := S5632x1024) ![3072, 0] S512x1024.size inb_S5632x1024_S512x1024_3072_0) (fun _ => rfl))).view.set) (hd7 : Disjoint (((Memref.whole main_v20).slice (Rect.unit (s := S5632x1024) ![4096, 0] S512x1024.size inb_S5632x1024_S512x1024_4096_0) (fun _ => rfl))).view.set (((Memref.whole main_v20).slice (Rect.unit (s := S5632x1024) ![3584, 0] S512x1024.size inb_S5632x1024_S512x1024_3584_0) (fun _ => rfl))).view.set) (hd8 : Disjoint (((Memref.whole main_v20).slice (Rect.unit (s := S5632x1024) ![4608, 0] S512x1024.size inb_S5632x1024_S512x1024_4608_0) (fun _ => rfl))).view.set (((Memref.whole main_v20).slice (Rect.unit (s := S5632x1024) ![4096, 0] S512x1024.size inb_S5632x1024_S512x1024_4096_0) (fun _ => rfl))).view.set) (hd9 : Disjoint (((Memref.whole main_v20).slice (Rect.unit (s := S5632x1024) ![5120, 0] S512x1024.size inb_S5632x1024_S512x1024_5120_0) (fun _ => rfl))).view.set (((Memref.whole main_v20).slice (Rect.unit (s := S5632x1024) ![4608, 0] S512x1024.size inb_S5632x1024_S512x1024_4608_0) (fun _ => rfl))).view.set)
    (x0 : Vec Ideal S10x512x512 .bf16) (x1 : Vec Ideal S512x512 .bf16) (x2 : Vec Ideal S512x1024 .bf16) (xs0 : Vec Ideal S5632x1024 .f32) :
    (runC (F := Ideal) c i arg1 harg1 arg2 harg2 arg3 harg3 arg5 harg5 arg6 harg6 hc0 hc1 hd0 hd1 hd2 hd3 hd4 hd5 hd6 hd7 hd8 hd9 x0 x1 x2 xs0).1 = (kernelRun0_C (F := Ideal) c i arg1 harg1 arg2 harg2 arg3 harg3 arg5 harg5 arg6 harg6 hc0 hc1 hd0 hd1 hd2 hd3 hd4 hd5 hd6 hd7 hd8 hd9 x0 x1 x2 xs0).1 := rfl

/-- Dropping a unit axis of a vector that got it by a reshape gives the vector back. -/
theorem cast_slot (v : FVec Ideal S512x1024 .bf16) (h : S512x1024.ShapeCasts S1x512x1024) (h' : S512x1024.numel = S1x512x1024.numel)
    (x : S512x1024.Idx) : shapeCast S1x512x1024 v h (Shape.reshapeEquiv h' x) = v x := by
  unfold shapeCast
  rw [Shape.reshapeEquiv_reshapeEquiv, Shape.reshapeEquiv_self]

/-- A slot of the two-slot buffer, read after a store that filled it. -/
theorem slot_read (M : Memref sig .tc .vmem S2x512x1024 .bf16) (n : ℕ) (inb : ∀ a, (![n, 0, 0] : Fin 3 → ℕ) a + S1x512x1024.size a ≤ S2x512x1024.size a)
    (hr : ∀ a, (Rect.unit (s := S2x512x1024) ![n, 0, 0] S1x512x1024.size inb).stride a = 1)
    (hq : S1x512x1024.Squeezes S512x1024) (g : M.view.ty.Contents (Elt Ideal)) (L : List (View.Piece (Elt Ideal) S2x512x1024 .bf16))
    (w : S1x512x1024.Idx → Elt Ideal .bf16) (v : S512x1024.Idx → Elt Ideal .bf16) (hw : ∀ x, w (Shape.reshapeEquiv hq.numel_eq x) = v x)
    (x : S512x1024.Idx) :
    ((M.slice (Rect.unit (s := S2x512x1024) ![n, 0, 0] S1x512x1024.size inb) hr).squeeze S512x1024 hq).view.read (Elt Ideal)
      (M.view.writes (Elt Ideal) g (⟨Rect.unit (s := S2x512x1024) ![n, 0, 0] S1x512x1024.size inb, w⟩ :: L)) x = v x :=
  (View.read_writes_cons_emb M.view g (Rect.unit (s := S2x512x1024) ![n, 0, 0] S1x512x1024.size inb) w L (Shape.reshapeEquiv hq.numel_eq x)).trans (hw x)

/-- The result's buffer read whole is its contents. -/
theorem whole_read (f : hbM0_0.view.ty.Contents (Elt Ideal)) : hbM0_0.view.read (Elt Ideal) f = f := rfl

/-- The copies of the last grid point write every row tile of the accumulator over the result. -/
theorem runC_result (c : Dev nD) (i : grid0.Coords) (arg1 : Memref sig .tc .vmem S10x512x512 .bf16) (harg1 : arg1.IsWhole) (arg2 : Memref sig .tc .vmem S512x512 .bf16) (harg2 : arg2.IsWhole) (arg3 : Memref sig .tc .vmem S512x1024 .bf16) (harg3 : arg3.IsWhole) (arg5 : Memref sig .tc .vmem S5632x1024 .f32) (harg5 : arg5.IsWhole) (arg6 : Memref sig .tc .vmem S2x512x1024 .bf16) (harg6 : arg6.IsWhole) (hc0 : ¬cond0_0 i) (hc1 : cond0_1 i)
    (hd0 : Disjoint (((Memref.whole main_v20).slice (Rect.unit (s := S5632x1024) ![512, 0] S512x1024.size inb_S5632x1024_S512x1024_512_0) (fun _ => rfl))).view.set (((Memref.whole main_v20).slice (Rect.unit (s := S5632x1024) ![0, 0] S512x1024.size inb_S5632x1024_S512x1024_0_0) (fun _ => rfl))).view.set) (hd1 : Disjoint (((Memref.whole main_v20).slice (Rect.unit (s := S5632x1024) ![1024, 0] S512x1024.size inb_S5632x1024_S512x1024_1024_0) (fun _ => rfl))).view.set (((Memref.whole main_v20).slice (Rect.unit (s := S5632x1024) ![512, 0] S512x1024.size inb_S5632x1024_S512x1024_512_0) (fun _ => rfl))).view.set) (hd2 : Disjoint (((Memref.whole main_v20).slice (Rect.unit (s := S5632x1024) ![1536, 0] S512x1024.size inb_S5632x1024_S512x1024_1536_0) (fun _ => rfl))).view.set (((Memref.whole main_v20).slice (Rect.unit (s := S5632x1024) ![1024, 0] S512x1024.size inb_S5632x1024_S512x1024_1024_0) (fun _ => rfl))).view.set) (hd3 : Disjoint (((Memref.whole main_v20).slice (Rect.unit (s := S5632x1024) ![2048, 0] S512x1024.size inb_S5632x1024_S512x1024_2048_0) (fun _ => rfl))).view.set (((Memref.whole main_v20).slice (Rect.unit (s := S5632x1024) ![1536, 0] S512x1024.size inb_S5632x1024_S512x1024_1536_0) (fun _ => rfl))).view.set) (hd4 : Disjoint (((Memref.whole main_v20).slice (Rect.unit (s := S5632x1024) ![2560, 0] S512x1024.size inb_S5632x1024_S512x1024_2560_0) (fun _ => rfl))).view.set (((Memref.whole main_v20).slice (Rect.unit (s := S5632x1024) ![2048, 0] S512x1024.size inb_S5632x1024_S512x1024_2048_0) (fun _ => rfl))).view.set) (hd5 : Disjoint (((Memref.whole main_v20).slice (Rect.unit (s := S5632x1024) ![3072, 0] S512x1024.size inb_S5632x1024_S512x1024_3072_0) (fun _ => rfl))).view.set (((Memref.whole main_v20).slice (Rect.unit (s := S5632x1024) ![2560, 0] S512x1024.size inb_S5632x1024_S512x1024_2560_0) (fun _ => rfl))).view.set) (hd6 : Disjoint (((Memref.whole main_v20).slice (Rect.unit (s := S5632x1024) ![3584, 0] S512x1024.size inb_S5632x1024_S512x1024_3584_0) (fun _ => rfl))).view.set (((Memref.whole main_v20).slice (Rect.unit (s := S5632x1024) ![3072, 0] S512x1024.size inb_S5632x1024_S512x1024_3072_0) (fun _ => rfl))).view.set) (hd7 : Disjoint (((Memref.whole main_v20).slice (Rect.unit (s := S5632x1024) ![4096, 0] S512x1024.size inb_S5632x1024_S512x1024_4096_0) (fun _ => rfl))).view.set (((Memref.whole main_v20).slice (Rect.unit (s := S5632x1024) ![3584, 0] S512x1024.size inb_S5632x1024_S512x1024_3584_0) (fun _ => rfl))).view.set) (hd8 : Disjoint (((Memref.whole main_v20).slice (Rect.unit (s := S5632x1024) ![4608, 0] S512x1024.size inb_S5632x1024_S512x1024_4608_0) (fun _ => rfl))).view.set (((Memref.whole main_v20).slice (Rect.unit (s := S5632x1024) ![4096, 0] S512x1024.size inb_S5632x1024_S512x1024_4096_0) (fun _ => rfl))).view.set) (hd9 : Disjoint (((Memref.whole main_v20).slice (Rect.unit (s := S5632x1024) ![5120, 0] S512x1024.size inb_S5632x1024_S512x1024_5120_0) (fun _ => rfl))).view.set (((Memref.whole main_v20).slice (Rect.unit (s := S5632x1024) ![4608, 0] S512x1024.size inb_S5632x1024_S512x1024_4608_0) (fun _ => rfl))).view.set)
    (x0 : Vec Ideal S10x512x512 .bf16) (x1 : Vec Ideal S512x512 .bf16) (x2 : Vec Ideal S512x1024 .bf16) (xs0 : Vec Ideal S5632x1024 .f32)
    (f : hbM0_0.view.ty.Contents (Elt Ideal)) (g : Buf (Elt Ideal) (arg6.view.loc (c : Thread nD τ))) :
    hbM0_0.view.writes (Elt Ideal) f ((runC (F := Ideal) c i arg1 harg1 arg2 harg2 arg3 harg3 arg5 harg5 arg6 harg6 hc0 hc1 hd0 hd1 hd2 hd3 hd4 hd5 hd6 hd7 hd8 hd9 x0 x1 x2 xs0).2.1 g)
      = fun y => (arg5.view.read (Elt Ideal) (arg5.view.writes (Elt Ideal) arg5.view.junk (runC (F := Ideal) c i arg1 harg1 arg2 harg2 arg3 harg3 arg5 harg5 arg6 harg6 hc0 hc1 hd0 hd1 hd2 hd3 hd4 hd5 hd6 hd7 hd8 hd9 x0 x1 x2 xs0).1) y : EReal) := by
  refine (whole_read _).symm.trans (funext fun y => ?_)
  refine View.read_writes_apply_of_pieces hbM0_0.view f (fun y => (arg5.view.read (Elt Ideal) (arg5.view.writes (Elt Ideal) arg5.view.junk (runC (F := Ideal) c i arg1 harg1 arg2 harg2 arg3 harg3 arg5 harg5 arg6 harg6 hc0 hc1 hd0 hd1 hd2 hd3 hd4 hd5 hd6 hd7 hd8 hd9 x0 x1 x2 xs0).1) y : EReal)) ((runC (F := Ideal) c i arg1 harg1 arg2 harg2 arg3 harg3 arg5 harg5 arg6 harg6 hc0 hc1 hd0 hd1 hd2 hd3 hd4 hd5 hd6 hd7 hd8 hd9 x0 x1 x2 xs0).2.1 g) ?_ y
    (View.cover_of_tiledL ((runC (F := Ideal) c i arg1 harg1 arg2 harg2 arg3 harg3 arg5 harg5 arg6 harg6 hc0 hc1 hd0 hd1 hd2 hd3 hd4 hd5 hd6 hd7 hd8 hd9 x0 x1 x2 xs0).2.1 g) S512x1024.size (by sl_kernel_rfl) y)
  · unfold runC
    dsimp only
    refine List.forall_mem_cons.mpr ⟨fun x => ?_, ?_⟩
    · dsimp only
      unfold runC.sl.dma78 runC.sl.HS1_11
      exact (slot_read arg6 0 _ _ _ g _ _ _ (cast_slot _ _ _) x).trans rfl
    refine List.forall_mem_cons.mpr ⟨fun x => ?_, ?_⟩
    · dsimp only
      unfold runC.sl.dma75 runC.sl.HS1_10
      exact (slot_read arg6 1 _ _ _ g _ _ _ (cast_slot _ _ _) x).trans rfl
    refine List.forall_mem_cons.mpr ⟨fun x => ?_, ?_⟩
    · dsimp only
      unfold runC.sl.dma72 runC.sl.HS1_9
      exact (slot_read arg6 0 _ _ _ g _ _ _ (cast_slot _ _ _) x).trans rfl
    refine List.forall_mem_cons.mpr ⟨fun x => ?_, ?_⟩
    · dsimp only
      unfold runC.sl.dma69 runC.sl.HS1_8
      exact (slot_read arg6 1 _ _ _ g _ _ _ (cast_slot _ _ _) x).trans rfl
    refine List.forall_mem_cons.mpr ⟨fun x => ?_, ?_⟩
    · dsimp only
      unfold runC.sl.dma66 runC.sl.HS1_7
      exact (slot_read arg6 0 _ _ _ g _ _ _ (cast_slot _ _ _) x).trans rfl
    refine List.forall_mem_cons.mpr ⟨fun x => ?_, ?_⟩
    · dsimp only
      unfold runC.sl.dma63 runC.sl.HS1_6
      exact (slot_read arg6 1 _ _ _ g _ _ _ (cast_slot _ _ _) x).trans rfl
    refine List.forall_mem_cons.mpr ⟨fun x => ?_, ?_⟩
    · dsimp only
      unfold runC.sl.dma60 runC.sl.HS1_5
      exact (slot_read arg6 0 _ _ _ g _ _ _ (cast_slot _ _ _) x).trans rfl
    refine List.forall_mem_cons.mpr ⟨fun x => ?_, ?_⟩
    · dsimp only
      unfold runC.sl.dma57 runC.sl.HS1_4
      exact (slot_read arg6 1 _ _ _ g _ _ _ (cast_slot _ _ _) x).trans rfl
    refine List.forall_mem_cons.mpr ⟨fun x => ?_, ?_⟩
    · dsimp only
      unfold runC.sl.dma54 runC.sl.HS1_3
      exact (slot_read arg6 0 _ _ _ g _ _ _ (cast_slot _ _ _) x).trans rfl
    refine List.forall_mem_cons.mpr ⟨fun x => ?_, ?_⟩
    · dsimp only
      unfold runC.sl.dma51 runC.sl.HS1_2
      exact (slot_read arg6 1 _ _ _ g _ _ _ (cast_slot _ _ _) x).trans rfl
    refine List.forall_mem_cons.mpr ⟨fun x => ?_, ?_⟩
    · dsimp only
      unfold runC.sl.dma48 runC.sl.HS1_1
      exact (slot_read arg6 0 _ _ _ g _ _ _ (cast_slot _ _ _) x).trans rfl
    exact fun p hp => absurd hp List.not_mem_nil

end Cert.Kernel5Ideal.Val
end
-- ==== Proof.InwgDat.lean ====
module

public import proofs.«01_k».proof.Proof.InwgOut
public import Idealize.ShloMosaic.Lib.Pipeline.FrameValue
public import Idealize.ShloMosaic.Lib.Pipeline.ValueKit

@[expose] public section

set_option maxRecDepth 16384

noncomputable section

/-! The projection's weight gradient: every run ends with the accumulator's last contents in the result. -/

namespace Cert.Kernel5Ideal.Val
open Cert.Kernel5Ideal Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (Pipeline.UD sig nD τ) ℕ

variable (m : (ℓ : Loc nD τ sig) → Buf (Elt Ideal) ℓ) (ρ : Dev nD → PrngReg)

theorem last_lt : 15 < cfg0.N := by rw [show cfg0.N = 16 from N_0]; omega

/-- The result: the accumulator's contents at the last grid point. -/
def res (c : Dev nD) : HbBuf0 (F := Ideal) c hbM0_0 := fun y => (outsAt0 m c 15 last_lt y : EReal)

/-- The contents of every buffer at the end: the result's the accumulator, the others as the call finds them. -/
def G (c : Dev nD) : (b : Ref sig .tc) → Buf (Elt Ideal) ((c : Thread nD τ).loc b) := Function.update (V m c) main_v20 (res m c)

/-- The invariant after the last grid point. -/
def PhiG (c : Dev nD) : sProp 𝕄 :=
  iprop(iprop(owns (c : Thread nD τ) scM0_0 fullShare (outsAt0 m c 15 last_lt) ∗ (∃ d, owns (c : Thread nD τ) scM0_1 fullShare d)) ∗ (∃ r, prngReg c r) ∗ iprop(semVal ((c : Thread nD τ), SemLoc.dma 6) 0 ∗ semVal ((c : Thread nD τ), SemLoc.dma 7) 0) ∗ iprop(emp) ∗ iprop(hbPt0 c hbM0_0 (res m c)))

/-- The proof data with the result named after the last grid point. -/
def datsG (_ : Fin 1) (c : Dev nD) : Dat τ (Elt Ideal) Unit ℕ (Pipeline.UD sig nD τ) ℕ cfg0 c where
  A w := V m c (Pipeline.arrRef spec0 w)
  after := (dats m 0 c).after
  Φ t := if t.val = 16 then PhiG m c else PhiS m c t.val (Nat.le_of_lt_succ t.isLt)
  q _ := fullShare
  owed _ := 0

theorem Φ_lt (c : Dev nD) (t : Fin (cfg0.N + 1)) (h : ¬t.val = 16) : (datsG m 0 c).Φ t = (dats m 0 c).Φ t := if_neg h
theorem Φ_eq (c : Dev nD) (t : Fin (cfg0.N + 1)) (h : t.val = 16) : (datsG m 0 c).Φ t = PhiG m c := if_pos h

theorem AG_eq (c : Dev nD) (w : Fin cfg0.W) : (datsG m 0 c).A w = V m c (Pipeline.arrRef spec0 w) := by
  dsimp only [datsG]

/-- The copies of the last grid point leave the result. -/
theorem result (c : Dev nD) (t : Fin cfg0.N) (h0 : ¬t.val % 16 = 0) (h1 : t.val % 16 = 15)
    (f : hbM0_0.view.ty.Contents (Elt Ideal)) (g : Buf (Elt Ideal) (scM0_1.view.loc (c : Thread nD τ))) :
    hbM0_0.view.writes (Elt Ideal) f ((runC (F := Ideal) c (grid0.coords t) (ms0_0 t) (hs0_0 t) (ms0_1 t) (hs0_1 t) (ms0_2 t) (hs0_2 t) scM0_0 (Memref.isWhole_whole _) scM0_1 (Memref.isWhole_whole _)
    (fun h => h0 ((hcond0_0 t).mp h)) ((hcond0_1 t).mpr h1)
    (View.disjoint_slice_of_disj (Memref.whole main_v20).view (Rect.unit (s := S5632x1024) ![512, 0] S512x1024.size inb_S5632x1024_S512x1024_512_0) (Rect.unit (s := S5632x1024) ![0, 0] S512x1024.size inb_S5632x1024_S512x1024_0_0) (hdd0_0 t)) (View.disjoint_slice_of_disj (Memref.whole main_v20).view (Rect.unit (s := S5632x1024) ![1024, 0] S512x1024.size inb_S5632x1024_S512x1024_1024_0) (Rect.unit (s := S5632x1024) ![512, 0] S512x1024.size inb_S5632x1024_S512x1024_512_0) (hdd0_1 t)) (View.disjoint_slice_of_disj (Memref.whole main_v20).view (Rect.unit (s := S5632x1024) ![1536, 0] S512x1024.size inb_S5632x1024_S512x1024_1536_0) (Rect.unit (s := S5632x1024) ![1024, 0] S512x1024.size inb_S5632x1024_S512x1024_1024_0) (hdd0_2 t)) (View.disjoint_slice_of_disj (Memref.whole main_v20).view (Rect.unit (s := S5632x1024) ![2048, 0] S512x1024.size inb_S5632x1024_S512x1024_2048_0) (Rect.unit (s := S5632x1024) ![1536, 0] S512x1024.size inb_S5632x1024_S512x1024_1536_0) (hdd0_3 t)) (View.disjoint_slice_of_disj (Memref.whole main_v20).view (Rect.unit (s := S5632x1024) ![2560, 0] S512x1024.size inb_S5632x1024_S512x1024_2560_0) (Rect.unit (s := S5632x1024) ![2048, 0] S512x1024.size inb_S5632x1024_S512x1024_2048_0) (hdd0_4 t)) (View.disjoint_slice_of_disj (Memref.whole main_v20).view (Rect.unit (s := S5632x1024) ![3072, 0] S512x1024.size inb_S5632x1024_S512x1024_3072_0) (Rect.unit (s := S5632x1024) ![2560, 0] S512x1024.size inb_S5632x1024_S512x1024_2560_0) (hdd0_5 t)) (View.disjoint_slice_of_disj (Memref.whole main_v20).view (Rect.unit (s := S5632x1024) ![3584, 0] S512x1024.size inb_S5632x1024_S512x1024_3584_0) (Rect.unit (s := S5632x1024) ![3072, 0] S512x1024.size inb_S5632x1024_S512x1024_3072_0) (hdd0_6 t)) (View.disjoint_slice_of_disj (Memref.whole main_v20).view (Rect.unit (s := S5632x1024) ![4096, 0] S512x1024.size inb_S5632x1024_S512x1024_4096_0) (Rect.unit (s := S5632x1024) ![3584, 0] S512x1024.size inb_S5632x1024_S512x1024_3584_0) (hdd0_7 t)) (View.disjoint_slice_of_disj (Memref.whole main_v20).view (Rect.unit (s := S5632x1024) ![4608, 0] S512x1024.size inb_S5632x1024_S512x1024_4608_0) (Rect.unit (s := S5632x1024) ![4096, 0] S512x1024.size inb_S5632x1024_S512x1024_4096_0) (hdd0_8 t)) (View.disjoint_slice_of_disj (Memref.whole main_v20).view (Rect.unit (s := S5632x1024) ![5120, 0] S512x1024.size inb_S5632x1024_S512x1024_5120_0) (Rect.unit (s := S5632x1024) ![4608, 0] S512x1024.size inb_S5632x1024_S512x1024_4608_0) (hdd0_9 t))
    (iblk m c 0 t) (iblk m c 1 t) (iblk m c 2 t) (outsAt0 m c (t.val - 1) (Nat.lt_of_le_of_lt (Nat.sub_le _ _) t.isLt))).2.1 g) = res m c := by
  have hN : t.val < 16 := lt_of_lt_of_eq t.isLt (show cfg0.N = 16 from N_0)
  unfold res
  rw [show outsAt0 m c 15 last_lt = outsAt0 m c t.val t.isLt from by congr 1; omega, outsAt0_C m c t h0 h1]
  unfold sout0_C_0
  rw [runC_result, runC_fst]
  rfl

/-- What the body is called with, -/
def preG (c : Dev nD) (t : Fin cfg0.N) : sProp 𝕄 :=
  iprop((datsG m 0 c).Φ t.castSucc ∗ (datsG m 0 c).owesAt () t.castSucc
    ∗ (∃ d, owns (c : Thread nD τ) (ms0_0 t) fullShare ((datsG m 0 c).before 0 t d))
    ∗ (∃ d, owns (c : Thread nD τ) (ms0_1 t) fullShare ((datsG m 0 c).before 1 t d))
    ∗ (∃ d, owns (c : Thread nD τ) (ms0_2 t) fullShare ((datsG m 0 c).before 2 t d)))

/-- and what it returns. -/
def postG (c : Dev nD) (t : Fin cfg0.N) : sProp 𝕄 :=
  iprop((datsG m 0 c).Φ t.succ ∗ (datsG m 0 c).owesAt () t.succ
    ∗ owns (c : Thread nD τ) (ms0_0 t) fullShare ((datsG m 0 c).after 0 t)
    ∗ owns (c : Thread nD τ) (ms0_1 t) fullShare ((datsG m 0 c).after 1 t)
    ∗ owns (c : Thread nD τ) (ms0_2 t) fullShare ((datsG m 0 c).after 2 t))

theorem preG_eq (c : Dev nD) (t : Fin cfg0.N) : preG m c t = bodyPre m c t := by
  have hN : t.val < 16 := lt_of_lt_of_eq t.isLt (show cfg0.N = 16 from N_0)
  unfold preG bodyPre
  rw [Φ_lt m c t.castSucc (by rw [Fin.val_castSucc]; omega)]
  rfl

theorem postG_lt (c : Dev nD) (t : Fin cfg0.N) (h : ¬t.val = 15) : postG m c t = bodyPost m c t := by
  unfold postG bodyPost
  rw [Φ_lt m c t.succ (by rw [Fin.val_succ]; omega)]
  rfl

set_option maxHeartbeats 2000000 in
/-- The body's triple at every grid point, the result named after the last. -/
theorem sound (c : Dev nD) (t : Fin cfg0.N) :
    preG m c t ⊢ wp frame (wpE (defs₀ (F := Ideal)) Variants.none c none) Set.univ (bodyAt0 t) (fun _ => postG m c t) := by
  have hN : t.val < 16 := lt_of_lt_of_eq t.isLt (show cfg0.N = 16 from N_0)
  by_cases hl : t.val = 15
  swap
  · rw [preG_eq, postG_lt m c t hl]; exact sound_body m c t
  have h0 : ¬t.val % 16 = 0 := by omega
  have h1 : t.val % 16 = 15 := by omega
  rw [preG_eq]
  unfold bodyPre postG bodyAt0
  simp only [before0_0, before0_1, before0_2]
  rw [Φ_eq m c t.succ (by rw [Fin.val_succ]; omega)]
  rw [show (datsG m 0 c).after 0 t = iblk m c 0 t from after0_0 m c t, show (datsG m 0 c).after 1 t = iblk m c 1 t from after0_1 m c t,
    show (datsG m 0 c).after 2 t = iblk m c 2 t from after0_2 m c t]
  unfold Dat.owesAt Pipeline.owesWithin PhiG
  rw [show (dats m 0 c).owed t.castSucc = 0 from rfl, show (datsG m 0 c).owed t.succ = 0 from rfl]
  rw [PhiS_castSucc m c t, PhiS_pos m c _ _ (by omega)]
  rw [show outsAt0 m c 15 last_lt = outsAt0 m c t.val t.isLt from by congr 1; exact hl.symm, outsAt0_C m c t h0 h1]
  unfold sout0_C_0
  iintro ⟨⟨⟨HS0, HS1⟩, Hg, ⟨Hq0, Hq1⟩, -, Hh0⟩, ⟨%W, -, HW⟩, ⟨%d0, H0⟩, ⟨%d1, H1⟩, ⟨%d2, H2⟩⟩
  iapply ((runC (F := Ideal) c (grid0.coords t) (ms0_0 t) (hs0_0 t) (ms0_1 t) (hs0_1 t) (ms0_2 t) (hs0_2 t) scM0_0 (Memref.isWhole_whole _) scM0_1 (Memref.isWhole_whole _)
    (fun h => h0 ((hcond0_0 t).mp h)) ((hcond0_1 t).mpr h1)
    (View.disjoint_slice_of_disj (Memref.whole main_v20).view (Rect.unit (s := S5632x1024) ![512, 0] S512x1024.size inb_S5632x1024_S512x1024_512_0) (Rect.unit (s := S5632x1024) ![0, 0] S512x1024.size inb_S5632x1024_S512x1024_0_0) (hdd0_0 t)) (View.disjoint_slice_of_disj (Memref.whole main_v20).view (Rect.unit (s := S5632x1024) ![1024, 0] S512x1024.size inb_S5632x1024_S512x1024_1024_0) (Rect.unit (s := S5632x1024) ![512, 0] S512x1024.size inb_S5632x1024_S512x1024_512_0) (hdd0_1 t)) (View.disjoint_slice_of_disj (Memref.whole main_v20).view (Rect.unit (s := S5632x1024) ![1536, 0] S512x1024.size inb_S5632x1024_S512x1024_1536_0) (Rect.unit (s := S5632x1024) ![1024, 0] S512x1024.size inb_S5632x1024_S512x1024_1024_0) (hdd0_2 t)) (View.disjoint_slice_of_disj (Memref.whole main_v20).view (Rect.unit (s := S5632x1024) ![2048, 0] S512x1024.size inb_S5632x1024_S512x1024_2048_0) (Rect.unit (s := S5632x1024) ![1536, 0] S512x1024.size inb_S5632x1024_S512x1024_1536_0) (hdd0_3 t)) (View.disjoint_slice_of_disj (Memref.whole main_v20).view (Rect.unit (s := S5632x1024) ![2560, 0] S512x1024.size inb_S5632x1024_S512x1024_2560_0) (Rect.unit (s := S5632x1024) ![2048, 0] S512x1024.size inb_S5632x1024_S512x1024_2048_0) (hdd0_4 t)) (View.disjoint_slice_of_disj (Memref.whole main_v20).view (Rect.unit (s := S5632x1024) ![3072, 0] S512x1024.size inb_S5632x1024_S512x1024_3072_0) (Rect.unit (s := S5632x1024) ![2560, 0] S512x1024.size inb_S5632x1024_S512x1024_2560_0) (hdd0_5 t)) (View.disjoint_slice_of_disj (Memref.whole main_v20).view (Rect.unit (s := S5632x1024) ![3584, 0] S512x1024.size inb_S5632x1024_S512x1024_3584_0) (Rect.unit (s := S5632x1024) ![3072, 0] S512x1024.size inb_S5632x1024_S512x1024_3072_0) (hdd0_6 t)) (View.disjoint_slice_of_disj (Memref.whole main_v20).view (Rect.unit (s := S5632x1024) ![4096, 0] S512x1024.size inb_S5632x1024_S512x1024_4096_0) (Rect.unit (s := S5632x1024) ![3584, 0] S512x1024.size inb_S5632x1024_S512x1024_3584_0) (hdd0_7 t)) (View.disjoint_slice_of_disj (Memref.whole main_v20).view (Rect.unit (s := S5632x1024) ![4608, 0] S512x1024.size inb_S5632x1024_S512x1024_4608_0) (Rect.unit (s := S5632x1024) ![4096, 0] S512x1024.size inb_S5632x1024_S512x1024_4096_0) (hdd0_8 t)) (View.disjoint_slice_of_disj (Memref.whole main_v20).view (Rect.unit (s := S5632x1024) ![5120, 0] S512x1024.size inb_S5632x1024_S512x1024_5120_0) (Rect.unit (s := S5632x1024) ![4608, 0] S512x1024.size inb_S5632x1024_S512x1024_4608_0) (hdd0_9 t))
    (iblk m c 0 t) (iblk m c 1 t) (iblk m c 2 t) (outsAt0 m c (t.val - 1) (Nat.lt_of_le_of_lt (Nat.sub_le _ _) t.isLt))).2.2 W _)
  isplitl [H0]; · iexact H0
  isplitl [H1]; · iexact H1
  isplitl [H2]; · iexact H2
  isplitl [HS0]; · iexact HS0
  isplitl [HS1]; · iexact HS1
  isplitl [Hq0]; · iexact Hq0
  isplitl [Hq1]; · iexact Hq1
  isplitl [Hh0]; · iexact Hh0
  isplitl [HW]; · iexact HW
  iintro ⟨H0, H1, H2, ⟨%es0, HS0⟩, HS1, Hq0, Hq1, ⟨%fh, %gh, Hh0⟩, ⟨%W', HW'⟩⟩
  isplitl [HS0 HS1 Hg Hq0 Hq1 Hh0]
  · isplitl [HS0 HS1]
    · isplitl [HS0]
      · unfold owns; iexists _; isplitr
        swap; · iexact HS0
        ipureintro; exact View.read_writes_of_cover _ _ _ _ _ ((scover0_C_0 (F := Ideal) c (grid0.coords t) (ms0_0 t) (hs0_0 t) (ms0_1 t) (hs0_1 t) (ms0_2 t) (hs0_2 t) scM0_0 (Memref.isWhole_whole _) scM0_1 (Memref.isWhole_whole _)
    (fun h => h0 ((hcond0_0 t).mp h)) ((hcond0_1 t).mpr h1)
    (View.disjoint_slice_of_disj (Memref.whole main_v20).view (Rect.unit (s := S5632x1024) ![512, 0] S512x1024.size inb_S5632x1024_S512x1024_512_0) (Rect.unit (s := S5632x1024) ![0, 0] S512x1024.size inb_S5632x1024_S512x1024_0_0) (hdd0_0 t)) (View.disjoint_slice_of_disj (Memref.whole main_v20).view (Rect.unit (s := S5632x1024) ![1024, 0] S512x1024.size inb_S5632x1024_S512x1024_1024_0) (Rect.unit (s := S5632x1024) ![512, 0] S512x1024.size inb_S5632x1024_S512x1024_512_0) (hdd0_1 t)) (View.disjoint_slice_of_disj (Memref.whole main_v20).view (Rect.unit (s := S5632x1024) ![1536, 0] S512x1024.size inb_S5632x1024_S512x1024_1536_0) (Rect.unit (s := S5632x1024) ![1024, 0] S512x1024.size inb_S5632x1024_S512x1024_1024_0) (hdd0_2 t)) (View.disjoint_slice_of_disj (Memref.whole main_v20).view (Rect.unit (s := S5632x1024) ![2048, 0] S512x1024.size inb_S5632x1024_S512x1024_2048_0) (Rect.unit (s := S5632x1024) ![1536, 0] S512x1024.size inb_S5632x1024_S512x1024_1536_0) (hdd0_3 t)) (View.disjoint_slice_of_disj (Memref.whole main_v20).view (Rect.unit (s := S5632x1024) ![2560, 0] S512x1024.size inb_S5632x1024_S512x1024_2560_0) (Rect.unit (s := S5632x1024) ![2048, 0] S512x1024.size inb_S5632x1024_S512x1024_2048_0) (hdd0_4 t)) (View.disjoint_slice_of_disj (Memref.whole main_v20).view (Rect.unit (s := S5632x1024) ![3072, 0] S512x1024.size inb_S5632x1024_S512x1024_3072_0) (Rect.unit (s := S5632x1024) ![2560, 0] S512x1024.size inb_S5632x1024_S512x1024_2560_0) (hdd0_5 t)) (View.disjoint_slice_of_disj (Memref.whole main_v20).view (Rect.unit (s := S5632x1024) ![3584, 0] S512x1024.size inb_S5632x1024_S512x1024_3584_0) (Rect.unit (s := S5632x1024) ![3072, 0] S512x1024.size inb_S5632x1024_S512x1024_3072_0) (hdd0_6 t)) (View.disjoint_slice_of_disj (Memref.whole main_v20).view (Rect.unit (s := S5632x1024) ![4096, 0] S512x1024.size inb_S5632x1024_S512x1024_4096_0) (Rect.unit (s := S5632x1024) ![3584, 0] S512x1024.size inb_S5632x1024_S512x1024_3584_0) (hdd0_7 t)) (View.disjoint_slice_of_disj (Memref.whole main_v20).view (Rect.unit (s := S5632x1024) ![4608, 0] S512x1024.size inb_S5632x1024_S512x1024_4608_0) (Rect.unit (s := S5632x1024) ![4096, 0] S512x1024.size inb_S5632x1024_S512x1024_4096_0) (hdd0_8 t)) (View.disjoint_slice_of_disj (Memref.whole main_v20).view (Rect.unit (s := S5632x1024) ![5120, 0] S512x1024.size inb_S5632x1024_S512x1024_5120_0) (Rect.unit (s := S5632x1024) ![4608, 0] S512x1024.size inb_S5632x1024_S512x1024_4608_0) (hdd0_9 t))
    (iblk m c 0 t) (iblk m c 1 t) (iblk m c 2 t) (outsAt0 m c (t.val - 1) (Nat.lt_of_le_of_lt (Nat.sub_le _ _) t.isLt))))
      iexact HS1
    isplitl [Hg]
    · iexact Hg
    isplitl [Hq0 Hq1]
    · isplitl [Hq0]; · iexact Hq0
      iexact Hq1
    isplitr; · iempintro
    iapply (Entails.of_eq (congrArg (fun f => hbPt0 (F := Ideal) c hbM0_0 f) (result m c t h0 h1 fh gh)))
    iexact Hh0
  isplitl [HW']
  · iexists W'; isplitr; · ipureintro; exact fun _ _ => Or.inl trivial
    iexact HW'
  isplitl [H0]; · iexact H0
  isplitl [H1]; · iexact H1
  iexact H2

theorem obligation (c : Dev nD) : BodyObligation (datsG m 0 c) (defs₀ (F := Ideal)) Variants.none () Set.univ := fun t => by
  rw [bigSep_W0, bigSep_W0, defs₀_row]
  exact triple_restated (sound m c t) rfl .rfl fun _ => .rfl

/-- What the launch hands the region is the invariant before the first grid point. -/
theorem hinG (c : Dev nD) : Pipeline.ΦDRG osem0 spec0 H0 R0 (V m) (V m) c ⊢ (datsG m 0 c).Φ 0 := by
  rw [Φ_lt m c 0 (by decide)]
  exact (Pipeline.ΦDRG_ΦDR osem0 spec0 H0 R0 (V m) (V m) c).trans (hin m c)

theorem routed_eq (c : Dev nD) : (Pipeline.routed R0 c (G m c) : sProp 𝕄) = iprop(hbPt0 c hbM0_0 (res m c)) := by
  unfold Pipeline.routed; rw [BI.bigSep_eq_bigSepL_of_eq [main_v20] (by decide) (by decide)]
  show hbPt0 (F := Ideal) c hbM0_0 (G m c main_v20) = _
  unfold G; rw [Function.update_self]

/-- The invariant after the last grid point holds the result by name. -/
theorem houtG (c : Dev nD) : (datsG m 0 c).Φ (Fin.last cfg0.N) ⊢ Pipeline.ΦDRG osem0 spec0 H0 R0 (V m) (G m) c := by
  rw [Φ_eq m c _ (by rw [Fin.val_last]; exact N_0), Pipeline.ΦDRG_eq, scopedRest0_eq, ownSems00_eq, hbmPts0_eq, routed_eq]
  unfold PhiG
  simp only [scM0_0, scM0_1, owns_whole]
  iintro ⟨⟨HS0, HS1⟩, Hg, ⟨Hq0, Hq1⟩, -, Hh0⟩
  isplitl [HS0 HS1]
  · isplitl [HS0]
    · iexists _; iexact HS0
    iexact HS1
  isplitl [Hg]; · iexact Hg
  isplitl [Hq0 Hq1]
  · isplitl [Hq0]; · iexact Hq0
    iexact Hq1
  isplitr; · iempintro
  iexact Hh0

set_option backward.isDefEq.respectTransparency.types false in
/-- Every run of the program ends, and the result's buffer then holds the accumulator's last contents. -/
theorem run_G : θ_run defs (onTc (τ := τ) (main (F := Ideal))) (s₀ m ρ) (Pipeline.FramePostRG cfgs (datsG m) 0 R0 (V m) (G m)) :=
  Pipeline.θ_run_frame_dmaRG (Q' := _) cfgs (datsG m) (0 : Fin 1) launch0 osem0 defs₀ Variants.none ownSemFacts0 H0 R0 H0_sub R0_sub m ρ main
    (hbody := fun c => (obligation m c).loose) (hshare := fun c => (datsG m 0 c).share_full fun _ => rfl)
    (howed := fun _ _ => rfl) (V := V m) (hmain := hmain m Variants.none) (hA := AG_eq m)
    (G := G m) (hin := hinG m) (hout := houtG m)

/-- The same, at the result and the arguments. -/
theorem run : θ_run defs (onTc (τ := τ) (main (F := Ideal))) ⟨m, fun _ => 0, ρ⟩ (fun r => ∀ c : Dev nD,
    r.2.mem ((c.tc : Thread nD τ).loc main_v20) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.FramePostRG.written h.1 c (b := main_v20) (by decide)).trans (by unfold G; rw [Function.update_self]), h.2 c⟩)
    (θ_run_and (run_G m ρ) (unchanged m ρ))

end Cert.Kernel5Ideal.Val

end
-- ==== Proof.InwgVal.lean ====
module

public import proofs.«01_k».proof.Proof.InwgDat
public import proofs.«01_k».proof.Proof.InprojVal
public import Idealize.ShloMosaic.Lib.Pipeline.ValueKit
public import Idealize.ShloMosaic.Lib.Claim
public import Idealize.ShloMosaic.Lib.VecWindow

@[expose] public section

set_option maxRecDepth 16384

noncomputable section

/-! What a grid point of the projection's weight gradient leaves in its accumulator, entry by entry. -/

namespace Cert.Kernel5Ideal.Val
open Cert.Kernel5Ideal Cert.Kernel5Ideal.Gen Idealize.ShloMosaic Idealize.ShloMosaic.TcCoe Idealize.SL.Sem
open scoped BigOperators

/-- The cotangent's block as one matrix: the first 512 columns, then the chunks. -/
def dd (x0 : Vec Ideal S10x512x512 .bf16) (x1 : Vec Ideal S512x512 .bf16) (p : Fin 512) (r : Fin 5632) : EReal :=
  if h : r.val < 512 then x1 (ix2 p ⟨r.val, h⟩)
  else x0 (ix3 (⟨r.val / 512 - 1, by omega⟩ : Fin 10) p (⟨r.val % 512, by omega⟩ : Fin 512))

/-- A grid point's addend to an entry of the accumulator. -/
def add5 (x0 : Vec Ideal S10x512x512 .bf16) (x1 : Vec Ideal S512x512 .bf16) (x2 : Vec Ideal S512x1024 .bf16) (y : S5632x1024.Idx) : EReal :=
  ∑ p : Fin 512, dd x0 x1 p (y 0) * x2 (ix2 p (y 1))

/-- A load through a rectangle of a whole buffer holding `X` reads `X` where the rectangle puts the index. -/
theorem ldu {s : Shape} {e : EltTy} (M : Memref sig .tc .vmem s e) (h : M.IsWhole) (r : Rect s) (X : Vec Ideal s e) (x : r.shape.Idx) :
    View.readAt (Elt Ideal) M.view r.toLoadRect (h.unread X) x = X (r.emb x) := by
  rw [View.readAt_eq_ld, h.read_unread]
  rfl

theorem emb5 (o : ℕ) (inb : ∀ a, (![o, 0] : Fin 2 → ℕ) a + (![512, 1024] : Fin 2 → ℕ) a ≤ S5632x1024.size a) (q : Fin 512) (k : Fin 1024)
    (h : o + q.val < 5632) : (Rect.unit (s := S5632x1024) ![o, 0] ![512, 1024] inb).emb (ix2 q k) = ix2 (⟨o + q.val, h⟩ : Fin 5632) k := by
  funext a
  apply Fin.ext
  rw [Rect.emb_apply]
  revert a
  exact Fin.forall_fin_two.mpr ⟨(by show o + 1 * q.val = o + q.val; omega), (by show 0 + 1 * k.val = k.val; omega)⟩

/-- A row tile's update from a chunk: the tile plus the chunk's transpose times the normalised rows. -/
theorem tile_chunk (v4 : FVec Ideal S512x1024 .bf16) (a : Vec Ideal S512x1024 .f32) (b : Vec Ideal S1x512x512 .bf16) (q : Fin 512) (k : Fin 1024) :
    (k0_pay1 (F := Ideal) v4 a b (ix2 q k) : EReal) = a (ix2 q k) + ∑ p : Fin 512, (b (ix3 0 p q) : EReal) * v4 (ix2 p k) := by
  show (_ : EReal) = _
  pointwise [k0_pay1]

/-- The first row tile's update. -/
theorem tile_first (v3 : Vec Ideal S512x1024 .bf16) (a : Vec Ideal S512x1024 .f32) (b : Vec Ideal S512x512 .bf16) (q : Fin 512) (k : Fin 1024) :
    (k0_pay16 (F := Ideal) v3 a b (ix2 q k) : EReal) = a (ix2 q k) + ∑ p : Fin 512, (b (ix2 p q) : EReal) * v3 (ix2 p k) := by
  show (_ : EReal) = _
  pointwise [k0_pay16, k0_pay15]

theorem cast_rows (v3 : Vec Ideal S512x1024 .bf16) (p : Fin 512) (k : Fin 1024) : (k0_pay15 (F := Ideal) v3 (ix2 p k) : EReal) = v3 (ix2 p k) := by
  show (_ : EReal) = _
  pointwise [k0_pay15]

section piece
variable (x0 : Vec Ideal S10x512x512 .bf16) (x1 : Vec Ideal S512x512 .bf16) (x2 : Vec Ideal S512x1024 .bf16) (xs : S5632x1024.Idx → EReal)

/-- A chunk's tile of the accumulator after a grid point. -/
theorem piece_chunk (j : Fin 10) (o : ℕ) (inb : ∀ a, (![o, 0] : Fin 2 → ℕ) a + (![512, 1024] : Fin 2 → ℕ) a ≤ S5632x1024.size a)
    (ho : o = (j.val + 1) * 512) (v4 : FVec Ideal S512x1024 .bf16) (a : Vec Ideal S512x1024 .f32) (b : Vec Ideal S1x512x512 .bf16)
    (h4 : ∀ p k, (v4 (ix2 p k) : EReal) = x2 (ix2 p k))
    (ha : ∀ x : S512x1024.Idx, (a x : EReal) = xs ((Rect.unit (s := S5632x1024) ![o, 0] ![512, 1024] inb).emb x))
    (hb : ∀ p q, (b (ix3 0 p q) : EReal) = x0 (ix3 j p q)) (x : S512x1024.Idx) :
    (k0_pay1 (F := Ideal) v4 a b x : EReal) = xs ((Rect.unit (s := S5632x1024) ![o, 0] ![512, 1024] inb).emb x)
      + add5 x0 x1 x2 ((Rect.unit (s := S5632x1024) ![o, 0] ![512, 1024] inb).emb x) := by
  obtain ⟨q, k, rfl⟩ : ∃ (q : Fin 512) (k : Fin 1024), x = ix2 q k := ⟨x 0, x 1, eq_ix2 x⟩
  refine (tile_chunk v4 a b q k).trans (congrArg₂ _ (ha _) (Finset.sum_congr rfl fun p _ => ?_))
  have hr : o + q.val < 5632 := by omega
  rw [emb5 o inb q k hr, hb, h4]
  refine congrArg (· * _) ?_
  show (_ : EReal) = dd x0 x1 p (⟨o + q.val, hr⟩ : Fin 5632)
  unfold dd
  have hn : ¬ (o + q.val < 512) := by omega
  rw [dif_neg hn]
  exact congrArg₂ (fun u v => (x0 (ix3 u p v) : EReal)) (Fin.ext (by show j.val = (o + q.val) / 512 - 1; omega)) (Fin.ext (by show q.val = (o + q.val) % 512; omega))

/-- The first tile of the accumulator after a grid point. -/
theorem piece_first (inb : ∀ a, (![0, 0] : Fin 2 → ℕ) a + (![512, 1024] : Fin 2 → ℕ) a ≤ S5632x1024.size a)
    (v3 : Vec Ideal S512x1024 .bf16) (a : Vec Ideal S512x1024 .f32) (b : Vec Ideal S512x512 .bf16)
    (h3 : ∀ p k, (v3 (ix2 p k) : EReal) = x2 (ix2 p k))
    (ha : ∀ x : S512x1024.Idx, (a x : EReal) = xs ((Rect.unit (s := S5632x1024) ![0, 0] ![512, 1024] inb).emb x))
    (hb : ∀ p q, (b (ix2 p q) : EReal) = x1 (ix2 p q)) (x : S512x1024.Idx) :
    (k0_pay16 (F := Ideal) v3 a b x : EReal) = xs ((Rect.unit (s := S5632x1024) ![0, 0] ![512, 1024] inb).emb x)
      + add5 x0 x1 x2 ((Rect.unit (s := S5632x1024) ![0, 0] ![512, 1024] inb).emb x) := by
  obtain ⟨q, k, rfl⟩ : ∃ (q : Fin 512) (k : Fin 1024), x = ix2 q k := ⟨x 0, x 1, eq_ix2 x⟩
  refine (tile_first v3 a b q k).trans (congrArg₂ _ (ha _) (Finset.sum_congr rfl fun p _ => ?_))
  have hr : 0 + q.val < 5632 := by omega
  rw [emb5 0 inb q k hr, hb, h3]
  refine congrArg (· * _) ?_
  show (_ : EReal) = dd x0 x1 p (⟨0 + q.val, hr⟩ : Fin 5632)
  unfold dd
  have hn : 0 + q.val < 512 := by omega
  rw [dif_pos hn]
  exact congrArg (fun v => (x1 (ix2 p v) : EReal)) (Fin.ext (by show q.val = 0 + q.val; omega))
end piece

section loads
variable (x0 : Vec Ideal S10x512x512 .bf16) (x1 : Vec Ideal S512x512 .bf16) (x2 : Vec Ideal S512x1024 .bf16)

theorem ld_rows (M : Memref sig .tc .vmem S512x1024 .bf16) (h : M.IsWhole) (inb : ∀ a, (![0, 0] : Fin 2 → ℕ) a + S512x1024.size a ≤ S512x1024.size a)
    (p : Fin 512) (k : Fin 1024) :
    (View.readAt (Elt Ideal) M.view (Rect.unit (s := S512x1024) ![0, 0] S512x1024.size inb).toLoadRect (h.unread x2) (ix2 p k) : EReal) = x2 (ix2 p k) := by
  refine (ldu M h _ x2 _).trans (congrArg x2 (funext fun a => Fin.ext ?_))
  rw [Rect.emb_apply]
  revert a
  exact Fin.forall_fin_two.mpr ⟨(by show 0 + 1 * p.val = p.val; omega), (by show 0 + 1 * k.val = k.val; omega)⟩

theorem ld_first (M : Memref sig .tc .vmem S512x512 .bf16) (h : M.IsWhole) (inb : ∀ a, (![0, 0] : Fin 2 → ℕ) a + S512x512.size a ≤ S512x512.size a)
    (p q : Fin 512) :
    (View.readAt (Elt Ideal) M.view (Rect.unit (s := S512x512) ![0, 0] S512x512.size inb).toLoadRect (h.unread x1) (ix2 p q) : EReal) = x1 (ix2 p q) := by
  refine (ldu M h _ x1 _).trans (congrArg x1 (funext fun a => Fin.ext ?_))
  rw [Rect.emb_apply]
  revert a
  exact Fin.forall_fin_two.mpr ⟨(by show 0 + 1 * p.val = p.val; omega), (by show 0 + 1 * q.val = q.val; omega)⟩

theorem ld_chunk (M : Memref sig .tc .vmem S10x512x512 .bf16) (h : M.IsWhole) (j : Fin 10) (n : ℕ) (hn : n = j.val)
    (inb : ∀ a, (![n, 0, 0] : Fin 3 → ℕ) a + (![1, 512, 512] : Fin 3 → ℕ) a ≤ S10x512x512.size a) (p q : Fin 512) :
    (View.readAt (Elt Ideal) M.view (Rect.unit (s := S10x512x512) ![n, 0, 0] ![1, 512, 512] inb).toLoadRect (h.unread x0) (ix3 0 p q) : EReal) = x0 (ix3 j p q) := by
  subst hn
  refine (ldu M h _ x0 _).trans (congrArg x0 (funext fun a => Fin.ext ?_))
  rw [Rect.emb_apply]
  revert a
  intro a
  match a with
  | ⟨0, _⟩ => show j.val + 1 * 0 = j.val; omega
  | ⟨1, _⟩ => show 0 + 1 * p.val = p.val; omega
  | ⟨2, _⟩ => show 0 + 1 * q.val = q.val; omega

theorem ld_acc (xs0 : Vec Ideal S5632x1024 .f32) (M : Memref sig .tc .vmem S5632x1024 .f32) (h : M.IsWhole) (o : ℕ)
    (inb : ∀ a, (![o, 0] : Fin 2 → ℕ) a + (![512, 1024] : Fin 2 → ℕ) a ≤ S5632x1024.size a) (x : S512x1024.Idx) :
    (View.readAt (Elt Ideal) M.view (Rect.unit (s := S5632x1024) ![o, 0] ![512, 1024] inb).toLoadRect (h.unread xs0) x : EReal)
      = xs0 ((Rect.unit (s := S5632x1024) ![o, 0] ![512, 1024] inb).emb x) :=
  ldu M h (Rect.unit (s := S5632x1024) ![o, 0] ![512, 1024] inb) xs0 x
end loads

theorem fill (r : Fin 5632) (k : Fin 1024) : (k0_pay14 (F := Ideal) (ix2 r k) : EReal) = 0 := by
  show (_ : EReal) = _
  pointwise [k0_pay14]

/-- The first `n` row tiles hold the point's addend, the others zero. -/
def Inv (x0 : Vec Ideal S10x512x512 .bf16) (x1 : Vec Ideal S512x512 .bf16) (x2 : Vec Ideal S512x1024 .bf16) (n : ℕ)
    (L : List (View.Piece (Elt Ideal) S5632x1024 .f32)) : Prop :=
  ∀ (v : View sig .tc .vmem S5632x1024 .f32) (y : S5632x1024.Idx),
    (v.read (Elt Ideal) (v.writes (Elt Ideal) v.junk L) y : EReal) = if (y 0).val < 512 * n then 0 + add5 x0 x1 x2 y else 0

section inv
variable {x0 : Vec Ideal S10x512x512 .bf16} {x1 : Vec Ideal S512x512 .bf16} {x2 : Vec Ideal S512x1024 .bf16}

theorem inv_zero (inb : ∀ a, (![0, 0] : Fin 2 → ℕ) a + S5632x1024.size a ≤ S5632x1024.size a) :
    Inv x0 x1 x2 0 [⟨Rect.unit (s := S5632x1024) ![0, 0] S5632x1024.size inb, k0_pay14 (F := Ideal)⟩] := by
  intro v y
  rw [if_neg (by omega)]
  rw [View.read_writes_full]
  obtain ⟨r, k, rfl⟩ : ∃ (r : Fin 5632) (k : Fin 1024), y = ix2 r k := ⟨y 0, y 1, eq_ix2 y⟩
  exact fill r k

theorem inv_step {n : ℕ} {L : List (View.Piece (Elt Ideal) S5632x1024 .f32)} (o : ℕ) (ho : o = 512 * n)
    (inb : ∀ a, (![o, 0] : Fin 2 → ℕ) a + (![512, 1024] : Fin 2 → ℕ) a ≤ S5632x1024.size a) (w : S512x1024.Idx → Elt Ideal .f32)
    (hL : Inv x0 x1 x2 n L) (hw : Inv x0 x1 x2 n L → ∀ x, (w x : EReal) = 0 + add5 x0 x1 x2 ((Rect.unit (s := S5632x1024) ![o, 0] ![512, 1024] inb).emb x)) :
    Inv x0 x1 x2 (n + 1) (⟨Rect.unit (s := S5632x1024) ![o, 0] ![512, 1024] inb, w⟩ :: L) := by
  intro v y
  obtain ⟨r, k, rfl⟩ : ∃ (r : Fin 5632) (k : Fin 1024), y = ix2 r k := ⟨y 0, y 1, eq_ix2 y⟩
  by_cases h : o ≤ r.val ∧ r.val < o + 512
  · have hq : r.val - o < 512 := by omega
    have hr : o + (⟨r.val - o, hq⟩ : Fin 512).val < 5632 := by show o + (r.val - o) < 5632; omega
    have e := emb5 o inb ⟨r.val - o, hq⟩ k hr
    have e' : (⟨o + (⟨r.val - o, hq⟩ : Fin 512).val, hr⟩ : Fin 5632) = r := Fin.ext (by show o + (r.val - o) = r.val; omega)
    rw [e'] at e
    refine (View.read_writes_cons_hit v v.junk (Rect.unit (s := S5632x1024) ![o, 0] ![512, 1024] inb) w L (ix2 ⟨r.val - o, hq⟩ k) _ e).trans ?_
    rw [hw hL, e, if_pos (by show r.val < 512 * (n + 1); omega)]
  · refine (View.read_writes_cons_miss_of_axis v v.junk ⟨Rect.unit (s := S5632x1024) ![o, 0] ![512, 1024] inb, w⟩ L (ix2 r k) 0 o 512 rfl rfl rfl
      (by show r.val < o ∨ o + 512 ≤ r.val; omega)).trans ?_
    rw [hL v]
    by_cases h' : r.val < 512 * n
    · rw [if_pos (by show r.val < 512 * n; omega), if_pos (by show r.val < 512 * (n + 1); omega)]
    · rw [if_neg (by show ¬ r.val < 512 * n; omega), if_neg (by show ¬ r.val < 512 * (n + 1); omega)]

/-- A row tile not yet updated reads zero. -/
theorem cov_zero {n : ℕ} {L : List (View.Piece (Elt Ideal) S5632x1024 .f32)} (h : Inv x0 x1 x2 n L) (v : View sig .tc .vmem S5632x1024 .f32)
    (o : ℕ) (ho : o = 512 * n) (inb : ∀ a, (![o, 0] : Fin 2 → ℕ) a + (![512, 1024] : Fin 2 → ℕ) a ≤ S5632x1024.size a) (x : S512x1024.Idx) :
    (v.readCov L (Rect.unit (s := S5632x1024) ![o, 0] ![512, 1024] inb).toLoadRect x : EReal) = 0 := by
  obtain ⟨q, k, rfl⟩ : ∃ (q : Fin 512) (k : Fin 1024), x = ix2 q k := ⟨x 0, x 1, eq_ix2 x⟩
  have h0 : o + 512 ≤ 5632 := inb 0
  have hr : o + q.val < 5632 := by omega
  refine (h v ((Rect.unit (s := S5632x1024) ![o, 0] ![512, 1024] inb).emb (ix2 q k))).trans ?_
  rw [emb5 o inb q k hr, if_neg (by show ¬ (o + q.val < 512 * n); omega)]
end inv

theorem pay17_eq (v3 : Vec Ideal S512x1024 .bf16) (a : Vec Ideal S512x1024 .f32) (b : Vec Ideal S1x512x512 .bf16) :
    k0_pay17 (F := Ideal) v3 a b = k0_pay1 (k0_pay15 v3) a b := rfl
theorem pay18_eq (v3 : Vec Ideal S512x1024 .bf16) (a : Vec Ideal S512x1024 .f32) (b : Vec Ideal S1x512x512 .bf16) :
    k0_pay18 (F := Ideal) v3 a b = k0_pay1 (k0_pay15 v3) a b := rfl
theorem pay19_eq (v4 : FVec Ideal S512x1024 .bf16) (a : Vec Ideal S512x1024 .f32) (b : Vec Ideal S1x512x512 .bf16) :
    k0_pay19 (F := Ideal) v4 a b = k0_pay1 v4 a b := rfl
theorem pay20_eq (v4 : FVec Ideal S512x1024 .bf16) (a : Vec Ideal S512x1024 .f32) (b : Vec Ideal S1x512x512 .bf16) :
    k0_pay20 (F := Ideal) v4 a b = k0_pay1 v4 a b := rfl
theorem pay21_eq (v4 : FVec Ideal S512x1024 .bf16) (a : Vec Ideal S512x1024 .f32) (b : Vec Ideal S1x512x512 .bf16) :
    k0_pay21 (F := Ideal) v4 a b = k0_pay1 v4 a b := rfl
theorem pay24_eq (v4 : FVec Ideal S512x1024 .bf16) (a : Vec Ideal S512x1024 .f32) (b : Vec Ideal S1x512x512 .bf16) :
    k0_pay24 (F := Ideal) v4 a b = k0_pay1 v4 a b := rfl
theorem pay25_eq (v4 : FVec Ideal S512x1024 .bf16) (a : Vec Ideal S512x1024 .f32) (b : Vec Ideal S1x512x512 .bf16) :
    k0_pay25 (F := Ideal) v4 a b = k0_pay1 v4 a b := rfl
theorem pay26_eq (v4 : FVec Ideal S512x1024 .bf16) (a : Vec Ideal S512x1024 .f32) (b : Vec Ideal S1x512x512 .bf16) :
    k0_pay26 (F := Ideal) v4 a b = k0_pay1 v4 a b := rfl
theorem pay23_eq (v4 : FVec Ideal S512x1024 .bf16) (a : Vec Ideal S512x1024 .f32) (b : Vec Ideal S1x512x512 .bf16) :
    k0_pay23 (F := Ideal) v4 a (k0_pay22 b) = k0_pay1 v4 a b := rfl

set_option maxHeartbeats 2000000 in
/-- What a grid point of case B leaves: what the point before left plus its addend. -/
theorem soutB (c : Dev nD) (i : grid0.Coords) (arg1 : Memref sig .tc .vmem S10x512x512 .bf16) (harg1 : arg1.IsWhole) (arg2 : Memref sig .tc .vmem S512x512 .bf16) (harg2 : arg2.IsWhole) (arg3 : Memref sig .tc .vmem S512x1024 .bf16) (harg3 : arg3.IsWhole) (arg5 : Memref sig .tc .vmem S5632x1024 .f32) (harg5 : arg5.IsWhole) (arg6 : Memref sig .tc .vmem S2x512x1024 .bf16) (harg6 : arg6.IsWhole) (hc0 : ¬cond0_0 i) (hc1 : ¬cond0_1 i) (x0 : Vec Ideal S10x512x512 .bf16) (x1 : Vec Ideal S512x512 .bf16) (x2 : Vec Ideal S512x1024 .bf16) (xs0 : Vec Ideal S5632x1024 .f32) (y : S5632x1024.Idx) :
    (sout0_B_0 (F := Ideal) c i arg1 harg1 arg2 harg2 arg3 harg3 arg5 harg5 arg6 harg6 hc0 hc1 x0 x1 x2 xs0 y : EReal) = xs0 y + add5 x0 x1 x2 y := by
  unfold sout0_B_0
  refine View.read_writes_apply_of_pieces VS0_0 VS0_0.junk (fun y => (xs0 y + add5 x0 x1 x2 y : EReal)) _ ?_ y (scover0_B_0 (F := Ideal) c i arg1 harg1 arg2 harg2 arg3 harg3 arg5 harg5 arg6 harg6 hc0 hc1 x0 x1 x2 xs0 y)
  unfold kernelRun0_B
  dsimp only
  refine List.forall_mem_cons.mpr ⟨fun x => ?_, ?_⟩
  · dsimp only
    unfold kernelRun0_B.sl.v85 kernelRun0_B.sl.r
    exact piece_chunk x0 x1 x2 xs0 9 5120 _ rfl _ _ _ (fun p k => (cast_rows _ p k).trans (ld_rows x2 arg3 harg3 _ p k)) (fun x => ld_acc xs0 arg5 harg5 5120 _ x) (ld_chunk x0 arg1 harg1 9 9 rfl _) x
  refine List.forall_mem_cons.mpr ⟨fun x => ?_, ?_⟩
  · dsimp only
    unfold kernelRun0_B.sl.v77 kernelRun0_B.sl.r
    rw [pay26_eq]
    exact piece_chunk x0 x1 x2 xs0 8 4608 _ rfl _ _ _ (fun p k => (cast_rows _ p k).trans (ld_rows x2 arg3 harg3 _ p k)) (fun x => ld_acc xs0 arg5 harg5 4608 _ x) (ld_chunk x0 arg1 harg1 8 8 rfl _) x
  refine List.forall_mem_cons.mpr ⟨fun x => ?_, ?_⟩
  · dsimp only
    unfold kernelRun0_B.sl.v69 kernelRun0_B.sl.r
    rw [pay25_eq]
    exact piece_chunk x0 x1 x2 xs0 7 4096 _ rfl _ _ _ (fun p k => (cast_rows _ p k).trans (ld_rows x2 arg3 harg3 _ p k)) (fun x => ld_acc xs0 arg5 harg5 4096 _ x) (ld_chunk x0 arg1 harg1 7 7 rfl _) x
  refine List.forall_mem_cons.mpr ⟨fun x => ?_, ?_⟩
  · dsimp only
    unfold kernelRun0_B.sl.v61 kernelRun0_B.sl.r
    rw [pay24_eq]
    exact piece_chunk x0 x1 x2 xs0 6 3584 _ rfl _ _ _ (fun p k => (cast_rows _ p k).trans (ld_rows x2 arg3 harg3 _ p k)) (fun x => ld_acc xs0 arg5 harg5 3584 _ x) (ld_chunk x0 arg1 harg1 6 6 rfl _) x
  refine List.forall_mem_cons.mpr ⟨fun x => ?_, ?_⟩
  · dsimp only
    unfold kernelRun0_B.sl.v53 kernelRun0_B.sl.r_2 kernelRun0_B.sl.r
    rw [pay23_eq]
    exact piece_chunk x0 x1 x2 xs0 5 3072 _ rfl _ _ _ (fun p k => (cast_rows _ p k).trans (ld_rows x2 arg3 harg3 _ p k)) (fun x => ld_acc xs0 arg5 harg5 3072 _ x) (ld_chunk x0 arg1 harg1 5 5 rfl _) x
  refine List.forall_mem_cons.mpr ⟨fun x => ?_, ?_⟩
  · dsimp only
    unfold kernelRun0_B.sl.v45 kernelRun0_B.sl.r
    rw [pay21_eq]
    exact piece_chunk x0 x1 x2 xs0 4 2560 _ rfl _ _ _ (fun p k => (cast_rows _ p k).trans (ld_rows x2 arg3 harg3 _ p k)) (fun x => ld_acc xs0 arg5 harg5 2560 _ x) (ld_chunk x0 arg1 harg1 4 4 rfl _) x
  refine List.forall_mem_cons.mpr ⟨fun x => ?_, ?_⟩
  · dsimp only
    unfold kernelRun0_B.sl.v37 kernelRun0_B.sl.r
    rw [pay20_eq]
    exact piece_chunk x0 x1 x2 xs0 3 2048 _ rfl _ _ _ (fun p k => (cast_rows _ p k).trans (ld_rows x2 arg3 harg3 _ p k)) (fun x => ld_acc xs0 arg5 harg5 2048 _ x) (ld_chunk x0 arg1 harg1 3 3 rfl _) x
  refine List.forall_mem_cons.mpr ⟨fun x => ?_, ?_⟩
  · dsimp only
    unfold kernelRun0_B.sl.v29 kernelRun0_B.sl.r
    rw [pay19_eq]
    exact piece_chunk x0 x1 x2 xs0 2 1536 _ rfl _ _ _ (fun p k => (cast_rows _ p k).trans (ld_rows x2 arg3 harg3 _ p k)) (fun x => ld_acc xs0 arg5 harg5 1536 _ x) (ld_chunk x0 arg1 harg1 2 2 rfl _) x
  refine List.forall_mem_cons.mpr ⟨fun x => ?_, ?_⟩
  · dsimp only
    unfold kernelRun0_B.sl.r_1 kernelRun0_B.sl.v21
    rw [pay18_eq]
    exact piece_chunk x0 x1 x2 xs0 1 1024 _ rfl _ _ _ (fun p k => (cast_rows _ p k).trans (ld_rows x2 arg3 harg3 _ p k)) (fun x => ld_acc xs0 arg5 harg5 1024 _ x) (ld_chunk x0 arg1 harg1 1 1 rfl _) x
  refine List.forall_mem_cons.mpr ⟨fun x => ?_, ?_⟩
  · dsimp only
    unfold kernelRun0_B.sl.v13
    rw [pay17_eq]
    exact piece_chunk x0 x1 x2 xs0 0 512 _ rfl _ _ _ (fun p k => (cast_rows _ p k).trans (ld_rows x2 arg3 harg3 _ p k)) (fun x => ld_acc xs0 arg5 harg5 512 _ x) (ld_chunk x0 arg1 harg1 0 0 rfl _) x
  refine List.forall_mem_cons.mpr ⟨fun x => ?_, ?_⟩
  · dsimp only
    exact piece_first x0 x1 x2 xs0 _ _ _ _ (ld_rows x2 arg3 harg3 _) (fun x => ld_acc xs0 arg5 harg5 0 _ x) (ld_first x1 arg2 harg2 _) x
  exact fun p hp => absurd hp List.not_mem_nil

set_option maxHeartbeats 2000000 in
/-- What a grid point of case C leaves: what the point before left plus its addend. -/
theorem soutC (c : Dev nD) (i : grid0.Coords) (arg1 : Memref sig .tc .vmem S10x512x512 .bf16) (harg1 : arg1.IsWhole) (arg2 : Memref sig .tc .vmem S512x512 .bf16) (harg2 : arg2.IsWhole) (arg3 : Memref sig .tc .vmem S512x1024 .bf16) (harg3 : arg3.IsWhole) (arg5 : Memref sig .tc .vmem S5632x1024 .f32) (harg5 : arg5.IsWhole) (arg6 : Memref sig .tc .vmem S2x512x1024 .bf16) (harg6 : arg6.IsWhole) (hc0 : ¬cond0_0 i) (hc1 : cond0_1 i) (hd0 : Disjoint (((Memref.whole main_v20).slice (Rect.unit (s := S5632x1024) ![512, 0] S512x1024.size inb_S5632x1024_S512x1024_512_0) (fun _ => rfl))).view.set (((Memref.whole main_v20).slice (Rect.unit (s := S5632x1024) ![0, 0] S512x1024.size inb_S5632x1024_S512x1024_0_0) (fun _ => rfl))).view.set) (hd1 : Disjoint (((Memref.whole main_v20).slice (Rect.unit (s := S5632x1024) ![1024, 0] S512x1024.size inb_S5632x1024_S512x1024_1024_0) (fun _ => rfl))).view.set (((Memref.whole main_v20).slice (Rect.unit (s := S5632x1024) ![512, 0] S512x1024.size inb_S5632x1024_S512x1024_512_0) (fun _ => rfl))).view.set) (hd2 : Disjoint (((Memref.whole main_v20).slice (Rect.unit (s := S5632x1024) ![1536, 0] S512x1024.size inb_S5632x1024_S512x1024_1536_0) (fun _ => rfl))).view.set (((Memref.whole main_v20).slice (Rect.unit (s := S5632x1024) ![1024, 0] S512x1024.size inb_S5632x1024_S512x1024_1024_0) (fun _ => rfl))).view.set) (hd3 : Disjoint (((Memref.whole main_v20).slice (Rect.unit (s := S5632x1024) ![2048, 0] S512x1024.size inb_S5632x1024_S512x1024_2048_0) (fun _ => rfl))).view.set (((Memref.whole main_v20).slice (Rect.unit (s := S5632x1024) ![1536, 0] S512x1024.size inb_S5632x1024_S512x1024_1536_0) (fun _ => rfl))).view.set) (hd4 : Disjoint (((Memref.whole main_v20).slice (Rect.unit (s := S5632x1024) ![2560, 0] S512x1024.size inb_S5632x1024_S512x1024_2560_0) (fun _ => rfl))).view.set (((Memref.whole main_v20).slice (Rect.unit (s := S5632x1024) ![2048, 0] S512x1024.size inb_S5632x1024_S512x1024_2048_0) (fun _ => rfl))).view.set) (hd5 : Disjoint (((Memref.whole main_v20).slice (Rect.unit (s := S5632x1024) ![3072, 0] S512x1024.size inb_S5632x1024_S512x1024_3072_0) (fun _ => rfl))).view.set (((Memref.whole main_v20).slice (Rect.unit (s := S5632x1024) ![2560, 0] S512x1024.size inb_S5632x1024_S512x1024_2560_0) (fun _ => rfl))).view.set) (hd6 : Disjoint (((Memref.whole main_v20).slice (Rect.unit (s := S5632x1024) ![3584, 0] S512x1024.size inb_S5632x1024_S512x1024_3584_0) (fun _ => rfl))).view.set (((Memref.whole main_v20).slice (Rect.unit (s := S5632x1024) ![3072, 0] S512x1024.size inb_S5632x1024_S512x1024_3072_0) (fun _ => rfl))).view.set) (hd7 : Disjoint (((Memref.whole main_v20).slice (Rect.unit (s := S5632x1024) ![4096, 0] S512x1024.size inb_S5632x1024_S512x1024_4096_0) (fun _ => rfl))).view.set (((Memref.whole main_v20).slice (Rect.unit (s := S5632x1024) ![3584, 0] S512x1024.size inb_S5632x1024_S512x1024_3584_0) (fun _ => rfl))).view.set) (hd8 : Disjoint (((Memref.whole main_v20).slice (Rect.unit (s := S5632x1024) ![4608, 0] S512x1024.size inb_S5632x1024_S512x1024_4608_0) (fun _ => rfl))).view.set (((Memref.whole main_v20).slice (Rect.unit (s := S5632x1024) ![4096, 0] S512x1024.size inb_S5632x1024_S512x1024_4096_0) (fun _ => rfl))).view.set) (hd9 : Disjoint (((Memref.whole main_v20).slice (Rect.unit (s := S5632x1024) ![5120, 0] S512x1024.size inb_S5632x1024_S512x1024_5120_0) (fun _ => rfl))).view.set (((Memref.whole main_v20).slice (Rect.unit (s := S5632x1024) ![4608, 0] S512x1024.size inb_S5632x1024_S512x1024_4608_0) (fun _ => rfl))).view.set) (x0 : Vec Ideal S10x512x512 .bf16) (x1 : Vec Ideal S512x512 .bf16) (x2 : Vec Ideal S512x1024 .bf16) (xs0 : Vec Ideal S5632x1024 .f32) (y : S5632x1024.Idx) :
    (sout0_C_0 (F := Ideal) c i arg1 harg1 arg2 harg2 arg3 harg3 arg5 harg5 arg6 harg6 hc0 hc1 hd0 hd1 hd2 hd3 hd4 hd5 hd6 hd7 hd8 hd9 x0 x1 x2 xs0 y : EReal) = xs0 y + add5 x0 x1 x2 y := by
  unfold sout0_C_0
  refine View.read_writes_apply_of_pieces VS0_0 VS0_0.junk (fun y => (xs0 y + add5 x0 x1 x2 y : EReal)) _ ?_ y (scover0_C_0 (F := Ideal) c i arg1 harg1 arg2 harg2 arg3 harg3 arg5 harg5 arg6 harg6 hc0 hc1 hd0 hd1 hd2 hd3 hd4 hd5 hd6 hd7 hd8 hd9 x0 x1 x2 xs0 y)
  unfold kernelRun0_C
  dsimp only
  refine List.forall_mem_cons.mpr ⟨fun x => ?_, ?_⟩
  · dsimp only
    unfold kernelRun0_C.sl.v85 kernelRun0_C.sl.r
    exact piece_chunk x0 x1 x2 xs0 9 5120 _ rfl _ _ _ (fun p k => (cast_rows _ p k).trans (ld_rows x2 arg3 harg3 _ p k)) (fun x => ld_acc xs0 arg5 harg5 5120 _ x) (ld_chunk x0 arg1 harg1 9 9 rfl _) x
  refine List.forall_mem_cons.mpr ⟨fun x => ?_, ?_⟩
  · dsimp only
    unfold kernelRun0_C.sl.v77 kernelRun0_C.sl.r
    rw [pay26_eq]
    exact piece_chunk x0 x1 x2 xs0 8 4608 _ rfl _ _ _ (fun p k => (cast_rows _ p k).trans (ld_rows x2 arg3 harg3 _ p k)) (fun x => ld_acc xs0 arg5 harg5 4608 _ x) (ld_chunk x0 arg1 harg1 8 8 rfl _) x
  refine List.forall_mem_cons.mpr ⟨fun x => ?_, ?_⟩
  · dsimp only
    unfold kernelRun0_C.sl.v69 kernelRun0_C.sl.r
    rw [pay25_eq]
    exact piece_chunk x0 x1 x2 xs0 7 4096 _ rfl _ _ _ (fun p k => (cast_rows _ p k).trans (ld_rows x2 arg3 harg3 _ p k)) (fun x => ld_acc xs0 arg5 harg5 4096 _ x) (ld_chunk x0 arg1 harg1 7 7 rfl _) x
  refine List.forall_mem_cons.mpr ⟨fun x => ?_, ?_⟩
  · dsimp only
    unfold kernelRun0_C.sl.v61 kernelRun0_C.sl.r
    rw [pay24_eq]
    exact piece_chunk x0 x1 x2 xs0 6 3584 _ rfl _ _ _ (fun p k => (cast_rows _ p k).trans (ld_rows x2 arg3 harg3 _ p k)) (fun x => ld_acc xs0 arg5 harg5 3584 _ x) (ld_chunk x0 arg1 harg1 6 6 rfl _) x
  refine List.forall_mem_cons.mpr ⟨fun x => ?_, ?_⟩
  · dsimp only
    unfold kernelRun0_C.sl.v53 kernelRun0_C.sl.r_2 kernelRun0_C.sl.r
    rw [pay23_eq]
    exact piece_chunk x0 x1 x2 xs0 5 3072 _ rfl _ _ _ (fun p k => (cast_rows _ p k).trans (ld_rows x2 arg3 harg3 _ p k)) (fun x => ld_acc xs0 arg5 harg5 3072 _ x) (ld_chunk x0 arg1 harg1 5 5 rfl _) x
  refine List.forall_mem_cons.mpr ⟨fun x => ?_, ?_⟩
  · dsimp only
    unfold kernelRun0_C.sl.v45 kernelRun0_C.sl.r
    rw [pay21_eq]
    exact piece_chunk x0 x1 x2 xs0 4 2560 _ rfl _ _ _ (fun p k => (cast_rows _ p k).trans (ld_rows x2 arg3 harg3 _ p k)) (fun x => ld_acc xs0 arg5 harg5 2560 _ x) (ld_chunk x0 arg1 harg1 4 4 rfl _) x
  refine List.forall_mem_cons.mpr ⟨fun x => ?_, ?_⟩
  · dsimp only
    unfold kernelRun0_C.sl.v37 kernelRun0_C.sl.r
    rw [pay20_eq]
    exact piece_chunk x0 x1 x2 xs0 3 2048 _ rfl _ _ _ (fun p k => (cast_rows _ p k).trans (ld_rows x2 arg3 harg3 _ p k)) (fun x => ld_acc xs0 arg5 harg5 2048 _ x) (ld_chunk x0 arg1 harg1 3 3 rfl _) x
  refine List.forall_mem_cons.mpr ⟨fun x => ?_, ?_⟩
  · dsimp only
    unfold kernelRun0_C.sl.v29 kernelRun0_C.sl.r
    rw [pay19_eq]
    exact piece_chunk x0 x1 x2 xs0 2 1536 _ rfl _ _ _ (fun p k => (cast_rows _ p k).trans (ld_rows x2 arg3 harg3 _ p k)) (fun x => ld_acc xs0 arg5 harg5 1536 _ x) (ld_chunk x0 arg1 harg1 2 2 rfl _) x
  refine List.forall_mem_cons.mpr ⟨fun x => ?_, ?_⟩
  · dsimp only
    unfold kernelRun0_C.sl.r_1 kernelRun0_C.sl.v21
    rw [pay18_eq]
    exact piece_chunk x0 x1 x2 xs0 1 1024 _ rfl _ _ _ (fun p k => (cast_rows _ p k).trans (ld_rows x2 arg3 harg3 _ p k)) (fun x => ld_acc xs0 arg5 harg5 1024 _ x) (ld_chunk x0 arg1 harg1 1 1 rfl _) x
  refine List.forall_mem_cons.mpr ⟨fun x => ?_, ?_⟩
  · dsimp only
    unfold kernelRun0_C.sl.v13
    rw [pay17_eq]
    exact piece_chunk x0 x1 x2 xs0 0 512 _ rfl _ _ _ (fun p k => (cast_rows _ p k).trans (ld_rows x2 arg3 harg3 _ p k)) (fun x => ld_acc xs0 arg5 harg5 512 _ x) (ld_chunk x0 arg1 harg1 0 0 rfl _) x
  refine List.forall_mem_cons.mpr ⟨fun x => ?_, ?_⟩
  · dsimp only
    exact piece_first x0 x1 x2 xs0 _ _ _ _ (ld_rows x2 arg3 harg3 _) (fun x => ld_acc xs0 arg5 harg5 0 _ x) (ld_first x1 arg2 harg2 _) x
  exact fun p hp => absurd hp List.not_mem_nil

set_option maxHeartbeats 2000000 in
/-- What the first grid point leaves: its addend, over zeros. -/
theorem soutA (c : Dev nD) (i : grid0.Coords) (arg1 : Memref sig .tc .vmem S10x512x512 .bf16) (harg1 : arg1.IsWhole) (arg2 : Memref sig .tc .vmem S512x512 .bf16) (harg2 : arg2.IsWhole) (arg3 : Memref sig .tc .vmem S512x1024 .bf16) (harg3 : arg3.IsWhole) (arg5 : Memref sig .tc .vmem S5632x1024 .f32) (harg5 : arg5.IsWhole) (arg6 : Memref sig .tc .vmem S2x512x1024 .bf16) (harg6 : arg6.IsWhole) (hc0 : cond0_0 i) (hc1 : ¬cond0_1 i) (x0 : Vec Ideal S10x512x512 .bf16) (x1 : Vec Ideal S512x512 .bf16) (x2 : Vec Ideal S512x1024 .bf16) (y : S5632x1024.Idx) :
    (sout0_A_0 (F := Ideal) c i arg1 harg1 arg2 harg2 arg3 harg3 arg5 harg5 arg6 harg6 hc0 hc1 x0 x1 x2 y : EReal) = 0 + add5 x0 x1 x2 y := by
  have H : Inv x0 x1 x2 11 (kernelRun0_A (F := Ideal) c i arg1 harg1 arg2 harg2 arg3 harg3 arg5 harg5 arg6 harg6 hc0 hc1 x0 x1 x2).1 := by
    unfold kernelRun0_A
    dsimp only
    refine inv_step 5120 rfl _ _ ?_ (fun h x => ?_)
    rotate_left
    · unfold kernelRun0_A.sl.v85 kernelRun0_A.sl.r
      exact piece_chunk x0 x1 x2 (fun _ => 0) 9 5120 _ rfl _ _ _ (fun p k => (cast_rows _ p k).trans (ld_rows x2 arg3 harg3 _ p k)) (fun x => cov_zero h arg5.view 5120 rfl _ x) (ld_chunk x0 arg1 harg1 9 9 rfl _) x
    unfold kernelRun0_A.sl.HS0_11
    refine inv_step 4608 rfl _ _ ?_ (fun h x => ?_)
    rotate_left
    · unfold kernelRun0_A.sl.v77 kernelRun0_A.sl.r
      rw [pay26_eq]
      exact piece_chunk x0 x1 x2 (fun _ => 0) 8 4608 _ rfl _ _ _ (fun p k => (cast_rows _ p k).trans (ld_rows x2 arg3 harg3 _ p k)) (fun x => cov_zero h arg5.view 4608 rfl _ x) (ld_chunk x0 arg1 harg1 8 8 rfl _) x
    unfold kernelRun0_A.sl.HS0_10
    refine inv_step 4096 rfl _ _ ?_ (fun h x => ?_)
    rotate_left
    · unfold kernelRun0_A.sl.v69 kernelRun0_A.sl.r
      rw [pay25_eq]
      exact piece_chunk x0 x1 x2 (fun _ => 0) 7 4096 _ rfl _ _ _ (fun p k => (cast_rows _ p k).trans (ld_rows x2 arg3 harg3 _ p k)) (fun x => cov_zero h arg5.view 4096 rfl _ x) (ld_chunk x0 arg1 harg1 7 7 rfl _) x
    unfold kernelRun0_A.sl.HS0_9
    refine inv_step 3584 rfl _ _ ?_ (fun h x => ?_)
    rotate_left
    · unfold kernelRun0_A.sl.v61 kernelRun0_A.sl.r
      rw [pay24_eq]
      exact piece_chunk x0 x1 x2 (fun _ => 0) 6 3584 _ rfl _ _ _ (fun p k => (cast_rows _ p k).trans (ld_rows x2 arg3 harg3 _ p k)) (fun x => cov_zero h arg5.view 3584 rfl _ x) (ld_chunk x0 arg1 harg1 6 6 rfl _) x
    unfold kernelRun0_A.sl.HS0_8
    refine inv_step 3072 rfl _ _ ?_ (fun h x => ?_)
    rotate_left
    · unfold kernelRun0_A.sl.v53 kernelRun0_A.sl.r_2 kernelRun0_A.sl.r
      rw [pay23_eq]
      exact piece_chunk x0 x1 x2 (fun _ => 0) 5 3072 _ rfl _ _ _ (fun p k => (cast_rows _ p k).trans (ld_rows x2 arg3 harg3 _ p k)) (fun x => cov_zero h arg5.view 3072 rfl _ x) (ld_chunk x0 arg1 harg1 5 5 rfl _) x
    unfold kernelRun0_A.sl.HS0_7
    refine inv_step 2560 rfl _ _ ?_ (fun h x => ?_)
    rotate_left
    · unfold kernelRun0_A.sl.v45 kernelRun0_A.sl.r
      rw [pay21_eq]
      exact piece_chunk x0 x1 x2 (fun _ => 0) 4 2560 _ rfl _ _ _ (fun p k => (cast_rows _ p k).trans (ld_rows x2 arg3 harg3 _ p k)) (fun x => cov_zero h arg5.view 2560 rfl _ x) (ld_chunk x0 arg1 harg1 4 4 rfl _) x
    unfold kernelRun0_A.sl.HS0_6
    refine inv_step 2048 rfl _ _ ?_ (fun h x => ?_)
    rotate_left
    · unfold kernelRun0_A.sl.v37 kernelRun0_A.sl.r
      rw [pay20_eq]
      exact piece_chunk x0 x1 x2 (fun _ => 0) 3 2048 _ rfl _ _ _ (fun p k => (cast_rows _ p k).trans (ld_rows x2 arg3 harg3 _ p k)) (fun x => cov_zero h arg5.view 2048 rfl _ x) (ld_chunk x0 arg1 harg1 3 3 rfl _) x
    unfold kernelRun0_A.sl.HS0_5
    refine inv_step 1536 rfl _ _ ?_ (fun h x => ?_)
    rotate_left
    · unfold kernelRun0_A.sl.v29 kernelRun0_A.sl.r
      rw [pay19_eq]
      exact piece_chunk x0 x1 x2 (fun _ => 0) 2 1536 _ rfl _ _ _ (fun p k => (cast_rows _ p k).trans (ld_rows x2 arg3 harg3 _ p k)) (fun x => cov_zero h arg5.view 1536 rfl _ x) (ld_chunk x0 arg1 harg1 2 2 rfl _) x
    unfold kernelRun0_A.sl.HS0_4
    refine inv_step 1024 rfl _ _ ?_ (fun h x => ?_)
    rotate_left
    · unfold kernelRun0_A.sl.r_1 kernelRun0_A.sl.v21
      rw [pay18_eq]
      exact piece_chunk x0 x1 x2 (fun _ => 0) 1 1024 _ rfl _ _ _ (fun p k => (cast_rows _ p k).trans (ld_rows x2 arg3 harg3 _ p k)) (fun x => cov_zero h arg5.view 1024 rfl _ x) (ld_chunk x0 arg1 harg1 1 1 rfl _) x
    unfold kernelRun0_A.sl.HS0_3
    refine inv_step 512 rfl _ _ ?_ (fun h x => ?_)
    rotate_left
    · unfold kernelRun0_A.sl.v13
      rw [pay17_eq]
      exact piece_chunk x0 x1 x2 (fun _ => 0) 0 512 _ rfl _ _ _ (fun p k => (cast_rows _ p k).trans (ld_rows x2 arg3 harg3 _ p k)) (fun x => cov_zero h arg5.view 512 rfl _ x) (ld_chunk x0 arg1 harg1 0 0 rfl _) x
    unfold kernelRun0_A.sl.HS0_2
    refine inv_step 0 rfl _ _ ?_ (fun h x => ?_)
    rotate_left
    · exact piece_first x0 x1 x2 (fun _ => 0) _ _ _ _ (ld_rows x2 arg3 harg3 _) (fun x => cov_zero h arg5.view 0 rfl _ x) (ld_first x1 arg2 harg2 _) x
    unfold kernelRun0_A.sl.HS0_1
    exact inv_zero _
  unfold sout0_A_0
  rw [H VS0_0 y, if_pos (by have : (y 0).val < 5632 := (y 0).isLt; omega)]

end Cert.Kernel5Ideal.Val
end
-- ==== Proof.InwgAlg.lean ====
module

public import proofs.«01_k».proof.Defs
public import proofs.«01_k».proof.Proof.InwgVal
public import proofs.«01_k».proof.Proof.Gen.Reference5Ideal.Run
public import proofs.«01_k».proof.Proof.Gen.Kernel5Ideal.Frame
public import Idealize.ShloMosaic.Adequacy
public import Idealize.ShloMosaic.Init

@[expose] public section

set_option maxRecDepth 16384

noncomputable section

/-! The projection's weight gradient: the accumulator after the last grid point is the product over all tokens, and the kernel and its
reference leave the same result. -/

namespace Cert.Kernel5Ideal.Val
open Cert.Kernel5Ideal Cert.Kernel5Ideal.Gen Idealize.ShloMosaic Idealize.ShloMosaic.TcCoe Idealize.SL.Sem
open Cert.Step
open scoped BigOperators

variable (m : (ℓ : Loc nD τ sig) → Buf (Elt Ideal) ℓ) (c : Dev nD)

/-- Row `i` of the step's input. -/
def X (i : Fin 8192) : Row := fun k => m ((c.tc : Thread nD τ).loc main_arg0) (ix2 i k)
/-- The norm's gain. -/
def Gn : Row := fun k => m ((c.tc : Thread nD τ).loc main_arg1) (ix1 k)
/-- The projection's cotangent. -/
def Dp (i : Fin 8192) (r : Fin 5632) : EReal := m ((c.tc : Thread nD τ).loc main_arg3) (ix2 i r)

/-- Row `p` of the tile of grid point `t`. -/
abbrev rw' (t : Fin cfg0.N) (p : Fin 512) : Fin 8192 := ⟨t.val * 512 + p.val, by have := lt_of_lt_of_eq t.isLt N_0; omega⟩

theorem idx : ∀ t : Fin cfg0.N, win0_0.index t = ![0, t.val, 0] ∧ win0_1.index t = ![t.val, 0] ∧ win0_2.index t = ![t.val, 0] :=
  (by decide +kernel : ∀ t : Fin grid0.N, win0_0.index t = ![0, t.val, 0] ∧ win0_1.index t = ![t.val, 0] ∧ win0_2.index t = ![t.val, 0])

set_option maxHeartbeats 2000000 in
theorem v16_at (j : Fin 10) (i : Fin 8192) (q : Fin 512) : (V m c main_v16 (ix3 j i q) : EReal) = Dp m c i (ch j q) := by
  show (_ : EReal) = _
  simp only [V, hostOps0, StableHlo.TRef.binary, StableHlo.TRef.nullary, StableHlo.TRef.unary,
    StableHlo.TRef.toBuf, StableHlo.TRef.ofBuf, cast_eq, List.flatten_cons, List.flatten_nil, List.append_nil, List.cons_append,
    List.nil_append]
  after_results
  pointwise
  exact congrArg (fun a => m ((c.tc : Thread nD τ).loc main_arg3) (ix2 i a)) (Fin.ext (by simp only [ch]; omega))

set_option maxHeartbeats 2000000 in
theorem v18_at (i : Fin 8192) (q : Fin 512) : (V m c main_v18 (ix2 i q) : EReal) = Dp m c i (ch0 q) := by
  show (_ : EReal) = _
  simp only [V, hostOps0, StableHlo.TRef.binary, StableHlo.TRef.nullary, StableHlo.TRef.unary,
    StableHlo.TRef.toBuf, StableHlo.TRef.ofBuf, cast_eq, List.flatten_cons, List.flatten_nil, List.append_nil, List.cons_append,
    List.nil_append]
  after_results
  pointwise
  rfl

set_option maxHeartbeats 2000000 in
theorem v19_at (i : Fin 8192) (k : Fin 1024) : (V m c main_v19 (ix2 i k) : EReal) = nrm (X m c i) (Gn m c) k := by
  show (_ : EReal) = _
  simp only [V, hostOps0, StableHlo.TRef.binary, StableHlo.TRef.nullary, StableHlo.TRef.unary,
    StableHlo.TRef.toBuf, StableHlo.TRef.ofBuf, cast_eq, List.flatten_cons, List.flatten_nil, List.append_nil, List.cons_append,
    List.nil_append]
  after_results
  pointwise
  rfl

theorem b0 (t : Fin cfg0.N) (j : Fin 10) (p q : Fin 512) : (iblk m c 0 t (ix3 j p q) : EReal) = Dp m c (rw' t p) (ch j q) := by
  have h := (idx t).1
  have e : (win0_0.blk t).view.emb (ix3 j p q) = ix3 j (rw' t p) q := by blk_ext [h]
  refine Eq.trans ?_ (v16_at m c j (rw' t p) q)
  show (_ : EReal) = _
  blk_simp [iblk]
  rw [e]

theorem b1 (t : Fin cfg0.N) (p q : Fin 512) : (iblk m c 1 t (ix2 p q) : EReal) = Dp m c (rw' t p) (ch0 q) := by
  have h := (idx t).2.1
  have e : (win0_1.blk t).view.emb (ix2 p q) = ix2 (rw' t p) q := by blk_ext [h]
  refine Eq.trans ?_ (v18_at m c (rw' t p) q)
  show (_ : EReal) = _
  blk_simp [iblk]
  rw [e]

theorem b2 (t : Fin cfg0.N) (p : Fin 512) (k : Fin 1024) : (iblk m c 2 t (ix2 p k) : EReal) = nrm (X m c (rw' t p)) (Gn m c) k := by
  have h := (idx t).2.2
  have e : (win0_2.blk t).view.emb (ix2 p k) = ix2 (rw' t p) k := by blk_ext [h]
  refine Eq.trans ?_ (v19_at m c (rw' t p) k)
  show (_ : EReal) = _
  blk_simp [iblk]
  rw [e]

/-- What grid point `t` adds to an entry: the product over its tile of tokens. -/
theorem addend (t : Fin cfg0.N) (r : Fin 5632) (k : Fin 1024) :
    add5 (iblk m c 0 t) (iblk m c 1 t) (iblk m c 2 t) (ix2 r k)
      = ∑ p, Dp m c (rw' t p) r * nrm (X m c (rw' t p)) (Gn m c) k := by
  refine Finset.sum_congr rfl fun p _ => congrArg₂ (· * ·) ?_ (b2 m c t p k)
  show dd (iblk m c 0 t) (iblk m c 1 t) p r = _
  unfold dd
  by_cases h : r.val < 512
  · rw [dif_pos h]
    exact (b1 m c t p _).trans (congrArg (Dp m c (rw' t p)) (Fin.ext rfl))
  · rw [dif_neg h]
    refine (b0 m c t _ p _).trans (congrArg (Dp m c (rw' t p)) (Fin.ext ?_))
    show (r.val / 512 - 1 + 1) * 512 + r.val % 512 = r.val
    omega

/-- The accumulator starts from zero at the first grid point. -/
theorem stA (t : Fin cfg0.N) (h : t.val % 16 = 0) (r : Fin 5632) (k : Fin 1024) :
    (outsAt0 m c t.val t.isLt (ix2 r k) : EReal) = 0 + ∑ p, Dp m c (rw' t p) r * nrm (X m c (rw' t p)) (Gn m c) k := by
  rw [outsAt0_A m c t h (by omega), ← addend]
  exact soutA ..

/-- At the others it adds to what the point before left. -/
theorem stB (t : Fin cfg0.N) (h : ¬t.val % 16 = 0) (r : Fin 5632) (k : Fin 1024) :
    (outsAt0 m c t.val t.isLt (ix2 r k) : EReal)
      = outsAt0 m c (t.val - 1) (Nat.lt_of_le_of_lt (Nat.sub_le _ _) t.isLt) (ix2 r k)
        + ∑ p, Dp m c (rw' t p) r * nrm (X m c (rw' t p)) (Gn m c) k := by
  rcases Decidable.em (t.val % 16 = 15) with h1 | h1
  · rw [outsAt0_C m c t h h1, ← addend]
    exact soutC ..
  · rw [outsAt0_B m c t h h1, ← addend]
    exact soutB ..

theorem sum_rows (F : Fin 8192 → EReal) (t : Fin cfg0.N) (h : t.val % 16 = 16 - 1) :
    ∑ s : Fin 16, ∑ p, F (rw' ⟨16 * (t.val / 16) + s.val, Pipeline.run_point_lt_of_flush t h s⟩ p) = ∑ i, F i := by
  have ht : t.val < 16 := lt_of_lt_of_eq t.isLt N_0
  rw [Fin.sum_univ_tiles 16 512 rfl F]
  refine Finset.sum_congr rfl fun s _ => Finset.sum_congr rfl fun p _ => congrArg F (Fin.ext ?_)
  show (16 * (t.val / 16) + s.val) * 512 + p.val = _
  have : 16 * (t.val / 16) + s.val = s.val := by omega
  rw [this]

/-- The accumulator after the last grid point. -/
theorem last (t : Fin cfg0.N) (h : t.val % 16 = 16 - 1) (r : Fin 5632) (k : Fin 1024) :
    (outsAt0 m c t.val t.isLt (ix2 r k) : EReal) = ∑ i, Dp m c i r * nrm (X m c i) (Gn m c) k := by
  refine (Pipeline.eq_sum_fin_of_reset_step_apply_of_flush (M := EReal)
    (fun n h (k : Fin 1024) => (outsAt0 m c n h (ix2 r k) : EReal)) 16 (fun _ => 0)
    (fun t k => ∑ p, Dp m c (rw' t p) r * nrm (X m c (rw' t p)) (Gn m c) k) (fun t h k => stA m c t h r k) (fun t h k => stB m c t h r k) t h k).trans ?_
  exact (zero_add _).trans (sum_rows (fun i => Dp m c i r * nrm (X m c i) (Gn m c) k) t h)

/-- The result, entry by entry. -/
theorem res_at (r : Fin 5632) (k : Fin 1024) : (res m c (ix2 r k) : EReal) = ∑ i, Dp m c i r * nrm (X m c i) (Gn m c) k :=
  last m c ⟨15, last_lt⟩ rfl r k

/-- The weight gradient, in the rows of the input and the cotangent. -/
def dwin : Vec Ideal S5632x1024 .bf16 := fun y => ∑ i, Dp m c i (y 0) * nrm (X m c i) (Gn m c) (y 1)

theorem res_eq : res m c = dwin m c := by
  funext y
  obtain ⟨r, k, rfl⟩ : ∃ (r : Fin 5632) (k : Fin 1024), y = ix2 r k := ⟨y 0, y 1, eq_ix2 y⟩
  exact res_at m c r k

/-- Every run leaves the weight gradient and the arguments unchanged. -/
theorem run_dwin (ρ : Dev nD → PrngReg) : θ_run defs (onTc (τ := τ) (main (F := Ideal))) ⟨m, fun _ => 0, ρ⟩ (fun r => ∀ c : Dev nD,
    r.2.mem ((c.tc : Thread nD τ).loc main_v20) = dwin m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (res_eq m c), (h c).2⟩) (run m ρ)

end Cert.Kernel5Ideal.Val

namespace Cert.Inwg
open Idealize.ShloMosaic Idealize.ShloMosaic.TcCoe Idealize.SL.Sem
open scoped BigOperators

set_option maxHeartbeats 1600000 in
theorem algebraic : Cert.algebraic_Kernel5Ideal_Reference5Ideal := by
  pair_intro
  · run_from Cert.Kernel5Ideal.Val.run_dwin m g
  · run_from Cert.Reference5Ideal.Value.run m' g'
    funext y
    obtain ⟨r, k, rfl⟩ : ∃ (r : Fin 5632) (k : Fin 1024), y = ix2 r k := ⟨y 0, y 1, eq_ix2 y⟩
    show (_ : EReal) = _
    pointwise
    rfl

end Cert.Inwg
end
-- ==== Proof.MixMath.lean ====
module

public import Idealize.ShloMosaic.Lib.Pipeline.ValueKit
public import Idealize.ShloMosaic.Lib.Claim

@[expose] public section

set_option maxRecDepth 16384

noncomputable section

/-! The mixer's formulas on extended reals. -/

namespace Cert.Step
open Idealize.ShloMosaic
open scoped BigOperators

/-- The gaussian error unit in its form with a hyperbolic tangent. -/
def gel (x : EReal) : EReal :=
  x * (Ideal.ofBits FTy.f32 1056964608#32 * (1 + Ideal.tanh (Ideal.ofBits FTy.f32 1061962282#32
    * (x + Ideal.ofBits FTy.f32 1027024659#32 * (x * x * x)))))

/-- The kernel's order of the products in it. -/
theorem gel_eq (x : EReal) : Ideal.ofBits FTy.f32 1056964608#32 * x * (1 + Ideal.tanh (Ideal.ofBits FTy.f32 1061962282#32
    * (x + Ideal.ofBits FTy.f32 1027024659#32 * x * x * x))) = gel x := by
  unfold gel
  rw [mul_assoc (Ideal.ofBits FTy.f32 1027024659#32) x x, mul_assoc (Ideal.ofBits FTy.f32 1027024659#32) (x * x) x,
    mul_comm (Ideal.ofBits FTy.f32 1056964608#32) x, mul_assoc]

theorem half_bits : Ideal.ofBits FTy.f32 1056964608#32 = ((1 / 2 : ℝ) : EReal) := by
  show (_ : EReal) = _
  simp [Ideal.ofBits, Ideal.ieee]
  rw [← EReal.coe_mul]
  exact congrArg _ (by norm_num)

/-- A half times the hyperbolic tangent of a half of a number, plus a half, is its logistic. -/
theorem sig_eq (x : EReal) : Ideal.ofBits FTy.f32 1056964608#32 * Ideal.tanh (Ideal.ofBits FTy.f32 1056964608#32 * x)
    + Ideal.ofBits FTy.f32 1056964608#32 = Ideal.logistic x := by
  rw [half_bits]
  induction x with
  | bot =>
    rw [EReal.coe_mul_bot_of_pos (by norm_num), Ideal.tanh_bot, Ideal.logistic_bot]
    rw [show (-1 : EReal) = ((-1 : ℝ) : EReal) by norm_num, ← EReal.coe_mul, ← EReal.coe_add]
    norm_num
  | top =>
    rw [EReal.coe_mul_top_of_pos (by norm_num), Ideal.tanh_top, Ideal.logistic_top]
    rw [show (1 : EReal) = ((1 : ℝ) : EReal) by norm_num, ← EReal.coe_mul, ← EReal.coe_add]
    norm_num
  | coe r =>
    rw [← EReal.coe_mul, Ideal.tanh_coe, Ideal.logistic_coe, ← EReal.coe_mul, ← EReal.coe_add]
    refine congrArg _ ?_
    have e : Real.exp (-r) = Real.exp (-(1 / 2 * r)) * Real.exp (-(1 / 2 * r)) := by rw [← Real.exp_add]; congr 1; ring
    have h1 : Real.exp (1 / 2 * r) * Real.exp (-(1 / 2 * r)) = 1 := by rw [← Real.exp_add]; simp
    rw [Real.tanh_eq_sinh_div_cosh, Real.sinh_eq, Real.cosh_eq, e]
    have p1 := Real.exp_pos (1 / 2 * r)
    have p2 := Real.exp_pos (-(1 / 2 * r))
    generalize Real.exp (1 / 2 * r) = a at *
    generalize Real.exp (-(1 / 2 * r)) = b at *
    have n1 : a + b ≠ 0 := by positivity
    have n2 : 1 + b * b ≠ 0 := by positivity
    refine eq_inv_of_mul_eq_one_left ?_
    field_simp
    linear_combination (2 * b) * h1

/-- A row's value `k` rows earlier in its sequence of 2048 rows; zero before the sequence's first. -/
def tap (k : ℕ) (v : Fin 8192 → EReal) (i : Fin 8192) : EReal :=
  if i.val % 2048 < k then 0 else v ⟨i.val - k, by omega⟩

end Cert.Step
end
-- ==== Proof.MixPay.lean ====
module

public import proofs.«01_k».proof.Proof.MixMath
public import proofs.«01_k».proof.Proof.Gen.Kernel7Ideal.Skeleton

@[expose] public section

set_option maxRecDepth 16384

noncomputable section

/-! The mixer's block of 512 rows as formulas of its argument blocks, and each value of the body as one of them. -/

namespace Cert.Kernel7Ideal.Val
open Cert.Kernel7Ideal Cert.Kernel7Ideal.Gen Idealize.ShloMosaic Idealize.ShloMosaic.TcCoe Idealize.SL.Sem
open Cert.Step
open scoped BigOperators

/-- A column of the left half of 1024. -/
abbrev lo (k : Fin 512) : Fin 1024 := ⟨k.val, by omega⟩
/-- A column of the right half of 1024. -/
abbrev hi (k : Fin 512) : Fin 1024 := ⟨512 + k.val, by omega⟩

/-- The activated state. -/
def zB (x0 : Vec Ideal S512x512 .bf16) (p k : Fin 512) : EReal := gel (x0 (ix2 p k))
/-- The first projection of the state. -/
def paB (x0 : Vec Ideal S512x512 .bf16) (x7 : Vec Ideal S1024x1024 .bf16) (p : Fin 512) (q : Fin 1024) : EReal :=
  ∑ k : Fin 512, zB x0 p k * x7 (ix2 q (lo k))
/-- The state's gate. -/
def sbB (x0 : Vec Ideal S512x512 .bf16) (x7 : Vec Ideal S1024x1024 .bf16) (p : Fin 512) (q : Fin 1024) : EReal :=
  Ideal.logistic (∑ k : Fin 512, zB x0 p k * x7 (ix2 q (hi k)))
/-- What the convolution runs over. -/
def vB (x2 x3 : Vec Ideal S2x512x512 .bf16) (h : Fin 2) (p q : Fin 512) : EReal := x2 (ix3 h p q) * x3 (ix3 h p q)
/-- The convolution of three taps, the two earlier ones given as `T1` and `T2`. -/
def cvB (x2 x3 : Vec Ideal S2x512x512 .bf16) (x10 : Vec Ideal S3x1024 .f32) (x11 : Vec Ideal S1x1024 .f32)
    (T1 T2 : Fin 2 → Fin 512 → Fin 512 → EReal) (h : Fin 2) (j : Fin 512 → Fin 1024) (p q : Fin 512) : EReal :=
  x11 (ix2 0 (j q)) + x10 (ix2 0 (j q)) * T2 h p q + x10 (ix2 1 (j q)) * T1 h p q + x10 (ix2 2 (j q)) * vB x2 x3 h p q
/-- The projection of the gated convolution. -/
def ybB (x1 x2 x3 : Vec Ideal S2x512x512 .bf16) (x8 : Vec Ideal S1024x1024 .bf16) (x10 : Vec Ideal S3x1024 .f32) (x11 : Vec Ideal S1x1024 .f32)
    (T1 T2 : Fin 2 → Fin 512 → Fin 512 → EReal) (p : Fin 512) (q : Fin 1024) : EReal :=
  (∑ k : Fin 512, x1 (ix3 0 p k) * cvB x2 x3 x10 x11 T1 T2 0 lo p k * x8 (ix2 (lo k) q))
    + ∑ k : Fin 512, x1 (ix3 1 p k) * cvB x2 x3 x10 x11 T1 T2 1 hi p k * x8 (ix2 (hi k) q)
/-- Two chunks side by side. -/
def twoB (x : Vec Ideal S2x512x512 .bf16) (p : Fin 512) (q : Fin 1024) : EReal :=
  if h : q.val < 512 then x (ix3 0 p ⟨q.val, h⟩) else x (ix3 1 p ⟨q.val - 512, by omega⟩)
/-- The two branches under their gates. -/
def mgB (x0 : Vec Ideal S512x512 .bf16) (x1 x2 x3 x4 x5 : Vec Ideal S2x512x512 .bf16) (x7 x8 : Vec Ideal S1024x1024 .bf16) (x10 : Vec Ideal S3x1024 .f32) (x11 : Vec Ideal S1x1024 .f32)
    (T1 T2 : Fin 2 → Fin 512 → Fin 512 → EReal) (p : Fin 512) (q : Fin 1024) : EReal :=
  Ideal.logistic (twoB x4 p q) * (paB x0 x7 p q * sbB x0 x7 p q) + Ideal.logistic (twoB x5 p q) * ybB x1 x2 x3 x8 x10 x11 T1 T2 p q
/-- The input plus the branches' projection. -/
def h1B (x0 : Vec Ideal S512x512 .bf16) (x1 x2 x3 x4 x5 : Vec Ideal S2x512x512 .bf16) (x6 : Vec Ideal S512x1024 .f32) (x7 x8 x9 : Vec Ideal S1024x1024 .bf16) (x10 : Vec Ideal S3x1024 .f32) (x11 : Vec Ideal S1x1024 .f32)
    (T1 T2 : Fin 2 → Fin 512 → Fin 512 → EReal) (p : Fin 512) (q : Fin 1024) : EReal :=
  x6 (ix2 p q) + ∑ k : Fin 1024, mgB x0 x1 x2 x3 x4 x5 x7 x8 x10 x11 T1 T2 p k * x9 (ix2 k q)

theorem p7 (v : Vec Ideal S512x512 .bf16) (p k : Fin 512) : (k0_pay7 (F := Ideal) v (ix2 p k) : EReal) = gel (v (ix2 p k)) := by
  refine Eq.trans ?_ (gel_eq _)
  show (_ : EReal) = _
  pointwise [k0_pay7]

theorem p8 (v : Vec Ideal S512x512 .bf16) (w : Vec Ideal S1024x512 .bf16) (p : Fin 512) (q : Fin 1024) :
    (k0_pay8 (F := Ideal) v w (ix2 p q) : EReal) = ∑ k : Fin 512, gel (v (ix2 p k)) * w (ix2 q k) := by
  refine Eq.trans ?_ (Finset.sum_congr rfl fun k _ => congrArg (fun a => (a * w (ix2 q k) : EReal)) (p7 v p k))
  show (_ : EReal) = _
  pointwise [k0_pay8]

theorem p10 (v : FVec Ideal S512x512 .bf16) (w : FVec Ideal S1024x512 .bf16) (p : Fin 512) (q : Fin 1024) :
    (k0_pay10 (F := Ideal) v w (ix2 p q) : EReal) = Ideal.logistic (∑ k : Fin 512, (v (ix2 p k) : EReal) * w (ix2 q k)) := by
  refine Eq.trans ?_ (sig_eq _)
  show (_ : EReal) = _
  pointwise [k0_pay10]

theorem p29 (v w : Vec Ideal S1x512x512 .bf16) (p : Fin 512) (q : Fin 1024) :
    (k0_pay29 (F := Ideal) v w (ix2 p q) : EReal) = Ideal.logistic (if h : q.val < 512 then v (ix3 0 p ⟨q.val, h⟩) else w (ix3 0 p ⟨q.val - 512, by omega⟩)) := by
  refine Eq.trans ?_ (sig_eq _)
  show (_ : EReal) = _
  pointwise [k0_pay29]

theorem p30 (v w : Vec Ideal S1x512x512 .bf16) (p : Fin 512) (q : Fin 1024) :
    (k0_pay30 (F := Ideal) v w (ix2 p q) : EReal) = Ideal.logistic (if h : q.val < 512 then v (ix3 0 p ⟨q.val, h⟩) else w (ix3 0 p ⟨q.val - 512, by omega⟩)) :=
  p29 v w p q

theorem p9 (v : Vec Ideal S1024x512 .bf16) (q : Fin 1024) (k : Fin 512) : (k0_pay9 (F := Ideal) v (ix2 q k) : EReal) = v (ix2 q k) := by
  show (_ : EReal) = _
  pointwise [k0_pay9]

theorem p13 (v : FVec Ideal S512x512 .bf16) (a : FVec Ideal S512x1024 .f32) (w : FVec Ideal S1024x512 .bf16) (p : Fin 512) (q : Fin 1024) :
    (k0_pay13 (F := Ideal) v a w (ix2 p q) : EReal) = a (ix2 p q) * k0_pay10 (F := Ideal) v w (ix2 p q) := by
  show (_ : EReal) = _
  pointwise [k0_pay13]

theorem p14 (v w : Vec Ideal S1x512x512 .bf16) (p q : Fin 512) :
    (k0_pay14 (F := Ideal) v w (ix2 p q) : EReal) = v (ix3 0 p q) * w (ix3 0 p q) := by
  show (_ : EReal) = _
  pointwise [k0_pay14]

theorem p15 (v w : Vec Ideal S1x512x512 .bf16) (p q : Fin 512) :
    (k0_pay15 (F := Ideal) v w (ix3 0 p q) : EReal) = v (ix3 0 p q) * w (ix3 0 p q) := by
  refine Eq.trans ?_ (p14 v w p q)
  show (_ : EReal) = _
  pointwise [k0_pay15]

theorem p16 (v : Vec Ideal S1x512x512 .f32) (p q : Fin 512) : (k0_pay16 (F := Ideal) v (ix2 p q) : EReal) = v (ix3 0 p q) := by
  show (_ : EReal) = _
  pointwise [k0_pay16]

theorem p17 (v : Vec Ideal S1x512x512 .f32) (p q : Fin 512) : (k0_pay17 (F := Ideal) v (ix2 p q) : EReal) = v (ix3 0 p q) := by
  show (_ : EReal) = _
  pointwise [k0_pay17]

theorem p18 (v s1 s2 : FVec Ideal S512x512 .f32) (b w0 w1 w2 : Vec Ideal S1x512 .f32) (p q : Fin 512) :
    (k0_pay18 (F := Ideal) v s1 s2 b w0 w1 w2 (ix2 p q) : EReal)
      = b (ix2 0 q) + w0 (ix2 0 q) * s2 (ix2 p q) + w1 (ix2 0 q) * s1 (ix2 p q) + w2 (ix2 0 q) * v (ix2 p q) := by
  show (_ : EReal) = _
  pointwise [k0_pay18]

theorem p19 (v s1 s2 : FVec Ideal S512x512 .f32) (b w0 w1 w2 : Vec Ideal S1x512 .f32) (p q : Fin 512) :
    (k0_pay19 (F := Ideal) v s1 s2 b w0 w1 w2 (ix3 0 p q) : EReal) = k0_pay18 (F := Ideal) v s1 s2 b w0 w1 w2 (ix2 p q) := by
  show (_ : EReal) = _
  pointwise [k0_pay19]

theorem p20 (v : FVec Ideal S512x512 .f32) (p : Fin 8) (q : Fin 512) :
    (k0_pay20 (F := Ideal) v (ix3 0 p q) : EReal) = v (ix2 (⟨504 + p.val, by omega⟩ : Fin 512) q) := by
  show (_ : EReal) = _
  pointwise [k0_pay20]

theorem p21 (v s1 s2 : FVec Ideal S512x512 .f32) (b w0 w1 w2 : Vec Ideal S1x512 .f32) (g : Vec Ideal S1x512x512 .bf16) (w : Vec Ideal S512x1024 .bf16) (p : Fin 512) (q : Fin 1024) :
    (k0_pay21 (F := Ideal) v s1 s2 b w0 w1 w2 g w (ix2 p q) : EReal)
      = ∑ k : Fin 512, g (ix3 0 p k) * k0_pay18 (F := Ideal) v s1 s2 b w0 w1 w2 (ix2 p k) * w (ix2 k q) := by
  show (_ : EReal) = _
  pointwise [k0_pay21]

theorem p22 (v : Vec Ideal S1x512x512 .bf16) (p q : Fin 512) : (k0_pay22 (F := Ideal) v (ix2 p q) : EReal) = v (ix3 0 p q) := by
  show (_ : EReal) = _
  pointwise [k0_pay22]

theorem p23 (v : FVec Ideal S512x512 .f32) (w : Vec Ideal S1x512x512 .bf16) (p q : Fin 512) :
    (k0_pay23 (F := Ideal) v w (ix2 p q) : EReal) = v (ix2 p q) * w (ix3 0 p q) := by
  show (_ : EReal) = _
  pointwise [k0_pay23]

theorem p24 (v : FVec Ideal S512x512 .f32) (w : Vec Ideal S1x512x512 .bf16) (p q : Fin 512) :
    (k0_pay24 (F := Ideal) v w (ix3 0 p q) : EReal) = v (ix2 p q) * w (ix3 0 p q) := by
  refine Eq.trans ?_ (p23 v w p q)
  show (_ : EReal) = _
  pointwise [k0_pay24]

theorem p25 (v : FVec Ideal S512x512 .f32) (u : Vec Ideal S1x512x512 .bf16) (s1 s2 : Vec Ideal S1x512x512 .f32) (b w0 w1 w2 : Vec Ideal S1x512 .f32) (p q : Fin 512) :
    (k0_pay25 (F := Ideal) v u s1 s2 b w0 w1 w2 (ix2 p q) : EReal)
      = b (ix2 0 q) + w0 (ix2 0 q) * s2 (ix3 0 p q) + w1 (ix2 0 q) * s1 (ix3 0 p q) + w2 (ix2 0 q) * (v (ix2 p q) * u (ix3 0 p q)) := by
  rw [← p23 v u p q]
  show (_ : EReal) = _
  pointwise [k0_pay25]

theorem p26 (v : FVec Ideal S512x512 .f32) (u : Vec Ideal S1x512x512 .bf16) (s1 s2 : Vec Ideal S1x512x512 .f32) (b w0 w1 w2 : Vec Ideal S1x512 .f32) (p q : Fin 512) :
    (k0_pay26 (F := Ideal) v u s1 s2 b w0 w1 w2 (ix3 0 p q) : EReal) = k0_pay25 (F := Ideal) v u s1 s2 b w0 w1 w2 (ix2 p q) := by
  show (_ : EReal) = _
  pointwise [k0_pay26]

theorem p27 (v : FVec Ideal S512x512 .f32) (w : Vec Ideal S1x512x512 .bf16) (p : Fin 8) (q : Fin 512) :
    (k0_pay27 (F := Ideal) v w (ix3 0 p q) : EReal) = v (ix2 (⟨504 + p.val, by omega⟩ : Fin 512) q) * w (ix3 0 (⟨504 + p.val, by omega⟩ : Fin 512) q) := by
  refine Eq.trans ?_ (p23 v w _ q)
  show (_ : EReal) = _
  pointwise [k0_pay27]

theorem p28 (y : FVec Ideal S512x1024 .f32) (v : FVec Ideal S512x512 .f32) (g : Vec Ideal S1x512x512 .bf16) (w : Vec Ideal S512x1024 .bf16) (p : Fin 512) (q : Fin 1024) :
    (k0_pay28 (F := Ideal) y v g w (ix2 p q) : EReal) = y (ix2 p q) + ∑ k : Fin 512, g (ix3 0 p k) * v (ix2 p k) * w (ix2 k q) := by
  show (_ : EReal) = _
  pointwise [k0_pay28]

theorem p1 (v : FVec Ideal S512x1024 .f32) (p : Fin 512) (q : Fin 1024) : (k0_pay1 (F := Ideal) v (ix3 0 p q) : EReal) = v (ix2 p q) := by
  show (_ : EReal) = _
  pointwise [k0_pay1]

theorem p2 (v : FVec Ideal S512x1024 .f32) (p : Fin 512) (q : Fin 1024) : (k0_pay2 (F := Ideal) v (ix3 0 p q) : EReal) = v (ix2 p q) := p1 v p q

theorem p3 (v : FVec Ideal S512x1024 .f32) (p : Fin 512) (q : Fin 1024) : (k0_pay3 (F := Ideal) v (ix3 0 p q) : EReal) = v (ix2 p q) := p1 v p q

theorem p11 (v : FVec Ideal S512x1024 .f32) (p : Fin 512) (q : Fin 1024) : (k0_pay11 (F := Ideal) v (ix3 0 p q) : EReal) = v (ix2 p q) := p1 v p q

theorem p12 (v : FVec Ideal S512x512 .bf16) (w : FVec Ideal S1024x512 .bf16) (p : Fin 512) (q : Fin 1024) :
    (k0_pay12 (F := Ideal) v w (ix3 0 p q) : EReal) = k0_pay10 (F := Ideal) v w (ix2 p q) := p1 (k0_pay10 v w) p q

theorem p4 (a y s c : FVec Ideal S512x1024 .f32) (p : Fin 512) (q : Fin 1024) :
    (k0_pay4 (F := Ideal) a y s c (ix2 p q) : EReal) = s (ix2 p q) * a (ix2 p q) + c (ix2 p q) * y (ix2 p q) := by
  show (_ : EReal) = _
  pointwise [k0_pay4]

theorem p5 (a y s c : FVec Ideal S512x1024 .f32) (x : Vec Ideal S512x1024 .f32) (w : Vec Ideal S1024x1024 .bf16) (p : Fin 512) (q : Fin 1024) :
    (k0_pay5 (F := Ideal) a y s c x w (ix2 p q) : EReal) = x (ix2 p q) + ∑ k : Fin 1024, k0_pay4 (F := Ideal) a y s c (ix2 p k) * w (ix2 k q) := by
  show (_ : EReal) = _
  pointwise [k0_pay5]

theorem p6 (h : Fin 2) (r : Fin 8) (q : Fin 512) : (k0_pay6 (F := Ideal) (ix3 h r q) : EReal) = 0 := by
  show (_ : EReal) = _
  pointwise [k0_pay6]

end Cert.Kernel7Ideal.Val
end
-- ==== Proof.MixVal.lean ====
module

public import proofs.«01_k».proof.Proof.MixPay
public import proofs.«01_k».proof.Proof.Gen.Kernel7Ideal.Frame
public import Idealize.ShloMosaic.Lib.VecWindow

@[expose] public section

set_option maxRecDepth 16384

noncomputable section

/-! What a grid point of the mixer leaves in its four results and in the rows it carries to the next point. -/

namespace Cert.Kernel7Ideal.Val
open Cert.Kernel7Ideal Cert.Kernel7Ideal.Gen Idealize.ShloMosaic Idealize.ShloMosaic.TcCoe Idealize.SL.Sem
open Cert.Step
open scoped BigOperators

/-- A load of a rectangle of a matrix. -/
theorem ld2 {A B a b : ℕ} {e : EltTy} (M : Memref sig .tc .vmem ⟨2, ![A, B]⟩ e) (h : M.IsWhole) (X : Vec Ideal ⟨2, ![A, B]⟩ e) (o1 o2 : ℕ)
    (inb : ∀ x, (![o1, o2] : Fin 2 → ℕ) x + (![a, b] : Fin 2 → ℕ) x ≤ (⟨2, ![A, B]⟩ : Shape).size x) (p : Fin a) (q : Fin b) (i : Fin A) (j : Fin B)
    (hi : i.val = o1 + p.val) (hj : j.val = o2 + q.val) :
    View.readAt (Elt Ideal) M.view (Rect.unit (s := ⟨2, ![A, B]⟩) ![o1, o2] ![a, b] inb).toLoadRect (h.unread X) (ix2 p q) = X (ix2 i j) := by
  rw [View.readAt_eq_ld, h.read_unread]
  refine congrArg X (funext fun x => Fin.ext ?_)
  refine (Rect.emb_apply _ _ _).trans ?_
  revert x
  exact Fin.forall_fin_two.mpr ⟨(by show o1 + 1 * p.val = i.val; omega), (by show o2 + 1 * q.val = j.val; omega)⟩

/-- A load of a rectangle of one plane. -/
theorem ld3 {A B C b d : ℕ} {e : EltTy} (M : Memref sig .tc .vmem ⟨3, ![A, B, C]⟩ e) (h : M.IsWhole) (X : Vec Ideal ⟨3, ![A, B, C]⟩ e) (o1 o2 o3 : ℕ)
    (inb : ∀ x, (![o1, o2, o3] : Fin 3 → ℕ) x + (![1, b, d] : Fin 3 → ℕ) x ≤ (⟨3, ![A, B, C]⟩ : Shape).size x) (p : Fin b) (q : Fin d) (g : Fin A) (i : Fin B) (j : Fin C)
    (hg : g.val = o1) (hi : i.val = o2 + p.val) (hj : j.val = o3 + q.val) :
    View.readAt (Elt Ideal) M.view (Rect.unit (s := ⟨3, ![A, B, C]⟩) ![o1, o2, o3] ![1, b, d] inb).toLoadRect (h.unread X) (ix3 0 p q) = X (ix3 g i j) := by
  rw [View.readAt_eq_ld, h.read_unread]
  refine congrArg X (funext fun x => Fin.ext ?_)
  refine (Rect.emb_apply _ _ _).trans ?_
  match x with
  | ⟨0, _⟩ => show o1 + 1 * 0 = g.val; omega
  | ⟨1, _⟩ => show o2 + 1 * p.val = i.val; omega
  | ⟨2, _⟩ => show o3 + 1 * q.val = j.val; omega

theorem emb3 {A B C b d : ℕ} (o1 o2 o3 : ℕ)
    (inb : ∀ x, (![o1, o2, o3] : Fin 3 → ℕ) x + (![1, b, d] : Fin 3 → ℕ) x ≤ (⟨3, ![A, B, C]⟩ : Shape).size x) (p : Fin b) (q : Fin d) (g : Fin A) (i : Fin B) (j : Fin C)
    (hg : g.val = o1) (hi : i.val = o2 + p.val) (hj : j.val = o3 + q.val) :
    (Rect.unit (s := ⟨3, ![A, B, C]⟩) ![o1, o2, o3] ![1, b, d] inb).emb (ix3 0 p q) = ix3 g i j := by
  funext x
  apply Fin.ext
  refine (Rect.emb_apply _ _ _).trans ?_
  match x with
  | ⟨0, _⟩ => show o1 + 1 * 0 = g.val; omega
  | ⟨1, _⟩ => show o2 + 1 * p.val = i.val; omega
  | ⟨2, _⟩ => show o3 + 1 * q.val = j.val; omega

/-- An entry under the last store reads what was stored. -/
theorem hit3 {A B C b d : ℕ} {e : EltTy} (v : View sig .tc .vmem ⟨3, ![A, B, C]⟩ e) (f : v.ty.shape.Idx → Elt Ideal v.ty.elt) (o1 o2 o3 : ℕ)
    (inb : ∀ x, (![o1, o2, o3] : Fin 3 → ℕ) x + (![1, b, d] : Fin 3 → ℕ) x ≤ (⟨3, ![A, B, C]⟩ : Shape).size x)
    (w : (⟨3, ![1, b, d]⟩ : Shape).Idx → Elt Ideal e) (L : List (View.Piece (Elt Ideal) ⟨3, ![A, B, C]⟩ e)) (p : Fin b) (q : Fin d) (g : Fin A) (i : Fin B) (j : Fin C)
    (hg : g.val = o1) (hi : i.val = o2 + p.val) (hj : j.val = o3 + q.val) :
    v.read (Elt Ideal) (v.writes (Elt Ideal) f (⟨Rect.unit (s := ⟨3, ![A, B, C]⟩) ![o1, o2, o3] ![1, b, d] inb, w⟩ :: L)) (ix3 g i j) = w (ix3 0 p q) :=
  View.read_writes_cons_hit v f (Rect.unit (s := ⟨3, ![A, B, C]⟩) ![o1, o2, o3] ![1, b, d] inb) w L (ix3 0 p q) _ (emb3 o1 o2 o3 inb p q g i j hg hi hj)

/-- An entry of another plane reads the earlier stores. -/
theorem missA {A B C b d : ℕ} {e : EltTy} (v : View sig .tc .vmem ⟨3, ![A, B, C]⟩ e) (f : v.ty.shape.Idx → Elt Ideal v.ty.elt) (o1 o2 o3 : ℕ)
    (inb : ∀ x, (![o1, o2, o3] : Fin 3 → ℕ) x + (![1, b, d] : Fin 3 → ℕ) x ≤ (⟨3, ![A, B, C]⟩ : Shape).size x)
    (w : (⟨3, ![1, b, d]⟩ : Shape).Idx → Elt Ideal e) (L : List (View.Piece (Elt Ideal) ⟨3, ![A, B, C]⟩ e)) (g : Fin A) (i : Fin B) (j : Fin C)
    (h : g.val < o1 ∨ o1 + 1 ≤ g.val) :
    v.read (Elt Ideal) (v.writes (Elt Ideal) f (⟨Rect.unit (s := ⟨3, ![A, B, C]⟩) ![o1, o2, o3] ![1, b, d] inb, w⟩ :: L)) (ix3 g i j)
      = v.read (Elt Ideal) (v.writes (Elt Ideal) f L) (ix3 g i j) :=
  View.read_writes_cons_miss_of_axis v f ⟨Rect.unit (s := ⟨3, ![A, B, C]⟩) ![o1, o2, o3] ![1, b, d] inb, w⟩ L (ix3 g i j) 0 o1 1 rfl rfl rfl h

/-- An entry of other rows reads the earlier stores. -/
theorem missB {A B C b d : ℕ} {e : EltTy} (v : View sig .tc .vmem ⟨3, ![A, B, C]⟩ e) (f : v.ty.shape.Idx → Elt Ideal v.ty.elt) (o1 o2 o3 : ℕ)
    (inb : ∀ x, (![o1, o2, o3] : Fin 3 → ℕ) x + (![1, b, d] : Fin 3 → ℕ) x ≤ (⟨3, ![A, B, C]⟩ : Shape).size x)
    (w : (⟨3, ![1, b, d]⟩ : Shape).Idx → Elt Ideal e) (L : List (View.Piece (Elt Ideal) ⟨3, ![A, B, C]⟩ e)) (g : Fin A) (i : Fin B) (j : Fin C)
    (h : i.val < o2 ∨ o2 + b ≤ i.val) :
    v.read (Elt Ideal) (v.writes (Elt Ideal) f (⟨Rect.unit (s := ⟨3, ![A, B, C]⟩) ![o1, o2, o3] ![1, b, d] inb, w⟩ :: L)) (ix3 g i j)
      = v.read (Elt Ideal) (v.writes (Elt Ideal) f L) (ix3 g i j) :=
  View.read_writes_cons_miss_of_axis v f ⟨Rect.unit (s := ⟨3, ![A, B, C]⟩) ![o1, o2, o3] ![1, b, d] inb, w⟩ L (ix3 g i j) 1 o2 b rfl rfl rfl h

/-- The zeroed rows read zero. -/
theorem zeros (v : View sig .tc .vmem S2x520x512 .f32) (f : v.ty.shape.Idx → Elt Ideal v.ty.elt)
    (inb : ∀ x, (![0, 0, 0] : Fin 3 → ℕ) x + S2x8x512.size x ≤ S2x520x512.size x) (g : Fin 2) (r : Fin 8) (i : Fin 520) (q : Fin 512) (hi : i.val = r.val) :
    (v.read (Elt Ideal) (v.writes (Elt Ideal) f [⟨Rect.unit (s := S2x520x512) ![0, 0, 0] S2x8x512.size inb, k0_pay6 (F := Ideal)⟩]) (ix3 g i q) : EReal) = 0 := by
  refine (View.read_writes_cons_hit v f (Rect.unit (s := S2x520x512) ![0, 0, 0] S2x8x512.size inb) (k0_pay6 (F := Ideal)) [] (ix3 g r q) _ ?_).trans (p6 g r q)
  funext x
  apply Fin.ext
  refine (Rect.emb_apply _ _ _).trans ?_
  match x with
  | ⟨0, _⟩ => show 0 + 1 * g.val = g.val; omega
  | ⟨1, _⟩ => show 0 + 1 * r.val = i.val; omega
  | ⟨2, _⟩ => show 0 + 1 * q.val = q.val; omega

/-- The value `k` rows earlier: a row of the block, or one of the eight carried rows. -/
def tp (x2 x3 : Vec Ideal S2x512x512 .bf16) (base : Fin 2 → Fin 8 → Fin 512 → EReal) (k : ℕ) (h : Fin 2) (p q : Fin 512) : EReal :=
  if hp : p.val < k then base h ⟨8 + p.val - k, by omega⟩ q else vB x2 x3 h ⟨p.val - k, by omega⟩ q

/-- Nothing carried. -/
def noneB : Fin 2 → Fin 8 → Fin 512 → EReal := fun _ _ _ => 0
/-- The rows carried from the point before. -/
def carB (xs0 : Vec Ideal S2x520x512 .f32) : Fin 2 → Fin 8 → Fin 512 → EReal := fun h r q => xs0 (ix3 h ⟨r.val, by omega⟩ q)

/-- The convolution over both halves. -/
def cfB (x2 x3 : Vec Ideal S2x512x512 .bf16) (x10 : Vec Ideal S3x1024 .f32) (x11 : Vec Ideal S1x1024 .f32)
    (T1 T2 : Fin 2 → Fin 512 → Fin 512 → EReal) (p : Fin 512) (q : Fin 1024) : EReal :=
  if h : q.val < 512 then cvB x2 x3 x10 x11 T1 T2 0 lo p ⟨q.val, h⟩ else cvB x2 x3 x10 x11 T1 T2 1 hi p ⟨q.val - 512, by omega⟩

/-- The six saved arrays. -/
def svB (x0 : Vec Ideal S512x512 .bf16) (x1 x2 x3 x4 x5 : Vec Ideal S2x512x512 .bf16) (x7 x8 : Vec Ideal S1024x1024 .bf16) (x10 : Vec Ideal S3x1024 .f32) (x11 : Vec Ideal S1x1024 .f32)
    (T1 T2 : Fin 2 → Fin 512 → Fin 512 → EReal) (s : Fin 6) (p : Fin 512) (q : Fin 1024) : EReal :=
  if s.val = 0 then paB x0 x7 p q else if s.val = 1 then sbB x0 x7 p q else if s.val = 2 then cfB x2 x3 x10 x11 T1 T2 p q
  else if s.val = 3 then ybB x1 x2 x3 x8 x10 x11 T1 T2 p q else if s.val = 4 then Ideal.logistic (twoB x4 p q) else Ideal.logistic (twoB x5 p q)

section caseA
variable {c : Dev nD} {i : grid0.Coords} {arg1 : Memref sig .tc .vmem S512x512 .bf16} {harg1 : arg1.IsWhole} {arg2 : Memref sig .tc .vmem S2x512x512 .bf16} {harg2 : arg2.IsWhole} {arg3 : Memref sig .tc .vmem S2x512x512 .bf16} {harg3 : arg3.IsWhole} {arg4 : Memref sig .tc .vmem S2x512x512 .bf16} {harg4 : arg4.IsWhole} {arg5 : Memref sig .tc .vmem S2x512x512 .bf16} {harg5 : arg5.IsWhole} {arg6 : Memref sig .tc .vmem S2x512x512 .bf16} {harg6 : arg6.IsWhole} {arg7 : Memref sig .tc .vmem S512x1024 .f32} {harg7 : arg7.IsWhole} {arg8 : Memref sig .tc .vmem S1024x1024 .bf16} {harg8 : arg8.IsWhole} {arg9 : Memref sig .tc .vmem S1024x1024 .bf16} {harg9 : arg9.IsWhole} {arg10 : Memref sig .tc .vmem S1024x1024 .bf16} {harg10 : arg10.IsWhole} {arg11 : Memref sig .tc .vmem S3x1024 .f32} {harg11 : arg11.IsWhole} {arg12 : Memref sig .tc .vmem S1x1024 .f32} {harg12 : arg12.IsWhole} {arg13 : Memref sig .tc .vmem S512x1024 .f32} {harg13 : arg13.IsWhole} {arg14 : Memref sig .tc .vmem S512x512 .bf16} {harg14 : arg14.IsWhole} {arg15 : Memref sig .tc .vmem S512x1024 .bf16} {harg15 : arg15.IsWhole} {arg16 : Memref sig .tc .vmem S6x512x1024 .bf16} {harg16 : arg16.IsWhole} {arg17 : Memref sig .tc .vmem S2x520x512 .f32} {harg17 : arg17.IsWhole} {hc0 : cond0_0 i} {x0 : Vec Ideal S512x512 .bf16} {x1 : Vec Ideal S2x512x512 .bf16} {x2 : Vec Ideal S2x512x512 .bf16} {x3 : Vec Ideal S2x512x512 .bf16} {x4 : Vec Ideal S2x512x512 .bf16} {x5 : Vec Ideal S2x512x512 .bf16} {x6 : Vec Ideal S512x1024 .f32} {x7 : Vec Ideal S1024x1024 .bf16} {x8 : Vec Ideal S1024x1024 .bf16} {x9 : Vec Ideal S1024x1024 .bf16} {x10 : Vec Ideal S3x1024 .f32} {x11 : Vec Ideal S1x1024 .f32}

theorem r_A (p k : Fin 512) : ((kernelRun0_A.sl.r (F := Ideal) c arg1 harg1 x0) (ix2 p k) : EReal) = zB x0 p k := by
  unfold kernelRun0_A.sl.r
  exact (p7 _ p k).trans (congrArg gel (ld2 arg1 harg1 x0 0 0 _ p k p k (Nat.zero_add _).symm (Nat.zero_add _).symm))

theorem r1_A (p : Fin 512) (q : Fin 1024) : ((kernelRun0_A.sl.r_1 (F := Ideal) c arg1 harg1 arg8 harg8 x0 x7) (ix2 p q) : EReal) = paB x0 x7 p q := by
  unfold kernelRun0_A.sl.r_1
  exact (p8 _ _ p q).trans (Finset.sum_congr rfl fun k _ => congrArg₂ (fun a b : EReal => gel a * b)
    (ld2 arg1 harg1 x0 0 0 _ p k p k (Nat.zero_add _).symm (Nat.zero_add _).symm) (ld2 arg8 harg8 x7 0 0 _ q k q (lo k) (Nat.zero_add _).symm (Nat.zero_add _).symm))

theorem r2_A (q : Fin 1024) (k : Fin 512) : ((kernelRun0_A.sl.r_2 (F := Ideal) c arg8 harg8 x7) (ix2 q k) : EReal) = x7 (ix2 q (hi k)) := by
  unfold kernelRun0_A.sl.r_2
  exact (p9 _ q k).trans (ld2 arg8 harg8 x7 0 512 _ q k q (hi k) (Nat.zero_add _).symm rfl)

theorem sb_A (p : Fin 512) (q : Fin 1024) :
    (k0_pay10 (F := Ideal) (kernelRun0_A.sl.r (F := Ideal) c arg1 harg1 x0) (kernelRun0_A.sl.r_2 (F := Ideal) c arg8 harg8 x7) (ix2 p q) : EReal) = sbB x0 x7 p q :=
  (p10 _ _ p q).trans (congrArg Ideal.logistic (Finset.sum_congr rfl fun k _ => congrArg₂ (fun a b : EReal => a * b) (r_A p k) (r2_A q k)))

theorem r3_A (p : Fin 512) (q : Fin 1024) : ((kernelRun0_A.sl.r_3 (F := Ideal) c arg1 harg1 arg8 harg8 x0 x7) (ix2 p q) : EReal) = paB x0 x7 p q * sbB x0 x7 p q := by
  unfold kernelRun0_A.sl.r_3
  exact (p13 _ _ _ p q).trans (congrArg₂ (fun a b : EReal => a * b) (r1_A p q) (sb_A p q))

theorem r4_A (p q : Fin 512) : ((kernelRun0_A.sl.r_4 (F := Ideal) c arg3 harg3 arg4 harg4 x2 x3) (ix2 p q) : EReal) = vB x2 x3 0 p q := by
  unfold kernelRun0_A.sl.r_4
  exact (p14 _ _ p q).trans (congrArg₂ (fun a b : EReal => a * b) (ld3 arg3 harg3 x2 0 0 0 _ p q 0 p q rfl (Nat.zero_add _).symm (Nat.zero_add _).symm) (ld3 arg4 harg4 x3 0 0 0 _ p q 0 p q rfl (Nat.zero_add _).symm (Nat.zero_add _).symm))

theorem r8_A (p q : Fin 512) : ((kernelRun0_A.sl.r_8 (F := Ideal) c arg3 harg3 x2) (ix2 p q) : EReal) = x2 (ix3 1 p q) := by
  unfold kernelRun0_A.sl.r_8
  exact (p22 _ p q).trans (ld3 arg3 harg3 x2 1 0 0 _ p q 1 p q rfl (Nat.zero_add _).symm (Nat.zero_add _).symm)

/-- The first half's scratch: the block's rows from row 8 on. -/
theorem hl_A (v : View sig .tc .vmem S2x520x512 .f32) (f : v.ty.shape.Idx → Elt Ideal v.ty.elt) (i : Fin 520) (p q : Fin 512) (hi : i.val = 8 + p.val) :
    (v.read (Elt Ideal) (v.writes (Elt Ideal) f (kernelRun0_A.sl.HS0_2 (F := Ideal) c arg3 harg3 arg4 harg4 x2 x3)) (ix3 0 i q) : EReal) = vB x2 x3 0 p q := by
  unfold kernelRun0_A.sl.HS0_2
  refine (hit3 v f 0 8 0 _ _ _ p q 0 i q rfl hi (Nat.zero_add _).symm).trans ?_
  exact (p15 _ _ p q).trans (congrArg₂ (fun a b : EReal => a * b) (ld3 arg3 harg3 x2 0 0 0 _ p q 0 p q rfl (Nat.zero_add _).symm (Nat.zero_add _).symm) (ld3 arg4 harg4 x3 0 0 0 _ p q 0 p q rfl (Nat.zero_add _).symm (Nat.zero_add _).symm))

/-- The second half's scratch: the block's rows from row 8 on. -/
theorem hh_A (v : View sig .tc .vmem S2x520x512 .f32) (f : v.ty.shape.Idx → Elt Ideal v.ty.elt) (i : Fin 520) (p q : Fin 512) (hi : i.val = 8 + p.val) :
    (v.read (Elt Ideal) (v.writes (Elt Ideal) f (kernelRun0_A.sl.HS0_4 (F := Ideal) c arg3 harg3 arg4 harg4 x2 x3)) (ix3 1 i q) : EReal) = vB x2 x3 1 p q := by
  unfold kernelRun0_A.sl.HS0_4
  refine (hit3 v f 1 8 0 _ _ _ p q 1 i q rfl hi (Nat.zero_add _).symm).trans ?_
  exact (p24 _ _ p q).trans (congrArg₂ (fun a b : EReal => a * b) (r8_A p q) (ld3 arg4 harg4 x3 1 0 0 _ p q 1 p q rfl (Nat.zero_add _).symm (Nat.zero_add _).symm))

theorem el_A (i : Fin 520) (r : Fin 8) (q : Fin 512) (hi : i.val = r.val) :
    (arg17.view.read (Elt Ideal) (arg17.view.writes (Elt Ideal) (arg17.view.junk) (kernelRun0_A.sl.HS0_2 (F := Ideal) c arg3 harg3 arg4 harg4 x2 x3)) (ix3 0 i q) : EReal) = noneB 0 r q := by
  unfold kernelRun0_A.sl.HS0_2
  refine (missB arg17.view _ 0 8 0 _ _ _ 0 i q (Or.inl (by omega))).trans ?_
  exact zeros arg17.view arg17.view.junk _ 0 r i q hi

theorem eh_A (i : Fin 520) (r : Fin 8) (q : Fin 512) (hi : i.val = r.val) :
    (arg17.view.read (Elt Ideal) (arg17.view.writes (Elt Ideal) (arg17.view.junk) (kernelRun0_A.sl.HS0_4 (F := Ideal) c arg3 harg3 arg4 harg4 x2 x3)) (ix3 1 i q) : EReal) = noneB 1 r q := by
  unfold kernelRun0_A.sl.HS0_4
  refine (missB arg17.view _ 1 8 0 _ _ _ 1 i q (Or.inl (by omega))).trans ?_
  refine (missA arg17.view _ 0 0 0 _ _ _ 1 i q (Or.inr (by decide))).trans ?_
  unfold kernelRun0_A.sl.HS0_2
  refine (missA arg17.view _ 0 8 0 _ _ _ 1 i q (Or.inr (by decide))).trans ?_
  exact zeros arg17.view arg17.view.junk _ 1 r i q hi

theorem v63_A (p q : Fin 512) : ((kernelRun0_A.sl.v63 (F := Ideal) c arg3 harg3 arg4 harg4 arg17 x2 x3) (ix3 0 p q) : EReal) = tp x2 x3 noneB 1 0 p q := by
  unfold kernelRun0_A.sl.v63
  have hr : 7 + p.val < 520 := by omega
  refine Eq.trans (b := arg17.view.read (Elt Ideal) (arg17.view.writes (Elt Ideal) (arg17.view.junk) (kernelRun0_A.sl.HS0_2 (F := Ideal) c arg3 harg3 arg4 harg4 x2 x3)) (ix3 0 (⟨7 + p.val, hr⟩ : Fin 520) q)) ?_ ?_
  · exact congrArg (arg17.view.read (Elt Ideal) (arg17.view.writes (Elt Ideal) (arg17.view.junk) (kernelRun0_A.sl.HS0_2 (F := Ideal) c arg3 harg3 arg4 harg4 x2 x3)))
      (emb3 0 7 0 inb_S2x520x512_S1x512x512_0_7_0 p q 0 (⟨7 + p.val, hr⟩ : Fin 520) q rfl rfl (Nat.zero_add _).symm)
  unfold tp
  by_cases hp : p.val < 1
  · rw [dif_pos hp]
    exact el_A _ _ q (by show 7 + p.val = 8 + p.val - 1; omega)
  · rw [dif_neg hp]
    exact hl_A _ _ _ ⟨p.val - 1, by omega⟩ q (by show 7 + p.val = 8 + (p.val - 1); omega)

theorem v65_A (p q : Fin 512) : ((kernelRun0_A.sl.v65 (F := Ideal) c arg3 harg3 arg4 harg4 arg17 x2 x3) (ix3 0 p q) : EReal) = tp x2 x3 noneB 2 0 p q := by
  unfold kernelRun0_A.sl.v65
  have hr : 6 + p.val < 520 := by omega
  refine Eq.trans (b := arg17.view.read (Elt Ideal) (arg17.view.writes (Elt Ideal) (arg17.view.junk) (kernelRun0_A.sl.HS0_2 (F := Ideal) c arg3 harg3 arg4 harg4 x2 x3)) (ix3 0 (⟨6 + p.val, hr⟩ : Fin 520) q)) ?_ ?_
  · exact congrArg (arg17.view.read (Elt Ideal) (arg17.view.writes (Elt Ideal) (arg17.view.junk) (kernelRun0_A.sl.HS0_2 (F := Ideal) c arg3 harg3 arg4 harg4 x2 x3)))
      (emb3 0 6 0 inb_S2x520x512_S1x512x512_0_6_0 p q 0 (⟨6 + p.val, hr⟩ : Fin 520) q rfl rfl (Nat.zero_add _).symm)
  unfold tp
  by_cases hp : p.val < 2
  · rw [dif_pos hp]
    exact el_A _ _ q (by show 6 + p.val = 8 + p.val - 2; omega)
  · rw [dif_neg hp]
    exact hl_A _ _ _ ⟨p.val - 2, by omega⟩ q (by show 6 + p.val = 8 + (p.val - 2); omega)

theorem v108_A (p q : Fin 512) : ((kernelRun0_A.sl.v108 (F := Ideal) c arg3 harg3 arg4 harg4 arg17 x2 x3) (ix3 0 p q) : EReal) = tp x2 x3 noneB 1 1 p q := by
  unfold kernelRun0_A.sl.v108
  have hr : 7 + p.val < 520 := by omega
  refine Eq.trans (b := arg17.view.read (Elt Ideal) (arg17.view.writes (Elt Ideal) (arg17.view.junk) (kernelRun0_A.sl.HS0_4 (F := Ideal) c arg3 harg3 arg4 harg4 x2 x3)) (ix3 1 (⟨7 + p.val, hr⟩ : Fin 520) q)) ?_ ?_
  · exact congrArg (arg17.view.read (Elt Ideal) (arg17.view.writes (Elt Ideal) (arg17.view.junk) (kernelRun0_A.sl.HS0_4 (F := Ideal) c arg3 harg3 arg4 harg4 x2 x3)))
      (emb3 1 7 0 inb_S2x520x512_S1x512x512_1_7_0 p q 1 (⟨7 + p.val, hr⟩ : Fin 520) q rfl rfl (Nat.zero_add _).symm)
  unfold tp
  by_cases hp : p.val < 1
  · rw [dif_pos hp]
    exact eh_A _ _ q (by show 7 + p.val = 8 + p.val - 1; omega)
  · rw [dif_neg hp]
    exact hh_A _ _ _ ⟨p.val - 1, by omega⟩ q (by show 7 + p.val = 8 + (p.val - 1); omega)

theorem v110_A (p q : Fin 512) : ((kernelRun0_A.sl.v110 (F := Ideal) c arg3 harg3 arg4 harg4 arg17 x2 x3) (ix3 0 p q) : EReal) = tp x2 x3 noneB 2 1 p q := by
  unfold kernelRun0_A.sl.v110
  have hr : 6 + p.val < 520 := by omega
  refine Eq.trans (b := arg17.view.read (Elt Ideal) (arg17.view.writes (Elt Ideal) (arg17.view.junk) (kernelRun0_A.sl.HS0_4 (F := Ideal) c arg3 harg3 arg4 harg4 x2 x3)) (ix3 1 (⟨6 + p.val, hr⟩ : Fin 520) q)) ?_ ?_
  · exact congrArg (arg17.view.read (Elt Ideal) (arg17.view.writes (Elt Ideal) (arg17.view.junk) (kernelRun0_A.sl.HS0_4 (F := Ideal) c arg3 harg3 arg4 harg4 x2 x3)))
      (emb3 1 6 0 inb_S2x520x512_S1x512x512_1_6_0 p q 1 (⟨6 + p.val, hr⟩ : Fin 520) q rfl rfl (Nat.zero_add _).symm)
  unfold tp
  by_cases hp : p.val < 2
  · rw [dif_pos hp]
    exact eh_A _ _ q (by show 6 + p.val = 8 + p.val - 2; omega)
  · rw [dif_neg hp]
    exact hh_A _ _ _ ⟨p.val - 2, by omega⟩ q (by show 6 + p.val = 8 + (p.val - 2); omega)

/-- The convolution of the first half. -/
theorem c0_A (p q : Fin 512) :
    (k0_pay18 (F := Ideal) (kernelRun0_A.sl.r_4 (F := Ideal) c arg3 harg3 arg4 harg4 x2 x3) (kernelRun0_A.sl.r_5 (F := Ideal) c arg3 harg3 arg4 harg4 arg17 x2 x3) (kernelRun0_A.sl.r_6 (F := Ideal) c arg3 harg3 arg4 harg4 arg17 x2 x3) (View.readAt (Elt Ideal) arg12.view (Rect.unit (s := S1x1024) ![0, 0] S1x512.size inb_S1x1024_S1x512_0_0).toLoadRect (harg12.unread x11)) (View.readAt (Elt Ideal) arg11.view (Rect.unit (s := S3x1024) ![0, 0] S1x512.size inb_S3x1024_S1x512_0_0).toLoadRect (harg11.unread x10)) (View.readAt (Elt Ideal) arg11.view (Rect.unit (s := S3x1024) ![1, 0] S1x512.size inb_S3x1024_S1x512_1_0).toLoadRect (harg11.unread x10)) (View.readAt (Elt Ideal) arg11.view (Rect.unit (s := S3x1024) ![2, 0] S1x512.size inb_S3x1024_S1x512_2_0).toLoadRect (harg11.unread x10)) (ix2 p q) : EReal)
      = cvB x2 x3 x10 x11 (tp x2 x3 noneB 1) (tp x2 x3 noneB 2) 0 lo p q := by
  unfold kernelRun0_A.sl.r_5 kernelRun0_A.sl.r_6
  exact (p18 _ _ _ _ _ _ _ p q).trans (congrArg₂ (fun a b : EReal => a + b) (congrArg₂ (fun a b : EReal => a + b) (congrArg₂ (fun a b : EReal => a + b) (ld2 arg12 harg12 x11 0 0 _ 0 q 0 (lo q) rfl (Nat.zero_add _).symm)
    (congrArg₂ (fun a b : EReal => a * b) (ld2 arg11 harg11 x10 0 0 _ 0 q 0 (lo q) rfl (Nat.zero_add _).symm) ((p17 _ p q).trans (v65_A p q)))) (congrArg₂ (fun a b : EReal => a * b) (ld2 arg11 harg11 x10 1 0 _ 0 q 1 (lo q) rfl (Nat.zero_add _).symm) ((p16 _ p q).trans (v63_A p q)))) (congrArg₂ (fun a b : EReal => a * b) (ld2 arg11 harg11 x10 2 0 _ 0 q 2 (lo q) rfl (Nat.zero_add _).symm) (r4_A p q)))

/-- The convolution of the second half. -/
theorem c1_A (p q : Fin 512) : ((kernelRun0_A.sl.r_9 (F := Ideal) c arg3 harg3 arg4 harg4 arg11 harg11 arg12 harg12 arg17 x2 x3 x10 x11) (ix2 p q) : EReal) = cvB x2 x3 x10 x11 (tp x2 x3 noneB 1) (tp x2 x3 noneB 2) 1 hi p q := by
  unfold kernelRun0_A.sl.r_9
  exact (p25 _ _ _ _ _ _ _ _ p q).trans (congrArg₂ (fun a b : EReal => a + b) (congrArg₂ (fun a b : EReal => a + b) (congrArg₂ (fun a b : EReal => a + b) (ld2 arg12 harg12 x11 0 512 _ 0 q 0 (hi q) rfl rfl)
    (congrArg₂ (fun a b : EReal => a * b) (ld2 arg11 harg11 x10 0 512 _ 0 q 0 (hi q) rfl rfl) (v110_A p q))) (congrArg₂ (fun a b : EReal => a * b) (ld2 arg11 harg11 x10 1 512 _ 0 q 1 (hi q) rfl rfl) (v108_A p q))) (congrArg₂ (fun a b : EReal => a * b) (ld2 arg11 harg11 x10 2 512 _ 0 q 2 (hi q) rfl rfl) (congrArg₂ (fun a b : EReal => a * b) (r8_A p q) (ld3 arg4 harg4 x3 1 0 0 _ p q 1 p q rfl (Nat.zero_add _).symm (Nat.zero_add _).symm))))

theorem r7_A (p : Fin 512) (q : Fin 1024) :
    ((kernelRun0_A.sl.r_7 (F := Ideal) c arg2 harg2 arg3 harg3 arg4 harg4 arg9 harg9 arg11 harg11 arg12 harg12 arg17 x1 x2 x3 x8 x10 x11) (ix2 p q) : EReal) = ∑ k : Fin 512, x1 (ix3 0 p k) * cvB x2 x3 x10 x11 (tp x2 x3 noneB 1) (tp x2 x3 noneB 2) 0 lo p k * x8 (ix2 (lo k) q) := by
  unfold kernelRun0_A.sl.r_7
  exact (p21 _ _ _ _ _ _ _ _ _ p q).trans (Finset.sum_congr rfl fun k _ => congrArg₂ (fun a b : EReal => a * b) (congrArg₂ (fun a b : EReal => a * b)
    (ld3 arg2 harg2 x1 0 0 0 _ p k 0 p k rfl (Nat.zero_add _).symm (Nat.zero_add _).symm) (c0_A p k)) (ld2 arg9 harg9 x8 0 0 _ k q (lo k) q (Nat.zero_add _).symm (Nat.zero_add _).symm))

theorem r11_A (p : Fin 512) (q : Fin 1024) :
    ((kernelRun0_A.sl.r_11 (F := Ideal) c arg2 harg2 arg3 harg3 arg4 harg4 arg9 harg9 arg11 harg11 arg12 harg12 arg17 x1 x2 x3 x8 x10 x11) (ix2 p q) : EReal) = ybB x1 x2 x3 x8 x10 x11 (tp x2 x3 noneB 1) (tp x2 x3 noneB 2) p q := by
  unfold kernelRun0_A.sl.r_11
  exact (p28 _ _ _ _ p q).trans (congrArg₂ (fun a b : EReal => a + b) (r7_A p q) (Finset.sum_congr rfl fun k _ => congrArg₂ (fun a b : EReal => a * b) (congrArg₂ (fun a b : EReal => a * b)
    (ld3 arg2 harg2 x1 1 0 0 _ p k 1 p k rfl (Nat.zero_add _).symm (Nat.zero_add _).symm) (c1_A p k)) (ld2 arg9 harg9 x8 512 0 _ k q (hi k) q rfl (Nat.zero_add _).symm)))

theorem r12_A (p : Fin 512) (q : Fin 1024) : ((kernelRun0_A.sl.r_12 (F := Ideal) c arg5 harg5 x4) (ix2 p q) : EReal) = Ideal.logistic (twoB x4 p q) := by
  unfold kernelRun0_A.sl.r_12
  refine (p29 _ _ p q).trans (congrArg Ideal.logistic ?_)
  unfold twoB
  by_cases h : q.val < 512
  · rw [dif_pos h, dif_pos h]
    exact ld3 arg5 harg5 x4 0 0 0 _ p ⟨q.val, h⟩ 0 p ⟨q.val, h⟩ rfl (Nat.zero_add _).symm (Nat.zero_add _).symm
  · rw [dif_neg h, dif_neg h]
    exact ld3 arg5 harg5 x4 1 0 0 _ p ⟨q.val - 512, by omega⟩ 1 p ⟨q.val - 512, by omega⟩ rfl (Nat.zero_add _).symm (Nat.zero_add _).symm

theorem r13_A (p : Fin 512) (q : Fin 1024) : ((kernelRun0_A.sl.r_13 (F := Ideal) c arg6 harg6 x5) (ix2 p q) : EReal) = Ideal.logistic (twoB x5 p q) := by
  unfold kernelRun0_A.sl.r_13
  refine (p30 _ _ p q).trans (congrArg Ideal.logistic ?_)
  unfold twoB
  by_cases h : q.val < 512
  · rw [dif_pos h, dif_pos h]
    exact ld3 arg6 harg6 x5 0 0 0 _ p ⟨q.val, h⟩ 0 p ⟨q.val, h⟩ rfl (Nat.zero_add _).symm (Nat.zero_add _).symm
  · rw [dif_neg h, dif_neg h]
    exact ld3 arg6 harg6 x5 1 0 0 _ p ⟨q.val - 512, by omega⟩ 1 p ⟨q.val - 512, by omega⟩ rfl (Nat.zero_add _).symm (Nat.zero_add _).symm

theorem mg_A (p : Fin 512) (q : Fin 1024) :
    (k0_pay4 (F := Ideal) (kernelRun0_A.sl.r_3 (F := Ideal) c arg1 harg1 arg8 harg8 x0 x7) (kernelRun0_A.sl.r_11 (F := Ideal) c arg2 harg2 arg3 harg3 arg4 harg4 arg9 harg9 arg11 harg11 arg12 harg12 arg17 x1 x2 x3 x8 x10 x11) (kernelRun0_A.sl.r_12 (F := Ideal) c arg5 harg5 x4) (kernelRun0_A.sl.r_13 (F := Ideal) c arg6 harg6 x5) (ix2 p q) : EReal)
      = mgB x0 x1 x2 x3 x4 x5 x7 x8 x10 x11 (tp x2 x3 noneB 1) (tp x2 x3 noneB 2) p q :=
  (p4 _ _ _ _ p q).trans (congrArg₂ (fun a b : EReal => a + b) (congrArg₂ (fun a b : EReal => a * b) (r12_A p q) (r3_A p q)) (congrArg₂ (fun a b : EReal => a * b) (r13_A p q) (r11_A p q)))

end caseA

section caseB
variable {c : Dev nD} {i : grid0.Coords} {arg1 : Memref sig .tc .vmem S512x512 .bf16} {harg1 : arg1.IsWhole} {arg2 : Memref sig .tc .vmem S2x512x512 .bf16} {harg2 : arg2.IsWhole} {arg3 : Memref sig .tc .vmem S2x512x512 .bf16} {harg3 : arg3.IsWhole} {arg4 : Memref sig .tc .vmem S2x512x512 .bf16} {harg4 : arg4.IsWhole} {arg5 : Memref sig .tc .vmem S2x512x512 .bf16} {harg5 : arg5.IsWhole} {arg6 : Memref sig .tc .vmem S2x512x512 .bf16} {harg6 : arg6.IsWhole} {arg7 : Memref sig .tc .vmem S512x1024 .f32} {harg7 : arg7.IsWhole} {arg8 : Memref sig .tc .vmem S1024x1024 .bf16} {harg8 : arg8.IsWhole} {arg9 : Memref sig .tc .vmem S1024x1024 .bf16} {harg9 : arg9.IsWhole} {arg10 : Memref sig .tc .vmem S1024x1024 .bf16} {harg10 : arg10.IsWhole} {arg11 : Memref sig .tc .vmem S3x1024 .f32} {harg11 : arg11.IsWhole} {arg12 : Memref sig .tc .vmem S1x1024 .f32} {harg12 : arg12.IsWhole} {arg13 : Memref sig .tc .vmem S512x1024 .f32} {harg13 : arg13.IsWhole} {arg14 : Memref sig .tc .vmem S512x512 .bf16} {harg14 : arg14.IsWhole} {arg15 : Memref sig .tc .vmem S512x1024 .bf16} {harg15 : arg15.IsWhole} {arg16 : Memref sig .tc .vmem S6x512x1024 .bf16} {harg16 : arg16.IsWhole} {arg17 : Memref sig .tc .vmem S2x520x512 .f32} {harg17 : arg17.IsWhole} {hc0 : ¬cond0_0 i} {x0 : Vec Ideal S512x512 .bf16} {x1 : Vec Ideal S2x512x512 .bf16} {x2 : Vec Ideal S2x512x512 .bf16} {x3 : Vec Ideal S2x512x512 .bf16} {x4 : Vec Ideal S2x512x512 .bf16} {x5 : Vec Ideal S2x512x512 .bf16} {x6 : Vec Ideal S512x1024 .f32} {x7 : Vec Ideal S1024x1024 .bf16} {x8 : Vec Ideal S1024x1024 .bf16} {x9 : Vec Ideal S1024x1024 .bf16} {x10 : Vec Ideal S3x1024 .f32} {x11 : Vec Ideal S1x1024 .f32} {xs0 : Vec Ideal S2x520x512 .f32}

theorem r_B (p k : Fin 512) : ((kernelRun0_B.sl.r (F := Ideal) c arg1 harg1 x0) (ix2 p k) : EReal) = zB x0 p k := by
  unfold kernelRun0_B.sl.r
  exact (p7 _ p k).trans (congrArg gel (ld2 arg1 harg1 x0 0 0 _ p k p k (Nat.zero_add _).symm (Nat.zero_add _).symm))

theorem r1_B (p : Fin 512) (q : Fin 1024) : ((kernelRun0_B.sl.r_1 (F := Ideal) c arg1 harg1 arg8 harg8 x0 x7) (ix2 p q) : EReal) = paB x0 x7 p q := by
  unfold kernelRun0_B.sl.r_1
  exact (p8 _ _ p q).trans (Finset.sum_congr rfl fun k _ => congrArg₂ (fun a b : EReal => gel a * b)
    (ld2 arg1 harg1 x0 0 0 _ p k p k (Nat.zero_add _).symm (Nat.zero_add _).symm) (ld2 arg8 harg8 x7 0 0 _ q k q (lo k) (Nat.zero_add _).symm (Nat.zero_add _).symm))

theorem r2_B (q : Fin 1024) (k : Fin 512) : ((kernelRun0_B.sl.r_2 (F := Ideal) c arg8 harg8 x7) (ix2 q k) : EReal) = x7 (ix2 q (hi k)) := by
  unfold kernelRun0_B.sl.r_2
  exact (p9 _ q k).trans (ld2 arg8 harg8 x7 0 512 _ q k q (hi k) (Nat.zero_add _).symm rfl)

theorem sb_B (p : Fin 512) (q : Fin 1024) :
    (k0_pay10 (F := Ideal) (kernelRun0_B.sl.r (F := Ideal) c arg1 harg1 x0) (kernelRun0_B.sl.r_2 (F := Ideal) c arg8 harg8 x7) (ix2 p q) : EReal) = sbB x0 x7 p q :=
  (p10 _ _ p q).trans (congrArg Ideal.logistic (Finset.sum_congr rfl fun k _ => congrArg₂ (fun a b : EReal => a * b) (r_B p k) (r2_B q k)))

theorem r3_B (p : Fin 512) (q : Fin 1024) : ((kernelRun0_B.sl.r_3 (F := Ideal) c arg1 harg1 arg8 harg8 x0 x7) (ix2 p q) : EReal) = paB x0 x7 p q * sbB x0 x7 p q := by
  unfold kernelRun0_B.sl.r_3
  exact (p13 _ _ _ p q).trans (congrArg₂ (fun a b : EReal => a * b) (r1_B p q) (sb_B p q))

theorem r4_B (p q : Fin 512) : ((kernelRun0_B.sl.r_4 (F := Ideal) c arg3 harg3 arg4 harg4 x2 x3) (ix2 p q) : EReal) = vB x2 x3 0 p q := by
  unfold kernelRun0_B.sl.r_4
  exact (p14 _ _ p q).trans (congrArg₂ (fun a b : EReal => a * b) (ld3 arg3 harg3 x2 0 0 0 _ p q 0 p q rfl (Nat.zero_add _).symm (Nat.zero_add _).symm) (ld3 arg4 harg4 x3 0 0 0 _ p q 0 p q rfl (Nat.zero_add _).symm (Nat.zero_add _).symm))

theorem r8_B (p q : Fin 512) : ((kernelRun0_B.sl.r_8 (F := Ideal) c arg3 harg3 x2) (ix2 p q) : EReal) = x2 (ix3 1 p q) := by
  unfold kernelRun0_B.sl.r_8
  exact (p22 _ p q).trans (ld3 arg3 harg3 x2 1 0 0 _ p q 1 p q rfl (Nat.zero_add _).symm (Nat.zero_add _).symm)

/-- The first half's scratch: the block's rows from row 8 on. -/
theorem hl_B (v : View sig .tc .vmem S2x520x512 .f32) (f : v.ty.shape.Idx → Elt Ideal v.ty.elt) (i : Fin 520) (p q : Fin 512) (hi : i.val = 8 + p.val) :
    (v.read (Elt Ideal) (v.writes (Elt Ideal) f (kernelRun0_B.sl.HS0_1 (F := Ideal) c arg3 harg3 arg4 harg4 x2 x3)) (ix3 0 i q) : EReal) = vB x2 x3 0 p q := by
  unfold kernelRun0_B.sl.HS0_1
  refine (hit3 v f 0 8 0 _ _ _ p q 0 i q rfl hi (Nat.zero_add _).symm).trans ?_
  exact (p15 _ _ p q).trans (congrArg₂ (fun a b : EReal => a * b) (ld3 arg3 harg3 x2 0 0 0 _ p q 0 p q rfl (Nat.zero_add _).symm (Nat.zero_add _).symm) (ld3 arg4 harg4 x3 0 0 0 _ p q 0 p q rfl (Nat.zero_add _).symm (Nat.zero_add _).symm))

/-- The second half's scratch: the block's rows from row 8 on. -/
theorem hh_B (v : View sig .tc .vmem S2x520x512 .f32) (f : v.ty.shape.Idx → Elt Ideal v.ty.elt) (i : Fin 520) (p q : Fin 512) (hi : i.val = 8 + p.val) :
    (v.read (Elt Ideal) (v.writes (Elt Ideal) f (kernelRun0_B.sl.HS0_3 (F := Ideal) c arg3 harg3 arg4 harg4 x2 x3)) (ix3 1 i q) : EReal) = vB x2 x3 1 p q := by
  unfold kernelRun0_B.sl.HS0_3
  refine (hit3 v f 1 8 0 _ _ _ p q 1 i q rfl hi (Nat.zero_add _).symm).trans ?_
  exact (p24 _ _ p q).trans (congrArg₂ (fun a b : EReal => a * b) (r8_B p q) (ld3 arg4 harg4 x3 1 0 0 _ p q 1 p q rfl (Nat.zero_add _).symm (Nat.zero_add _).symm))

theorem el_B (i : Fin 520) (r : Fin 8) (q : Fin 512) (hi : i.val = r.val) :
    (arg17.view.read (Elt Ideal) (arg17.view.writes (Elt Ideal) (harg17.unread xs0) (kernelRun0_B.sl.HS0_1 (F := Ideal) c arg3 harg3 arg4 harg4 x2 x3)) (ix3 0 i q) : EReal) = (carB xs0) 0 r q := by
  unfold kernelRun0_B.sl.HS0_1
  refine (missB arg17.view _ 0 8 0 _ _ _ 0 i q (Or.inl (by omega))).trans ?_
  refine Eq.trans ?_ (congrArg (fun i => (xs0 (ix3 0 i q) : EReal)) (Fin.ext hi))
  exact congrFun (harg17.read_unread xs0) (ix3 0 i q)

theorem eh_B (i : Fin 520) (r : Fin 8) (q : Fin 512) (hi : i.val = r.val) :
    (arg17.view.read (Elt Ideal) (arg17.view.writes (Elt Ideal) (harg17.unread xs0) (kernelRun0_B.sl.HS0_3 (F := Ideal) c arg3 harg3 arg4 harg4 x2 x3)) (ix3 1 i q) : EReal) = (carB xs0) 1 r q := by
  unfold kernelRun0_B.sl.HS0_3
  refine (missB arg17.view _ 1 8 0 _ _ _ 1 i q (Or.inl (by omega))).trans ?_
  refine (missA arg17.view _ 0 0 0 _ _ _ 1 i q (Or.inr (by decide))).trans ?_
  unfold kernelRun0_B.sl.HS0_1
  refine (missA arg17.view _ 0 8 0 _ _ _ 1 i q (Or.inr (by decide))).trans ?_
  refine Eq.trans ?_ (congrArg (fun i => (xs0 (ix3 1 i q) : EReal)) (Fin.ext hi))
  exact congrFun (harg17.read_unread xs0) (ix3 1 i q)

theorem v63_B (p q : Fin 512) : ((kernelRun0_B.sl.v63 (F := Ideal) c arg3 harg3 arg4 harg4 arg17 harg17 x2 x3 xs0) (ix3 0 p q) : EReal) = tp x2 x3 (carB xs0) 1 0 p q := by
  unfold kernelRun0_B.sl.v63
  have hr : 7 + p.val < 520 := by omega
  refine Eq.trans (b := arg17.view.read (Elt Ideal) (arg17.view.writes (Elt Ideal) (harg17.unread xs0) (kernelRun0_B.sl.HS0_1 (F := Ideal) c arg3 harg3 arg4 harg4 x2 x3)) (ix3 0 (⟨7 + p.val, hr⟩ : Fin 520) q)) ?_ ?_
  · exact congrArg (arg17.view.read (Elt Ideal) (arg17.view.writes (Elt Ideal) (harg17.unread xs0) (kernelRun0_B.sl.HS0_1 (F := Ideal) c arg3 harg3 arg4 harg4 x2 x3)))
      (emb3 0 7 0 inb_S2x520x512_S1x512x512_0_7_0 p q 0 (⟨7 + p.val, hr⟩ : Fin 520) q rfl rfl (Nat.zero_add _).symm)
  unfold tp
  by_cases hp : p.val < 1
  · rw [dif_pos hp]
    exact el_B _ _ q (by show 7 + p.val = 8 + p.val - 1; omega)
  · rw [dif_neg hp]
    exact hl_B _ _ _ ⟨p.val - 1, by omega⟩ q (by show 7 + p.val = 8 + (p.val - 1); omega)

theorem v65_B (p q : Fin 512) : ((kernelRun0_B.sl.v65 (F := Ideal) c arg3 harg3 arg4 harg4 arg17 harg17 x2 x3 xs0) (ix3 0 p q) : EReal) = tp x2 x3 (carB xs0) 2 0 p q := by
  unfold kernelRun0_B.sl.v65
  have hr : 6 + p.val < 520 := by omega
  refine Eq.trans (b := arg17.view.read (Elt Ideal) (arg17.view.writes (Elt Ideal) (harg17.unread xs0) (kernelRun0_B.sl.HS0_1 (F := Ideal) c arg3 harg3 arg4 harg4 x2 x3)) (ix3 0 (⟨6 + p.val, hr⟩ : Fin 520) q)) ?_ ?_
  · exact congrArg (arg17.view.read (Elt Ideal) (arg17.view.writes (Elt Ideal) (harg17.unread xs0) (kernelRun0_B.sl.HS0_1 (F := Ideal) c arg3 harg3 arg4 harg4 x2 x3)))
      (emb3 0 6 0 inb_S2x520x512_S1x512x512_0_6_0 p q 0 (⟨6 + p.val, hr⟩ : Fin 520) q rfl rfl (Nat.zero_add _).symm)
  unfold tp
  by_cases hp : p.val < 2
  · rw [dif_pos hp]
    exact el_B _ _ q (by show 6 + p.val = 8 + p.val - 2; omega)
  · rw [dif_neg hp]
    exact hl_B _ _ _ ⟨p.val - 2, by omega⟩ q (by show 6 + p.val = 8 + (p.val - 2); omega)

theorem v108_B (p q : Fin 512) : ((kernelRun0_B.sl.v108 (F := Ideal) c arg3 harg3 arg4 harg4 arg17 harg17 x2 x3 xs0) (ix3 0 p q) : EReal) = tp x2 x3 (carB xs0) 1 1 p q := by
  unfold kernelRun0_B.sl.v108
  have hr : 7 + p.val < 520 := by omega
  refine Eq.trans (b := arg17.view.read (Elt Ideal) (arg17.view.writes (Elt Ideal) (harg17.unread xs0) (kernelRun0_B.sl.HS0_3 (F := Ideal) c arg3 harg3 arg4 harg4 x2 x3)) (ix3 1 (⟨7 + p.val, hr⟩ : Fin 520) q)) ?_ ?_
  · exact congrArg (arg17.view.read (Elt Ideal) (arg17.view.writes (Elt Ideal) (harg17.unread xs0) (kernelRun0_B.sl.HS0_3 (F := Ideal) c arg3 harg3 arg4 harg4 x2 x3)))
      (emb3 1 7 0 inb_S2x520x512_S1x512x512_1_7_0 p q 1 (⟨7 + p.val, hr⟩ : Fin 520) q rfl rfl (Nat.zero_add _).symm)
  unfold tp
  by_cases hp : p.val < 1
  · rw [dif_pos hp]
    exact eh_B _ _ q (by show 7 + p.val = 8 + p.val - 1; omega)
  · rw [dif_neg hp]
    exact hh_B _ _ _ ⟨p.val - 1, by omega⟩ q (by show 7 + p.val = 8 + (p.val - 1); omega)

theorem v110_B (p q : Fin 512) : ((kernelRun0_B.sl.v110 (F := Ideal) c arg3 harg3 arg4 harg4 arg17 harg17 x2 x3 xs0) (ix3 0 p q) : EReal) = tp x2 x3 (carB xs0) 2 1 p q := by
  unfold kernelRun0_B.sl.v110
  have hr : 6 + p.val < 520 := by omega
  refine Eq.trans (b := arg17.view.read (Elt Ideal) (arg17.view.writes (Elt Ideal) (harg17.unread xs0) (kernelRun0_B.sl.HS0_3 (F := Ideal) c arg3 harg3 arg4 harg4 x2 x3)) (ix3 1 (⟨6 + p.val, hr⟩ : Fin 520) q)) ?_ ?_
  · exact congrArg (arg17.view.read (Elt Ideal) (arg17.view.writes (Elt Ideal) (harg17.unread xs0) (kernelRun0_B.sl.HS0_3 (F := Ideal) c arg3 harg3 arg4 harg4 x2 x3)))
      (emb3 1 6 0 inb_S2x520x512_S1x512x512_1_6_0 p q 1 (⟨6 + p.val, hr⟩ : Fin 520) q rfl rfl (Nat.zero_add _).symm)
  unfold tp
  by_cases hp : p.val < 2
  · rw [dif_pos hp]
    exact eh_B _ _ q (by show 6 + p.val = 8 + p.val - 2; omega)
  · rw [dif_neg hp]
    exact hh_B _ _ _ ⟨p.val - 2, by omega⟩ q (by show 6 + p.val = 8 + (p.val - 2); omega)

/-- The convolution of the first half. -/
theorem c0_B (p q : Fin 512) :
    (k0_pay18 (F := Ideal) (kernelRun0_B.sl.r_4 (F := Ideal) c arg3 harg3 arg4 harg4 x2 x3) (kernelRun0_B.sl.r_5 (F := Ideal) c arg3 harg3 arg4 harg4 arg17 harg17 x2 x3 xs0) (kernelRun0_B.sl.r_6 (F := Ideal) c arg3 harg3 arg4 harg4 arg17 harg17 x2 x3 xs0) (View.readAt (Elt Ideal) arg12.view (Rect.unit (s := S1x1024) ![0, 0] S1x512.size inb_S1x1024_S1x512_0_0).toLoadRect (harg12.unread x11)) (View.readAt (Elt Ideal) arg11.view (Rect.unit (s := S3x1024) ![0, 0] S1x512.size inb_S3x1024_S1x512_0_0).toLoadRect (harg11.unread x10)) (View.readAt (Elt Ideal) arg11.view (Rect.unit (s := S3x1024) ![1, 0] S1x512.size inb_S3x1024_S1x512_1_0).toLoadRect (harg11.unread x10)) (View.readAt (Elt Ideal) arg11.view (Rect.unit (s := S3x1024) ![2, 0] S1x512.size inb_S3x1024_S1x512_2_0).toLoadRect (harg11.unread x10)) (ix2 p q) : EReal)
      = cvB x2 x3 x10 x11 (tp x2 x3 (carB xs0) 1) (tp x2 x3 (carB xs0) 2) 0 lo p q := by
  unfold kernelRun0_B.sl.r_5 kernelRun0_B.sl.r_6
  exact (p18 _ _ _ _ _ _ _ p q).trans (congrArg₂ (fun a b : EReal => a + b) (congrArg₂ (fun a b : EReal => a + b) (congrArg₂ (fun a b : EReal => a + b) (ld2 arg12 harg12 x11 0 0 _ 0 q 0 (lo q) rfl (Nat.zero_add _).symm)
    (congrArg₂ (fun a b : EReal => a * b) (ld2 arg11 harg11 x10 0 0 _ 0 q 0 (lo q) rfl (Nat.zero_add _).symm) ((p17 _ p q).trans (v65_B p q)))) (congrArg₂ (fun a b : EReal => a * b) (ld2 arg11 harg11 x10 1 0 _ 0 q 1 (lo q) rfl (Nat.zero_add _).symm) ((p16 _ p q).trans (v63_B p q)))) (congrArg₂ (fun a b : EReal => a * b) (ld2 arg11 harg11 x10 2 0 _ 0 q 2 (lo q) rfl (Nat.zero_add _).symm) (r4_B p q)))

/-- The convolution of the second half. -/
theorem c1_B (p q : Fin 512) : ((kernelRun0_B.sl.r_9 (F := Ideal) c arg3 harg3 arg4 harg4 arg11 harg11 arg12 harg12 arg17 harg17 x2 x3 x10 x11 xs0) (ix2 p q) : EReal) = cvB x2 x3 x10 x11 (tp x2 x3 (carB xs0) 1) (tp x2 x3 (carB xs0) 2) 1 hi p q := by
  unfold kernelRun0_B.sl.r_9
  exact (p25 _ _ _ _ _ _ _ _ p q).trans (congrArg₂ (fun a b : EReal => a + b) (congrArg₂ (fun a b : EReal => a + b) (congrArg₂ (fun a b : EReal => a + b) (ld2 arg12 harg12 x11 0 512 _ 0 q 0 (hi q) rfl rfl)
    (congrArg₂ (fun a b : EReal => a * b) (ld2 arg11 harg11 x10 0 512 _ 0 q 0 (hi q) rfl rfl) (v110_B p q))) (congrArg₂ (fun a b : EReal => a * b) (ld2 arg11 harg11 x10 1 512 _ 0 q 1 (hi q) rfl rfl) (v108_B p q))) (congrArg₂ (fun a b : EReal => a * b) (ld2 arg11 harg11 x10 2 512 _ 0 q 2 (hi q) rfl rfl) (congrArg₂ (fun a b : EReal => a * b) (r8_B p q) (ld3 arg4 harg4 x3 1 0 0 _ p q 1 p q rfl (Nat.zero_add _).symm (Nat.zero_add _).symm))))

theorem r7_B (p : Fin 512) (q : Fin 1024) :
    ((kernelRun0_B.sl.r_7 (F := Ideal) c arg2 harg2 arg3 harg3 arg4 harg4 arg9 harg9 arg11 harg11 arg12 harg12 arg17 harg17 x1 x2 x3 x8 x10 x11 xs0) (ix2 p q) : EReal) = ∑ k : Fin 512, x1 (ix3 0 p k) * cvB x2 x3 x10 x11 (tp x2 x3 (carB xs0) 1) (tp x2 x3 (carB xs0) 2) 0 lo p k * x8 (ix2 (lo k) q) := by
  unfold kernelRun0_B.sl.r_7
  exact (p21 _ _ _ _ _ _ _ _ _ p q).trans (Finset.sum_congr rfl fun k _ => congrArg₂ (fun a b : EReal => a * b) (congrArg₂ (fun a b : EReal => a * b)
    (ld3 arg2 harg2 x1 0 0 0 _ p k 0 p k rfl (Nat.zero_add _).symm (Nat.zero_add _).symm) (c0_B p k)) (ld2 arg9 harg9 x8 0 0 _ k q (lo k) q (Nat.zero_add _).symm (Nat.zero_add _).symm))

theorem r11_B (p : Fin 512) (q : Fin 1024) :
    ((kernelRun0_B.sl.r_11 (F := Ideal) c arg2 harg2 arg3 harg3 arg4 harg4 arg9 harg9 arg11 harg11 arg12 harg12 arg17 harg17 x1 x2 x3 x8 x10 x11 xs0) (ix2 p q) : EReal) = ybB x1 x2 x3 x8 x10 x11 (tp x2 x3 (carB xs0) 1) (tp x2 x3 (carB xs0) 2) p q := by
  unfold kernelRun0_B.sl.r_11
  exact (p28 _ _ _ _ p q).trans (congrArg₂ (fun a b : EReal => a + b) (r7_B p q) (Finset.sum_congr rfl fun k _ => congrArg₂ (fun a b : EReal => a * b) (congrArg₂ (fun a b : EReal => a * b)
    (ld3 arg2 harg2 x1 1 0 0 _ p k 1 p k rfl (Nat.zero_add _).symm (Nat.zero_add _).symm) (c1_B p k)) (ld2 arg9 harg9 x8 512 0 _ k q (hi k) q rfl (Nat.zero_add _).symm)))

theorem r12_B (p : Fin 512) (q : Fin 1024) : ((kernelRun0_B.sl.r_12 (F := Ideal) c arg5 harg5 x4) (ix2 p q) : EReal) = Ideal.logistic (twoB x4 p q) := by
  unfold kernelRun0_B.sl.r_12
  refine (p29 _ _ p q).trans (congrArg Ideal.logistic ?_)
  unfold twoB
  by_cases h : q.val < 512
  · rw [dif_pos h, dif_pos h]
    exact ld3 arg5 harg5 x4 0 0 0 _ p ⟨q.val, h⟩ 0 p ⟨q.val, h⟩ rfl (Nat.zero_add _).symm (Nat.zero_add _).symm
  · rw [dif_neg h, dif_neg h]
    exact ld3 arg5 harg5 x4 1 0 0 _ p ⟨q.val - 512, by omega⟩ 1 p ⟨q.val - 512, by omega⟩ rfl (Nat.zero_add _).symm (Nat.zero_add _).symm

theorem r13_B (p : Fin 512) (q : Fin 1024) : ((kernelRun0_B.sl.r_13 (F := Ideal) c arg6 harg6 x5) (ix2 p q) : EReal) = Ideal.logistic (twoB x5 p q) := by
  unfold kernelRun0_B.sl.r_13
  refine (p30 _ _ p q).trans (congrArg Ideal.logistic ?_)
  unfold twoB
  by_cases h : q.val < 512
  · rw [dif_pos h, dif_pos h]
    exact ld3 arg6 harg6 x5 0 0 0 _ p ⟨q.val, h⟩ 0 p ⟨q.val, h⟩ rfl (Nat.zero_add _).symm (Nat.zero_add _).symm
  · rw [dif_neg h, dif_neg h]
    exact ld3 arg6 harg6 x5 1 0 0 _ p ⟨q.val - 512, by omega⟩ 1 p ⟨q.val - 512, by omega⟩ rfl (Nat.zero_add _).symm (Nat.zero_add _).symm

theorem mg_B (p : Fin 512) (q : Fin 1024) :
    (k0_pay4 (F := Ideal) (kernelRun0_B.sl.r_3 (F := Ideal) c arg1 harg1 arg8 harg8 x0 x7) (kernelRun0_B.sl.r_11 (F := Ideal) c arg2 harg2 arg3 harg3 arg4 harg4 arg9 harg9 arg11 harg11 arg12 harg12 arg17 harg17 x1 x2 x3 x8 x10 x11 xs0) (kernelRun0_B.sl.r_12 (F := Ideal) c arg5 harg5 x4) (kernelRun0_B.sl.r_13 (F := Ideal) c arg6 harg6 x5) (ix2 p q) : EReal)
      = mgB x0 x1 x2 x3 x4 x5 x7 x8 x10 x11 (tp x2 x3 (carB xs0) 1) (tp x2 x3 (carB xs0) 2) p q :=
  (p4 _ _ _ _ p q).trans (congrArg₂ (fun a b : EReal => a + b) (congrArg₂ (fun a b : EReal => a * b) (r12_B p q) (r3_B p q)) (congrArg₂ (fun a b : EReal => a * b) (r13_B p q) (r11_B p q)))

end caseB

end Cert.Kernel7Ideal.Val
end
-- ==== Proof.MixOutA.lean ====
module

public import proofs.«01_k».proof.Proof.MixVal

@[expose] public section

set_option maxRecDepth 16384

noncomputable section

/-! What a grid point of the mixer at the start of a sequence leaves in its four results and in the rows it carries to the next point. -/

namespace Cert.Kernel7Ideal.Val
open Cert.Kernel7Ideal Cert.Kernel7Ideal.Gen Idealize.ShloMosaic Idealize.ShloMosaic.TcCoe Idealize.SL.Sem
open Cert.Step
open scoped BigOperators

set_option maxHeartbeats 1000000 in
theorem o12_A {c : Dev nD} {i : grid0.Coords} {arg1 : Memref sig .tc .vmem S512x512 .bf16} {harg1 : arg1.IsWhole} {arg2 : Memref sig .tc .vmem S2x512x512 .bf16} {harg2 : arg2.IsWhole} {arg3 : Memref sig .tc .vmem S2x512x512 .bf16} {harg3 : arg3.IsWhole} {arg4 : Memref sig .tc .vmem S2x512x512 .bf16} {harg4 : arg4.IsWhole} {arg5 : Memref sig .tc .vmem S2x512x512 .bf16} {harg5 : arg5.IsWhole} {arg6 : Memref sig .tc .vmem S2x512x512 .bf16} {harg6 : arg6.IsWhole} {arg7 : Memref sig .tc .vmem S512x1024 .f32} {harg7 : arg7.IsWhole} {arg8 : Memref sig .tc .vmem S1024x1024 .bf16} {harg8 : arg8.IsWhole} {arg9 : Memref sig .tc .vmem S1024x1024 .bf16} {harg9 : arg9.IsWhole} {arg10 : Memref sig .tc .vmem S1024x1024 .bf16} {harg10 : arg10.IsWhole} {arg11 : Memref sig .tc .vmem S3x1024 .f32} {harg11 : arg11.IsWhole} {arg12 : Memref sig .tc .vmem S1x1024 .f32} {harg12 : arg12.IsWhole} {arg13 : Memref sig .tc .vmem S512x1024 .f32} {harg13 : arg13.IsWhole} {arg14 : Memref sig .tc .vmem S512x512 .bf16} {harg14 : arg14.IsWhole} {arg15 : Memref sig .tc .vmem S512x1024 .bf16} {harg15 : arg15.IsWhole} {arg16 : Memref sig .tc .vmem S6x512x1024 .bf16} {harg16 : arg16.IsWhole} {arg17 : Memref sig .tc .vmem S2x520x512 .f32} {harg17 : arg17.IsWhole} {hc0 : cond0_0 i} {x0 : Vec Ideal S512x512 .bf16} {x1 : Vec Ideal S2x512x512 .bf16} {x2 : Vec Ideal S2x512x512 .bf16} {x3 : Vec Ideal S2x512x512 .bf16} {x4 : Vec Ideal S2x512x512 .bf16} {x5 : Vec Ideal S2x512x512 .bf16} {x6 : Vec Ideal S512x1024 .f32} {x7 : Vec Ideal S1024x1024 .bf16} {x8 : Vec Ideal S1024x1024 .bf16} {x9 : Vec Ideal S1024x1024 .bf16} {x10 : Vec Ideal S3x1024 .f32} {x11 : Vec Ideal S1x1024 .f32} (p : Fin 512) (q : Fin 1024) :
    (out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 (ix2 p q) : EReal) = h1B x0 x1 x2 x3 x4 x5 x6 x7 x8 x9 x10 x11 (tp x2 x3 noneB 1) (tp x2 x3 noneB 2) p q := by
  unfold out0_A_12 kernelRun0_A
  dsimp only
  refine (congrFun (View.read_writes_full VO0_12 VO0_12.junk _ _ _) (ix2 p q)).trans ?_
  exact (p5 _ _ _ _ _ _ p q).trans (congrArg₂ (fun a b : EReal => a + b) (ld2 arg7 harg7 x6 0 0 _ p q p q (Nat.zero_add _).symm (Nat.zero_add _).symm) (Finset.sum_congr rfl fun k _ => congrArg₂ (fun a b : EReal => a * b) (mg_A p k) (ld2 arg10 harg10 x9 0 0 _ k q k q (Nat.zero_add _).symm (Nat.zero_add _).symm)))

set_option maxHeartbeats 1000000 in
theorem o13_A {c : Dev nD} {i : grid0.Coords} {arg1 : Memref sig .tc .vmem S512x512 .bf16} {harg1 : arg1.IsWhole} {arg2 : Memref sig .tc .vmem S2x512x512 .bf16} {harg2 : arg2.IsWhole} {arg3 : Memref sig .tc .vmem S2x512x512 .bf16} {harg3 : arg3.IsWhole} {arg4 : Memref sig .tc .vmem S2x512x512 .bf16} {harg4 : arg4.IsWhole} {arg5 : Memref sig .tc .vmem S2x512x512 .bf16} {harg5 : arg5.IsWhole} {arg6 : Memref sig .tc .vmem S2x512x512 .bf16} {harg6 : arg6.IsWhole} {arg7 : Memref sig .tc .vmem S512x1024 .f32} {harg7 : arg7.IsWhole} {arg8 : Memref sig .tc .vmem S1024x1024 .bf16} {harg8 : arg8.IsWhole} {arg9 : Memref sig .tc .vmem S1024x1024 .bf16} {harg9 : arg9.IsWhole} {arg10 : Memref sig .tc .vmem S1024x1024 .bf16} {harg10 : arg10.IsWhole} {arg11 : Memref sig .tc .vmem S3x1024 .f32} {harg11 : arg11.IsWhole} {arg12 : Memref sig .tc .vmem S1x1024 .f32} {harg12 : arg12.IsWhole} {arg13 : Memref sig .tc .vmem S512x1024 .f32} {harg13 : arg13.IsWhole} {arg14 : Memref sig .tc .vmem S512x512 .bf16} {harg14 : arg14.IsWhole} {arg15 : Memref sig .tc .vmem S512x1024 .bf16} {harg15 : arg15.IsWhole} {arg16 : Memref sig .tc .vmem S6x512x1024 .bf16} {harg16 : arg16.IsWhole} {arg17 : Memref sig .tc .vmem S2x520x512 .f32} {harg17 : arg17.IsWhole} {hc0 : cond0_0 i} {x0 : Vec Ideal S512x512 .bf16} {x1 : Vec Ideal S2x512x512 .bf16} {x2 : Vec Ideal S2x512x512 .bf16} {x3 : Vec Ideal S2x512x512 .bf16} {x4 : Vec Ideal S2x512x512 .bf16} {x5 : Vec Ideal S2x512x512 .bf16} {x6 : Vec Ideal S512x1024 .f32} {x7 : Vec Ideal S1024x1024 .bf16} {x8 : Vec Ideal S1024x1024 .bf16} {x9 : Vec Ideal S1024x1024 .bf16} {x10 : Vec Ideal S3x1024 .f32} {x11 : Vec Ideal S1x1024 .f32} (p q : Fin 512) :
    (out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 (ix2 p q) : EReal) = zB x0 p q := by
  unfold out0_A_13 kernelRun0_A
  dsimp only
  refine (congrFun (View.read_writes_full VO0_13 VO0_13.junk _ _ _) (ix2 p q)).trans ?_
  exact (p7 _ p q).trans (congrArg gel (ld2 arg1 harg1 x0 0 0 _ p q p q (Nat.zero_add _).symm (Nat.zero_add _).symm))

set_option maxHeartbeats 1000000 in
theorem o14_A {c : Dev nD} {i : grid0.Coords} {arg1 : Memref sig .tc .vmem S512x512 .bf16} {harg1 : arg1.IsWhole} {arg2 : Memref sig .tc .vmem S2x512x512 .bf16} {harg2 : arg2.IsWhole} {arg3 : Memref sig .tc .vmem S2x512x512 .bf16} {harg3 : arg3.IsWhole} {arg4 : Memref sig .tc .vmem S2x512x512 .bf16} {harg4 : arg4.IsWhole} {arg5 : Memref sig .tc .vmem S2x512x512 .bf16} {harg5 : arg5.IsWhole} {arg6 : Memref sig .tc .vmem S2x512x512 .bf16} {harg6 : arg6.IsWhole} {arg7 : Memref sig .tc .vmem S512x1024 .f32} {harg7 : arg7.IsWhole} {arg8 : Memref sig .tc .vmem S1024x1024 .bf16} {harg8 : arg8.IsWhole} {arg9 : Memref sig .tc .vmem S1024x1024 .bf16} {harg9 : arg9.IsWhole} {arg10 : Memref sig .tc .vmem S1024x1024 .bf16} {harg10 : arg10.IsWhole} {arg11 : Memref sig .tc .vmem S3x1024 .f32} {harg11 : arg11.IsWhole} {arg12 : Memref sig .tc .vmem S1x1024 .f32} {harg12 : arg12.IsWhole} {arg13 : Memref sig .tc .vmem S512x1024 .f32} {harg13 : arg13.IsWhole} {arg14 : Memref sig .tc .vmem S512x512 .bf16} {harg14 : arg14.IsWhole} {arg15 : Memref sig .tc .vmem S512x1024 .bf16} {harg15 : arg15.IsWhole} {arg16 : Memref sig .tc .vmem S6x512x1024 .bf16} {harg16 : arg16.IsWhole} {arg17 : Memref sig .tc .vmem S2x520x512 .f32} {harg17 : arg17.IsWhole} {hc0 : cond0_0 i} {x0 : Vec Ideal S512x512 .bf16} {x1 : Vec Ideal S2x512x512 .bf16} {x2 : Vec Ideal S2x512x512 .bf16} {x3 : Vec Ideal S2x512x512 .bf16} {x4 : Vec Ideal S2x512x512 .bf16} {x5 : Vec Ideal S2x512x512 .bf16} {x6 : Vec Ideal S512x1024 .f32} {x7 : Vec Ideal S1024x1024 .bf16} {x8 : Vec Ideal S1024x1024 .bf16} {x9 : Vec Ideal S1024x1024 .bf16} {x10 : Vec Ideal S3x1024 .f32} {x11 : Vec Ideal S1x1024 .f32} (p : Fin 512) (q : Fin 1024) :
    (out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 (ix2 p q) : EReal) = mgB x0 x1 x2 x3 x4 x5 x7 x8 x10 x11 (tp x2 x3 noneB 1) (tp x2 x3 noneB 2) p q := by
  unfold out0_A_14 kernelRun0_A
  dsimp only
  refine (congrFun (View.read_writes_full VO0_14 VO0_14.junk _ _ _) (ix2 p q)).trans ?_
  exact mg_A p q

set_option maxHeartbeats 2000000 in
theorem o15_A {c : Dev nD} {i : grid0.Coords} {arg1 : Memref sig .tc .vmem S512x512 .bf16} {harg1 : arg1.IsWhole} {arg2 : Memref sig .tc .vmem S2x512x512 .bf16} {harg2 : arg2.IsWhole} {arg3 : Memref sig .tc .vmem S2x512x512 .bf16} {harg3 : arg3.IsWhole} {arg4 : Memref sig .tc .vmem S2x512x512 .bf16} {harg4 : arg4.IsWhole} {arg5 : Memref sig .tc .vmem S2x512x512 .bf16} {harg5 : arg5.IsWhole} {arg6 : Memref sig .tc .vmem S2x512x512 .bf16} {harg6 : arg6.IsWhole} {arg7 : Memref sig .tc .vmem S512x1024 .f32} {harg7 : arg7.IsWhole} {arg8 : Memref sig .tc .vmem S1024x1024 .bf16} {harg8 : arg8.IsWhole} {arg9 : Memref sig .tc .vmem S1024x1024 .bf16} {harg9 : arg9.IsWhole} {arg10 : Memref sig .tc .vmem S1024x1024 .bf16} {harg10 : arg10.IsWhole} {arg11 : Memref sig .tc .vmem S3x1024 .f32} {harg11 : arg11.IsWhole} {arg12 : Memref sig .tc .vmem S1x1024 .f32} {harg12 : arg12.IsWhole} {arg13 : Memref sig .tc .vmem S512x1024 .f32} {harg13 : arg13.IsWhole} {arg14 : Memref sig .tc .vmem S512x512 .bf16} {harg14 : arg14.IsWhole} {arg15 : Memref sig .tc .vmem S512x1024 .bf16} {harg15 : arg15.IsWhole} {arg16 : Memref sig .tc .vmem S6x512x1024 .bf16} {harg16 : arg16.IsWhole} {arg17 : Memref sig .tc .vmem S2x520x512 .f32} {harg17 : arg17.IsWhole} {hc0 : cond0_0 i} {x0 : Vec Ideal S512x512 .bf16} {x1 : Vec Ideal S2x512x512 .bf16} {x2 : Vec Ideal S2x512x512 .bf16} {x3 : Vec Ideal S2x512x512 .bf16} {x4 : Vec Ideal S2x512x512 .bf16} {x5 : Vec Ideal S2x512x512 .bf16} {x6 : Vec Ideal S512x1024 .f32} {x7 : Vec Ideal S1024x1024 .bf16} {x8 : Vec Ideal S1024x1024 .bf16} {x9 : Vec Ideal S1024x1024 .bf16} {x10 : Vec Ideal S3x1024 .f32} {x11 : Vec Ideal S1x1024 .f32} (s : Fin 6) (p : Fin 512) (q : Fin 1024) :
    (out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 (ix3 s p q) : EReal) = svB x0 x1 x2 x3 x4 x5 x7 x8 x10 x11 (tp x2 x3 noneB 1) (tp x2 x3 noneB 2) s p q := by
  unfold out0_A_15 kernelRun0_A
  dsimp only
  unfold svB
  by_cases h5 : s.val = 5
  · rw [if_neg (by omega), if_neg (by omega), if_neg (by omega), if_neg (by omega), if_neg (by omega)]
    exact (hit3 VO0_15 VO0_15.junk 5 0 0 _ _ _ p q s p q h5 (Nat.zero_add _).symm (Nat.zero_add _).symm).trans ((p3 _ p q).trans (r13_A p q))
  refine (missA VO0_15 VO0_15.junk 5 0 0 _ _ _ s p q (Or.inl (by omega))).trans ?_
  by_cases h4 : s.val = 4
  · rw [if_neg (by omega), if_neg (by omega), if_neg (by omega), if_neg (by omega), if_pos h4]
    exact (hit3 VO0_15 VO0_15.junk 4 0 0 _ _ _ p q s p q h4 (Nat.zero_add _).symm (Nat.zero_add _).symm).trans ((p2 _ p q).trans (r12_A p q))
  refine (missA VO0_15 VO0_15.junk 4 0 0 _ _ _ s p q (Or.inl (by omega))).trans ?_
  by_cases h3 : s.val = 3
  · rw [if_neg (by omega), if_neg (by omega), if_neg (by omega), if_pos h3]
    exact (hit3 VO0_15 VO0_15.junk 3 0 0 _ _ _ p q s p q h3 (Nat.zero_add _).symm (Nat.zero_add _).symm).trans ((p1 _ p q).trans (r11_A p q))
  refine (missA VO0_15 VO0_15.junk 3 0 0 _ _ _ s p q (Or.inl (by omega))).trans ?_
  by_cases h2 : s.val = 2
  · rw [if_neg (by omega), if_neg (by omega), if_pos h2]
    unfold cfB
    by_cases hq : q.val < 512
    · rw [dif_pos hq]
      refine (View.read_writes_cons_miss_of_axis VO0_15 VO0_15.junk _ _ (ix3 s p q) 2 512 512 rfl rfl rfl (Or.inl hq)).trans ?_
      refine (hit3 VO0_15 VO0_15.junk 2 0 0 _ _ _ p ⟨q.val, hq⟩ s p q h2 (Nat.zero_add _).symm (Nat.zero_add _).symm).trans ?_
      exact (p19 _ _ _ _ _ _ _ p ⟨q.val, hq⟩).trans (c0_A p ⟨q.val, hq⟩)
    · rw [dif_neg hq]
      refine (hit3 VO0_15 VO0_15.junk 2 0 512 _ _ _ p ⟨q.val - 512, by omega⟩ s p q h2 (Nat.zero_add _).symm (by show q.val = 512 + (q.val - 512); omega)).trans ?_
      exact (p26 _ _ _ _ _ _ _ _ p _).trans (c1_A p _)
  refine (missA VO0_15 VO0_15.junk 2 0 512 _ _ _ s p q (Or.inl (by omega))).trans ?_
  refine (missA VO0_15 VO0_15.junk 2 0 0 _ _ _ s p q (Or.inl (by omega))).trans ?_
  by_cases h1 : s.val = 1
  · rw [if_neg (by omega), if_pos h1]
    exact (hit3 VO0_15 VO0_15.junk 1 0 0 _ _ _ p q s p q h1 (Nat.zero_add _).symm (Nat.zero_add _).symm).trans ((p12 _ _ p q).trans (sb_A p q))
  refine (missA VO0_15 VO0_15.junk 1 0 0 _ _ _ s p q (Or.inl (by omega))).trans ?_
  have h0 : s.val = 0 := by omega
  rw [if_pos h0]
  exact (hit3 VO0_15 VO0_15.junk 0 0 0 _ _ _ p q s p q h0 (Nat.zero_add _).symm (Nat.zero_add _).symm).trans ((p11 _ p q).trans (r1_A p q))

set_option maxHeartbeats 1000000 in
/-- The carried rows are the block's last eight. -/
theorem so_A {c : Dev nD} {i : grid0.Coords} {arg1 : Memref sig .tc .vmem S512x512 .bf16} {harg1 : arg1.IsWhole} {arg2 : Memref sig .tc .vmem S2x512x512 .bf16} {harg2 : arg2.IsWhole} {arg3 : Memref sig .tc .vmem S2x512x512 .bf16} {harg3 : arg3.IsWhole} {arg4 : Memref sig .tc .vmem S2x512x512 .bf16} {harg4 : arg4.IsWhole} {arg5 : Memref sig .tc .vmem S2x512x512 .bf16} {harg5 : arg5.IsWhole} {arg6 : Memref sig .tc .vmem S2x512x512 .bf16} {harg6 : arg6.IsWhole} {arg7 : Memref sig .tc .vmem S512x1024 .f32} {harg7 : arg7.IsWhole} {arg8 : Memref sig .tc .vmem S1024x1024 .bf16} {harg8 : arg8.IsWhole} {arg9 : Memref sig .tc .vmem S1024x1024 .bf16} {harg9 : arg9.IsWhole} {arg10 : Memref sig .tc .vmem S1024x1024 .bf16} {harg10 : arg10.IsWhole} {arg11 : Memref sig .tc .vmem S3x1024 .f32} {harg11 : arg11.IsWhole} {arg12 : Memref sig .tc .vmem S1x1024 .f32} {harg12 : arg12.IsWhole} {arg13 : Memref sig .tc .vmem S512x1024 .f32} {harg13 : arg13.IsWhole} {arg14 : Memref sig .tc .vmem S512x512 .bf16} {harg14 : arg14.IsWhole} {arg15 : Memref sig .tc .vmem S512x1024 .bf16} {harg15 : arg15.IsWhole} {arg16 : Memref sig .tc .vmem S6x512x1024 .bf16} {harg16 : arg16.IsWhole} {arg17 : Memref sig .tc .vmem S2x520x512 .f32} {harg17 : arg17.IsWhole} {hc0 : cond0_0 i} {x0 : Vec Ideal S512x512 .bf16} {x1 : Vec Ideal S2x512x512 .bf16} {x2 : Vec Ideal S2x512x512 .bf16} {x3 : Vec Ideal S2x512x512 .bf16} {x4 : Vec Ideal S2x512x512 .bf16} {x5 : Vec Ideal S2x512x512 .bf16} {x6 : Vec Ideal S512x1024 .f32} {x7 : Vec Ideal S1024x1024 .bf16} {x8 : Vec Ideal S1024x1024 .bf16} {x9 : Vec Ideal S1024x1024 .bf16} {x10 : Vec Ideal S3x1024 .f32} {x11 : Vec Ideal S1x1024 .f32} (h : Fin 2) (r : Fin 8) (j : Fin 520) (q : Fin 512) (hi : j.val = r.val) :
    (sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 (ix3 h j q) : EReal) = vB x2 x3 h ⟨504 + r.val, by omega⟩ q := by
  unfold sout0_A_0 kernelRun0_A
  dsimp only
  by_cases h1 : h.val = 1
  · obtain rfl : h = 1 := Fin.ext h1
    refine (hit3 VS0_0 VS0_0.junk 1 0 0 _ _ _ r q 1 j q rfl (hi.trans (Nat.zero_add _).symm) (Nat.zero_add _).symm).trans ?_
    unfold kernelRun0_A.sl.r_10
    exact (p27 _ _ r q).trans (congrArg₂ (fun a b : EReal => a * b) (r8_A _ q) (ld3 arg4 harg4 x3 1 0 0 _ _ q 1 _ q rfl (Nat.zero_add _).symm (Nat.zero_add _).symm))
  · obtain rfl : h = 0 := Fin.ext (by omega)
    refine (missA VS0_0 VS0_0.junk 1 0 0 _ _ _ 0 j q (Or.inl (by decide))).trans ?_
    unfold kernelRun0_A.sl.HS0_4
    refine (missA VS0_0 VS0_0.junk 1 8 0 _ _ _ 0 j q (Or.inl (by decide))).trans ?_
    refine (hit3 VS0_0 VS0_0.junk 0 0 0 _ _ _ r q 0 j q rfl (hi.trans (Nat.zero_add _).symm) (Nat.zero_add _).symm).trans ?_
    exact (p20 _ r q).trans (r4_A _ q)

end Cert.Kernel7Ideal.Val
end
-- ==== Proof.MixOutB.lean ====
module

public import proofs.«01_k».proof.Proof.MixVal

@[expose] public section

set_option maxRecDepth 16384

noncomputable section

/-! What a grid point of the mixer inside a sequence leaves in its four results and in the rows it carries to the next point. -/

namespace Cert.Kernel7Ideal.Val
open Cert.Kernel7Ideal Cert.Kernel7Ideal.Gen Idealize.ShloMosaic Idealize.ShloMosaic.TcCoe Idealize.SL.Sem
open Cert.Step
open scoped BigOperators

set_option maxHeartbeats 1000000 in
theorem o12_B {c : Dev nD} {i : grid0.Coords} {arg1 : Memref sig .tc .vmem S512x512 .bf16} {harg1 : arg1.IsWhole} {arg2 : Memref sig .tc .vmem S2x512x512 .bf16} {harg2 : arg2.IsWhole} {arg3 : Memref sig .tc .vmem S2x512x512 .bf16} {harg3 : arg3.IsWhole} {arg4 : Memref sig .tc .vmem S2x512x512 .bf16} {harg4 : arg4.IsWhole} {arg5 : Memref sig .tc .vmem S2x512x512 .bf16} {harg5 : arg5.IsWhole} {arg6 : Memref sig .tc .vmem S2x512x512 .bf16} {harg6 : arg6.IsWhole} {arg7 : Memref sig .tc .vmem S512x1024 .f32} {harg7 : arg7.IsWhole} {arg8 : Memref sig .tc .vmem S1024x1024 .bf16} {harg8 : arg8.IsWhole} {arg9 : Memref sig .tc .vmem S1024x1024 .bf16} {harg9 : arg9.IsWhole} {arg10 : Memref sig .tc .vmem S1024x1024 .bf16} {harg10 : arg10.IsWhole} {arg11 : Memref sig .tc .vmem S3x1024 .f32} {harg11 : arg11.IsWhole} {arg12 : Memref sig .tc .vmem S1x1024 .f32} {harg12 : arg12.IsWhole} {arg13 : Memref sig .tc .vmem S512x1024 .f32} {harg13 : arg13.IsWhole} {arg14 : Memref sig .tc .vmem S512x512 .bf16} {harg14 : arg14.IsWhole} {arg15 : Memref sig .tc .vmem S512x1024 .bf16} {harg15 : arg15.IsWhole} {arg16 : Memref sig .tc .vmem S6x512x1024 .bf16} {harg16 : arg16.IsWhole} {arg17 : Memref sig .tc .vmem S2x520x512 .f32} {harg17 : arg17.IsWhole} {hc0 : ¬cond0_0 i} {x0 : Vec Ideal S512x512 .bf16} {x1 : Vec Ideal S2x512x512 .bf16} {x2 : Vec Ideal S2x512x512 .bf16} {x3 : Vec Ideal S2x512x512 .bf16} {x4 : Vec Ideal S2x512x512 .bf16} {x5 : Vec Ideal S2x512x512 .bf16} {x6 : Vec Ideal S512x1024 .f32} {x7 : Vec Ideal S1024x1024 .bf16} {x8 : Vec Ideal S1024x1024 .bf16} {x9 : Vec Ideal S1024x1024 .bf16} {x10 : Vec Ideal S3x1024 .f32} {x11 : Vec Ideal S1x1024 .f32} {xs0 : Vec Ideal S2x520x512 .f32} (p : Fin 512) (q : Fin 1024) :
    (out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 (ix2 p q) : EReal) = h1B x0 x1 x2 x3 x4 x5 x6 x7 x8 x9 x10 x11 (tp x2 x3 (carB xs0) 1) (tp x2 x3 (carB xs0) 2) p q := by
  unfold out0_B_12 kernelRun0_B
  dsimp only
  refine (congrFun (View.read_writes_full VO0_12 VO0_12.junk _ _ _) (ix2 p q)).trans ?_
  exact (p5 _ _ _ _ _ _ p q).trans (congrArg₂ (fun a b : EReal => a + b) (ld2 arg7 harg7 x6 0 0 _ p q p q (Nat.zero_add _).symm (Nat.zero_add _).symm) (Finset.sum_congr rfl fun k _ => congrArg₂ (fun a b : EReal => a * b) (mg_B p k) (ld2 arg10 harg10 x9 0 0 _ k q k q (Nat.zero_add _).symm (Nat.zero_add _).symm)))

set_option maxHeartbeats 1000000 in
theorem o13_B {c : Dev nD} {i : grid0.Coords} {arg1 : Memref sig .tc .vmem S512x512 .bf16} {harg1 : arg1.IsWhole} {arg2 : Memref sig .tc .vmem S2x512x512 .bf16} {harg2 : arg2.IsWhole} {arg3 : Memref sig .tc .vmem S2x512x512 .bf16} {harg3 : arg3.IsWhole} {arg4 : Memref sig .tc .vmem S2x512x512 .bf16} {harg4 : arg4.IsWhole} {arg5 : Memref sig .tc .vmem S2x512x512 .bf16} {harg5 : arg5.IsWhole} {arg6 : Memref sig .tc .vmem S2x512x512 .bf16} {harg6 : arg6.IsWhole} {arg7 : Memref sig .tc .vmem S512x1024 .f32} {harg7 : arg7.IsWhole} {arg8 : Memref sig .tc .vmem S1024x1024 .bf16} {harg8 : arg8.IsWhole} {arg9 : Memref sig .tc .vmem S1024x1024 .bf16} {harg9 : arg9.IsWhole} {arg10 : Memref sig .tc .vmem S1024x1024 .bf16} {harg10 : arg10.IsWhole} {arg11 : Memref sig .tc .vmem S3x1024 .f32} {harg11 : arg11.IsWhole} {arg12 : Memref sig .tc .vmem S1x1024 .f32} {harg12 : arg12.IsWhole} {arg13 : Memref sig .tc .vmem S512x1024 .f32} {harg13 : arg13.IsWhole} {arg14 : Memref sig .tc .vmem S512x512 .bf16} {harg14 : arg14.IsWhole} {arg15 : Memref sig .tc .vmem S512x1024 .bf16} {harg15 : arg15.IsWhole} {arg16 : Memref sig .tc .vmem S6x512x1024 .bf16} {harg16 : arg16.IsWhole} {arg17 : Memref sig .tc .vmem S2x520x512 .f32} {harg17 : arg17.IsWhole} {hc0 : ¬cond0_0 i} {x0 : Vec Ideal S512x512 .bf16} {x1 : Vec Ideal S2x512x512 .bf16} {x2 : Vec Ideal S2x512x512 .bf16} {x3 : Vec Ideal S2x512x512 .bf16} {x4 : Vec Ideal S2x512x512 .bf16} {x5 : Vec Ideal S2x512x512 .bf16} {x6 : Vec Ideal S512x1024 .f32} {x7 : Vec Ideal S1024x1024 .bf16} {x8 : Vec Ideal S1024x1024 .bf16} {x9 : Vec Ideal S1024x1024 .bf16} {x10 : Vec Ideal S3x1024 .f32} {x11 : Vec Ideal S1x1024 .f32} {xs0 : Vec Ideal S2x520x512 .f32} (p q : Fin 512) :
    (out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 (ix2 p q) : EReal) = zB x0 p q := by
  unfold out0_B_13 kernelRun0_B
  dsimp only
  refine (congrFun (View.read_writes_full VO0_13 VO0_13.junk _ _ _) (ix2 p q)).trans ?_
  exact (p7 _ p q).trans (congrArg gel (ld2 arg1 harg1 x0 0 0 _ p q p q (Nat.zero_add _).symm (Nat.zero_add _).symm))

set_option maxHeartbeats 1000000 in
theorem o14_B {c : Dev nD} {i : grid0.Coords} {arg1 : Memref sig .tc .vmem S512x512 .bf16} {harg1 : arg1.IsWhole} {arg2 : Memref sig .tc .vmem S2x512x512 .bf16} {harg2 : arg2.IsWhole} {arg3 : Memref sig .tc .vmem S2x512x512 .bf16} {harg3 : arg3.IsWhole} {arg4 : Memref sig .tc .vmem S2x512x512 .bf16} {harg4 : arg4.IsWhole} {arg5 : Memref sig .tc .vmem S2x512x512 .bf16} {harg5 : arg5.IsWhole} {arg6 : Memref sig .tc .vmem S2x512x512 .bf16} {harg6 : arg6.IsWhole} {arg7 : Memref sig .tc .vmem S512x1024 .f32} {harg7 : arg7.IsWhole} {arg8 : Memref sig .tc .vmem S1024x1024 .bf16} {harg8 : arg8.IsWhole} {arg9 : Memref sig .tc .vmem S1024x1024 .bf16} {harg9 : arg9.IsWhole} {arg10 : Memref sig .tc .vmem S1024x1024 .bf16} {harg10 : arg10.IsWhole} {arg11 : Memref sig .tc .vmem S3x1024 .f32} {harg11 : arg11.IsWhole} {arg12 : Memref sig .tc .vmem S1x1024 .f32} {harg12 : arg12.IsWhole} {arg13 : Memref sig .tc .vmem S512x1024 .f32} {harg13 : arg13.IsWhole} {arg14 : Memref sig .tc .vmem S512x512 .bf16} {harg14 : arg14.IsWhole} {arg15 : Memref sig .tc .vmem S512x1024 .bf16} {harg15 : arg15.IsWhole} {arg16 : Memref sig .tc .vmem S6x512x1024 .bf16} {harg16 : arg16.IsWhole} {arg17 : Memref sig .tc .vmem S2x520x512 .f32} {harg17 : arg17.IsWhole} {hc0 : ¬cond0_0 i} {x0 : Vec Ideal S512x512 .bf16} {x1 : Vec Ideal S2x512x512 .bf16} {x2 : Vec Ideal S2x512x512 .bf16} {x3 : Vec Ideal S2x512x512 .bf16} {x4 : Vec Ideal S2x512x512 .bf16} {x5 : Vec Ideal S2x512x512 .bf16} {x6 : Vec Ideal S512x1024 .f32} {x7 : Vec Ideal S1024x1024 .bf16} {x8 : Vec Ideal S1024x1024 .bf16} {x9 : Vec Ideal S1024x1024 .bf16} {x10 : Vec Ideal S3x1024 .f32} {x11 : Vec Ideal S1x1024 .f32} {xs0 : Vec Ideal S2x520x512 .f32} (p : Fin 512) (q : Fin 1024) :
    (out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 (ix2 p q) : EReal) = mgB x0 x1 x2 x3 x4 x5 x7 x8 x10 x11 (tp x2 x3 (carB xs0) 1) (tp x2 x3 (carB xs0) 2) p q := by
  unfold out0_B_14 kernelRun0_B
  dsimp only
  refine (congrFun (View.read_writes_full VO0_14 VO0_14.junk _ _ _) (ix2 p q)).trans ?_
  exact mg_B p q

set_option maxHeartbeats 2000000 in
theorem o15_B {c : Dev nD} {i : grid0.Coords} {arg1 : Memref sig .tc .vmem S512x512 .bf16} {harg1 : arg1.IsWhole} {arg2 : Memref sig .tc .vmem S2x512x512 .bf16} {harg2 : arg2.IsWhole} {arg3 : Memref sig .tc .vmem S2x512x512 .bf16} {harg3 : arg3.IsWhole} {arg4 : Memref sig .tc .vmem S2x512x512 .bf16} {harg4 : arg4.IsWhole} {arg5 : Memref sig .tc .vmem S2x512x512 .bf16} {harg5 : arg5.IsWhole} {arg6 : Memref sig .tc .vmem S2x512x512 .bf16} {harg6 : arg6.IsWhole} {arg7 : Memref sig .tc .vmem S512x1024 .f32} {harg7 : arg7.IsWhole} {arg8 : Memref sig .tc .vmem S1024x1024 .bf16} {harg8 : arg8.IsWhole} {arg9 : Memref sig .tc .vmem S1024x1024 .bf16} {harg9 : arg9.IsWhole} {arg10 : Memref sig .tc .vmem S1024x1024 .bf16} {harg10 : arg10.IsWhole} {arg11 : Memref sig .tc .vmem S3x1024 .f32} {harg11 : arg11.IsWhole} {arg12 : Memref sig .tc .vmem S1x1024 .f32} {harg12 : arg12.IsWhole} {arg13 : Memref sig .tc .vmem S512x1024 .f32} {harg13 : arg13.IsWhole} {arg14 : Memref sig .tc .vmem S512x512 .bf16} {harg14 : arg14.IsWhole} {arg15 : Memref sig .tc .vmem S512x1024 .bf16} {harg15 : arg15.IsWhole} {arg16 : Memref sig .tc .vmem S6x512x1024 .bf16} {harg16 : arg16.IsWhole} {arg17 : Memref sig .tc .vmem S2x520x512 .f32} {harg17 : arg17.IsWhole} {hc0 : ¬cond0_0 i} {x0 : Vec Ideal S512x512 .bf16} {x1 : Vec Ideal S2x512x512 .bf16} {x2 : Vec Ideal S2x512x512 .bf16} {x3 : Vec Ideal S2x512x512 .bf16} {x4 : Vec Ideal S2x512x512 .bf16} {x5 : Vec Ideal S2x512x512 .bf16} {x6 : Vec Ideal S512x1024 .f32} {x7 : Vec Ideal S1024x1024 .bf16} {x8 : Vec Ideal S1024x1024 .bf16} {x9 : Vec Ideal S1024x1024 .bf16} {x10 : Vec Ideal S3x1024 .f32} {x11 : Vec Ideal S1x1024 .f32} {xs0 : Vec Ideal S2x520x512 .f32} (s : Fin 6) (p : Fin 512) (q : Fin 1024) :
    (out0_B_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 (ix3 s p q) : EReal) = svB x0 x1 x2 x3 x4 x5 x7 x8 x10 x11 (tp x2 x3 (carB xs0) 1) (tp x2 x3 (carB xs0) 2) s p q := by
  unfold out0_B_15 kernelRun0_B
  dsimp only
  unfold svB
  by_cases h5 : s.val = 5
  · rw [if_neg (by omega), if_neg (by omega), if_neg (by omega), if_neg (by omega), if_neg (by omega)]
    exact (hit3 VO0_15 VO0_15.junk 5 0 0 _ _ _ p q s p q h5 (Nat.zero_add _).symm (Nat.zero_add _).symm).trans ((p3 _ p q).trans (r13_B p q))
  refine (missA VO0_15 VO0_15.junk 5 0 0 _ _ _ s p q (Or.inl (by omega))).trans ?_
  by_cases h4 : s.val = 4
  · rw [if_neg (by omega), if_neg (by omega), if_neg (by omega), if_neg (by omega), if_pos h4]
    exact (hit3 VO0_15 VO0_15.junk 4 0 0 _ _ _ p q s p q h4 (Nat.zero_add _).symm (Nat.zero_add _).symm).trans ((p2 _ p q).trans (r12_B p q))
  refine (missA VO0_15 VO0_15.junk 4 0 0 _ _ _ s p q (Or.inl (by omega))).trans ?_
  by_cases h3 : s.val = 3
  · rw [if_neg (by omega), if_neg (by omega), if_neg (by omega), if_pos h3]
    exact (hit3 VO0_15 VO0_15.junk 3 0 0 _ _ _ p q s p q h3 (Nat.zero_add _).symm (Nat.zero_add _).symm).trans ((p1 _ p q).trans (r11_B p q))
  refine (missA VO0_15 VO0_15.junk 3 0 0 _ _ _ s p q (Or.inl (by omega))).trans ?_
  by_cases h2 : s.val = 2
  · rw [if_neg (by omega), if_neg (by omega), if_pos h2]
    unfold cfB
    by_cases hq : q.val < 512
    · rw [dif_pos hq]
      refine (View.read_writes_cons_miss_of_axis VO0_15 VO0_15.junk _ _ (ix3 s p q) 2 512 512 rfl rfl rfl (Or.inl hq)).trans ?_
      refine (hit3 VO0_15 VO0_15.junk 2 0 0 _ _ _ p ⟨q.val, hq⟩ s p q h2 (Nat.zero_add _).symm (Nat.zero_add _).symm).trans ?_
      exact (p19 _ _ _ _ _ _ _ p ⟨q.val, hq⟩).trans (c0_B p ⟨q.val, hq⟩)
    · rw [dif_neg hq]
      refine (hit3 VO0_15 VO0_15.junk 2 0 512 _ _ _ p ⟨q.val - 512, by omega⟩ s p q h2 (Nat.zero_add _).symm (by show q.val = 512 + (q.val - 512); omega)).trans ?_
      exact (p26 _ _ _ _ _ _ _ _ p _).trans (c1_B p _)
  refine (missA VO0_15 VO0_15.junk 2 0 512 _ _ _ s p q (Or.inl (by omega))).trans ?_
  refine (missA VO0_15 VO0_15.junk 2 0 0 _ _ _ s p q (Or.inl (by omega))).trans ?_
  by_cases h1 : s.val = 1
  · rw [if_neg (by omega), if_pos h1]
    exact (hit3 VO0_15 VO0_15.junk 1 0 0 _ _ _ p q s p q h1 (Nat.zero_add _).symm (Nat.zero_add _).symm).trans ((p12 _ _ p q).trans (sb_B p q))
  refine (missA VO0_15 VO0_15.junk 1 0 0 _ _ _ s p q (Or.inl (by omega))).trans ?_
  have h0 : s.val = 0 := by omega
  rw [if_pos h0]
  exact (hit3 VO0_15 VO0_15.junk 0 0 0 _ _ _ p q s p q h0 (Nat.zero_add _).symm (Nat.zero_add _).symm).trans ((p11 _ p q).trans (r1_B p q))

set_option maxHeartbeats 1000000 in
/-- The carried rows are the block's last eight. -/
theorem so_B {c : Dev nD} {i : grid0.Coords} {arg1 : Memref sig .tc .vmem S512x512 .bf16} {harg1 : arg1.IsWhole} {arg2 : Memref sig .tc .vmem S2x512x512 .bf16} {harg2 : arg2.IsWhole} {arg3 : Memref sig .tc .vmem S2x512x512 .bf16} {harg3 : arg3.IsWhole} {arg4 : Memref sig .tc .vmem S2x512x512 .bf16} {harg4 : arg4.IsWhole} {arg5 : Memref sig .tc .vmem S2x512x512 .bf16} {harg5 : arg5.IsWhole} {arg6 : Memref sig .tc .vmem S2x512x512 .bf16} {harg6 : arg6.IsWhole} {arg7 : Memref sig .tc .vmem S512x1024 .f32} {harg7 : arg7.IsWhole} {arg8 : Memref sig .tc .vmem S1024x1024 .bf16} {harg8 : arg8.IsWhole} {arg9 : Memref sig .tc .vmem S1024x1024 .bf16} {harg9 : arg9.IsWhole} {arg10 : Memref sig .tc .vmem S1024x1024 .bf16} {harg10 : arg10.IsWhole} {arg11 : Memref sig .tc .vmem S3x1024 .f32} {harg11 : arg11.IsWhole} {arg12 : Memref sig .tc .vmem S1x1024 .f32} {harg12 : arg12.IsWhole} {arg13 : Memref sig .tc .vmem S512x1024 .f32} {harg13 : arg13.IsWhole} {arg14 : Memref sig .tc .vmem S512x512 .bf16} {harg14 : arg14.IsWhole} {arg15 : Memref sig .tc .vmem S512x1024 .bf16} {harg15 : arg15.IsWhole} {arg16 : Memref sig .tc .vmem S6x512x1024 .bf16} {harg16 : arg16.IsWhole} {arg17 : Memref sig .tc .vmem S2x520x512 .f32} {harg17 : arg17.IsWhole} {hc0 : ¬cond0_0 i} {x0 : Vec Ideal S512x512 .bf16} {x1 : Vec Ideal S2x512x512 .bf16} {x2 : Vec Ideal S2x512x512 .bf16} {x3 : Vec Ideal S2x512x512 .bf16} {x4 : Vec Ideal S2x512x512 .bf16} {x5 : Vec Ideal S2x512x512 .bf16} {x6 : Vec Ideal S512x1024 .f32} {x7 : Vec Ideal S1024x1024 .bf16} {x8 : Vec Ideal S1024x1024 .bf16} {x9 : Vec Ideal S1024x1024 .bf16} {x10 : Vec Ideal S3x1024 .f32} {x11 : Vec Ideal S1x1024 .f32} {xs0 : Vec Ideal S2x520x512 .f32} (h : Fin 2) (r : Fin 8) (j : Fin 520) (q : Fin 512) (hi : j.val = r.val) :
    (sout0_B_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 (ix3 h j q) : EReal) = vB x2 x3 h ⟨504 + r.val, by omega⟩ q := by
  unfold sout0_B_0 kernelRun0_B
  dsimp only
  by_cases h1 : h.val = 1
  · obtain rfl : h = 1 := Fin.ext h1
    refine (hit3 VS0_0 VS0_0.junk 1 0 0 _ _ _ r q 1 j q rfl (hi.trans (Nat.zero_add _).symm) (Nat.zero_add _).symm).trans ?_
    unfold kernelRun0_B.sl.r_10
    exact (p27 _ _ r q).trans (congrArg₂ (fun a b : EReal => a * b) (r8_B _ q) (ld3 arg4 harg4 x3 1 0 0 _ _ q 1 _ q rfl (Nat.zero_add _).symm (Nat.zero_add _).symm))
  · obtain rfl : h = 0 := Fin.ext (by omega)
    refine (missA VS0_0 VS0_0.junk 1 0 0 _ _ _ 0 j q (Or.inl (by decide))).trans ?_
    unfold kernelRun0_B.sl.HS0_3
    refine (missA VS0_0 VS0_0.junk 1 8 0 _ _ _ 0 j q (Or.inl (by decide))).trans ?_
    refine (hit3 VS0_0 VS0_0.junk 0 0 0 _ _ _ r q 0 j q rfl (hi.trans (Nat.zero_add _).symm) (Nat.zero_add _).symm).trans ?_
    exact (p20 _ r q).trans (r4_B _ q)

end Cert.Kernel7Ideal.Val
end
-- ==== Proof.MixFin.lean ====
module

public import proofs.«01_k».proof.Proof.MixOutA
public import proofs.«01_k».proof.Proof.MixOutB
public import proofs.«01_k».proof.Proof.Gen.Kernel7Ideal.Value

@[expose] public section

set_option maxRecDepth 16384

noncomputable section

/-! The four arrays the mixer leaves, entry by entry, in its arguments. -/

namespace Cert.Kernel7Ideal.Val
open Cert.Kernel7Ideal Cert.Kernel7Ideal.Gen Idealize.ShloMosaic Idealize.ShloMosaic.TcCoe Idealize.SL.Sem
open Cert.Step
open scoped BigOperators

variable (m : (ℓ : Loc nD τ sig) → Buf (Elt Ideal) ℓ) (c : Dev nD)

/-- The state. -/
def Ys (i : Fin 8192) (k : Fin 512) : EReal := m ((c.tc : Thread nD τ).loc main_arg0) (ix2 i k)
/-- The projected input. -/
def Pj (i : Fin 8192) (j : Fin 5632) : EReal := m ((c.tc : Thread nD τ).loc main_arg1) (ix2 i j)
/-- The input. -/
def Xx (i : Fin 8192) (q : Fin 1024) : EReal := m ((c.tc : Thread nD τ).loc main_arg2) (ix2 i q)
/-- The state's projection. -/
def Wa (k : Fin 512) (q : Fin 1024) : EReal := m ((c.tc : Thread nD τ).loc main_arg3) (ix2 k q)
/-- The state's gate. -/
def Wb (k : Fin 512) (q : Fin 1024) : EReal := m ((c.tc : Thread nD τ).loc main_arg4) (ix2 k q)
/-- The taps. -/
def Cw (r : Fin 3) (d : Fin 1024) : EReal := m ((c.tc : Thread nD τ).loc main_arg5) (ix2 r d)
/-- The convolution's bias. -/
def Cb (d : Fin 1024) : EReal := m ((c.tc : Thread nD τ).loc main_arg6) (ix1 d)
/-- The convolution's projection. -/
def Wc (d q : Fin 1024) : EReal := m ((c.tc : Thread nD τ).loc main_arg7) (ix2 d q)
/-- The branches' projection. -/
def Wo (d q : Fin 1024) : EReal := m ((c.tc : Thread nD τ).loc main_arg8) (ix2 d q)

/-- Column `d` of part `k`: after 512 columns the projected input has five parts of 1024 columns. -/
abbrev pc (k : Fin 5) (d : Fin 1024) : Fin 5632 := ⟨512 + (k.val * 1024 + d.val), by omega⟩
/-- Part `k` of the projected input. -/
def Ch (k : Fin 5) (i : Fin 8192) (d : Fin 1024) : EReal := Pj m c i (pc k d)

/-- The activated state. -/
def Z (i : Fin 8192) (k : Fin 512) : EReal := gel (Ys m c i k)
/-- The activated state's projection. -/
def Aa (i : Fin 8192) (q : Fin 1024) : EReal := ∑ k : Fin 512, Z m c i k * Wa m c k q
/-- Its gate. -/
def Gt (i : Fin 8192) (q : Fin 1024) : EReal := Ideal.logistic (∑ k : Fin 512, Z m c i k * Wb m c k q)
/-- What the convolution runs over. -/
def Vv (i : Fin 8192) (d : Fin 1024) : EReal := Ch m c 1 i d * Ch m c 2 i d
/-- The convolution. -/
def Cv (i : Fin 8192) (d : Fin 1024) : EReal :=
  Cb m c d + Cw m c 0 d * tap 2 (fun i => Vv m c i d) i + Cw m c 1 d * tap 1 (fun i => Vv m c i d) i + Cw m c 2 d * Vv m c i d
/-- The gated convolution's projection. -/
def Yb (i : Fin 8192) (q : Fin 1024) : EReal := ∑ d : Fin 1024, Ch m c 0 i d * Cv m c i d * Wc m c d q
/-- The two branches under their gates. -/
def Mg (i : Fin 8192) (q : Fin 1024) : EReal :=
  Ideal.logistic (Ch m c 3 i q) * (Aa m c i q * Gt m c i q) + Ideal.logistic (Ch m c 4 i q) * Yb m c i q
/-- The input plus the branches' projection. -/
def Hh (i : Fin 8192) (q : Fin 1024) : EReal := Xx m c i q + ∑ k : Fin 1024, Mg m c i k * Wo m c k q
/-- The six saved arrays. -/
def Sv (s : Fin 6) (i : Fin 8192) (q : Fin 1024) : EReal :=
  if s.val = 0 then Aa m c i q else if s.val = 1 then Gt m c i q else if s.val = 2 then Cv m c i q
  else if s.val = 3 then Yb m c i q else if s.val = 4 then Ideal.logistic (Ch m c 3 i q) else Ideal.logistic (Ch m c 4 i q)

/-- Row `p` of the tile of grid point `t`. -/
abbrev rw' (t : Fin cfg0.N) (p : Fin 512) : Fin 8192 := ⟨t.val * 512 + p.val, by have := lt_of_lt_of_eq t.isLt N_0; omega⟩
/-- Column `q` of half `h`. -/
abbrev hf (h : Fin 2) (q : Fin 512) : Fin 1024 := ⟨h.val * 512 + q.val, by omega⟩

theorem idx : ∀ t : Fin cfg0.N, win0_0.index t = ![t.val, 0] ∧ win0_1.index t = ![0, t.val, 0] ∧ win0_2.index t = ![1, t.val, 0]
    ∧ win0_3.index t = ![2, t.val, 0] ∧ win0_4.index t = ![3, t.val, 0] ∧ win0_5.index t = ![4, t.val, 0] ∧ win0_6.index t = ![t.val, 0]
    ∧ win0_7.index t = ![0, 0] ∧ win0_8.index t = ![0, 0] ∧ win0_9.index t = ![0, 0] ∧ win0_10.index t = ![0, 0] ∧ win0_11.index t = ![0, 0]
    ∧ win0_12.index t = ![t.val, 0] ∧ win0_13.index t = ![t.val, 0] ∧ win0_14.index t = ![t.val, 0] ∧ win0_15.index t = ![0, t.val, 0] :=
  (by decide +kernel : ∀ t : Fin grid0.N, win0_0.index t = ![t.val, 0] ∧ win0_1.index t = ![0, t.val, 0] ∧ win0_2.index t = ![1, t.val, 0]
    ∧ win0_3.index t = ![2, t.val, 0] ∧ win0_4.index t = ![3, t.val, 0] ∧ win0_5.index t = ![4, t.val, 0] ∧ win0_6.index t = ![t.val, 0]
    ∧ win0_7.index t = ![0, 0] ∧ win0_8.index t = ![0, 0] ∧ win0_9.index t = ![0, 0] ∧ win0_10.index t = ![0, 0] ∧ win0_11.index t = ![0, 0]
    ∧ win0_12.index t = ![t.val, 0] ∧ win0_13.index t = ![t.val, 0] ∧ win0_14.index t = ![t.val, 0] ∧ win0_15.index t = ![0, t.val, 0])

theorem b0 (t : Fin cfg0.N) (p k : Fin 512) : (iblk m c 0 t (ix2 p k) : EReal) = Ys m c (rw' t p) k := by
  have h := (idx t).1
  have e : (win0_0.blk t).view.emb (ix2 p k) = ix2 (rw' t p) k := by blk_ext [h]
  show (_ : EReal) = _
  blk_simp [iblk]
  rw [e]
  entry_read
  pointwise
  rfl

theorem b1 (t : Fin cfg0.N) (h : Fin 2) (p q : Fin 512) : (iblk m c 1 t (ix3 h p q) : EReal) = Ch m c 0 (rw' t p) (hf h q) := by
  have hi := (idx t).2.1
  have e : (win0_1.blk t).view.emb (ix3 h p q) = ix3 (⟨0 * 2 + h.val, by omega⟩ : Fin 10) (rw' t p) q := by blk_ext [hi]
  show (_ : EReal) = _
  blk_simp [iblk]
  rw [e]
  entry_read
  pointwise
  exact congrArg (Pj m c (rw' t p)) (Fin.ext (by
    show 512 + (h.val * 512 + q.val) = 512 + (0 * 1024 + (h.val * 512 + q.val)); omega))

theorem b2 (t : Fin cfg0.N) (h : Fin 2) (p q : Fin 512) : (iblk m c 2 t (ix3 h p q) : EReal) = Ch m c 1 (rw' t p) (hf h q) := by
  have hi := (idx t).2.2.1
  have e : (win0_2.blk t).view.emb (ix3 h p q) = ix3 (⟨1 * 2 + h.val, by omega⟩ : Fin 10) (rw' t p) q := by blk_ext [hi]
  show (_ : EReal) = _
  blk_simp [iblk]
  rw [e]
  entry_read
  pointwise
  exact congrArg (Pj m c (rw' t p)) (Fin.ext (by
    show 512 + ((1 * 2 + h.val) * 512 + q.val) = 512 + (1 * 1024 + (h.val * 512 + q.val)); omega))

theorem b3 (t : Fin cfg0.N) (h : Fin 2) (p q : Fin 512) : (iblk m c 3 t (ix3 h p q) : EReal) = Ch m c 2 (rw' t p) (hf h q) := by
  have hi := (idx t).2.2.2.1
  have e : (win0_3.blk t).view.emb (ix3 h p q) = ix3 (⟨2 * 2 + h.val, by omega⟩ : Fin 10) (rw' t p) q := by blk_ext [hi]
  show (_ : EReal) = _
  blk_simp [iblk]
  rw [e]
  entry_read
  pointwise
  exact congrArg (Pj m c (rw' t p)) (Fin.ext (by
    show 512 + ((2 * 2 + h.val) * 512 + q.val) = 512 + (2 * 1024 + (h.val * 512 + q.val)); omega))

theorem b4 (t : Fin cfg0.N) (h : Fin 2) (p q : Fin 512) : (iblk m c 4 t (ix3 h p q) : EReal) = Ch m c 3 (rw' t p) (hf h q) := by
  have hi := (idx t).2.2.2.2.1
  have e : (win0_4.blk t).view.emb (ix3 h p q) = ix3 (⟨3 * 2 + h.val, by omega⟩ : Fin 10) (rw' t p) q := by blk_ext [hi]
  show (_ : EReal) = _
  blk_simp [iblk]
  rw [e]
  entry_read
  pointwise
  exact congrArg (Pj m c (rw' t p)) (Fin.ext (by
    show 512 + ((3 * 2 + h.val) * 512 + q.val) = 512 + (3 * 1024 + (h.val * 512 + q.val)); omega))

theorem b5 (t : Fin cfg0.N) (h : Fin 2) (p q : Fin 512) : (iblk m c 5 t (ix3 h p q) : EReal) = Ch m c 4 (rw' t p) (hf h q) := by
  have hi := (idx t).2.2.2.2.2.1
  have e : (win0_5.blk t).view.emb (ix3 h p q) = ix3 (⟨4 * 2 + h.val, by omega⟩ : Fin 10) (rw' t p) q := by blk_ext [hi]
  show (_ : EReal) = _
  blk_simp [iblk]
  rw [e]
  entry_read
  pointwise
  exact congrArg (Pj m c (rw' t p)) (Fin.ext (by
    show 512 + ((4 * 2 + h.val) * 512 + q.val) = 512 + (4 * 1024 + (h.val * 512 + q.val)); omega))

theorem b6 (t : Fin cfg0.N) (p : Fin 512) (q : Fin 1024) : (iblk m c 6 t (ix2 p q) : EReal) = Xx m c (rw' t p) q := by
  have h := (idx t).2.2.2.2.2.2.1
  show (_ : EReal) = _
  blk_ext [iblk, V, h]

theorem b7a (t : Fin cfg0.N) (q : Fin 1024) (k : Fin 512) : (iblk m c 7 t (ix2 q (lo k)) : EReal) = Wa m c k q := by
  have h := (idx t).2.2.2.2.2.2.2.1
  have e : (win0_7.blk t).view.emb (ix2 q (lo k)) = ix2 q (lo k) := by blk_ext [h]
  show (_ : EReal) = _
  blk_simp [iblk]
  rw [e]
  entry_read
  pointwise
  rfl

theorem b7b (t : Fin cfg0.N) (q : Fin 1024) (k : Fin 512) : (iblk m c 7 t (ix2 q (hi k)) : EReal) = Wb m c k q := by
  have h := (idx t).2.2.2.2.2.2.2.1
  have e : (win0_7.blk t).view.emb (ix2 q (hi k)) = ix2 q (hi k) := by blk_ext [h]
  show (_ : EReal) = _
  blk_simp [iblk]
  rw [e]
  entry_read
  pointwise
  rfl

theorem b8 (t : Fin cfg0.N) (d q : Fin 1024) : (iblk m c 8 t (ix2 d q) : EReal) = Wc m c d q := by
  have h := (idx t).2.2.2.2.2.2.2.2.1
  have e : (win0_8.blk t).view.emb (ix2 d q) = ix2 d q := by blk_ext [h]
  show (_ : EReal) = _
  blk_simp [iblk]
  rw [e]
  entry_read
  pointwise
  rfl

theorem b9 (t : Fin cfg0.N) (d q : Fin 1024) : (iblk m c 9 t (ix2 d q) : EReal) = Wo m c d q := by
  have h := (idx t).2.2.2.2.2.2.2.2.2.1
  have e : (win0_9.blk t).view.emb (ix2 d q) = ix2 d q := by blk_ext [h]
  show (_ : EReal) = _
  blk_simp [iblk]
  rw [e]
  entry_read
  pointwise
  rfl

theorem b10 (t : Fin cfg0.N) (r : Fin 3) (d : Fin 1024) : (iblk m c 10 t (ix2 r d) : EReal) = Cw m c r d := by
  have h := (idx t).2.2.2.2.2.2.2.2.2.2.1
  show (_ : EReal) = _
  blk_ext [iblk, V, h]

theorem b11 (t : Fin cfg0.N) (d : Fin 1024) : (iblk m c 11 t (ix2 0 d) : EReal) = Cb m c d := by
  have h := (idx t).2.2.2.2.2.2.2.2.2.2.2.1
  have e : (win0_11.blk t).view.emb (ix2 0 d) = ix2 0 d := by blk_ext [h]
  show (_ : EReal) = _
  blk_simp [iblk]
  rw [e]
  entry_read
  pointwise
  rfl

section tile
variable (t : Fin cfg0.N) (T1 T2 : Fin 2 → Fin 512 → Fin 512 → EReal)
  (h1 : ∀ h p q, T1 h p q = tap 1 (fun i => Vv m c i (hf h q)) (rw' t p))
  (h2 : ∀ h p q, T2 h p q = tap 2 (fun i => Vv m c i (hf h q)) (rw' t p))

theorem tz (p k : Fin 512) : zB (iblk m c 0 t) p k = Z m c (rw' t p) k := congrArg gel (b0 m c t p k)

theorem ta (p : Fin 512) (q : Fin 1024) : paB (iblk m c 0 t) (iblk m c 7 t) p q = Aa m c (rw' t p) q :=
  Finset.sum_congr rfl fun k _ => congrArg₂ (fun a b : EReal => a * b) (tz m c t p k) (b7a m c t q k)

theorem tg (p : Fin 512) (q : Fin 1024) : sbB (iblk m c 0 t) (iblk m c 7 t) p q = Gt m c (rw' t p) q :=
  congrArg Ideal.logistic (Finset.sum_congr rfl fun k _ => congrArg₂ (fun a b : EReal => a * b) (tz m c t p k) (b7b m c t q k))

theorem tv (h : Fin 2) (p q : Fin 512) : vB (iblk m c 2 t) (iblk m c 3 t) h p q = Vv m c (rw' t p) (hf h q) :=
  congrArg₂ (fun a b : EReal => a * b) (b2 m c t h p q) (b3 m c t h p q)

include h1 h2 in
theorem tc (h : Fin 2) (j : Fin 512 → Fin 1024) (hj : ∀ q, j q = hf h q) (p q : Fin 512) :
    cvB (iblk m c 2 t) (iblk m c 3 t) (iblk m c 10 t) (iblk m c 11 t) T1 T2 h j p q = Cv m c (rw' t p) (hf h q) := by
  unfold cvB Cv
  rw [hj q, b11, b10, b10, b10, h1, h2, tv]

theorem lo_hf (q : Fin 512) : lo q = hf 0 q := Fin.ext (by show q.val = 0 * 512 + q.val; omega)
theorem hi_hf (q : Fin 512) : hi q = hf 1 q := Fin.ext (by show 512 + q.val = 1 * 512 + q.val; omega)

include h1 h2 in
theorem ty (p : Fin 512) (q : Fin 1024) :
    ybB (iblk m c 1 t) (iblk m c 2 t) (iblk m c 3 t) (iblk m c 8 t) (iblk m c 10 t) (iblk m c 11 t) T1 T2 p q = Yb m c (rw' t p) q := by
  unfold ybB Yb
  rw [Fin.sum_univ_tiles 2 512 (by norm_num) (fun d : Fin 1024 => Ch m c 0 (rw' t p) d * Cv m c (rw' t p) d * Wc m c d q), Fin.sum_univ_two]
  refine congrArg₂ (fun a b : EReal => a + b) (Finset.sum_congr rfl fun k _ => ?_) (Finset.sum_congr rfl fun k _ => ?_)
  · rw [b1, tc m c t T1 T2 h1 h2 0 lo lo_hf, b8, lo_hf]
  · rw [b1, tc m c t T1 T2 h1 h2 1 hi hi_hf, b8, hi_hf]

theorem t4 (p : Fin 512) (q : Fin 1024) : twoB (iblk m c 4 t) p q = Ch m c 3 (rw' t p) q := by
  unfold twoB
  by_cases h : q.val < 512
  · rw [dif_pos h, b4]
    exact congrArg (Ch m c 3 (rw' t p)) (Fin.ext (by show 0 * 512 + q.val = q.val; omega))
  · rw [dif_neg h, b4]
    exact congrArg (Ch m c 3 (rw' t p)) (Fin.ext (by show 1 * 512 + (q.val - 512) = q.val; omega))

theorem t5 (p : Fin 512) (q : Fin 1024) : twoB (iblk m c 5 t) p q = Ch m c 4 (rw' t p) q := by
  unfold twoB
  by_cases h : q.val < 512
  · rw [dif_pos h, b5]
    exact congrArg (Ch m c 4 (rw' t p)) (Fin.ext (by show 0 * 512 + q.val = q.val; omega))
  · rw [dif_neg h, b5]
    exact congrArg (Ch m c 4 (rw' t p)) (Fin.ext (by show 1 * 512 + (q.val - 512) = q.val; omega))

include h1 h2 in
theorem tf (p : Fin 512) (q : Fin 1024) :
    cfB (iblk m c 2 t) (iblk m c 3 t) (iblk m c 10 t) (iblk m c 11 t) T1 T2 p q = Cv m c (rw' t p) q := by
  unfold cfB
  by_cases h : q.val < 512
  · rw [dif_pos h, tc m c t T1 T2 h1 h2 0 lo lo_hf]
    exact congrArg (Cv m c (rw' t p)) (Fin.ext (by show 0 * 512 + q.val = q.val; omega))
  · rw [dif_neg h, tc m c t T1 T2 h1 h2 1 hi hi_hf]
    exact congrArg (Cv m c (rw' t p)) (Fin.ext (by show 1 * 512 + (q.val - 512) = q.val; omega))

include h1 h2 in
theorem tm (p : Fin 512) (q : Fin 1024) :
    mgB (iblk m c 0 t) (iblk m c 1 t) (iblk m c 2 t) (iblk m c 3 t) (iblk m c 4 t) (iblk m c 5 t) (iblk m c 7 t) (iblk m c 8 t) (iblk m c 10 t) (iblk m c 11 t) T1 T2 p q
      = Mg m c (rw' t p) q := by
  unfold mgB Mg
  rw [t4, t5, ta, tg, ty m c t T1 T2 h1 h2]

include h1 h2 in
theorem th (p : Fin 512) (q : Fin 1024) :
    h1B (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) T1 T2 p q
      = Hh m c (rw' t p) q :=
  congrArg₂ (fun a b : EReal => a + b) (b6 m c t p q) (Finset.sum_congr rfl fun k _ =>
    congrArg₂ (fun a b : EReal => a * b) (tm m c t T1 T2 h1 h2 p k) (b9 m c t k q))

include h1 h2 in
theorem ts (s : Fin 6) (p : Fin 512) (q : Fin 1024) :
    svB (iblk m c 0 t) (iblk m c 1 t) (iblk m c 2 t) (iblk m c 3 t) (iblk m c 4 t) (iblk m c 5 t) (iblk m c 7 t) (iblk m c 8 t) (iblk m c 10 t) (iblk m c 11 t) T1 T2 s p q
      = Sv m c s (rw' t p) q := by
  unfold svB Sv
  rw [t4, t5, ta, tg, ty m c t T1 T2 h1 h2, tf m c t T1 T2 h1 h2]

end tile

/-- The carried rows are the last eight of the point's block. -/
theorem car (t : Fin cfg0.N) (h : Fin 2) (r : Fin 8) (q : Fin 512) :
    carB (outsAt0 m c t.val t.isLt).2.2.2.2 h r q = Vv m c (rw' t ⟨504 + r.val, by omega⟩) (hf h q) := by
  unfold carB
  rcases Decidable.em (t.val % 4 = 0) with h0 | h0
  · rw [outsAt0_A m c t h0]; dsimp only
    refine Eq.trans (so_A h r _ q rfl) (tv m c t h _ q)
  · rw [outsAt0_B m c t h0]; dsimp only
    refine Eq.trans (so_B h r _ q rfl) (tv m c t h _ q)

/-- At the start of a sequence the earlier rows are zero. -/
theorem tapA (t : Fin cfg0.N) (h0 : t.val % 4 = 0) (k : ℕ) (hk : k ≤ 8) (h : Fin 2) (p q : Fin 512) :
    tp (iblk m c 2 t) (iblk m c 3 t) noneB k h p q = tap k (fun i => Vv m c i (hf h q)) (rw' t p) := by
  unfold tp tap
  have e : (rw' t p).val % 2048 = p.val := by show (t.val * 512 + p.val) % 2048 = p.val; omega
  rw [e]
  by_cases hp : p.val < k
  · rw [dif_pos hp, if_pos hp]
    rfl
  · rw [dif_neg hp, if_neg hp, tv]
    exact congrArg (fun i => Vv m c i (hf h q)) (Fin.ext (by
      show t.val * 512 + (p.val - k) = t.val * 512 + p.val - k; omega))

/-- Elsewhere they are rows of this block or the last of the block before. -/
theorem tapB (t : Fin cfg0.N) (h0 : ¬t.val % 4 = 0) (k : ℕ) (hk : k ≤ 8) (h : Fin 2) (p q : Fin 512) :
    tp (iblk m c 2 t) (iblk m c 3 t) (carB (outsAt0 m c (t.val - 1) (Nat.lt_of_le_of_lt (Nat.sub_le _ _) t.isLt)).2.2.2.2) k h p q
      = tap k (fun i => Vv m c i (hf h q)) (rw' t p) := by
  unfold tp tap
  have e : ¬ (rw' t p).val % 2048 < k := by show ¬ (t.val * 512 + p.val) % 2048 < k; omega
  rw [if_neg e]
  by_cases hp : p.val < k
  · rw [dif_pos hp]
    refine (car m c ⟨t.val - 1, Nat.lt_of_le_of_lt (Nat.sub_le _ _) t.isLt⟩ h _ q).trans ?_
    exact congrArg (fun i => Vv m c i (hf h q)) (Fin.ext (by
      show (t.val - 1) * 512 + (504 + (8 + p.val - k)) = t.val * 512 + p.val - k; omega))
  · rw [dif_neg hp, tv]
    exact congrArg (fun i => Vv m c i (hf h q)) (Fin.ext (by
      show t.val * 512 + (p.val - k) = t.val * 512 + p.val - k; omega))

theorem out12 (t : Fin cfg0.N) (p : Fin 512) (q : Fin 1024) : ((outsAt0 m c t.val t.isLt).1 (ix2 p q) : EReal) = Hh m c (rw' t p) q := by
  rcases Decidable.em (t.val % 4 = 0) with h0 | h0
  · rw [outsAt0_A m c t h0]; dsimp only
    refine Eq.trans (o12_A p q) (th m c t _ _ (tapA m c t h0 1 (by decide)) (tapA m c t h0 2 (by decide)) p q)
  · rw [outsAt0_B m c t h0]; dsimp only
    refine Eq.trans (o12_B p q) (th m c t _ _ (tapB m c t h0 1 (by decide)) (tapB m c t h0 2 (by decide)) p q)

theorem out13 (t : Fin cfg0.N) (p q : Fin 512) : ((outsAt0 m c t.val t.isLt).2.1 (ix2 p q) : EReal) = Z m c (rw' t p) q := by
  rcases Decidable.em (t.val % 4 = 0) with h0 | h0
  · rw [outsAt0_A m c t h0]; dsimp only
    refine Eq.trans (o13_A p q) (tz m c t p q)
  · rw [outsAt0_B m c t h0]; dsimp only
    refine Eq.trans (o13_B p q) (tz m c t p q)

theorem out14 (t : Fin cfg0.N) (p : Fin 512) (q : Fin 1024) : ((outsAt0 m c t.val t.isLt).2.2.1 (ix2 p q) : EReal) = Mg m c (rw' t p) q := by
  rcases Decidable.em (t.val % 4 = 0) with h0 | h0
  · rw [outsAt0_A m c t h0]; dsimp only
    refine Eq.trans (o14_A p q) (tm m c t _ _ (tapA m c t h0 1 (by decide)) (tapA m c t h0 2 (by decide)) p q)
  · rw [outsAt0_B m c t h0]; dsimp only
    refine Eq.trans (o14_B p q) (tm m c t _ _ (tapB m c t h0 1 (by decide)) (tapB m c t h0 2 (by decide)) p q)

theorem out15 (t : Fin cfg0.N) (s : Fin 6) (p : Fin 512) (q : Fin 1024) :
    ((outsAt0 m c t.val t.isLt).2.2.2.1 (ix3 s p q) : EReal) = Sv m c s (rw' t p) q := by
  rcases Decidable.em (t.val % 4 = 0) with h0 | h0
  · rw [outsAt0_A m c t h0]; dsimp only
    refine Eq.trans (o15_A s p q) (ts m c t _ _ (tapA m c t h0 1 (by decide)) (tapA m c t h0 2 (by decide)) s p q)
  · rw [outsAt0_B m c t h0]; dsimp only
    refine Eq.trans (o15_B s p q) (ts m c t _ _ (tapB m c t h0 1 (by decide)) (tapB m c t h0 2 (by decide)) s p q)

theorem final12 : (dats m 0 c).arrAt 12 cfg0.N = fun i => Hh m c (i 0) (i 1) := by
  refine (dats m 0 c).arrAt_eq_of_covers 12 _ (by decide +kernel) fun t hf y => ?_
  obtain ⟨p, k, rfl⟩ : ∃ (p : Fin 512) (k : Fin 1024), y = ix2 p k := ⟨y 0, y 1, eq_ix2 y⟩
  blk_simp
  rw [after0_12]
  refine (out12 m c t p k).trans ?_
  have i := (idx t).2.2.2.2.2.2.2.2.2.2.2.2.1
  have e : (win0_12.blk t).view.emb (ix2 p k) = ix2 (rw' t p) k := by blk_ext [i]
  rw [e]
  rfl

theorem final13 : (dats m 0 c).arrAt 13 cfg0.N = fun i => Z m c (i 0) (i 1) := by
  refine (dats m 0 c).arrAt_eq_of_covers 13 _ (by decide +kernel) fun t hf y => ?_
  obtain ⟨p, k, rfl⟩ : ∃ (p k : Fin 512), y = ix2 p k := ⟨y 0, y 1, eq_ix2 y⟩
  blk_simp
  rw [after0_13]
  refine (out13 m c t p k).trans ?_
  have i := (idx t).2.2.2.2.2.2.2.2.2.2.2.2.2.1
  have e : (win0_13.blk t).view.emb (ix2 p k) = ix2 (rw' t p) k := by blk_ext [i]
  rw [e]
  rfl

theorem final14 : (dats m 0 c).arrAt 14 cfg0.N = fun i => Mg m c (i 0) (i 1) := by
  refine (dats m 0 c).arrAt_eq_of_covers 14 _ (by decide +kernel) fun t hf y => ?_
  obtain ⟨p, k, rfl⟩ : ∃ (p : Fin 512) (k : Fin 1024), y = ix2 p k := ⟨y 0, y 1, eq_ix2 y⟩
  blk_simp
  rw [after0_14]
  refine (out14 m c t p k).trans ?_
  have i := (idx t).2.2.2.2.2.2.2.2.2.2.2.2.2.2.1
  have e : (win0_14.blk t).view.emb (ix2 p k) = ix2 (rw' t p) k := by blk_ext [i]
  rw [e]
  rfl

theorem final15 : (dats m 0 c).arrAt 15 cfg0.N = fun i => Sv m c (i 0) (i 1) (i 2) := by
  refine (dats m 0 c).arrAt_eq_of_covers 15 _ (by decide +kernel) fun t hf y => ?_
  obtain ⟨s, p, k, rfl⟩ : ∃ (s : Fin 6) (p : Fin 512) (k : Fin 1024), y = ix3 s p k := ⟨y 0, y 1, y 2, eq_ix3 y⟩
  blk_simp
  rw [after0_15]
  refine (out15 m c t s p k).trans ?_
  have i := (idx t).2.2.2.2.2.2.2.2.2.2.2.2.2.2.2
  have e : (win0_15.blk t).view.emb (ix3 s p k) = ix3 s (rw' t p) k := by blk_ext [i]
  rw [e]
  rfl

end Cert.Kernel7Ideal.Val
end
-- ==== Proof.MixAlg.lean ====
module

public import proofs.«01_k».proof.Defs
public import proofs.«01_k».proof.Proof.MixFin
public import proofs.«01_k».proof.Proof.Gen.Reference7Ideal.Run
public import proofs.«01_k».proof.Proof.Gen.Kernel7Ideal.Frame
public import Idealize.ShloMosaic.Adequacy
public import Idealize.ShloMosaic.Init

@[expose] public section

set_option maxRecDepth 16384

noncomputable section

/-! The mixer's kernel and its reference leave the same results. -/

namespace Cert.Mix
open Idealize.ShloMosaic Idealize.ShloMosaic.TcCoe Idealize.SL.Sem Cert.Step
open Cert.Kernel7Ideal.Val
open scoped BigOperators

/-- The padding's zero. -/
theorem pad0 : (FloatOps.sitofp (F := Ideal) FTy.f32 (0#32 : BitVec 32) : EReal) = 0 := by
  show (((0#32 : BitVec 32).toInt : ℝ) : EReal) = 0
  simp

/-- The row two earlier, as a shifted slice of the padded sequence has it. -/
theorem two (f : Fin 8192 → EReal) (p : Fin 8192) :
    tap 2 f p = if h : p.val / 2048 < 4 ∧ 2 ≤ p.val % 2048 ∧ p.val % 2048 - 2 < 2048 then
        f ⟨p.val / 2048 * 2048 + (p.val % 2048 - 2), by omega⟩ else (FloatOps.sitofp (F := Ideal) FTy.f32 (0#32 : BitVec 32) : EReal) := by
  unfold tap
  by_cases h : p.val % 2048 < 2
  · rw [if_pos h, dif_neg (by omega), pad0]
  · rw [if_neg h, dif_pos (by omega)]
    exact congrArg f (Fin.ext (by show p.val - 2 = p.val / 2048 * 2048 + (p.val % 2048 - 2); omega))

/-- The row one earlier. -/
theorem one (f : Fin 8192 → EReal) (p : Fin 8192) :
    tap 1 f p = if h : p.val / 2048 < 4 ∧ 2 ≤ 1 + p.val % 2048 ∧ 1 + p.val % 2048 - 2 < 2048 then
        f ⟨p.val / 2048 * 2048 + (1 + p.val % 2048 - 2), by omega⟩ else (FloatOps.sitofp (F := Ideal) FTy.f32 (0#32 : BitVec 32) : EReal) := by
  unfold tap
  by_cases h : p.val % 2048 < 1
  · rw [if_pos h, dif_neg (by omega), pad0]
  · rw [if_neg h, dif_pos (by omega)]
    exact congrArg f (Fin.ext (by show p.val - 1 = p.val / 2048 * 2048 + (1 + p.val % 2048 - 2); omega))

/-- The row itself. -/
theorem zero (f : Fin 8192 → EReal) (p : Fin 8192) :
    f p = if h : p.val / 2048 < 4 ∧ p.val % 2048 < 2048 then f p else (FloatOps.sitofp (F := Ideal) FTy.f32 (0#32 : BitVec 32) : EReal) := by
  rw [dif_pos (by omega)]

section
variable (m : (ℓ : Loc Cert.Kernel7Ideal.nD Cert.Kernel7Ideal.τ Cert.Kernel7Ideal.sig) → Buf (Elt Ideal) ℓ) (c : Dev Cert.Kernel7Ideal.nD)

theorem c0 (i : Fin 8192) (d : Fin 1024) : Ch m c 0 i d = Pj m c i ⟨512 + d.val, by omega⟩ :=
  congrArg (Pj m c i) (Fin.ext (by show 512 + (0 * 1024 + d.val) = 512 + d.val; omega))
theorem c1 (i : Fin 8192) (d : Fin 1024) : Ch m c 1 i d = Pj m c i ⟨1536 + d.val, by omega⟩ :=
  congrArg (Pj m c i) (Fin.ext (by show 512 + (1 * 1024 + d.val) = 1536 + d.val; omega))
theorem c2 (i : Fin 8192) (d : Fin 1024) : Ch m c 2 i d = Pj m c i ⟨2560 + d.val, by omega⟩ :=
  congrArg (Pj m c i) (Fin.ext (by show 512 + (2 * 1024 + d.val) = 2560 + d.val; omega))
theorem c3 (i : Fin 8192) (d : Fin 1024) : Ch m c 3 i d = Pj m c i ⟨3584 + d.val, by omega⟩ :=
  congrArg (Pj m c i) (Fin.ext (by show 512 + (3 * 1024 + d.val) = 3584 + d.val; omega))
theorem c4 (i : Fin 8192) (d : Fin 1024) : Ch m c 4 i d = Pj m c i ⟨4608 + d.val, by omega⟩ :=
  congrArg (Pj m c i) (Fin.ext (by show 512 + (4 * 1024 + d.val) = 4608 + d.val; omega))

/-- What the convolution runs over, by the projected input's columns. -/
def vv (d : Fin 1024) (i : Fin 8192) : EReal := Pj m c i ⟨1536 + d.val, by omega⟩ * Pj m c i ⟨2560 + d.val, by omega⟩

theorem vv_eq (d : Fin 1024) : (fun i => Vv m c i d) = vv m c d := by
  funext i
  unfold Vv vv
  rw [c1, c2]

/-- The convolution, as the reference has it. -/
theorem cv (p : Fin 8192) (d : Fin 1024) : Cv m c p d = Cb m c d
      + Cw m c 0 d * (if h : p.val / 2048 < 4 ∧ 2 ≤ p.val % 2048 ∧ p.val % 2048 - 2 < 2048 then
          vv m c d ⟨p.val / 2048 * 2048 + (p.val % 2048 - 2), by omega⟩ else (FloatOps.sitofp (F := Ideal) FTy.f32 (0#32 : BitVec 32) : EReal))
      + Cw m c 1 d * (if h : p.val / 2048 < 4 ∧ 2 ≤ 1 + p.val % 2048 ∧ 1 + p.val % 2048 - 2 < 2048 then
          vv m c d ⟨p.val / 2048 * 2048 + (1 + p.val % 2048 - 2), by omega⟩ else (FloatOps.sitofp (F := Ideal) FTy.f32 (0#32 : BitVec 32) : EReal))
      + Cw m c 2 d * (if h : p.val / 2048 < 4 ∧ p.val % 2048 < 2048 then vv m c d p
          else (FloatOps.sitofp (F := Ideal) FTy.f32 (0#32 : BitVec 32) : EReal)) := by
  rw [← two, ← one, ← zero, ← vv_eq]
  rfl

end

section args
variable (m : (ℓ : Loc Cert.Kernel7Ideal.nD Cert.Kernel7Ideal.τ Cert.Kernel7Ideal.sig) → Buf (Elt Ideal) ℓ)
  (m' : (ℓ : Loc Cert.Reference7Ideal.nD Cert.Reference7Ideal.τ Cert.Reference7Ideal.sig) → Buf (Elt Ideal) ℓ) (c : Dev 1)
  (hagree : m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8))
include hagree

theorem a0 (i : Fin 8192) (k : Fin 512) : Ys m c i k = m' ((c.tc : Thread Cert.Reference7Ideal.nD Cert.Reference7Ideal.τ).loc Cert.Reference7Ideal.main_arg0) (ix2 i k) := (congrFun hagree.1 (ix2 i k)).symm
theorem a1 (i : Fin 8192) (j : Fin 5632) : Pj m c i j = m' ((c.tc : Thread Cert.Reference7Ideal.nD Cert.Reference7Ideal.τ).loc Cert.Reference7Ideal.main_arg1) (ix2 i j) := (congrFun hagree.2.1 (ix2 i j)).symm
theorem a2 (i : Fin 8192) (q : Fin 1024) : Xx m c i q = m' ((c.tc : Thread Cert.Reference7Ideal.nD Cert.Reference7Ideal.τ).loc Cert.Reference7Ideal.main_arg2) (ix2 i q) := (congrFun hagree.2.2.1 (ix2 i q)).symm
theorem a3 (k : Fin 512) (q : Fin 1024) : Wa m c k q = m' ((c.tc : Thread Cert.Reference7Ideal.nD Cert.Reference7Ideal.τ).loc Cert.Reference7Ideal.main_arg3) (ix2 k q) := (congrFun hagree.2.2.2.1 (ix2 k q)).symm
theorem a4 (k : Fin 512) (q : Fin 1024) : Wb m c k q = m' ((c.tc : Thread Cert.Reference7Ideal.nD Cert.Reference7Ideal.τ).loc Cert.Reference7Ideal.main_arg4) (ix2 k q) := (congrFun hagree.2.2.2.2.1 (ix2 k q)).symm
theorem a5 (r : Fin 3) (d : Fin 1024) : Cw m c r d = m' ((c.tc : Thread Cert.Reference7Ideal.nD Cert.Reference7Ideal.τ).loc Cert.Reference7Ideal.main_arg5) (ix2 r d) := (congrFun hagree.2.2.2.2.2.1 (ix2 r d)).symm
theorem a6 (d : Fin 1024) : Cb m c d = m' ((c.tc : Thread Cert.Reference7Ideal.nD Cert.Reference7Ideal.τ).loc Cert.Reference7Ideal.main_arg6) (ix1 d) := (congrFun hagree.2.2.2.2.2.2.1 (ix1 d)).symm
theorem a7 (d q : Fin 1024) : Wc m c d q = m' ((c.tc : Thread Cert.Reference7Ideal.nD Cert.Reference7Ideal.τ).loc Cert.Reference7Ideal.main_arg7) (ix2 d q) := (congrFun hagree.2.2.2.2.2.2.2.1 (ix2 d q)).symm
theorem a8 (d q : Fin 1024) : Wo m c d q = m' ((c.tc : Thread Cert.Reference7Ideal.nD Cert.Reference7Ideal.τ).loc Cert.Reference7Ideal.main_arg8) (ix2 d q) := (congrFun hagree.2.2.2.2.2.2.2.2 (ix2 d q)).symm

set_option maxHeartbeats 1600000 in
/-- The step's result. -/
theorem r12 (p : Fin 8192) (q : Fin 1024) : (Cert.Reference7Ideal.Value.res_main_v80 m' c (ix2 p q) : EReal) = Hh m c p q := by
  pointwise [Cert.Reference7Ideal.Value.res_main_v80]
  simp only [Hh, Mg, Yb, Aa, Gt, Z, gel, Ideal.logistic, cv, vv, c0, c3, c4, a0 m m' c hagree, a1 m m' c hagree, a2 m m' c hagree, a3 m m' c hagree, a4 m m' c hagree, a5 m m' c hagree, a6 m m' c hagree, a7 m m' c hagree, a8 m m' c hagree]

set_option maxHeartbeats 1600000 in
/-- The branches under their gates. -/
theorem r14 (p : Fin 8192) (q : Fin 1024) : (Cert.Reference7Ideal.Value.res_main_v82 m' c (ix2 p q) : EReal) = Mg m c p q := by
  pointwise [Cert.Reference7Ideal.Value.res_main_v82]
  simp only [Mg, Yb, Aa, Gt, Z, gel, Ideal.logistic, cv, vv, c0, c3, c4, a0 m m' c hagree, a1 m m' c hagree, a2 m m' c hagree, a3 m m' c hagree, a4 m m' c hagree, a5 m m' c hagree, a6 m m' c hagree, a7 m m' c hagree, a8 m m' c hagree]

set_option maxHeartbeats 1600000 in
/-- The saved arrays. -/
theorem r15 (s : Fin 6) (p : Fin 8192) (q : Fin 1024) :
    (Cert.Reference7Ideal.Value.res_main_v83 m' c (ix3 s p q) : EReal) = Sv m c s p q := by
  pointwise [Cert.Reference7Ideal.Value.res_main_v83]
  simp only [Sv, Yb, Aa, Gt, Z, gel, Ideal.logistic, cv, vv, c0, c3, c4, a0 m m' c hagree, a1 m m' c hagree, a2 m m' c hagree, a3 m m' c hagree, a4 m m' c hagree, a5 m m' c hagree, a6 m m' c hagree, a7 m m' c hagree, a8 m m' c hagree]
  have hs := s.isLt
  by_cases k0 : s.val = 0
  · refine (dif_pos (show s.val < 1 by omega)).trans (Eq.trans ?_ (if_pos k0).symm)
    rfl
  refine (dif_neg (show ¬ s.val < 1 by omega)).trans (Eq.trans ?_ (if_neg k0).symm)
  by_cases k1 : s.val = 1
  · refine (dif_pos (show s.val - 1 < 1 by omega)).trans (Eq.trans ?_ (if_pos k1).symm)
    rfl
  refine (dif_neg (show ¬ s.val - 1 < 1 by omega)).trans (Eq.trans ?_ (if_neg k1).symm)
  by_cases k2 : s.val = 2
  · refine (dif_pos (show s.val - 1 - 1 < 1 by omega)).trans (Eq.trans ?_ (if_pos k2).symm)
    rfl
  refine (dif_neg (show ¬ s.val - 1 - 1 < 1 by omega)).trans (Eq.trans ?_ (if_neg k2).symm)
  by_cases k3 : s.val = 3
  · refine (dif_pos (show s.val - 1 - 1 - 1 < 1 by omega)).trans (Eq.trans ?_ (if_pos k3).symm)
    rfl
  refine (dif_neg (show ¬ s.val - 1 - 1 - 1 < 1 by omega)).trans (Eq.trans ?_ (if_neg k3).symm)
  by_cases k4 : s.val = 4
  · refine (dif_pos (show s.val - 1 - 1 - 1 - 1 < 1 by omega)).trans (Eq.trans ?_ (if_pos k4).symm)
    rfl
  refine (dif_neg (show ¬ s.val - 1 - 1 - 1 - 1 < 1 by omega)).trans (Eq.trans ?_ (if_neg k4).symm)
  rfl

end args

set_option maxHeartbeats 3200000 in
/-- From arguments that agree, the kernel and its reference leave the same four results. -/
theorem algebraic : Cert.algebraic_Kernel7Ideal_Reference7Ideal := by
  pair_intro
  · run_from Cert.Kernel7Ideal.Value.run_blocks m g
  · run_from Cert.Reference7Ideal.Value.run m' g'
    · refine Eq.trans ?_ (Cert.Kernel7Ideal.Val.final12 m c).symm
      funext y
      obtain ⟨p, q, rfl⟩ : ∃ (p : Fin 8192) (q : Fin 1024), y = ix2 p q := ⟨y 0, y 1, eq_ix2 y⟩
      exact r12 m m' c (hagree c) p q
    · refine Eq.trans ?_ (Cert.Kernel7Ideal.Val.final13 m c).symm
      funext y
      obtain ⟨p, k, rfl⟩ : ∃ (p : Fin 8192) (k : Fin 512), y = ix2 p k := ⟨y 0, y 1, eq_ix2 y⟩
      show (_ : EReal) = Z m c p k
      pointwise
      rfl
    · refine Eq.trans ?_ (Cert.Kernel7Ideal.Val.final14 m c).symm
      funext y
      obtain ⟨p, q, rfl⟩ : ∃ (p : Fin 8192) (q : Fin 1024), y = ix2 p q := ⟨y 0, y 1, eq_ix2 y⟩
      exact r14 m m' c (hagree c) p q
    · refine Eq.trans ?_ (Cert.Kernel7Ideal.Val.final15 m c).symm
      funext y
      obtain ⟨s, p, q, rfl⟩ : ∃ (s : Fin 6) (p : Fin 8192) (q : Fin 1024), y = ix3 s p q := ⟨y 0, y 1, y 2, eq_ix3 y⟩
      exact r15 m m' c (hagree c) s p q

end Cert.Mix
end
-- ==== Proof.SumAdam.lean ====
module

public import proofs.«01_k».proof.Defs
public import proofs.«01_k».proof.Proof.Gen.Kernel8Ideal.Frame
public import proofs.«01_k».proof.Proof.Gen.Reference8Ideal.Run
public import Idealize.ShloMosaic.Lib.Pipeline.Value
public import Idealize.ShloMosaic.Lib.Pipeline.ValueKit
public import Idealize.ShloMosaic.Lib.Claim
public import Idealize.ShloMosaic.Adequacy
public import Idealize.ShloMosaic.Init

@[expose] public section

set_option maxRecDepth 16384

noncomputable section

/-! The sum over the devices and the optimiser's step, of two weights: the run with each result named. -/

namespace Cert.Kernel8Ideal.Val

open Cert.Kernel8Ideal Cert.Kernel8Ideal.Gen Idealize.ShloMosaic Idealize.ShloMosaic.TcCoe Idealize.SL.Sem
open scoped BigOperators

section run
variable {F : FTy → Type} [FloatOps F]
variable (m : (ℓ : Loc nD τ sig) → Buf (Elt F) ℓ) (ρ : Dev nD → PrngReg)

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v6_0) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v6_1) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v6_2) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v6_3) = (dats m 0 c).arrAt 10 cfg0.N :=
  (h c).1 10

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v6_4) = (dats m 0 c).arrAt 11 cfg0.N :=
  (h c).1 11

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v6_5) = (dats m 0 c).arrAt 12 cfg0.N :=
  (h c).1 12

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v6_6) = (dats m 0 c).arrAt 13 cfg0.N :=
  (h c).1 13

/-- After the frame run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v6_7) = (dats m 0 c).arrAt 14 cfg0.N :=
  (h c).1 14

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 1 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 1).trans (((dats m 0 c).arrAt_in 1 rfl _).trans ((A_eq m c 1).trans (V_main_arg2 m c)))

/-- After the frame run, argument `main_arg3` is as launched: input window 2 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 2).trans (((dats m 0 c).arrAt_in 2 rfl _).trans ((A_eq m c 2).trans (V_main_arg3 m c)))

/-- After the frame run, argument `main_arg4` is as launched: input window 3 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 3).trans (((dats m 0 c).arrAt_in 3 rfl _).trans ((A_eq m c 3).trans (V_main_arg4 m c)))

/-- After the frame run, argument `main_arg5` is as launched: input window 4 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 4).trans (((dats m 0 c).arrAt_in 4 rfl _).trans ((A_eq m c 4).trans (V_main_arg5 m c)))

/-- After the frame run, argument `main_arg6` is as launched: input window 5 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 5).trans (((dats m 0 c).arrAt_in 5 rfl _).trans ((A_eq m c 5).trans (V_main_arg6 m c)))

/-- After the frame run, argument `main_arg7` is as launched: input window 6 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 6).trans (((dats m 0 c).arrAt_in 6 rfl _).trans ((A_eq m c 6).trans (V_main_arg7 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v6_0) = (dats m 0 c).arrAt 7 cfg0.N
      ∧ r.2.mem ((c : Thread nD τ).loc main_v6_1) = (dats m 0 c).arrAt 8 cfg0.N
      ∧ r.2.mem ((c : Thread nD τ).loc main_v6_2) = (dats m 0 c).arrAt 9 cfg0.N
      ∧ r.2.mem ((c : Thread nD τ).loc main_v6_3) = (dats m 0 c).arrAt 10 cfg0.N
      ∧ r.2.mem ((c : Thread nD τ).loc main_v6_4) = (dats m 0 c).arrAt 11 cfg0.N
      ∧ r.2.mem ((c : Thread nD τ).loc main_v6_5) = (dats m 0 c).arrAt 12 cfg0.N
      ∧ r.2.mem ((c : Thread nD τ).loc main_v6_6) = (dats m 0 c).arrAt 13 cfg0.N
      ∧ r.2.mem ((c : Thread nD τ).loc main_v6_7) = (dats m 0 c).arrAt 14 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨post7 m r h c,
      post8 m r h c,
      post9 m r h c,
      post10 m r h c,
      post11 m r h c,
      post12 m r h c,
      post13 m r h c,
      post14 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c⟩)
    (run_main m ρ)

end run

variable (m : (ℓ : Loc nD τ sig) → Buf (Elt Ideal) ℓ) (c : Dev nD)

/-- The sum over the eight devices' parts of the first weight's gradient. -/
def G1 : Vec Ideal S512x128 .f32 := fun i => (∑ j : Fin 8, m ((c.tc : Thread nD τ).loc main_arg0) (ix3 j (i 0) (i 1)) : EReal)
/-- The sum over the eight devices' parts of the second weight's gradient. -/
def G2 : Vec Ideal S512x128 .f32 := fun i => (∑ j : Fin 8, m ((c.tc : Thread nD τ).loc main_arg1) (ix3 j (i 0) (i 1)) : EReal)

/-- The first weight. -/
def A1 : Vec Ideal S512x128 .f32 := m ((c.tc : Thread nD τ).loc main_arg2)
/-- The second weight. -/
def A2 : Vec Ideal S512x128 .f32 := m ((c.tc : Thread nD τ).loc main_arg3)
/-- The first weight's first moment. -/
def A3 : Vec Ideal S512x128 .f32 := m ((c.tc : Thread nD τ).loc main_arg4)
/-- The second weight's first moment. -/
def A4 : Vec Ideal S512x128 .f32 := m ((c.tc : Thread nD τ).loc main_arg5)
/-- The first weight's second moment. -/
def A5 : Vec Ideal S512x128 .f32 := m ((c.tc : Thread nD τ).loc main_arg6)
/-- The second weight's second moment. -/
def A6 : Vec Ideal S512x128 .f32 := m ((c.tc : Thread nD τ).loc main_arg7)

theorem idx : ∀ t : Fin cfg0.N, win0_0.index t = ![0, 0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0] :=
  (by decide +kernel : ∀ t : Fin grid0.N, win0_0.index t = ![0, 0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0])

/-- One piece over the whole buffer leaves its payload. -/
theorem whole (P : Vec Ideal S512x128 .f32) : View.canon [⟨r0_8, P⟩] = P := by
  funext y
  obtain ⟨p, q, rfl⟩ : ∃ (p : Fin 512) (q : Fin 128), y = ix2 p q := ⟨y 0, y 1, eq_ix2 y⟩
  canon_tiles x h
  have e0 : p = x 0 := Fin.ext h0
  have e1 : q = x 1 := Fin.ext h1
  rw [e0, e1]
  exact congrArg P (eq_ix2 x)

/-- A load of a whole block reads the block. -/
theorem ld_whole (X : Vec Ideal S512x128 .f32) : View.ld X r0_8 = X := by
  funext y
  show X (r0_8.emb y) = X y
  refine congrArg X (funext fun a => Fin.ext ?_)
  rw [Rect.emb_apply]
  revert a
  exact Fin.forall_fin_two.mpr ⟨(by show 0 + 1 * (y 0).val = (y 0).val; omega), (by show 0 + 1 * (y 1).val = (y 1).val; omega)⟩

set_option maxHeartbeats 2000000 in
theorem v5_lo (j : Fin 8) (q : Fin 128) (p : Fin 512) :
    (V m c main_v5 (ix3 j q (⟨p.val, by omega⟩ : Fin 1024)) : EReal) = m ((c.tc : Thread nD τ).loc main_arg0) (ix3 j p q) := by
  show (_ : EReal) = _
  simp only [V, hostOps0, StableHlo.TRef.binary, StableHlo.TRef.nullary, StableHlo.TRef.unary,
    StableHlo.TRef.toBuf, StableHlo.TRef.ofBuf, cast_eq, List.flatten_cons, List.flatten_nil, List.append_nil, List.cons_append,
    List.nil_append]
  after_results
  pointwise
  exact congrArg (m ((c.tc : Thread nD τ).loc main_arg0)) (congrArg₂ (fun a b => ix3 a p b) (Fin.ext (by show (j.val * 128 + q.val) / 128 = j.val; omega))
    (Fin.ext (by show (j.val * 128 + q.val) % 128 = q.val; omega)))

set_option maxHeartbeats 2000000 in
theorem v5_hi (j : Fin 8) (q : Fin 128) (p : Fin 512) :
    (V m c main_v5 (ix3 j q (⟨512 + p.val, by omega⟩ : Fin 1024)) : EReal) = m ((c.tc : Thread nD τ).loc main_arg1) (ix3 j p q) := by
  show (_ : EReal) = _
  simp only [V, hostOps0, StableHlo.TRef.binary, StableHlo.TRef.nullary, StableHlo.TRef.unary,
    StableHlo.TRef.toBuf, StableHlo.TRef.ofBuf, cast_eq, List.flatten_cons, List.flatten_nil, List.append_nil, List.cons_append,
    List.nil_append]
  after_results
  pointwise
  exact congrArg (m ((c.tc : Thread nD τ).loc main_arg1)) (congrArg₂ (fun a b => ix3 a p b) (Fin.ext (by show (j.val * 128 + q.val) / 128 = j.val; omega))
    (Fin.ext (by show (j.val * 128 + q.val) % 128 = q.val; omega)))

theorem b0 (t : Fin cfg0.N) (j : Fin 8) (q : Fin 128) (k : Fin 1024) : (iblk m c 0 t (ix3 j q k) : EReal) = V m c main_v5 (ix3 j q k) := by
  have h := (idx t).1
  have e : (win0_0.blk t).view.emb (ix3 j q k) = ix3 j q k := by blk_ext [h]
  show (_ : EReal) = _
  blk_simp [iblk]
  rw [e]

theorem b1 (t : Fin cfg0.N) : iblk m c 1 t = A1 m c := by
  funext y
  obtain ⟨p, q, rfl⟩ : ∃ (p : Fin 512) (q : Fin 128), y = ix2 p q := ⟨y 0, y 1, eq_ix2 y⟩
  have h := (idx t).2.1
  have e : (win0_1.blk t).view.emb (ix2 p q) = ix2 p q := by blk_ext [h]
  refine Eq.trans ?_ (congrFun (V_main_arg2 m c) (ix2 p q))
  blk_simp [iblk]
  rw [e]

theorem b2 (t : Fin cfg0.N) : iblk m c 2 t = A2 m c := by
  funext y
  obtain ⟨p, q, rfl⟩ : ∃ (p : Fin 512) (q : Fin 128), y = ix2 p q := ⟨y 0, y 1, eq_ix2 y⟩
  have h := (idx t).2.2.1
  have e : (win0_2.blk t).view.emb (ix2 p q) = ix2 p q := by blk_ext [h]
  refine Eq.trans ?_ (congrFun (V_main_arg3 m c) (ix2 p q))
  blk_simp [iblk]
  rw [e]

theorem b3 (t : Fin cfg0.N) : iblk m c 3 t = A3 m c := by
  funext y
  obtain ⟨p, q, rfl⟩ : ∃ (p : Fin 512) (q : Fin 128), y = ix2 p q := ⟨y 0, y 1, eq_ix2 y⟩
  have h := (idx t).2.2.2.1
  have e : (win0_3.blk t).view.emb (ix2 p q) = ix2 p q := by blk_ext [h]
  refine Eq.trans ?_ (congrFun (V_main_arg4 m c) (ix2 p q))
  blk_simp [iblk]
  rw [e]

theorem b4 (t : Fin cfg0.N) : iblk m c 4 t = A4 m c := by
  funext y
  obtain ⟨p, q, rfl⟩ : ∃ (p : Fin 512) (q : Fin 128), y = ix2 p q := ⟨y 0, y 1, eq_ix2 y⟩
  have h := (idx t).2.2.2.2.1
  have e : (win0_4.blk t).view.emb (ix2 p q) = ix2 p q := by blk_ext [h]
  refine Eq.trans ?_ (congrFun (V_main_arg5 m c) (ix2 p q))
  blk_simp [iblk]
  rw [e]

theorem b5 (t : Fin cfg0.N) : iblk m c 5 t = A5 m c := by
  funext y
  obtain ⟨p, q, rfl⟩ : ∃ (p : Fin 512) (q : Fin 128), y = ix2 p q := ⟨y 0, y 1, eq_ix2 y⟩
  have h := (idx t).2.2.2.2.2.1
  have e : (win0_5.blk t).view.emb (ix2 p q) = ix2 p q := by blk_ext [h]
  refine Eq.trans ?_ (congrFun (V_main_arg6 m c) (ix2 p q))
  blk_simp [iblk]
  rw [e]

theorem b6 (t : Fin cfg0.N) : iblk m c 6 t = A6 m c := by
  funext y
  obtain ⟨p, q, rfl⟩ : ∃ (p : Fin 512) (q : Fin 128), y = ix2 p q := ⟨y 0, y 1, eq_ix2 y⟩
  have h := (idx t).2.2.2.2.2.2.1
  have e : (win0_6.blk t).view.emb (ix2 p q) = ix2 p q := by blk_ext [h]
  refine Eq.trans ?_ (congrFun (V_main_arg7 m c) (ix2 p q))
  blk_simp [iblk]
  rw [e]

section point
variable (x0 : Vec Ideal S8x128x1024 .bf16) (x1 x2 x3 x4 x5 x6 : Vec Ideal S512x128 .f32)

theorem s1 (p : Fin 512) (q : Fin 128) : (k0_pay10 (F := Ideal) x0 x1 x2 x3 x4 x5 x6 (ix2 p q) : EReal)
    = ∑ j : Fin 8, x0 (ix3 j q (⟨p.val, by omega⟩ : Fin 1024)) := by
  rw [Fin.sum_univ_eight]
  show (_ : EReal) = _
  pointwise [k0_pay10, k0_pay5, k0_pay4]

theorem s2 (p : Fin 512) (q : Fin 128) : (k0_pay11 (F := Ideal) x0 x1 x2 x3 x4 x5 x6 (ix2 p q) : EReal)
    = ∑ j : Fin 8, x0 (ix3 j q (⟨512 + p.val, by omega⟩ : Fin 1024)) := by
  rw [Fin.sum_univ_eight]
  show (_ : EReal) = _
  pointwise [k0_pay11, k0_pay9, k0_pay4]

end point

theorem g1 (t : Fin cfg0.N) : k0_pay10 (F := Ideal) (iblk m c 0 t) (iblk m c 1 t) (iblk m c 2 t) (iblk m c 3 t) (iblk m c 4 t) (iblk m c 5 t) (iblk m c 6 t) = G1 m c := by
  funext y
  obtain ⟨p, q, rfl⟩ : ∃ (p : Fin 512) (q : Fin 128), y = ix2 p q := ⟨y 0, y 1, eq_ix2 y⟩
  refine (s1 _ _ _ _ _ _ _ p q).trans (Finset.sum_congr rfl fun j _ => ?_)
  exact (b0 m c t j q _).trans (v5_lo m c j q p)

theorem g2 (t : Fin cfg0.N) : k0_pay11 (F := Ideal) (iblk m c 0 t) (iblk m c 1 t) (iblk m c 2 t) (iblk m c 3 t) (iblk m c 4 t) (iblk m c 5 t) (iblk m c 6 t) = G2 m c := by
  funext y
  obtain ⟨p, q, rfl⟩ : ∃ (p : Fin 512) (q : Fin 128), y = ix2 p q := ⟨y 0, y 1, eq_ix2 y⟩
  refine (s2 _ _ _ _ _ _ _ p q).trans (Finset.sum_congr rfl fun j _ => ?_)
  exact (b0 m c t j q _).trans (v5_hi m c j q p)

theorem out7 (t : Fin cfg0.N) : out0_7 (F := Ideal) (iblk m c 0 t) (iblk m c 1 t) (iblk m c 2 t) (iblk m c 3 t) (iblk m c 4 t) (iblk m c 5 t) (iblk m c 6 t) = G1 m c := by
  unfold out0_7
  rw [whole, g1 m c t]

theorem final7 : (dats m 0 c).arrAt 7 cfg0.N = G1 m c := by
  refine (dats m 0 c).arrAt_eq_of_covers 7 _ (by decide +kernel) fun t hf y => ?_
  obtain ⟨p, q, rfl⟩ : ∃ (p : Fin 512) (q : Fin 128), y = ix2 p q := ⟨y 0, y 1, eq_ix2 y⟩
  blk_simp
  rw [after0_7, out7]
  obtain ⟨-, -, -, -, -, -, -, i7, i8, i9, i10, i11, i12, i13, i14⟩ := idx t
  have e : (win0_7.blk t).view.emb (ix2 p q) = ix2 p q := by blk_ext [i7]
  rw [e]

theorem out8 (t : Fin cfg0.N) : out0_8 (F := Ideal) (iblk m c 0 t) (iblk m c 1 t) (iblk m c 2 t) (iblk m c 3 t) (iblk m c 4 t) (iblk m c 5 t) (iblk m c 6 t) = k0_pay8 (G1 m c) (A1 m c) (A3 m c) (A5 m c) := by
  unfold out0_8
  rw [whole, g1 m c t, ld_whole, ld_whole, ld_whole, b1 m c t, b3 m c t, b5 m c t]

theorem final8 : (dats m 0 c).arrAt 8 cfg0.N = k0_pay8 (G1 m c) (A1 m c) (A3 m c) (A5 m c) := by
  refine (dats m 0 c).arrAt_eq_of_covers 8 _ (by decide +kernel) fun t hf y => ?_
  obtain ⟨p, q, rfl⟩ : ∃ (p : Fin 512) (q : Fin 128), y = ix2 p q := ⟨y 0, y 1, eq_ix2 y⟩
  blk_simp
  rw [after0_8, out8]
  obtain ⟨-, -, -, -, -, -, -, i7, i8, i9, i10, i11, i12, i13, i14⟩ := idx t
  have e : (win0_8.blk t).view.emb (ix2 p q) = ix2 p q := by blk_ext [i8]
  rw [e]

theorem out9 (t : Fin cfg0.N) : out0_9 (F := Ideal) (iblk m c 0 t) (iblk m c 1 t) (iblk m c 2 t) (iblk m c 3 t) (iblk m c 4 t) (iblk m c 5 t) (iblk m c 6 t) = k0_pay6 (G1 m c) (A3 m c) := by
  unfold out0_9
  rw [whole, g1 m c t, ld_whole, b3 m c t]

theorem final9 : (dats m 0 c).arrAt 9 cfg0.N = k0_pay6 (G1 m c) (A3 m c) := by
  refine (dats m 0 c).arrAt_eq_of_covers 9 _ (by decide +kernel) fun t hf y => ?_
  obtain ⟨p, q, rfl⟩ : ∃ (p : Fin 512) (q : Fin 128), y = ix2 p q := ⟨y 0, y 1, eq_ix2 y⟩
  blk_simp
  rw [after0_9, out9]
  obtain ⟨-, -, -, -, -, -, -, i7, i8, i9, i10, i11, i12, i13, i14⟩ := idx t
  have e : (win0_9.blk t).view.emb (ix2 p q) = ix2 p q := by blk_ext [i9]
  rw [e]

theorem out10 (t : Fin cfg0.N) : out0_10 (F := Ideal) (iblk m c 0 t) (iblk m c 1 t) (iblk m c 2 t) (iblk m c 3 t) (iblk m c 4 t) (iblk m c 5 t) (iblk m c 6 t) = k0_pay7 (G1 m c) (A5 m c) := by
  unfold out0_10
  rw [whole, g1 m c t, ld_whole, b5 m c t]

theorem final10 : (dats m 0 c).arrAt 10 cfg0.N = k0_pay7 (G1 m c) (A5 m c) := by
  refine (dats m 0 c).arrAt_eq_of_covers 10 _ (by decide +kernel) fun t hf y => ?_
  obtain ⟨p, q, rfl⟩ : ∃ (p : Fin 512) (q : Fin 128), y = ix2 p q := ⟨y 0, y 1, eq_ix2 y⟩
  blk_simp
  rw [after0_10, out10]
  obtain ⟨-, -, -, -, -, -, -, i7, i8, i9, i10, i11, i12, i13, i14⟩ := idx t
  have e : (win0_10.blk t).view.emb (ix2 p q) = ix2 p q := by blk_ext [i10]
  rw [e]

theorem out11 (t : Fin cfg0.N) : out0_11 (F := Ideal) (iblk m c 0 t) (iblk m c 1 t) (iblk m c 2 t) (iblk m c 3 t) (iblk m c 4 t) (iblk m c 5 t) (iblk m c 6 t) = G2 m c := by
  unfold out0_11
  rw [whole, g2 m c t]

theorem final11 : (dats m 0 c).arrAt 11 cfg0.N = G2 m c := by
  refine (dats m 0 c).arrAt_eq_of_covers 11 _ (by decide +kernel) fun t hf y => ?_
  obtain ⟨p, q, rfl⟩ : ∃ (p : Fin 512) (q : Fin 128), y = ix2 p q := ⟨y 0, y 1, eq_ix2 y⟩
  blk_simp
  rw [after0_11, out11]
  obtain ⟨-, -, -, -, -, -, -, i7, i8, i9, i10, i11, i12, i13, i14⟩ := idx t
  have e : (win0_11.blk t).view.emb (ix2 p q) = ix2 p q := by blk_ext [i11]
  rw [e]

theorem out12 (t : Fin cfg0.N) : out0_12 (F := Ideal) (iblk m c 0 t) (iblk m c 1 t) (iblk m c 2 t) (iblk m c 3 t) (iblk m c 4 t) (iblk m c 5 t) (iblk m c 6 t) = k0_pay3 (G2 m c) (A2 m c) (A4 m c) (A6 m c) := by
  unfold out0_12
  rw [whole, g2 m c t, ld_whole, ld_whole, ld_whole, b2 m c t, b4 m c t, b6 m c t]

theorem final12 : (dats m 0 c).arrAt 12 cfg0.N = k0_pay3 (G2 m c) (A2 m c) (A4 m c) (A6 m c) := by
  refine (dats m 0 c).arrAt_eq_of_covers 12 _ (by decide +kernel) fun t hf y => ?_
  obtain ⟨p, q, rfl⟩ : ∃ (p : Fin 512) (q : Fin 128), y = ix2 p q := ⟨y 0, y 1, eq_ix2 y⟩
  blk_simp
  rw [after0_12, out12]
  obtain ⟨-, -, -, -, -, -, -, i7, i8, i9, i10, i11, i12, i13, i14⟩ := idx t
  have e : (win0_12.blk t).view.emb (ix2 p q) = ix2 p q := by blk_ext [i12]
  rw [e]

theorem out13 (t : Fin cfg0.N) : out0_13 (F := Ideal) (iblk m c 0 t) (iblk m c 1 t) (iblk m c 2 t) (iblk m c 3 t) (iblk m c 4 t) (iblk m c 5 t) (iblk m c 6 t) = k0_pay1 (G2 m c) (A4 m c) := by
  unfold out0_13
  rw [whole, g2 m c t, ld_whole, b4 m c t]

theorem final13 : (dats m 0 c).arrAt 13 cfg0.N = k0_pay1 (G2 m c) (A4 m c) := by
  refine (dats m 0 c).arrAt_eq_of_covers 13 _ (by decide +kernel) fun t hf y => ?_
  obtain ⟨p, q, rfl⟩ : ∃ (p : Fin 512) (q : Fin 128), y = ix2 p q := ⟨y 0, y 1, eq_ix2 y⟩
  blk_simp
  rw [after0_13, out13]
  obtain ⟨-, -, -, -, -, -, -, i7, i8, i9, i10, i11, i12, i13, i14⟩ := idx t
  have e : (win0_13.blk t).view.emb (ix2 p q) = ix2 p q := by blk_ext [i13]
  rw [e]

theorem out14 (t : Fin cfg0.N) : out0_14 (F := Ideal) (iblk m c 0 t) (iblk m c 1 t) (iblk m c 2 t) (iblk m c 3 t) (iblk m c 4 t) (iblk m c 5 t) (iblk m c 6 t) = k0_pay2 (G2 m c) (A6 m c) := by
  unfold out0_14
  rw [whole, g2 m c t, ld_whole, b6 m c t]

theorem final14 : (dats m 0 c).arrAt 14 cfg0.N = k0_pay2 (G2 m c) (A6 m c) := by
  refine (dats m 0 c).arrAt_eq_of_covers 14 _ (by decide +kernel) fun t hf y => ?_
  obtain ⟨p, q, rfl⟩ : ∃ (p : Fin 512) (q : Fin 128), y = ix2 p q := ⟨y 0, y 1, eq_ix2 y⟩
  blk_simp
  rw [after0_14, out14]
  obtain ⟨-, -, -, -, -, -, -, i7, i8, i9, i10, i11, i12, i13, i14⟩ := idx t
  have e : (win0_14.blk t).view.emb (ix2 p q) = ix2 p q := by blk_ext [i14]
  rw [e]

end Cert.Kernel8Ideal.Val

namespace Cert.Adam
open Idealize.ShloMosaic Idealize.ShloMosaic.TcCoe Idealize.SL.Sem
open Cert.Kernel8Ideal.Val Cert.Kernel8Ideal.Gen
open scoped BigOperators

set_option maxHeartbeats 4000000 in
/-- The sums and the optimiser's step of the kernel and of its reference leave the same results. -/
theorem algebraic : Cert.algebraic_Kernel8Ideal_Reference8Ideal := by
  pair_intro
  · run_from Cert.Kernel8Ideal.Val.run_blocks m g
  · run_from Cert.Reference8Ideal.Value.run m' g'
    · refine Eq.trans ?_ (Cert.Kernel8Ideal.Val.final7 m c).symm
      funext y
      obtain ⟨p, q, rfl⟩ : ∃ (p : Fin 512) (q : Fin 128), y = ix2 p q := ⟨y 0, y 1, eq_ix2 y⟩
      show (_ : EReal) = _
      pointwise [G1]
    · refine Eq.trans ?_ (Cert.Kernel8Ideal.Val.final8 m c).symm
      funext y
      obtain ⟨p, q, rfl⟩ : ∃ (p : Fin 512) (q : Fin 128), y = ix2 p q := ⟨y 0, y 1, eq_ix2 y⟩
      show (_ : EReal) = _
      pointwise [k0_pay8, k0_pay6, k0_pay7, G1]
      rfl
    · refine Eq.trans ?_ (Cert.Kernel8Ideal.Val.final9 m c).symm
      funext y
      obtain ⟨p, q, rfl⟩ : ∃ (p : Fin 512) (q : Fin 128), y = ix2 p q := ⟨y 0, y 1, eq_ix2 y⟩
      show (_ : EReal) = _
      pointwise [k0_pay6, G1]
      rfl
    · refine Eq.trans ?_ (Cert.Kernel8Ideal.Val.final10 m c).symm
      funext y
      obtain ⟨p, q, rfl⟩ : ∃ (p : Fin 512) (q : Fin 128), y = ix2 p q := ⟨y 0, y 1, eq_ix2 y⟩
      show (_ : EReal) = _
      pointwise [k0_pay7, G1]
      rfl
    · refine Eq.trans ?_ (Cert.Kernel8Ideal.Val.final11 m c).symm
      funext y
      obtain ⟨p, q, rfl⟩ : ∃ (p : Fin 512) (q : Fin 128), y = ix2 p q := ⟨y 0, y 1, eq_ix2 y⟩
      show (_ : EReal) = _
      pointwise [G2]
    · refine Eq.trans ?_ (Cert.Kernel8Ideal.Val.final12 m c).symm
      funext y
      obtain ⟨p, q, rfl⟩ : ∃ (p : Fin 512) (q : Fin 128), y = ix2 p q := ⟨y 0, y 1, eq_ix2 y⟩
      show (_ : EReal) = _
      pointwise [k0_pay3, k0_pay1, k0_pay2, G2]
      rfl
    · refine Eq.trans ?_ (Cert.Kernel8Ideal.Val.final13 m c).symm
      funext y
      obtain ⟨p, q, rfl⟩ : ∃ (p : Fin 512) (q : Fin 128), y = ix2 p q := ⟨y 0, y 1, eq_ix2 y⟩
      show (_ : EReal) = _
      pointwise [k0_pay1, G2]
      rfl
    · refine Eq.trans ?_ (Cert.Kernel8Ideal.Val.final14 m c).symm
      funext y
      obtain ⟨p, q, rfl⟩ : ∃ (p : Fin 512) (q : Fin 128), y = ix2 p q := ⟨y 0, y 1, eq_ix2 y⟩
      show (_ : EReal) = _
      pointwise [k0_pay2, G2]
      rfl

end Cert.Adam
end
-- ==== Proof.AdamFrame.lean ====
module

public import proofs.«01_k».proof.Proof.Gen.Kernel9Ideal.Launch
public import proofs.«01_k».proof.Proof.Gen.Kernel9Ideal.Skeleton
public import proofs.«01_k».proof.Proof.Gen.Kernel9Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.Kernel9Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg15`: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1920000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel9Ideal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).1 7).trans (((dats 0 c).arrAt_in 7 rfl _).trans ((hA c 7).trans (V_main_arg7 m c))),
      ((h c).1 8).trans (((dats 0 c).arrAt_in 8 rfl _).trans ((hA c 8).trans (V_main_arg8 m c))),
      ((h c).1 9).trans (((dats 0 c).arrAt_in 9 rfl _).trans ((hA c 9).trans (V_main_arg9 m c))),
      ((h c).1 10).trans (((dats 0 c).arrAt_in 10 rfl _).trans ((hA c 10).trans (V_main_arg10 m c))),
      ((h c).1 11).trans (((dats 0 c).arrAt_in 11 rfl _).trans ((hA c 11).trans (V_main_arg11 m c))),
      ((h c).1 12).trans (((dats 0 c).arrAt_in 12 rfl _).trans ((hA c 12).trans (V_main_arg12 m c))),
      ((h c).1 13).trans (((dats 0 c).arrAt_in 13 rfl _).trans ((hA c 13).trans (V_main_arg13 m c))),
      ((h c).1 14).trans (((dats 0 c).arrAt_in 14 rfl _).trans ((hA c 14).trans (V_main_arg14 m c))),
      ((h c).1 15).trans (((dats 0 c).arrAt_in 15 rfl _).trans ((hA c 15).trans (V_main_arg15 m c)))⟩) h

/-! ## The body's accesses -/

abbrev r0_0 : Rect S8x128x1024 := Rect.unit (s := S8x128x1024) ![0, 0, 0] S1x128x1024.size inb_S8x128x1024_S1x128x1024_0_0_0
abbrev r0_1 : Rect S8x128x1024 := Rect.unit (s := S8x128x1024) ![1, 0, 0] S1x128x1024.size inb_S8x128x1024_S1x128x1024_1_0_0
abbrev r0_2 : Rect S8x128x1024 := Rect.unit (s := S8x128x1024) ![2, 0, 0] S1x128x1024.size inb_S8x128x1024_S1x128x1024_2_0_0
abbrev r0_3 : Rect S8x128x1024 := Rect.unit (s := S8x128x1024) ![3, 0, 0] S1x128x1024.size inb_S8x128x1024_S1x128x1024_3_0_0
abbrev r0_4 : Rect S8x128x1024 := Rect.unit (s := S8x128x1024) ![4, 0, 0] S1x128x1024.size inb_S8x128x1024_S1x128x1024_4_0_0
abbrev r0_5 : Rect S8x128x1024 := Rect.unit (s := S8x128x1024) ![5, 0, 0] S1x128x1024.size inb_S8x128x1024_S1x128x1024_5_0_0
abbrev r0_6 : Rect S8x128x1024 := Rect.unit (s := S8x128x1024) ![6, 0, 0] S1x128x1024.size inb_S8x128x1024_S1x128x1024_6_0_0
abbrev r0_7 : Rect S8x128x1024 := Rect.unit (s := S8x128x1024) ![7, 0, 0] S1x128x1024.size inb_S8x128x1024_S1x128x1024_7_0_0
abbrev r0_8 : Rect S1024x128 := Rect.unit (s := S1024x128) ![0, 0] S1024x128.size inb_S1024x128_S1024x128_0_0
abbrev r0_9 : Rect S8x32x1024 := Rect.unit (s := S8x32x1024) ![0, 0, 0] S1x32x1024.size inb_S8x32x1024_S1x32x1024_0_0_0
abbrev r0_10 : Rect S8x32x1024 := Rect.unit (s := S8x32x1024) ![1, 0, 0] S1x32x1024.size inb_S8x32x1024_S1x32x1024_1_0_0
abbrev r0_11 : Rect S8x32x1024 := Rect.unit (s := S8x32x1024) ![2, 0, 0] S1x32x1024.size inb_S8x32x1024_S1x32x1024_2_0_0
abbrev r0_12 : Rect S8x32x1024 := Rect.unit (s := S8x32x1024) ![3, 0, 0] S1x32x1024.size inb_S8x32x1024_S1x32x1024_3_0_0
abbrev r0_13 : Rect S8x32x1024 := Rect.unit (s := S8x32x1024) ![4, 0, 0] S1x32x1024.size inb_S8x32x1024_S1x32x1024_4_0_0
abbrev r0_14 : Rect S8x32x1024 := Rect.unit (s := S8x32x1024) ![5, 0, 0] S1x32x1024.size inb_S8x32x1024_S1x32x1024_5_0_0
abbrev r0_15 : Rect S8x32x1024 := Rect.unit (s := S8x32x1024) ![6, 0, 0] S1x32x1024.size inb_S8x32x1024_S1x32x1024_6_0_0
abbrev r0_16 : Rect S8x32x1024 := Rect.unit (s := S8x32x1024) ![7, 0, 0] S1x32x1024.size inb_S8x32x1024_S1x32x1024_7_0_0
abbrev r0_17 : Rect S32x1024 := Rect.unit (s := S32x1024) ![0, 0] S32x1024.size inb_S32x1024_S32x1024_0_0
abbrev r0_18 : Rect S128x1024 := Rect.unit (s := S128x1024) ![0, 0] S128x1024.size inb_S128x1024_S128x1024_0_0

/-! ## What the body leaves in each output window's buffer -/

/-! ### Values of the body that the stores' payloads, spelt out, would write more than once

    Each is a vector the body binds (often a part call's result), stated over the input windows' blocks and
    numbered on from the skeleton's payload functions (`k0_pay25` …, after `k0_pay24`), so that
    `out0_W` and the values after it name it instead of spelling it out (`unfold_out out0_W` opens a canon
    with them, `unfold_payloads` opens them with the payloads); the comment after each is the printed function's
    name for the value (a count appended where that name is bound again). -/

def k0_pay25 (x0 : Vec F S8x128x1024 .bf16) (x1 : Vec F S8x32x1024 .bf16) (x2 : Vec F S8x32x1024 .bf16) (x3 : Vec F S8x128x1024 .bf16) (x4 : Vec F S1024x128 .f32) (x5 : Vec F S32x1024 .f32) (x6 : Vec F S32x1024 .f32) (x7 : Vec F S128x1024 .f32) (x8 : Vec F S1024x128 .f32) (x9 : Vec F S32x1024 .f32) (x10 : Vec F S32x1024 .f32) (x11 : Vec F S128x1024 .f32) (x12 : Vec F S1024x128 .f32) (x13 : Vec F S32x1024 .f32) (x14 : Vec F S32x1024 .f32) (x15 : Vec F S128x1024 .f32) : FVec F S1024x128 .f32 :=
  k0_pay3 (View.ld x0 r0_0) (View.ld x0 r0_1) (View.ld x0 r0_2) (View.ld x0 r0_3) (View.ld x0 r0_4) (View.ld x0 r0_5) (View.ld x0 r0_6) (View.ld x0 r0_7) -- `v31`
def k0_pay26 (x0 : Vec F S8x128x1024 .bf16) (x1 : Vec F S8x32x1024 .bf16) (x2 : Vec F S8x32x1024 .bf16) (x3 : Vec F S8x128x1024 .bf16) (x4 : Vec F S1024x128 .f32) (x5 : Vec F S32x1024 .f32) (x6 : Vec F S32x1024 .f32) (x7 : Vec F S128x1024 .f32) (x8 : Vec F S1024x128 .f32) (x9 : Vec F S32x1024 .f32) (x10 : Vec F S32x1024 .f32) (x11 : Vec F S128x1024 .f32) (x12 : Vec F S1024x128 .f32) (x13 : Vec F S32x1024 .f32) (x14 : Vec F S32x1024 .f32) (x15 : Vec F S128x1024 .f32) : FVec F S32x1024 .bf16 :=
  k0_pay7 (View.ld x1 r0_9) -- `v64`
def k0_pay27 (x0 : Vec F S8x128x1024 .bf16) (x1 : Vec F S8x32x1024 .bf16) (x2 : Vec F S8x32x1024 .bf16) (x3 : Vec F S8x128x1024 .bf16) (x4 : Vec F S1024x128 .f32) (x5 : Vec F S32x1024 .f32) (x6 : Vec F S32x1024 .f32) (x7 : Vec F S128x1024 .f32) (x8 : Vec F S1024x128 .f32) (x9 : Vec F S32x1024 .f32) (x10 : Vec F S32x1024 .f32) (x11 : Vec F S128x1024 .f32) (x12 : Vec F S1024x128 .f32) (x13 : Vec F S32x1024 .f32) (x14 : Vec F S32x1024 .f32) (x15 : Vec F S128x1024 .f32) : FVec F S32x1024 .f32 :=
  k0_pay8 (k0_pay26 x0 x1 x2 x3 x4 x5 x6 x7 x8 x9 x10 x11 x12 x13 x14 x15) (View.ld x1 r0_10) (View.ld x1 r0_11) (View.ld x1 r0_12) (View.ld x1 r0_13) (View.ld x1 r0_14) (View.ld x1 r0_15) (View.ld x1 r0_16) -- `v93`
def k0_pay28 (x0 : Vec F S8x128x1024 .bf16) (x1 : Vec F S8x32x1024 .bf16) (x2 : Vec F S8x32x1024 .bf16) (x3 : Vec F S8x128x1024 .bf16) (x4 : Vec F S1024x128 .f32) (x5 : Vec F S32x1024 .f32) (x6 : Vec F S32x1024 .f32) (x7 : Vec F S128x1024 .f32) (x8 : Vec F S1024x128 .f32) (x9 : Vec F S32x1024 .f32) (x10 : Vec F S32x1024 .f32) (x11 : Vec F S128x1024 .f32) (x12 : Vec F S1024x128 .f32) (x13 : Vec F S32x1024 .f32) (x14 : Vec F S32x1024 .f32) (x15 : Vec F S128x1024 .f32) : FVec F S32x1024 .f32 :=
  k0_pay12 (View.ld x2 r0_9) -- `v127`
def k0_pay29 (x0 : Vec F S8x128x1024 .bf16) (x1 : Vec F S8x32x1024 .bf16) (x2 : Vec F S8x32x1024 .bf16) (x3 : Vec F S8x128x1024 .bf16) (x4 : Vec F S1024x128 .f32) (x5 : Vec F S32x1024 .f32) (x6 : Vec F S32x1024 .f32) (x7 : Vec F S128x1024 .f32) (x8 : Vec F S1024x128 .f32) (x9 : Vec F S32x1024 .f32) (x10 : Vec F S32x1024 .f32) (x11 : Vec F S128x1024 .f32) (x12 : Vec F S1024x128 .f32) (x13 : Vec F S32x1024 .f32) (x14 : Vec F S32x1024 .f32) (x15 : Vec F S128x1024 .f32) : FVec F S32x1024 .f32 :=
  k0_pay13 (View.ld x2 r0_10) -- `v130`
def k0_pay30 (x0 : Vec F S8x128x1024 .bf16) (x1 : Vec F S8x32x1024 .bf16) (x2 : Vec F S8x32x1024 .bf16) (x3 : Vec F S8x128x1024 .bf16) (x4 : Vec F S1024x128 .f32) (x5 : Vec F S32x1024 .f32) (x6 : Vec F S32x1024 .f32) (x7 : Vec F S128x1024 .f32) (x8 : Vec F S1024x128 .f32) (x9 : Vec F S32x1024 .f32) (x10 : Vec F S32x1024 .f32) (x11 : Vec F S128x1024 .f32) (x12 : Vec F S1024x128 .f32) (x13 : Vec F S32x1024 .f32) (x14 : Vec F S32x1024 .f32) (x15 : Vec F S128x1024 .f32) : FVec F S32x1024 .f32 :=
  k0_pay14 (k0_pay28 x0 x1 x2 x3 x4 x5 x6 x7 x8 x9 x10 x11 x12 x13 x14 x15) (k0_pay29 x0 x1 x2 x3 x4 x5 x6 x7 x8 x9 x10 x11 x12 x13 x14 x15) (View.ld x2 r0_11) (View.ld x2 r0_12) (View.ld x2 r0_13) (View.ld x2 r0_14) (View.ld x2 r0_15) (View.ld x2 r0_16) -- `v155`
def k0_pay31 (x0 : Vec F S8x128x1024 .bf16) (x1 : Vec F S8x32x1024 .bf16) (x2 : Vec F S8x32x1024 .bf16) (x3 : Vec F S8x128x1024 .bf16) (x4 : Vec F S1024x128 .f32) (x5 : Vec F S32x1024 .f32) (x6 : Vec F S32x1024 .f32) (x7 : Vec F S128x1024 .f32) (x8 : Vec F S1024x128 .f32) (x9 : Vec F S32x1024 .f32) (x10 : Vec F S32x1024 .f32) (x11 : Vec F S128x1024 .f32) (x12 : Vec F S1024x128 .f32) (x13 : Vec F S32x1024 .f32) (x14 : Vec F S32x1024 .f32) (x15 : Vec F S128x1024 .f32) : FVec F S32x1024 .f32 :=
  k0_pay15 (View.ld x10 r0_17) -- `v161`
def k0_pay32 (x0 : Vec F S8x128x1024 .bf16) (x1 : Vec F S8x32x1024 .bf16) (x2 : Vec F S8x32x1024 .bf16) (x3 : Vec F S8x128x1024 .bf16) (x4 : Vec F S1024x128 .f32) (x5 : Vec F S32x1024 .f32) (x6 : Vec F S32x1024 .f32) (x7 : Vec F S128x1024 .f32) (x8 : Vec F S1024x128 .f32) (x9 : Vec F S32x1024 .f32) (x10 : Vec F S32x1024 .f32) (x11 : Vec F S128x1024 .f32) (x12 : Vec F S1024x128 .f32) (x13 : Vec F S32x1024 .f32) (x14 : Vec F S32x1024 .f32) (x15 : Vec F S128x1024 .f32) : FVec F S128x1024 .f32 :=
  k0_pay19 (View.ld x3 r0_0) (View.ld x3 r0_1) -- `v193`
def k0_pay33 (x0 : Vec F S8x128x1024 .bf16) (x1 : Vec F S8x32x1024 .bf16) (x2 : Vec F S8x32x1024 .bf16) (x3 : Vec F S8x128x1024 .bf16) (x4 : Vec F S1024x128 .f32) (x5 : Vec F S32x1024 .f32) (x6 : Vec F S32x1024 .f32) (x7 : Vec F S128x1024 .f32) (x8 : Vec F S1024x128 .f32) (x9 : Vec F S32x1024 .f32) (x10 : Vec F S32x1024 .f32) (x11 : Vec F S128x1024 .f32) (x12 : Vec F S1024x128 .f32) (x13 : Vec F S32x1024 .f32) (x14 : Vec F S32x1024 .f32) (x15 : Vec F S128x1024 .f32) : FVec F S128x1024 .f32 :=
  k0_pay20 (View.ld x3 r0_2) -- `v196`
def k0_pay34 (x0 : Vec F S8x128x1024 .bf16) (x1 : Vec F S8x32x1024 .bf16) (x2 : Vec F S8x32x1024 .bf16) (x3 : Vec F S8x128x1024 .bf16) (x4 : Vec F S1024x128 .f32) (x5 : Vec F S32x1024 .f32) (x6 : Vec F S32x1024 .f32) (x7 : Vec F S128x1024 .f32) (x8 : Vec F S1024x128 .f32) (x9 : Vec F S32x1024 .f32) (x10 : Vec F S32x1024 .f32) (x11 : Vec F S128x1024 .f32) (x12 : Vec F S1024x128 .f32) (x13 : Vec F S32x1024 .f32) (x14 : Vec F S32x1024 .f32) (x15 : Vec F S128x1024 .f32) : FVec F S128x1024 .f32 :=
  k0_pay22 (k0_pay32 x0 x1 x2 x3 x4 x5 x6 x7 x8 x9 x10 x11 x12 x13 x14 x15) (k0_pay33 x0 x1 x2 x3 x4 x5 x6 x7 x8 x9 x10 x11 x12 x13 x14 x15) (View.ld x3 r0_3) (View.ld x3 r0_4) (View.ld x3 r0_5) (View.ld x3 r0_6) (View.ld x3 r0_7) (View.ld x11 r0_18) -- `v226`
def k0_pay35 (x0 : Vec F S8x128x1024 .bf16) (x1 : Vec F S8x32x1024 .bf16) (x2 : Vec F S8x32x1024 .bf16) (x3 : Vec F S8x128x1024 .bf16) (x4 : Vec F S1024x128 .f32) (x5 : Vec F S32x1024 .f32) (x6 : Vec F S32x1024 .f32) (x7 : Vec F S128x1024 .f32) (x8 : Vec F S1024x128 .f32) (x9 : Vec F S32x1024 .f32) (x10 : Vec F S32x1024 .f32) (x11 : Vec F S128x1024 .f32) (x12 : Vec F S1024x128 .f32) (x13 : Vec F S32x1024 .f32) (x14 : Vec F S32x1024 .f32) (x15 : Vec F S128x1024 .f32) : FVec F S128x1024 .f32 :=
  k0_pay23 (View.ld x15 r0_18) -- `v228`
def k0_pay36 (x0 : Vec F S8x128x1024 .bf16) (x1 : Vec F S8x32x1024 .bf16) (x2 : Vec F S8x32x1024 .bf16) (x3 : Vec F S8x128x1024 .bf16) (x4 : Vec F S1024x128 .f32) (x5 : Vec F S32x1024 .f32) (x6 : Vec F S32x1024 .f32) (x7 : Vec F S128x1024 .f32) (x8 : Vec F S1024x128 .f32) (x9 : Vec F S32x1024 .f32) (x10 : Vec F S32x1024 .f32) (x11 : Vec F S128x1024 .f32) (x12 : Vec F S1024x128 .f32) (x13 : Vec F S32x1024 .f32) (x14 : Vec F S32x1024 .f32) (x15 : Vec F S128x1024 .f32) : FVec F S128x1024 .f32 :=
  k0_pay24 (k0_pay32 x0 x1 x2 x3 x4 x5 x6 x7 x8 x9 x10 x11 x12 x13 x14 x15) (k0_pay33 x0 x1 x2 x3 x4 x5 x6 x7 x8 x9 x10 x11 x12 x13 x14 x15) (View.ld x3 r0_3) (View.ld x3 r0_4) (View.ld x3 r0_5) (View.ld x3 r0_6) (View.ld x3 r0_7) -- `v229`

/-- Window 16's staging buffer after the body, from the input windows' blocks: its 1 store as pieces, LAST
    FIRST (Lib/Pipeline/FrameBody.lean `View.canon`; the payloads are the skeleton's and the values stated above). -/
def out0_16 (x0 : Vec F S8x128x1024 .bf16) (x1 : Vec F S8x32x1024 .bf16) (x2 : Vec F S8x32x1024 .bf16) (x3 : Vec F S8x128x1024 .bf16) (x4 : Vec F S1024x128 .f32) (x5 : Vec F S32x1024 .f32) (x6 : Vec F S32x1024 .f32) (x7 : Vec F S128x1024 .f32) (x8 : Vec F S1024x128 .f32) (x9 : Vec F S32x1024 .f32) (x10 : Vec F S32x1024 .f32) (x11 : Vec F S128x1024 .f32) (x12 : Vec F S1024x128 .f32) (x13 : Vec F S32x1024 .f32) (x14 : Vec F S32x1024 .f32) (x15 : Vec F S128x1024 .f32) : Vec F S1024x128 .f32 :=
  View.canon [⟨r0_8, k0_pay25 x0 x1 x2 x3 x4 x5 x6 x7 x8 x9 x10 x11 x12 x13 x14 x15⟩]

/-- Its stores tile the buffer (checked by evaluation), so they cover it. -/
theorem cover0_16 (p0 : Vec F S1024x128 .f32) (y : S1024x128.Idx) :
    ∃ pc ∈ ([⟨r0_8, p0⟩] : List (View.Piece (Elt F) S1024x128 .f32)), y ∈ pc.1.set :=
  View.cover_of_tiled [⟨r0_8, p0⟩] S1024x128.size (by rfl) y

/-- Window 17's staging buffer after the body, from the input windows' blocks: its 1 store as pieces, LAST
    FIRST (Lib/Pipeline/FrameBody.lean `View.canon`; the payloads are the skeleton's and the values stated above). -/
def out0_17 (x0 : Vec F S8x128x1024 .bf16) (x1 : Vec F S8x32x1024 .bf16) (x2 : Vec F S8x32x1024 .bf16) (x3 : Vec F S8x128x1024 .bf16) (x4 : Vec F S1024x128 .f32) (x5 : Vec F S32x1024 .f32) (x6 : Vec F S32x1024 .f32) (x7 : Vec F S128x1024 .f32) (x8 : Vec F S1024x128 .f32) (x9 : Vec F S32x1024 .f32) (x10 : Vec F S32x1024 .f32) (x11 : Vec F S128x1024 .f32) (x12 : Vec F S1024x128 .f32) (x13 : Vec F S32x1024 .f32) (x14 : Vec F S32x1024 .f32) (x15 : Vec F S128x1024 .f32) : Vec F S1024x128 .f32 :=
  View.canon [⟨r0_8, k0_pay6 (k0_pay25 x0 x1 x2 x3 x4 x5 x6 x7 x8 x9 x10 x11 x12 x13 x14 x15) (View.ld x4 r0_8) (View.ld x8 r0_8) (View.ld x12 r0_8)⟩]

/-- Its stores tile the buffer (checked by evaluation), so they cover it. -/
theorem cover0_17 (p0 : Vec F S1024x128 .f32) (y : S1024x128.Idx) :
    ∃ pc ∈ ([⟨r0_8, p0⟩] : List (View.Piece (Elt F) S1024x128 .f32)), y ∈ pc.1.set :=
  View.cover_of_tiled [⟨r0_8, p0⟩] S1024x128.size (by rfl) y

/-- Window 18's staging buffer after the body, from the input windows' blocks: its 1 store as pieces, LAST
    FIRST (Lib/Pipeline/FrameBody.lean `View.canon`; the payloads are the skeleton's and the values stated above). -/
def out0_18 (x0 : Vec F S8x128x1024 .bf16) (x1 : Vec F S8x32x1024 .bf16) (x2 : Vec F S8x32x1024 .bf16) (x3 : Vec F S8x128x1024 .bf16) (x4 : Vec F S1024x128 .f32) (x5 : Vec F S32x1024 .f32) (x6 : Vec F S32x1024 .f32) (x7 : Vec F S128x1024 .f32) (x8 : Vec F S1024x128 .f32) (x9 : Vec F S32x1024 .f32) (x10 : Vec F S32x1024 .f32) (x11 : Vec F S128x1024 .f32) (x12 : Vec F S1024x128 .f32) (x13 : Vec F S32x1024 .f32) (x14 : Vec F S32x1024 .f32) (x15 : Vec F S128x1024 .f32) : Vec F S1024x128 .f32 :=
  View.canon [⟨r0_8, k0_pay4 (k0_pay25 x0 x1 x2 x3 x4 x5 x6 x7 x8 x9 x10 x11 x12 x13 x14 x15) (View.ld x8 r0_8)⟩]

/-- Its stores tile the buffer (checked by evaluation), so they cover it. -/
theorem cover0_18 (p0 : Vec F S1024x128 .f32) (y : S1024x128.Idx) :
    ∃ pc ∈ ([⟨r0_8, p0⟩] : List (View.Piece (Elt F) S1024x128 .f32)), y ∈ pc.1.set :=
  View.cover_of_tiled [⟨r0_8, p0⟩] S1024x128.size (by rfl) y

/-- Window 19's staging buffer after the body, from the input windows' blocks: its 1 store as pieces, LAST
    FIRST (Lib/Pipeline/FrameBody.lean `View.canon`; the payloads are the skeleton's and the values stated above). -/
def out0_19 (x0 : Vec F S8x128x1024 .bf16) (x1 : Vec F S8x32x1024 .bf16) (x2 : Vec F S8x32x1024 .bf16) (x3 : Vec F S8x128x1024 .bf16) (x4 : Vec F S1024x128 .f32) (x5 : Vec F S32x1024 .f32) (x6 : Vec F S32x1024 .f32) (x7 : Vec F S128x1024 .f32) (x8 : Vec F S1024x128 .f32) (x9 : Vec F S32x1024 .f32) (x10 : Vec F S32x1024 .f32) (x11 : Vec F S128x1024 .f32) (x12 : Vec F S1024x128 .f32) (x13 : Vec F S32x1024 .f32) (x14 : Vec F S32x1024 .f32) (x15 : Vec F S128x1024 .f32) : Vec F S1024x128 .f32 :=
  View.canon [⟨r0_8, k0_pay5 (k0_pay25 x0 x1 x2 x3 x4 x5 x6 x7 x8 x9 x10 x11 x12 x13 x14 x15) (View.ld x12 r0_8)⟩]

/-- Its stores tile the buffer (checked by evaluation), so they cover it. -/
theorem cover0_19 (p0 : Vec F S1024x128 .f32) (y : S1024x128.Idx) :
    ∃ pc ∈ ([⟨r0_8, p0⟩] : List (View.Piece (Elt F) S1024x128 .f32)), y ∈ pc.1.set :=
  View.cover_of_tiled [⟨r0_8, p0⟩] S1024x128.size (by rfl) y

/-- Window 20's staging buffer after the body, from the input windows' blocks: its 1 store as pieces, LAST
    FIRST (Lib/Pipeline/FrameBody.lean `View.canon`; the payloads are the skeleton's and the values stated above). -/
def out0_20 (x0 : Vec F S8x128x1024 .bf16) (x1 : Vec F S8x32x1024 .bf16) (x2 : Vec F S8x32x1024 .bf16) (x3 : Vec F S8x128x1024 .bf16) (x4 : Vec F S1024x128 .f32) (x5 : Vec F S32x1024 .f32) (x6 : Vec F S32x1024 .f32) (x7 : Vec F S128x1024 .f32) (x8 : Vec F S1024x128 .f32) (x9 : Vec F S32x1024 .f32) (x10 : Vec F S32x1024 .f32) (x11 : Vec F S128x1024 .f32) (x12 : Vec F S1024x128 .f32) (x13 : Vec F S32x1024 .f32) (x14 : Vec F S32x1024 .f32) (x15 : Vec F S128x1024 .f32) : Vec F S32x1024 .f32 :=
  View.canon [⟨r0_17, k0_pay8 (k0_pay26 x0 x1 x2 x3 x4 x5 x6 x7 x8 x9 x10 x11 x12 x13 x14 x15) (View.ld x1 r0_10) (View.ld x1 r0_11) (View.ld x1 r0_12) (View.ld x1 r0_13) (View.ld x1 r0_14) (View.ld x1 r0_15) (View.ld x1 r0_16)⟩]

/-- Its stores tile the buffer (checked by evaluation), so they cover it. -/
theorem cover0_20 (p0 : Vec F S32x1024 .f32) (y : S32x1024.Idx) :
    ∃ pc ∈ ([⟨r0_17, p0⟩] : List (View.Piece (Elt F) S32x1024 .f32)), y ∈ pc.1.set :=
  View.cover_of_tiled [⟨r0_17, p0⟩] S32x1024.size (by rfl) y

/-- Window 21's staging buffer after the body, from the input windows' blocks: its 1 store as pieces, LAST
    FIRST (Lib/Pipeline/FrameBody.lean `View.canon`; the payloads are the skeleton's and the values stated above). -/
def out0_21 (x0 : Vec F S8x128x1024 .bf16) (x1 : Vec F S8x32x1024 .bf16) (x2 : Vec F S8x32x1024 .bf16) (x3 : Vec F S8x128x1024 .bf16) (x4 : Vec F S1024x128 .f32) (x5 : Vec F S32x1024 .f32) (x6 : Vec F S32x1024 .f32) (x7 : Vec F S128x1024 .f32) (x8 : Vec F S1024x128 .f32) (x9 : Vec F S32x1024 .f32) (x10 : Vec F S32x1024 .f32) (x11 : Vec F S128x1024 .f32) (x12 : Vec F S1024x128 .f32) (x13 : Vec F S32x1024 .f32) (x14 : Vec F S32x1024 .f32) (x15 : Vec F S128x1024 .f32) : Vec F S32x1024 .f32 :=
  View.canon [⟨r0_17, k0_pay11 (k0_pay27 x0 x1 x2 x3 x4 x5 x6 x7 x8 x9 x10 x11 x12 x13 x14 x15) (View.ld x5 r0_17) (View.ld x9 r0_17) (View.ld x13 r0_17)⟩]

/-- Its stores tile the buffer (checked by evaluation), so they cover it. -/
theorem cover0_21 (p0 : Vec F S32x1024 .f32) (y : S32x1024.Idx) :
    ∃ pc ∈ ([⟨r0_17, p0⟩] : List (View.Piece (Elt F) S32x1024 .f32)), y ∈ pc.1.set :=
  View.cover_of_tiled [⟨r0_17, p0⟩] S32x1024.size (by rfl) y

/-- Window 22's staging buffer after the body, from the input windows' blocks: its 1 store as pieces, LAST
    FIRST (Lib/Pipeline/FrameBody.lean `View.canon`; the payloads are the skeleton's and the values stated above). -/
def out0_22 (x0 : Vec F S8x128x1024 .bf16) (x1 : Vec F S8x32x1024 .bf16) (x2 : Vec F S8x32x1024 .bf16) (x3 : Vec F S8x128x1024 .bf16) (x4 : Vec F S1024x128 .f32) (x5 : Vec F S32x1024 .f32) (x6 : Vec F S32x1024 .f32) (x7 : Vec F S128x1024 .f32) (x8 : Vec F S1024x128 .f32) (x9 : Vec F S32x1024 .f32) (x10 : Vec F S32x1024 .f32) (x11 : Vec F S128x1024 .f32) (x12 : Vec F S1024x128 .f32) (x13 : Vec F S32x1024 .f32) (x14 : Vec F S32x1024 .f32) (x15 : Vec F S128x1024 .f32) : Vec F S32x1024 .f32 :=
  View.canon [⟨r0_17, k0_pay9 (k0_pay27 x0 x1 x2 x3 x4 x5 x6 x7 x8 x9 x10 x11 x12 x13 x14 x15) (View.ld x9 r0_17)⟩]

/-- Its stores tile the buffer (checked by evaluation), so they cover it. -/
theorem cover0_22 (p0 : Vec F S32x1024 .f32) (y : S32x1024.Idx) :
    ∃ pc ∈ ([⟨r0_17, p0⟩] : List (View.Piece (Elt F) S32x1024 .f32)), y ∈ pc.1.set :=
  View.cover_of_tiled [⟨r0_17, p0⟩] S32x1024.size (by rfl) y

/-- Window 23's staging buffer after the body, from the input windows' blocks: its 1 store as pieces, LAST
    FIRST (Lib/Pipeline/FrameBody.lean `View.canon`; the payloads are the skeleton's and the values stated above). -/
def out0_23 (x0 : Vec F S8x128x1024 .bf16) (x1 : Vec F S8x32x1024 .bf16) (x2 : Vec F S8x32x1024 .bf16) (x3 : Vec F S8x128x1024 .bf16) (x4 : Vec F S1024x128 .f32) (x5 : Vec F S32x1024 .f32) (x6 : Vec F S32x1024 .f32) (x7 : Vec F S128x1024 .f32) (x8 : Vec F S1024x128 .f32) (x9 : Vec F S32x1024 .f32) (x10 : Vec F S32x1024 .f32) (x11 : Vec F S128x1024 .f32) (x12 : Vec F S1024x128 .f32) (x13 : Vec F S32x1024 .f32) (x14 : Vec F S32x1024 .f32) (x15 : Vec F S128x1024 .f32) : Vec F S32x1024 .f32 :=
  View.canon [⟨r0_17, k0_pay10 (k0_pay27 x0 x1 x2 x3 x4 x5 x6 x7 x8 x9 x10 x11 x12 x13 x14 x15) (View.ld x13 r0_17)⟩]

/-- Its stores tile the buffer (checked by evaluation), so they cover it. -/
theorem cover0_23 (p0 : Vec F S32x1024 .f32) (y : S32x1024.Idx) :
    ∃ pc ∈ ([⟨r0_17, p0⟩] : List (View.Piece (Elt F) S32x1024 .f32)), y ∈ pc.1.set :=
  View.cover_of_tiled [⟨r0_17, p0⟩] S32x1024.size (by rfl) y

/-- Window 24's staging buffer after the body, from the input windows' blocks: its 1 store as pieces, LAST
    FIRST (Lib/Pipeline/FrameBody.lean `View.canon`; the payloads are the skeleton's and the values stated above). -/
def out0_24 (x0 : Vec F S8x128x1024 .bf16) (x1 : Vec F S8x32x1024 .bf16) (x2 : Vec F S8x32x1024 .bf16) (x3 : Vec F S8x128x1024 .bf16) (x4 : Vec F S1024x128 .f32) (x5 : Vec F S32x1024 .f32) (x6 : Vec F S32x1024 .f32) (x7 : Vec F S128x1024 .f32) (x8 : Vec F S1024x128 .f32) (x9 : Vec F S32x1024 .f32) (x10 : Vec F S32x1024 .f32) (x11 : Vec F S128x1024 .f32) (x12 : Vec F S1024x128 .f32) (x13 : Vec F S32x1024 .f32) (x14 : Vec F S32x1024 .f32) (x15 : Vec F S128x1024 .f32) : Vec F S32x1024 .f32 :=
  View.canon [⟨r0_17, k0_pay14 (k0_pay28 x0 x1 x2 x3 x4 x5 x6 x7 x8 x9 x10 x11 x12 x13 x14 x15) (k0_pay29 x0 x1 x2 x3 x4 x5 x6 x7 x8 x9 x10 x11 x12 x13 x14 x15) (View.ld x2 r0_11) (View.ld x2 r0_12) (View.ld x2 r0_13) (View.ld x2 r0_14) (View.ld x2 r0_15) (View.ld x2 r0_16)⟩]

/-- Its stores tile the buffer (checked by evaluation), so they cover it. -/
theorem cover0_24 (p0 : Vec F S32x1024 .f32) (y : S32x1024.Idx) :
    ∃ pc ∈ ([⟨r0_17, p0⟩] : List (View.Piece (Elt F) S32x1024 .f32)), y ∈ pc.1.set :=
  View.cover_of_tiled [⟨r0_17, p0⟩] S32x1024.size (by rfl) y

/-- Window 25's staging buffer after the body, from the input windows' blocks: its 1 store as pieces, LAST
    FIRST (Lib/Pipeline/FrameBody.lean `View.canon`; the payloads are the skeleton's and the values stated above). -/
def out0_25 (x0 : Vec F S8x128x1024 .bf16) (x1 : Vec F S8x32x1024 .bf16) (x2 : Vec F S8x32x1024 .bf16) (x3 : Vec F S8x128x1024 .bf16) (x4 : Vec F S1024x128 .f32) (x5 : Vec F S32x1024 .f32) (x6 : Vec F S32x1024 .f32) (x7 : Vec F S128x1024 .f32) (x8 : Vec F S1024x128 .f32) (x9 : Vec F S32x1024 .f32) (x10 : Vec F S32x1024 .f32) (x11 : Vec F S128x1024 .f32) (x12 : Vec F S1024x128 .f32) (x13 : Vec F S32x1024 .f32) (x14 : Vec F S32x1024 .f32) (x15 : Vec F S128x1024 .f32) : Vec F S32x1024 .f32 :=
  View.canon [⟨r0_17, k0_pay18 (k0_pay30 x0 x1 x2 x3 x4 x5 x6 x7 x8 x9 x10 x11 x12 x13 x14 x15) (View.ld x6 r0_17) (View.ld x14 r0_17) (k0_pay31 x0 x1 x2 x3 x4 x5 x6 x7 x8 x9 x10 x11 x12 x13 x14 x15) (Scalar.ofBits .f32 0x3DCCCCCD#32)⟩]

/-- Its stores tile the buffer (checked by evaluation), so they cover it. -/
theorem cover0_25 (p0 : Vec F S32x1024 .f32) (y : S32x1024.Idx) :
    ∃ pc ∈ ([⟨r0_17, p0⟩] : List (View.Piece (Elt F) S32x1024 .f32)), y ∈ pc.1.set :=
  View.cover_of_tiled [⟨r0_17, p0⟩] S32x1024.size (by rfl) y

/-- Window 26's staging buffer after the body, from the input windows' blocks: its 1 store as pieces, LAST
    FIRST (Lib/Pipeline/FrameBody.lean `View.canon`; the payloads are the skeleton's and the values stated above). -/
def out0_26 (x0 : Vec F S8x128x1024 .bf16) (x1 : Vec F S8x32x1024 .bf16) (x2 : Vec F S8x32x1024 .bf16) (x3 : Vec F S8x128x1024 .bf16) (x4 : Vec F S1024x128 .f32) (x5 : Vec F S32x1024 .f32) (x6 : Vec F S32x1024 .f32) (x7 : Vec F S128x1024 .f32) (x8 : Vec F S1024x128 .f32) (x9 : Vec F S32x1024 .f32) (x10 : Vec F S32x1024 .f32) (x11 : Vec F S128x1024 .f32) (x12 : Vec F S1024x128 .f32) (x13 : Vec F S32x1024 .f32) (x14 : Vec F S32x1024 .f32) (x15 : Vec F S128x1024 .f32) : Vec F S32x1024 .f32 :=
  View.canon [⟨r0_17, k0_pay16 (k0_pay30 x0 x1 x2 x3 x4 x5 x6 x7 x8 x9 x10 x11 x12 x13 x14 x15) (k0_pay31 x0 x1 x2 x3 x4 x5 x6 x7 x8 x9 x10 x11 x12 x13 x14 x15) (Scalar.ofBits .f32 0x3DCCCCCD#32)⟩]

/-- Its stores tile the buffer (checked by evaluation), so they cover it. -/
theorem cover0_26 (p0 : Vec F S32x1024 .f32) (y : S32x1024.Idx) :
    ∃ pc ∈ ([⟨r0_17, p0⟩] : List (View.Piece (Elt F) S32x1024 .f32)), y ∈ pc.1.set :=
  View.cover_of_tiled [⟨r0_17, p0⟩] S32x1024.size (by rfl) y

/-- Window 27's staging buffer after the body, from the input windows' blocks: its 1 store as pieces, LAST
    FIRST (Lib/Pipeline/FrameBody.lean `View.canon`; the payloads are the skeleton's and the values stated above). -/
def out0_27 (x0 : Vec F S8x128x1024 .bf16) (x1 : Vec F S8x32x1024 .bf16) (x2 : Vec F S8x32x1024 .bf16) (x3 : Vec F S8x128x1024 .bf16) (x4 : Vec F S1024x128 .f32) (x5 : Vec F S32x1024 .f32) (x6 : Vec F S32x1024 .f32) (x7 : Vec F S128x1024 .f32) (x8 : Vec F S1024x128 .f32) (x9 : Vec F S32x1024 .f32) (x10 : Vec F S32x1024 .f32) (x11 : Vec F S128x1024 .f32) (x12 : Vec F S1024x128 .f32) (x13 : Vec F S32x1024 .f32) (x14 : Vec F S32x1024 .f32) (x15 : Vec F S128x1024 .f32) : Vec F S32x1024 .f32 :=
  View.canon [⟨r0_17, k0_pay17 (k0_pay30 x0 x1 x2 x3 x4 x5 x6 x7 x8 x9 x10 x11 x12 x13 x14 x15) (View.ld x14 r0_17)⟩]

/-- Its stores tile the buffer (checked by evaluation), so they cover it. -/
theorem cover0_27 (p0 : Vec F S32x1024 .f32) (y : S32x1024.Idx) :
    ∃ pc ∈ ([⟨r0_17, p0⟩] : List (View.Piece (Elt F) S32x1024 .f32)), y ∈ pc.1.set :=
  View.cover_of_tiled [⟨r0_17, p0⟩] S32x1024.size (by rfl) y

/-- Window 28's staging buffer after the body, from the input windows' blocks: its 1 store as pieces, LAST
    FIRST (Lib/Pipeline/FrameBody.lean `View.canon`; the payloads are the skeleton's and the values stated above). -/
def out0_28 (x0 : Vec F S8x128x1024 .bf16) (x1 : Vec F S8x32x1024 .bf16) (x2 : Vec F S8x32x1024 .bf16) (x3 : Vec F S8x128x1024 .bf16) (x4 : Vec F S1024x128 .f32) (x5 : Vec F S32x1024 .f32) (x6 : Vec F S32x1024 .f32) (x7 : Vec F S128x1024 .f32) (x8 : Vec F S1024x128 .f32) (x9 : Vec F S32x1024 .f32) (x10 : Vec F S32x1024 .f32) (x11 : Vec F S128x1024 .f32) (x12 : Vec F S1024x128 .f32) (x13 : Vec F S32x1024 .f32) (x14 : Vec F S32x1024 .f32) (x15 : Vec F S128x1024 .f32) : Vec F S128x1024 .f32 :=
  View.canon [⟨r0_18, k0_pay21 (k0_pay32 x0 x1 x2 x3 x4 x5 x6 x7 x8 x9 x10 x11 x12 x13 x14 x15) (k0_pay33 x0 x1 x2 x3 x4 x5 x6 x7 x8 x9 x10 x11 x12 x13 x14 x15) (View.ld x3 r0_3) (View.ld x3 r0_4) (View.ld x3 r0_5) (View.ld x3 r0_6) (View.ld x3 r0_7)⟩]

/-- Its stores tile the buffer (checked by evaluation), so they cover it. -/
theorem cover0_28 (p0 : Vec F S128x1024 .f32) (y : S128x1024.Idx) :
    ∃ pc ∈ ([⟨r0_18, p0⟩] : List (View.Piece (Elt F) S128x1024 .f32)), y ∈ pc.1.set :=
  View.cover_of_tiled [⟨r0_18, p0⟩] S128x1024.size (by rfl) y

/-- Window 29's staging buffer after the body, from the input windows' blocks: its 1 store as pieces, LAST
    FIRST (Lib/Pipeline/FrameBody.lean `View.canon`; the payloads are the skeleton's and the values stated above). -/
def out0_29 (x0 : Vec F S8x128x1024 .bf16) (x1 : Vec F S8x32x1024 .bf16) (x2 : Vec F S8x32x1024 .bf16) (x3 : Vec F S8x128x1024 .bf16) (x4 : Vec F S1024x128 .f32) (x5 : Vec F S32x1024 .f32) (x6 : Vec F S32x1024 .f32) (x7 : Vec F S128x1024 .f32) (x8 : Vec F S1024x128 .f32) (x9 : Vec F S32x1024 .f32) (x10 : Vec F S32x1024 .f32) (x11 : Vec F S128x1024 .f32) (x12 : Vec F S1024x128 .f32) (x13 : Vec F S32x1024 .f32) (x14 : Vec F S32x1024 .f32) (x15 : Vec F S128x1024 .f32) : Vec F S128x1024 .f32 :=
  View.canon [⟨r0_18, k0_pay2 (View.ld x7 r0_18) (k0_pay34 x0 x1 x2 x3 x4 x5 x6 x7 x8 x9 x10 x11 x12 x13 x14 x15) (k0_pay35 x0 x1 x2 x3 x4 x5 x6 x7 x8 x9 x10 x11 x12 x13 x14 x15) (k0_pay36 x0 x1 x2 x3 x4 x5 x6 x7 x8 x9 x10 x11 x12 x13 x14 x15)⟩]

/-- Its stores tile the buffer (checked by evaluation), so they cover it. -/
theorem cover0_29 (p0 : Vec F S128x1024 .f32) (y : S128x1024.Idx) :
    ∃ pc ∈ ([⟨r0_18, p0⟩] : List (View.Piece (Elt F) S128x1024 .f32)), y ∈ pc.1.set :=
  View.cover_of_tiled [⟨r0_18, p0⟩] S128x1024.size (by rfl) y

/-- Window 30's staging buffer after the body, from the input windows' blocks: its 1 store as pieces, LAST
    FIRST (Lib/Pipeline/FrameBody.lean `View.canon`; the payloads are the skeleton's and the values stated above). -/
def out0_30 (x0 : Vec F S8x128x1024 .bf16) (x1 : Vec F S8x32x1024 .bf16) (x2 : Vec F S8x32x1024 .bf16) (x3 : Vec F S8x128x1024 .bf16) (x4 : Vec F S1024x128 .f32) (x5 : Vec F S32x1024 .f32) (x6 : Vec F S32x1024 .f32) (x7 : Vec F S128x1024 .f32) (x8 : Vec F S1024x128 .f32) (x9 : Vec F S32x1024 .f32) (x10 : Vec F S32x1024 .f32) (x11 : Vec F S128x1024 .f32) (x12 : Vec F S1024x128 .f32) (x13 : Vec F S32x1024 .f32) (x14 : Vec F S32x1024 .f32) (x15 : Vec F S128x1024 .f32) : Vec F S128x1024 .f32 :=
  View.canon [⟨r0_18, k0_pay34 x0 x1 x2 x3 x4 x5 x6 x7 x8 x9 x10 x11 x12 x13 x14 x15⟩]

/-- Its stores tile the buffer (checked by evaluation), so they cover it. -/
theorem cover0_30 (p0 : Vec F S128x1024 .f32) (y : S128x1024.Idx) :
    ∃ pc ∈ ([⟨r0_18, p0⟩] : List (View.Piece (Elt F) S128x1024 .f32)), y ∈ pc.1.set :=
  View.cover_of_tiled [⟨r0_18, p0⟩] S128x1024.size (by rfl) y

/-- Window 31's staging buffer after the body, from the input windows' blocks: its 1 store as pieces, LAST
    FIRST (Lib/Pipeline/FrameBody.lean `View.canon`; the payloads are the skeleton's and the values stated above). -/
def out0_31 (x0 : Vec F S8x128x1024 .bf16) (x1 : Vec F S8x32x1024 .bf16) (x2 : Vec F S8x32x1024 .bf16) (x3 : Vec F S8x128x1024 .bf16) (x4 : Vec F S1024x128 .f32) (x5 : Vec F S32x1024 .f32) (x6 : Vec F S32x1024 .f32) (x7 : Vec F S128x1024 .f32) (x8 : Vec F S1024x128 .f32) (x9 : Vec F S32x1024 .f32) (x10 : Vec F S32x1024 .f32) (x11 : Vec F S128x1024 .f32) (x12 : Vec F S1024x128 .f32) (x13 : Vec F S32x1024 .f32) (x14 : Vec F S32x1024 .f32) (x15 : Vec F S128x1024 .f32) : Vec F S128x1024 .f32 :=
  View.canon [⟨r0_18, k0_pay1 (k0_pay35 x0 x1 x2 x3 x4 x5 x6 x7 x8 x9 x10 x11 x12 x13 x14 x15) (k0_pay36 x0 x1 x2 x3 x4 x5 x6 x7 x8 x9 x10 x11 x12 x13 x14 x15)⟩]

/-- Its stores tile the buffer (checked by evaluation), so they cover it. -/
theorem cover0_31 (p0 : Vec F S128x1024 .f32) (y : S128x1024.Idx) :
    ∃ pc ∈ ([⟨r0_18, p0⟩] : List (View.Piece (Elt F) S128x1024 .f32)), y ∈ pc.1.set :=
  View.cover_of_tiled [⟨r0_18, p0⟩] S128x1024.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S8x128x1024 .bf16) (harg1 : arg1.IsWhole) (arg2 : Memref sig .tc .vmem S8x32x1024 .bf16) (harg2 : arg2.IsWhole) (arg3 : Memref sig .tc .vmem S8x32x1024 .bf16) (harg3 : arg3.IsWhole) (arg4 : Memref sig .tc .vmem S8x128x1024 .bf16) (harg4 : arg4.IsWhole) (arg5 : Memref sig .tc .vmem S1024x128 .f32) (harg5 : arg5.IsWhole) (arg6 : Memref sig .tc .vmem S32x1024 .f32) (harg6 : arg6.IsWhole) (arg7 : Memref sig .tc .vmem S32x1024 .f32) (harg7 : arg7.IsWhole) (arg8 : Memref sig .tc .vmem S128x1024 .f32) (harg8 : arg8.IsWhole) (arg9 : Memref sig .tc .vmem S1024x128 .f32) (harg9 : arg9.IsWhole) (arg10 : Memref sig .tc .vmem S32x1024 .f32) (harg10 : arg10.IsWhole) (arg11 : Memref sig .tc .vmem S32x1024 .f32) (harg11 : arg11.IsWhole) (arg12 : Memref sig .tc .vmem S128x1024 .f32) (harg12 : arg12.IsWhole) (arg13 : Memref sig .tc .vmem S1024x128 .f32) (harg13 : arg13.IsWhole) (arg14 : Memref sig .tc .vmem S32x1024 .f32) (harg14 : arg14.IsWhole) (arg15 : Memref sig .tc .vmem S32x1024 .f32) (harg15 : arg15.IsWhole) (arg16 : Memref sig .tc .vmem S128x1024 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S32x1024 .f32) (harg21 : arg21.IsWhole) (arg22 : Memref sig .tc .vmem S32x1024 .f32) (harg22 : arg22.IsWhole) (arg23 : Memref sig .tc .vmem S32x1024 .f32) (harg23 : arg23.IsWhole) (arg24 : Memref sig .tc .vmem S32x1024 .f32) (harg24 : arg24.IsWhole) (arg25 : Memref sig .tc .vmem S32x1024 .f32) (harg25 : arg25.IsWhole) (arg26 : Memref sig .tc .vmem S32x1024 .f32) (harg26 : arg26.IsWhole) (arg27 : Memref sig .tc .vmem S32x1024 .f32) (harg27 : arg27.IsWhole) (arg28 : Memref sig .tc .vmem S32x1024 .f32) (harg28 : arg28.IsWhole) (arg29 : Memref sig .tc .vmem S128x1024 .f32) (harg29 : arg29.IsWhole) (arg30 : Memref sig .tc .vmem S128x1024 .f32) (harg30 : arg30.IsWhole) (arg31 : Memref sig .tc .vmem S128x1024 .f32) (harg31 : arg31.IsWhole) (arg32 : Memref sig .tc .vmem S128x1024 .f32) (harg32 : arg32.IsWhole)
    (x0 : Vec F S8x128x1024 .bf16) (x1 : Vec F S8x32x1024 .bf16) (x2 : Vec F S8x32x1024 .bf16) (x3 : Vec F S8x128x1024 .bf16) (x4 : Vec F S1024x128 .f32) (x5 : Vec F S32x1024 .f32) (x6 : Vec F S32x1024 .f32) (x7 : Vec F S128x1024 .f32) (x8 : Vec F S1024x128 .f32) (x9 : Vec F S32x1024 .f32) (x10 : Vec F S32x1024 .f32) (x11 : Vec F S128x1024 .f32) (x12 : Vec F S1024x128 .f32) (x13 : Vec F S32x1024 .f32) (x14 : Vec F S32x1024 .f32) (x15 : Vec F S128x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare (out0_16 x0 x1 x2 x3 x4 x5 x6 x7 x8 x9 x10 x11 x12 x13 x14 x15) ∗ owns (c : Thread nD τ) arg18 fullShare (out0_17 x0 x1 x2 x3 x4 x5 x6 x7 x8 x9 x10 x11 x12 x13 x14 x15) ∗ owns (c : Thread nD τ) arg19 fullShare (out0_18 x0 x1 x2 x3 x4 x5 x6 x7 x8 x9 x10 x11 x12 x13 x14 x15) ∗ owns (c : Thread nD τ) arg20 fullShare (out0_19 x0 x1 x2 x3 x4 x5 x6 x7 x8 x9 x10 x11 x12 x13 x14 x15) ∗ owns (c : Thread nD τ) arg21 fullShare (out0_20 x0 x1 x2 x3 x4 x5 x6 x7 x8 x9 x10 x11 x12 x13 x14 x15) ∗ owns (c : Thread nD τ) arg22 fullShare (out0_21 x0 x1 x2 x3 x4 x5 x6 x7 x8 x9 x10 x11 x12 x13 x14 x15) ∗ owns (c : Thread nD τ) arg23 fullShare (out0_22 x0 x1 x2 x3 x4 x5 x6 x7 x8 x9 x10 x11 x12 x13 x14 x15) ∗ owns (c : Thread nD τ) arg24 fullShare (out0_23 x0 x1 x2 x3 x4 x5 x6 x7 x8 x9 x10 x11 x12 x13 x14 x15) ∗ owns (c : Thread nD τ) arg25 fullShare (out0_24 x0 x1 x2 x3 x4 x5 x6 x7 x8 x9 x10 x11 x12 x13 x14 x15) ∗ owns (c : Thread nD τ) arg26 fullShare (out0_25 x0 x1 x2 x3 x4 x5 x6 x7 x8 x9 x10 x11 x12 x13 x14 x15) ∗ owns (c : Thread nD τ) arg27 fullShare (out0_26 x0 x1 x2 x3 x4 x5 x6 x7 x8 x9 x10 x11 x12 x13 x14 x15) ∗ owns (c : Thread nD τ) arg28 fullShare (out0_27 x0 x1 x2 x3 x4 x5 x6 x7 x8 x9 x10 x11 x12 x13 x14 x15) ∗ owns (c : Thread nD τ) arg29 fullShare (out0_28 x0 x1 x2 x3 x4 x5 x6 x7 x8 x9 x10 x11 x12 x13 x14 x15) ∗ owns (c : Thread nD τ) arg30 fullShare (out0_29 x0 x1 x2 x3 x4 x5 x6 x7 x8 x9 x10 x11 x12 x13 x14 x15) ∗ owns (c : Thread nD τ) arg31 fullShare (out0_30 x0 x1 x2 x3 x4 x5 x6 x7 x8 x9 x10 x11 x12 x13 x14 x15) ∗ owns (c : Thread nD τ) arg32 fullShare (out0_31 x0 x1 x2 x3 x4 x5 x6 x7 x8 x9 x10 x11 x12 x13 x14 x15)) -∗ K ⟨⟩))
      ⊢ wp frame (wpE (defs₀ (F := F)) Variants.none c none) E (cc0_sum_adamw i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) K := by
  simp only [cc0_sum_adamw_eq_skeleton]; unfold cc0_sum_adamw_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, Hk⟩
  subst hf0 hf1 hf2 hf3 hf4 hf5 hf6 hf7 hf8 hf9 hf10 hf11 hf12 hf13 hf14 hf15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; isplitr
    swap; · iexact H16
    ipureintro
    refine (View.read_writes_eq_canon _ _ _ (cover0_16 _)).trans ?_
    rfl
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _)).trans ?_
    rfl
  isplitl [H21]
  · iexists _; isplitr
    swap; · iexact H21
    ipureintro
    refine (View.read_writes_eq_canon _ _ _ (cover0_21 _)).trans ?_
    rfl
  isplitl [H22]
  · iexists _; isplitr
    swap; · iexact H22
    ipureintro
    refine (View.read_writes_eq_canon _ _ _ (cover0_22 _)).trans ?_
    rfl
  isplitl [H23]
  · iexists _; isplitr
    swap; · iexact H23
    ipureintro
    refine (View.read_writes_eq_canon _ _ _ (cover0_23 _)).trans ?_
    rfl
  isplitl [H24]
  · iexists _; isplitr
    swap; · iexact H24
    ipureintro
    refine (View.read_writes_eq_canon _ _ _ (cover0_24 _)).trans ?_
    rfl
  isplitl [H25]
  · iexists _; isplitr
    swap; · iexact H25
    ipureintro
    refine (View.read_writes_eq_canon _ _ _ (cover0_25 _)).trans ?_
    rfl
  isplitl [H26]
  · iexists _; isplitr
    swap; · iexact H26
    ipureintro
    refine (View.read_writes_eq_canon _ _ _ (cover0_26 _)).trans ?_
    rfl
  isplitl [H27]
  · iexists _; isplitr
    swap; · iexact H27
    ipureintro
    refine (View.read_writes_eq_canon _ _ _ (cover0_27 _)).trans ?_
    rfl
  isplitl [H28]
  · iexists _; isplitr
    swap; · iexact H28
    ipureintro
    refine (View.read_writes_eq_canon _ _ _ (cover0_28 _)).trans ?_
    rfl
  isplitl [H29]
  · iexists _; isplitr
    swap; · iexact H29
    ipureintro
    refine (View.read_writes_eq_canon _ _ _ (cover0_29 _)).trans ?_
    rfl
  isplitl [H30]
  · iexists _; isplitr
    swap; · iexact H30
    ipureintro
    refine (View.read_writes_eq_canon _ _ _ (cover0_30 _)).trans ?_
    rfl
  iexists _; isplitr
  swap; · iexact H31
  ipureintro
  refine (View.read_writes_eq_canon _ _ _ (cover0_31 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨24, _⟩ => out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨25, _⟩ => out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨26, _⟩ => out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨27, _⟩ => out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨28, _⟩ => out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨29, _⟩ => out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨30, _⟩ => out0_30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨31, _⟩ => out0_31 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨_ + 32, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_24 (c : Dev nD) (t : Fin cfg0.N) : (dats m 0 c).after 24 t = out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_25 (c : Dev nD) (t : Fin cfg0.N) : (dats m 0 c).after 25 t = out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_26 (c : Dev nD) (t : Fin cfg0.N) : (dats m 0 c).after 26 t = out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_27 (c : Dev nD) (t : Fin cfg0.N) : (dats m 0 c).after 27 t = out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_28 (c : Dev nD) (t : Fin cfg0.N) : (dats m 0 c).after 28 t = out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_29 (c : Dev nD) (t : Fin cfg0.N) : (dats m 0 c).after 29 t = out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_30 (c : Dev nD) (t : Fin cfg0.N) : (dats m 0 c).after 30 t = out0_30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_31 (c : Dev nD) (t : Fin cfg0.N) : (dats m 0 c).after 31 t = out0_31 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t))

set_option maxHeartbeats 4000000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  iintro ⟨H0, H1, H2, H3, H4, H5, H6, H7, H8, H9, H10, H11, H12, H13, H14, H15, H16, H17, H18, H19, H20, H21, H22, H23, H24, H25, H26, H27, H28, H29, H30, H31⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  iexact H31

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (dats m) (A_eq m) (run_main m ρ)

/-- THE FRAME: `Cert.quiescent_Kernel9Ideal`'s statement (Defs.lean) at any `F` — Proof.lean cites it at `Bits`:
    `theorem Cert.Proof.claim : Cert.Claim := ⟨Cert.Kernel9Ideal.Gen.facts, fun m ρ _ => Cert.Kernel9Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (unchanged m ρ) ((θ_run defs _ _).mono (fun _ h => h.2) (run_main_quiescent m ρ))

end Cert.Kernel9Ideal.Gen

end
-- ==== Proof.AdamPay.lean ====
module

public import proofs.«01_k».proof.Proof.AdamFrame
public import Idealize.ShloMosaic.Lib.Pipeline.ValueKit
public import Idealize.ShloMosaic.Lib.Claim

@[expose] public section

set_option maxRecDepth 16384

noncomputable section

/-! The optimiser's step on one entry, and what a grid point leaves in each of the sixteen results, entry by entry. -/

namespace Cert.Opt
open Idealize.ShloMosaic
open scoped BigOperators

/-- The sum of eight terms, in order. -/
def s8 (f : Fin 8 → EReal) : EReal := f 0 + f 1 + f 2 + f 3 + f 4 + f 5 + f 6 + f 7
theorem s8_eq (f : Fin 8 → EReal) : s8 f = ∑ j, f j := (Fin.sum_univ_eight f).symm
/-- The new first moment. -/
def am (g m : EReal) : EReal := Ideal.ofBits FTy.f32 1063675494#32 * m + Ideal.ofBits FTy.f32 1036831949#32 * g
/-- The new second moment. -/
def av (g v : EReal) : EReal := Ideal.ofBits FTy.f32 1065336439#32 * v + Ideal.ofBits FTy.f32 981668463#32 * (g * g)
/-- The step. -/
def ad (g w m v : EReal) : EReal :=
  Ideal.ofBits FTy.f32 3129152111#32 * (Ideal.div (Ideal.div (am g m) (Ideal.ofBits FTy.f32 1059503362#32))
    (Ideal.sqrt (Ideal.div (av g v) (Ideal.ofBits FTy.f32 1008933580#32)) + Ideal.ofBits FTy.f32 841731191#32)
    + Ideal.ofBits FTy.f32 1008981770#32 * w)

end Cert.Opt

namespace Cert.Kernel9Ideal.Val
open Cert.Kernel9Ideal Cert.Kernel9Ideal.Gen Idealize.ShloMosaic Idealize.ShloMosaic.TcCoe Idealize.SL.Sem
open Cert.Opt
open scoped BigOperators

/-- One piece over the whole buffer leaves its payload. -/
theorem whole0 (P : Vec Ideal S1024x128 .f32) : View.canon [⟨r0_8, P⟩] = P := by
  funext y
  obtain ⟨a, b, rfl⟩ : ∃ (a : Fin 1024) (b : Fin 128), y = ix2 a b := ⟨y 0, y 1, eq_ix2 y⟩
  canon_tiles x h
  have e0 : a = x 0 := Fin.ext h0
  have e1 : b = x 1 := Fin.ext h1
  rw [e0, e1]
  exact congrArg P (eq_ix2 x)

/-- One piece over the whole buffer leaves its payload. -/
theorem whole1 (P : Vec Ideal S32x1024 .f32) : View.canon [⟨r0_17, P⟩] = P := by
  funext y
  obtain ⟨a, b, rfl⟩ : ∃ (a : Fin 32) (b : Fin 1024), y = ix2 a b := ⟨y 0, y 1, eq_ix2 y⟩
  canon_tiles x h
  have e0 : a = x 0 := Fin.ext h0
  have e1 : b = x 1 := Fin.ext h1
  rw [e0, e1]
  exact congrArg P (eq_ix2 x)

/-- One piece over the whole buffer leaves its payload. -/
theorem whole3 (P : Vec Ideal S128x1024 .f32) : View.canon [⟨r0_18, P⟩] = P := by
  funext y
  obtain ⟨a, b, rfl⟩ : ∃ (a : Fin 128) (b : Fin 1024), y = ix2 a b := ⟨y 0, y 1, eq_ix2 y⟩
  canon_tiles x h
  have e0 : a = x 0 := Fin.ext h0
  have e1 : b = x 1 := Fin.ext h1
  rw [e0, e1]
  exact congrArg P (eq_ix2 x)

section point
variable (x0 : Vec Ideal S8x128x1024 .bf16)
variable (x1 : Vec Ideal S8x32x1024 .bf16)
variable (x2 : Vec Ideal S8x32x1024 .bf16)
variable (x3 : Vec Ideal S8x128x1024 .bf16)
variable (x4 : Vec Ideal S1024x128 .f32)
variable (x5 : Vec Ideal S32x1024 .f32)
variable (x6 : Vec Ideal S32x1024 .f32)
variable (x7 : Vec Ideal S128x1024 .f32)
variable (x8 : Vec Ideal S1024x128 .f32)
variable (x9 : Vec Ideal S32x1024 .f32)
variable (x10 : Vec Ideal S32x1024 .f32)
variable (x11 : Vec Ideal S128x1024 .f32)
variable (x12 : Vec Ideal S1024x128 .f32)
variable (x13 : Vec Ideal S32x1024 .f32)
variable (x14 : Vec Ideal S32x1024 .f32)
variable (x15 : Vec Ideal S128x1024 .f32)

set_option maxHeartbeats 1000000 in
theorem o16 (a : Fin 1024) (b : Fin 128) : (out0_16 (F := Ideal) x0 x1 x2 x3 x4 x5 x6 x7 x8 x9 x10 x11 x12 x13 x14 x15 (ix2 a b) : EReal)
    = (s8 fun j => (x0 (ix3 j b a) : EReal)) := by
  unfold out0_16
  rw [whole0]
  show (_ : EReal) = _
  pointwise [k0_pay25, k0_pay3, k0_pay6, k0_pay4, k0_pay5, s8, am, av, ad]
  all_goals rfl

set_option maxHeartbeats 1000000 in
theorem o17 (a : Fin 1024) (b : Fin 128) : (out0_17 (F := Ideal) x0 x1 x2 x3 x4 x5 x6 x7 x8 x9 x10 x11 x12 x13 x14 x15 (ix2 a b) : EReal)
    = ad (s8 fun j => (x0 (ix3 j b a) : EReal)) (x4 (ix2 a b)) (x8 (ix2 a b)) (x12 (ix2 a b)) := by
  unfold out0_17
  rw [whole0]
  show (_ : EReal) = _
  pointwise [k0_pay25, k0_pay3, k0_pay6, k0_pay4, k0_pay5, s8, am, av, ad]
  all_goals rfl

set_option maxHeartbeats 1000000 in
theorem o18 (a : Fin 1024) (b : Fin 128) : (out0_18 (F := Ideal) x0 x1 x2 x3 x4 x5 x6 x7 x8 x9 x10 x11 x12 x13 x14 x15 (ix2 a b) : EReal)
    = am (s8 fun j => (x0 (ix3 j b a) : EReal)) (x8 (ix2 a b)) := by
  unfold out0_18
  rw [whole0]
  show (_ : EReal) = _
  pointwise [k0_pay25, k0_pay3, k0_pay6, k0_pay4, k0_pay5, s8, am, av, ad]
  all_goals rfl

set_option maxHeartbeats 1000000 in
theorem o19 (a : Fin 1024) (b : Fin 128) : (out0_19 (F := Ideal) x0 x1 x2 x3 x4 x5 x6 x7 x8 x9 x10 x11 x12 x13 x14 x15 (ix2 a b) : EReal)
    = av (s8 fun j => (x0 (ix3 j b a) : EReal)) (x12 (ix2 a b)) := by
  unfold out0_19
  rw [whole0]
  show (_ : EReal) = _
  pointwise [k0_pay25, k0_pay3, k0_pay6, k0_pay4, k0_pay5, s8, am, av, ad]
  all_goals rfl

set_option maxHeartbeats 1000000 in
theorem o20 (a : Fin 32) (b : Fin 1024) : (out0_20 (F := Ideal) x0 x1 x2 x3 x4 x5 x6 x7 x8 x9 x10 x11 x12 x13 x14 x15 (ix2 a b) : EReal)
    = (s8 fun j => (x1 (ix3 j a b) : EReal)) := by
  unfold out0_20
  rw [whole1]
  show (_ : EReal) = _
  pointwise [k0_pay11, k0_pay27, k0_pay8, k0_pay26, k0_pay7, k0_pay9, k0_pay10, s8, am, av, ad]
  all_goals rfl

set_option maxHeartbeats 1000000 in
theorem o21 (a : Fin 32) (b : Fin 1024) : (out0_21 (F := Ideal) x0 x1 x2 x3 x4 x5 x6 x7 x8 x9 x10 x11 x12 x13 x14 x15 (ix2 a b) : EReal)
    = ad (s8 fun j => (x1 (ix3 j a b) : EReal)) (x5 (ix2 a b)) (x9 (ix2 a b)) (x13 (ix2 a b)) := by
  unfold out0_21
  rw [whole1]
  show (_ : EReal) = _
  pointwise [k0_pay11, k0_pay27, k0_pay8, k0_pay26, k0_pay7, k0_pay9, k0_pay10, s8, am, av, ad]
  all_goals rfl

set_option maxHeartbeats 1000000 in
theorem o22 (a : Fin 32) (b : Fin 1024) : (out0_22 (F := Ideal) x0 x1 x2 x3 x4 x5 x6 x7 x8 x9 x10 x11 x12 x13 x14 x15 (ix2 a b) : EReal)
    = am (s8 fun j => (x1 (ix3 j a b) : EReal)) (x9 (ix2 a b)) := by
  unfold out0_22
  rw [whole1]
  show (_ : EReal) = _
  pointwise [k0_pay11, k0_pay27, k0_pay8, k0_pay26, k0_pay7, k0_pay9, k0_pay10, s8, am, av, ad]
  all_goals rfl

set_option maxHeartbeats 1000000 in
theorem o23 (a : Fin 32) (b : Fin 1024) : (out0_23 (F := Ideal) x0 x1 x2 x3 x4 x5 x6 x7 x8 x9 x10 x11 x12 x13 x14 x15 (ix2 a b) : EReal)
    = av (s8 fun j => (x1 (ix3 j a b) : EReal)) (x13 (ix2 a b)) := by
  unfold out0_23
  rw [whole1]
  show (_ : EReal) = _
  pointwise [k0_pay11, k0_pay27, k0_pay8, k0_pay26, k0_pay7, k0_pay9, k0_pay10, s8, am, av, ad]
  all_goals rfl

set_option maxHeartbeats 1000000 in
theorem o24 (a : Fin 32) (b : Fin 1024) : (out0_24 (F := Ideal) x0 x1 x2 x3 x4 x5 x6 x7 x8 x9 x10 x11 x12 x13 x14 x15 (ix2 a b) : EReal)
    = (s8 fun j => (x2 (ix3 j a b) : EReal)) := by
  unfold out0_24
  rw [whole1]
  show (_ : EReal) = _
  pointwise [k0_pay18, k0_pay30, k0_pay14, k0_pay28, k0_pay29, k0_pay12, k0_pay13, k0_pay31, k0_pay15, k0_pay16, k0_pay17, s8, am, av, ad]
  all_goals rfl

set_option maxHeartbeats 1000000 in
theorem o25 (a : Fin 32) (b : Fin 1024) : (out0_25 (F := Ideal) x0 x1 x2 x3 x4 x5 x6 x7 x8 x9 x10 x11 x12 x13 x14 x15 (ix2 a b) : EReal)
    = ad (s8 fun j => (x2 (ix3 j a b) : EReal)) (x6 (ix2 a b)) (x10 (ix2 a b)) (x14 (ix2 a b)) := by
  unfold out0_25
  rw [whole1]
  show (_ : EReal) = _
  pointwise [k0_pay18, k0_pay30, k0_pay14, k0_pay28, k0_pay29, k0_pay12, k0_pay13, k0_pay31, k0_pay15, k0_pay16, k0_pay17, s8, am, av, ad]
  all_goals rfl

set_option maxHeartbeats 1000000 in
theorem o26 (a : Fin 32) (b : Fin 1024) : (out0_26 (F := Ideal) x0 x1 x2 x3 x4 x5 x6 x7 x8 x9 x10 x11 x12 x13 x14 x15 (ix2 a b) : EReal)
    = am (s8 fun j => (x2 (ix3 j a b) : EReal)) (x10 (ix2 a b)) := by
  unfold out0_26
  rw [whole1]
  show (_ : EReal) = _
  pointwise [k0_pay18, k0_pay30, k0_pay14, k0_pay28, k0_pay29, k0_pay12, k0_pay13, k0_pay31, k0_pay15, k0_pay16, k0_pay17, s8, am, av, ad]
  all_goals rfl

set_option maxHeartbeats 1000000 in
theorem o27 (a : Fin 32) (b : Fin 1024) : (out0_27 (F := Ideal) x0 x1 x2 x3 x4 x5 x6 x7 x8 x9 x10 x11 x12 x13 x14 x15 (ix2 a b) : EReal)
    = av (s8 fun j => (x2 (ix3 j a b) : EReal)) (x14 (ix2 a b)) := by
  unfold out0_27
  rw [whole1]
  show (_ : EReal) = _
  pointwise [k0_pay18, k0_pay30, k0_pay14, k0_pay28, k0_pay29, k0_pay12, k0_pay13, k0_pay31, k0_pay15, k0_pay16, k0_pay17, s8, am, av, ad]
  all_goals rfl

set_option maxHeartbeats 1000000 in
theorem o28 (a : Fin 128) (b : Fin 1024) : (out0_28 (F := Ideal) x0 x1 x2 x3 x4 x5 x6 x7 x8 x9 x10 x11 x12 x13 x14 x15 (ix2 a b) : EReal)
    = (s8 fun j => (x3 (ix3 j a b) : EReal)) := by
  unfold out0_28
  rw [whole3]
  show (_ : EReal) = _
  pointwise [k0_pay2, k0_pay34, k0_pay22, k0_pay35, k0_pay23, k0_pay36, k0_pay24, k0_pay1, k0_pay21, k0_pay32, k0_pay33, k0_pay19, k0_pay20, s8, am, av, ad]
  all_goals rfl

set_option maxHeartbeats 1000000 in
theorem o29 (a : Fin 128) (b : Fin 1024) : (out0_29 (F := Ideal) x0 x1 x2 x3 x4 x5 x6 x7 x8 x9 x10 x11 x12 x13 x14 x15 (ix2 a b) : EReal)
    = ad (s8 fun j => (x3 (ix3 j a b) : EReal)) (x7 (ix2 a b)) (x11 (ix2 a b)) (x15 (ix2 a b)) := by
  unfold out0_29
  rw [whole3]
  show (_ : EReal) = _
  pointwise [k0_pay2, k0_pay34, k0_pay22, k0_pay35, k0_pay23, k0_pay36, k0_pay24, k0_pay1, k0_pay21, k0_pay32, k0_pay33, k0_pay19, k0_pay20, s8, am, av, ad]
  all_goals rfl

set_option maxHeartbeats 1000000 in
theorem o30 (a : Fin 128) (b : Fin 1024) : (out0_30 (F := Ideal) x0 x1 x2 x3 x4 x5 x6 x7 x8 x9 x10 x11 x12 x13 x14 x15 (ix2 a b) : EReal)
    = am (s8 fun j => (x3 (ix3 j a b) : EReal)) (x11 (ix2 a b)) := by
  unfold out0_30
  rw [whole3]
  show (_ : EReal) = _
  pointwise [k0_pay2, k0_pay34, k0_pay22, k0_pay35, k0_pay23, k0_pay36, k0_pay24, k0_pay1, k0_pay21, k0_pay32, k0_pay33, k0_pay19, k0_pay20, s8, am, av, ad]
  all_goals rfl

set_option maxHeartbeats 1000000 in
theorem o31 (a : Fin 128) (b : Fin 1024) : (out0_31 (F := Ideal) x0 x1 x2 x3 x4 x5 x6 x7 x8 x9 x10 x11 x12 x13 x14 x15 (ix2 a b) : EReal)
    = av (s8 fun j => (x3 (ix3 j a b) : EReal)) (x15 (ix2 a b)) := by
  unfold out0_31
  rw [whole3]
  show (_ : EReal) = _
  pointwise [k0_pay2, k0_pay34, k0_pay22, k0_pay35, k0_pay23, k0_pay36, k0_pay24, k0_pay1, k0_pay21, k0_pay32, k0_pay33, k0_pay19, k0_pay20, s8, am, av, ad]
  all_goals rfl

end point

end Cert.Kernel9Ideal.Val
end
-- ==== Proof.AdamVal.lean ====
module

public import proofs.«01_k».proof.Proof.AdamPay
public import Idealize.ShloMosaic.Lib.Pipeline.Value

@[expose] public section

set_option maxRecDepth 16384

noncomputable section

/-! The arrays the sums and the optimiser's step of four weights leave, entry by entry, in the arguments. -/

namespace Cert.Kernel9Ideal.Val
open Cert.Kernel9Ideal Cert.Kernel9Ideal.Gen Idealize.ShloMosaic Idealize.ShloMosaic.TcCoe Idealize.SL.Sem
open Cert.Opt
open scoped BigOperators

section run
variable {F : FTy → Type} [FloatOps F]
variable (m : (ℓ : Loc nD τ sig) → Buf (Elt F) ℓ) (ρ : Dev nD → PrngReg)

set_option maxHeartbeats 4000000 in
/-- Every run leaves each result at its array, and the arguments unchanged. -/
theorem run_blocks : θ_run defs (onTc (τ := τ) (main (F := F))) ⟨m, fun _ => 0, ρ⟩ fun r => ∀ c : Dev nD,
      r.2.mem ((c : Thread nD τ).loc main_v5_0) = (dats m 0 c).arrAt 16 cfg0.N
      ∧ r.2.mem ((c : Thread nD τ).loc main_v5_1) = (dats m 0 c).arrAt 17 cfg0.N
      ∧ r.2.mem ((c : Thread nD τ).loc main_v5_2) = (dats m 0 c).arrAt 18 cfg0.N
      ∧ r.2.mem ((c : Thread nD τ).loc main_v5_3) = (dats m 0 c).arrAt 19 cfg0.N
      ∧ r.2.mem ((c : Thread nD τ).loc main_v5_4) = (dats m 0 c).arrAt 20 cfg0.N
      ∧ r.2.mem ((c : Thread nD τ).loc main_v5_5) = (dats m 0 c).arrAt 21 cfg0.N
      ∧ r.2.mem ((c : Thread nD τ).loc main_v5_6) = (dats m 0 c).arrAt 22 cfg0.N
      ∧ r.2.mem ((c : Thread nD τ).loc main_v5_7) = (dats m 0 c).arrAt 23 cfg0.N
      ∧ r.2.mem ((c : Thread nD τ).loc main_v5_8) = (dats m 0 c).arrAt 24 cfg0.N
      ∧ r.2.mem ((c : Thread nD τ).loc main_v5_9) = (dats m 0 c).arrAt 25 cfg0.N
      ∧ r.2.mem ((c : Thread nD τ).loc main_v5_10) = (dats m 0 c).arrAt 26 cfg0.N
      ∧ r.2.mem ((c : Thread nD τ).loc main_v5_11) = (dats m 0 c).arrAt 27 cfg0.N
      ∧ r.2.mem ((c : Thread nD τ).loc main_v5_12) = (dats m 0 c).arrAt 28 cfg0.N
      ∧ r.2.mem ((c : Thread nD τ).loc main_v5_13) = (dats m 0 c).arrAt 29 cfg0.N
      ∧ r.2.mem ((c : Thread nD τ).loc main_v5_14) = (dats m 0 c).arrAt 30 cfg0.N
      ∧ r.2.mem ((c : Thread nD τ).loc main_v5_15) = (dats m 0 c).arrAt 31 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c => ⟨(h c).1 16,
    (h c).1 17,
    (h c).1 18,
    (h c).1 19,
    (h c).1 20,
    (h c).1 21,
    (h c).1 22,
    (h c).1 23,
    (h c).1 24,
    (h c).1 25,
    (h c).1 26,
    (h c).1 27,
    (h c).1 28,
    (h c).1 29,
    (h c).1 30,
    (h c).1 31,
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c))),
    ((h c).1 6).trans (((dats m 0 c).arrAt_in 6 rfl _).trans ((A_eq m c 6).trans (V_main_arg6 m c))),
    ((h c).1 7).trans (((dats m 0 c).arrAt_in 7 rfl _).trans ((A_eq m c 7).trans (V_main_arg7 m c))),
    ((h c).1 8).trans (((dats m 0 c).arrAt_in 8 rfl _).trans ((A_eq m c 8).trans (V_main_arg8 m c))),
    ((h c).1 9).trans (((dats m 0 c).arrAt_in 9 rfl _).trans ((A_eq m c 9).trans (V_main_arg9 m c))),
    ((h c).1 10).trans (((dats m 0 c).arrAt_in 10 rfl _).trans ((A_eq m c 10).trans (V_main_arg10 m c))),
    ((h c).1 11).trans (((dats m 0 c).arrAt_in 11 rfl _).trans ((A_eq m c 11).trans (V_main_arg11 m c))),
    ((h c).1 12).trans (((dats m 0 c).arrAt_in 12 rfl _).trans ((A_eq m c 12).trans (V_main_arg12 m c))),
    ((h c).1 13).trans (((dats m 0 c).arrAt_in 13 rfl _).trans ((A_eq m c 13).trans (V_main_arg13 m c))),
    ((h c).1 14).trans (((dats m 0 c).arrAt_in 14 rfl _).trans ((A_eq m c 14).trans (V_main_arg14 m c))),
    ((h c).1 15).trans (((dats m 0 c).arrAt_in 15 rfl _).trans ((A_eq m c 15).trans (V_main_arg15 m c)))⟩)
    (run_main m ρ)

end run

variable (m : (ℓ : Loc nD τ sig) → Buf (Elt Ideal) ℓ) (c : Dev nD)

/-- The parts of weight 1's gradient, weight 1, and its moments. -/
def P0 (a : Fin 1024) (b : Fin 512) : EReal := ∑ j : Fin 8, (m ((c.tc : Thread nD τ).loc main_arg0) (ix3 j a b) : EReal)
def P4 (a : Fin 1024) (b : Fin 512) : EReal := m ((c.tc : Thread nD τ).loc main_arg4) (ix2 a b)
def P8 (a : Fin 1024) (b : Fin 512) : EReal := m ((c.tc : Thread nD τ).loc main_arg8) (ix2 a b)
def P12 (a : Fin 1024) (b : Fin 512) : EReal := m ((c.tc : Thread nD τ).loc main_arg12) (ix2 a b)
/-- The parts of weight 2's gradient, weight 2, and its moments. -/
def P1 (a : Fin 128) (b : Fin 1024) : EReal := ∑ j : Fin 8, (m ((c.tc : Thread nD τ).loc main_arg1) (ix3 j a b) : EReal)
def P5 (a : Fin 128) (b : Fin 1024) : EReal := m ((c.tc : Thread nD τ).loc main_arg5) (ix2 a b)
def P9 (a : Fin 128) (b : Fin 1024) : EReal := m ((c.tc : Thread nD τ).loc main_arg9) (ix2 a b)
def P13 (a : Fin 128) (b : Fin 1024) : EReal := m ((c.tc : Thread nD τ).loc main_arg13) (ix2 a b)
/-- The parts of weight 3's gradient, weight 3, and its moments. -/
def P2 (a : Fin 128) (b : Fin 1024) : EReal := ∑ j : Fin 8, (m ((c.tc : Thread nD τ).loc main_arg2) (ix3 j a b) : EReal)
def P6 (a : Fin 128) (b : Fin 1024) : EReal := m ((c.tc : Thread nD τ).loc main_arg6) (ix2 a b)
def P10 (a : Fin 128) (b : Fin 1024) : EReal := m ((c.tc : Thread nD τ).loc main_arg10) (ix2 a b)
def P14 (a : Fin 128) (b : Fin 1024) : EReal := m ((c.tc : Thread nD τ).loc main_arg14) (ix2 a b)
/-- The parts of weight 4's gradient, weight 4, and its moments. -/
def P3 (a : Fin 512) (b : Fin 1024) : EReal := ∑ j : Fin 8, (m ((c.tc : Thread nD τ).loc main_arg3) (ix3 j a b) : EReal)
def P7 (a : Fin 512) (b : Fin 1024) : EReal := m ((c.tc : Thread nD τ).loc main_arg7) (ix2 a b)
def P11 (a : Fin 512) (b : Fin 1024) : EReal := m ((c.tc : Thread nD τ).loc main_arg11) (ix2 a b)
def P15 (a : Fin 512) (b : Fin 1024) : EReal := m ((c.tc : Thread nD τ).loc main_arg15) (ix2 a b)
/-- Row or column `a` of the tile of grid point `t`. -/
abbrev r128 (t : Fin cfg0.N) (a : Fin 128) : Fin 512 := ⟨t.val * 128 + a.val, by have := lt_of_lt_of_eq t.isLt N_0; omega⟩
/-- Row or column `a` of the tile of grid point `t`. -/
abbrev r32 (t : Fin cfg0.N) (a : Fin 32) : Fin 128 := ⟨t.val * 32 + a.val, by have := lt_of_lt_of_eq t.isLt N_0; omega⟩
theorem idx0 : ∀ t : Fin cfg0.N, win0_0.index t = ![0, t.val, 0] := (by decide +kernel : ∀ t : Fin grid0.N, win0_0.index t = ![0, t.val, 0])
theorem idx1 : ∀ t : Fin cfg0.N, win0_1.index t = ![0, t.val, 0] := (by decide +kernel : ∀ t : Fin grid0.N, win0_1.index t = ![0, t.val, 0])
theorem idx2 : ∀ t : Fin cfg0.N, win0_2.index t = ![0, t.val, 0] := (by decide +kernel : ∀ t : Fin grid0.N, win0_2.index t = ![0, t.val, 0])
theorem idx3 : ∀ t : Fin cfg0.N, win0_3.index t = ![0, t.val, 0] := (by decide +kernel : ∀ t : Fin grid0.N, win0_3.index t = ![0, t.val, 0])
theorem idx4 : ∀ t : Fin cfg0.N, win0_4.index t = ![0, t.val] := (by decide +kernel : ∀ t : Fin grid0.N, win0_4.index t = ![0, t.val])
theorem idx5 : ∀ t : Fin cfg0.N, win0_5.index t = ![t.val, 0] := (by decide +kernel : ∀ t : Fin grid0.N, win0_5.index t = ![t.val, 0])
theorem idx6 : ∀ t : Fin cfg0.N, win0_6.index t = ![t.val, 0] := (by decide +kernel : ∀ t : Fin grid0.N, win0_6.index t = ![t.val, 0])
theorem idx7 : ∀ t : Fin cfg0.N, win0_7.index t = ![t.val, 0] := (by decide +kernel : ∀ t : Fin grid0.N, win0_7.index t = ![t.val, 0])
theorem idx8 : ∀ t : Fin cfg0.N, win0_8.index t = ![0, t.val] := (by decide +kernel : ∀ t : Fin grid0.N, win0_8.index t = ![0, t.val])
theorem idx9 : ∀ t : Fin cfg0.N, win0_9.index t = ![t.val, 0] := (by decide +kernel : ∀ t : Fin grid0.N, win0_9.index t = ![t.val, 0])
theorem idx10 : ∀ t : Fin cfg0.N, win0_10.index t = ![t.val, 0] := (by decide +kernel : ∀ t : Fin grid0.N, win0_10.index t = ![t.val, 0])
theorem idx11 : ∀ t : Fin cfg0.N, win0_11.index t = ![t.val, 0] := (by decide +kernel : ∀ t : Fin grid0.N, win0_11.index t = ![t.val, 0])
theorem idx12 : ∀ t : Fin cfg0.N, win0_12.index t = ![0, t.val] := (by decide +kernel : ∀ t : Fin grid0.N, win0_12.index t = ![0, t.val])
theorem idx13 : ∀ t : Fin cfg0.N, win0_13.index t = ![t.val, 0] := (by decide +kernel : ∀ t : Fin grid0.N, win0_13.index t = ![t.val, 0])
theorem idx14 : ∀ t : Fin cfg0.N, win0_14.index t = ![t.val, 0] := (by decide +kernel : ∀ t : Fin grid0.N, win0_14.index t = ![t.val, 0])
theorem idx15 : ∀ t : Fin cfg0.N, win0_15.index t = ![t.val, 0] := (by decide +kernel : ∀ t : Fin grid0.N, win0_15.index t = ![t.val, 0])
theorem idx16 : ∀ t : Fin cfg0.N, win0_16.index t = ![0, t.val] := (by decide +kernel : ∀ t : Fin grid0.N, win0_16.index t = ![0, t.val])
theorem idx17 : ∀ t : Fin cfg0.N, win0_17.index t = ![0, t.val] := (by decide +kernel : ∀ t : Fin grid0.N, win0_17.index t = ![0, t.val])
theorem idx18 : ∀ t : Fin cfg0.N, win0_18.index t = ![0, t.val] := (by decide +kernel : ∀ t : Fin grid0.N, win0_18.index t = ![0, t.val])
theorem idx19 : ∀ t : Fin cfg0.N, win0_19.index t = ![0, t.val] := (by decide +kernel : ∀ t : Fin grid0.N, win0_19.index t = ![0, t.val])
theorem idx20 : ∀ t : Fin cfg0.N, win0_20.index t = ![t.val, 0] := (by decide +kernel : ∀ t : Fin grid0.N, win0_20.index t = ![t.val, 0])
theorem idx21 : ∀ t : Fin cfg0.N, win0_21.index t = ![t.val, 0] := (by decide +kernel : ∀ t : Fin grid0.N, win0_21.index t = ![t.val, 0])
theorem idx22 : ∀ t : Fin cfg0.N, win0_22.index t = ![t.val, 0] := (by decide +kernel : ∀ t : Fin grid0.N, win0_22.index t = ![t.val, 0])
theorem idx23 : ∀ t : Fin cfg0.N, win0_23.index t = ![t.val, 0] := (by decide +kernel : ∀ t : Fin grid0.N, win0_23.index t = ![t.val, 0])
theorem idx24 : ∀ t : Fin cfg0.N, win0_24.index t = ![t.val, 0] := (by decide +kernel : ∀ t : Fin grid0.N, win0_24.index t = ![t.val, 0])
theorem idx25 : ∀ t : Fin cfg0.N, win0_25.index t = ![t.val, 0] := (by decide +kernel : ∀ t : Fin grid0.N, win0_25.index t = ![t.val, 0])
theorem idx26 : ∀ t : Fin cfg0.N, win0_26.index t = ![t.val, 0] := (by decide +kernel : ∀ t : Fin grid0.N, win0_26.index t = ![t.val, 0])
theorem idx27 : ∀ t : Fin cfg0.N, win0_27.index t = ![t.val, 0] := (by decide +kernel : ∀ t : Fin grid0.N, win0_27.index t = ![t.val, 0])
theorem idx28 : ∀ t : Fin cfg0.N, win0_28.index t = ![t.val, 0] := (by decide +kernel : ∀ t : Fin grid0.N, win0_28.index t = ![t.val, 0])
theorem idx29 : ∀ t : Fin cfg0.N, win0_29.index t = ![t.val, 0] := (by decide +kernel : ∀ t : Fin grid0.N, win0_29.index t = ![t.val, 0])
theorem idx30 : ∀ t : Fin cfg0.N, win0_30.index t = ![t.val, 0] := (by decide +kernel : ∀ t : Fin grid0.N, win0_30.index t = ![t.val, 0])
theorem idx31 : ∀ t : Fin cfg0.N, win0_31.index t = ![t.val, 0] := (by decide +kernel : ∀ t : Fin grid0.N, win0_31.index t = ![t.val, 0])

set_option maxHeartbeats 1000000 in
theorem v0_at (j : Fin 8) (a : Fin 512) (b : Fin 1024) : (V m c main_v1 (ix3 j a b) : EReal) = m ((c.tc : Thread nD τ).loc main_arg0) (ix3 j b a) := by
  show (_ : EReal) = _
  simp only [V, hostOps0, StableHlo.TRef.binary, StableHlo.TRef.nullary, StableHlo.TRef.unary,
    StableHlo.TRef.toBuf, StableHlo.TRef.ofBuf, cast_eq, List.flatten_cons, List.flatten_nil, List.append_nil, List.cons_append,
    List.nil_append]
  after_results
  pointwise
  all_goals rfl

theorem b0 (t : Fin cfg0.N) (j : Fin 8) (a : Fin 128) (b : Fin 1024) : (iblk m c 0 t (ix3 j a b) : EReal) = V m c main_v1 (ix3 j (r128 t a) b) := by
  have h := idx0 t
  have e : (win0_0.blk t).view.emb (ix3 j a b) = ix3 j (r128 t a) b := by blk_ext [h]
  show (_ : EReal) = _
  blk_simp [iblk]
  rw [e]

set_option maxHeartbeats 1000000 in
theorem v1_at (j : Fin 8) (a : Fin 128) (b : Fin 1024) : (V m c main_v2 (ix3 j a b) : EReal) = m ((c.tc : Thread nD τ).loc main_arg1) (ix3 j a b) := by
  show (_ : EReal) = _
  simp only [V, hostOps0, StableHlo.TRef.binary, StableHlo.TRef.nullary, StableHlo.TRef.unary,
    StableHlo.TRef.toBuf, StableHlo.TRef.ofBuf, cast_eq, List.flatten_cons, List.flatten_nil, List.append_nil, List.cons_append,
    List.nil_append]
  after_results
  pointwise
  all_goals rfl

theorem b1 (t : Fin cfg0.N) (j : Fin 8) (a : Fin 32) (b : Fin 1024) : (iblk m c 1 t (ix3 j a b) : EReal) = V m c main_v2 (ix3 j (r32 t a) b) := by
  have h := idx1 t
  have e : (win0_1.blk t).view.emb (ix3 j a b) = ix3 j (r32 t a) b := by blk_ext [h]
  show (_ : EReal) = _
  blk_simp [iblk]
  rw [e]

set_option maxHeartbeats 1000000 in
theorem v2_at (j : Fin 8) (a : Fin 128) (b : Fin 1024) : (V m c main_v3 (ix3 j a b) : EReal) = m ((c.tc : Thread nD τ).loc main_arg2) (ix3 j a b) := by
  show (_ : EReal) = _
  simp only [V, hostOps0, StableHlo.TRef.binary, StableHlo.TRef.nullary, StableHlo.TRef.unary,
    StableHlo.TRef.toBuf, StableHlo.TRef.ofBuf, cast_eq, List.flatten_cons, List.flatten_nil, List.append_nil, List.cons_append,
    List.nil_append]
  after_results
  pointwise
  all_goals rfl

theorem b2 (t : Fin cfg0.N) (j : Fin 8) (a : Fin 32) (b : Fin 1024) : (iblk m c 2 t (ix3 j a b) : EReal) = V m c main_v3 (ix3 j (r32 t a) b) := by
  have h := idx2 t
  have e : (win0_2.blk t).view.emb (ix3 j a b) = ix3 j (r32 t a) b := by blk_ext [h]
  show (_ : EReal) = _
  blk_simp [iblk]
  rw [e]

set_option maxHeartbeats 1000000 in
theorem v3_at (j : Fin 8) (a : Fin 512) (b : Fin 1024) : (V m c main_v4 (ix3 j a b) : EReal) = m ((c.tc : Thread nD τ).loc main_arg3) (ix3 j a b) := by
  show (_ : EReal) = _
  simp only [V, hostOps0, StableHlo.TRef.binary, StableHlo.TRef.nullary, StableHlo.TRef.unary,
    StableHlo.TRef.toBuf, StableHlo.TRef.ofBuf, cast_eq, List.flatten_cons, List.flatten_nil, List.append_nil, List.cons_append,
    List.nil_append]
  after_results
  pointwise
  all_goals rfl

theorem b3 (t : Fin cfg0.N) (j : Fin 8) (a : Fin 128) (b : Fin 1024) : (iblk m c 3 t (ix3 j a b) : EReal) = V m c main_v4 (ix3 j (r128 t a) b) := by
  have h := idx3 t
  have e : (win0_3.blk t).view.emb (ix3 j a b) = ix3 j (r128 t a) b := by blk_ext [h]
  show (_ : EReal) = _
  blk_simp [iblk]
  rw [e]

theorem b4 (t : Fin cfg0.N) (a : Fin 1024) (b : Fin 128) : (iblk m c 4 t (ix2 a b) : EReal) = P4 m c a (r128 t b) := by
  have h := idx4 t
  have e : (win0_4.blk t).view.emb (ix2 a b) = ix2 a (r128 t b) := by blk_ext [h]
  refine Eq.trans ?_ (congrFun (V_main_arg4 m c) (ix2 a (r128 t b)))
  show (_ : EReal) = _
  blk_simp [iblk]
  rw [e]

theorem b8 (t : Fin cfg0.N) (a : Fin 1024) (b : Fin 128) : (iblk m c 8 t (ix2 a b) : EReal) = P8 m c a (r128 t b) := by
  have h := idx8 t
  have e : (win0_8.blk t).view.emb (ix2 a b) = ix2 a (r128 t b) := by blk_ext [h]
  refine Eq.trans ?_ (congrFun (V_main_arg8 m c) (ix2 a (r128 t b)))
  show (_ : EReal) = _
  blk_simp [iblk]
  rw [e]

theorem b12 (t : Fin cfg0.N) (a : Fin 1024) (b : Fin 128) : (iblk m c 12 t (ix2 a b) : EReal) = P12 m c a (r128 t b) := by
  have h := idx12 t
  have e : (win0_12.blk t).view.emb (ix2 a b) = ix2 a (r128 t b) := by blk_ext [h]
  refine Eq.trans ?_ (congrFun (V_main_arg12 m c) (ix2 a (r128 t b)))
  show (_ : EReal) = _
  blk_simp [iblk]
  rw [e]

theorem g0 (t : Fin cfg0.N) (a : Fin 1024) (b : Fin 128) : s8 (fun j => (iblk m c 0 t (ix3 j b a) : EReal)) = P0 m c a (r128 t b) :=
  (s8_eq _).trans (Finset.sum_congr rfl fun j _ => (b0 m c t j b a).trans (v0_at m c j _ a))

theorem final16 : (dats m 0 c).arrAt 16 cfg0.N = fun i => P0 m c (i 0) (i 1) := by
  refine (dats m 0 c).arrAt_eq_of_covers 16 _ (by decide +kernel) fun t hf y => ?_
  obtain ⟨a, b, rfl⟩ : ∃ (a : Fin 1024) (b : Fin 128), y = ix2 a b := ⟨y 0, y 1, eq_ix2 y⟩
  blk_simp
  rw [after0_16]
  refine (o16 _ _ _ _ _ _ _ _ _ _ _ _ _ _ _ _ a b).trans (Eq.trans (g0 m c t a b) ?_)
  have h := idx16 t
  have e : (win0_16.blk t).view.emb (ix2 a b) = ix2 a (r128 t b) := by blk_ext [h]
  rw [e]
  rfl

theorem final17 : (dats m 0 c).arrAt 17 cfg0.N = fun i => ad (P0 m c (i 0) (i 1)) (P4 m c (i 0) (i 1)) (P8 m c (i 0) (i 1)) (P12 m c (i 0) (i 1)) := by
  refine (dats m 0 c).arrAt_eq_of_covers 17 _ (by decide +kernel) fun t hf y => ?_
  obtain ⟨a, b, rfl⟩ : ∃ (a : Fin 1024) (b : Fin 128), y = ix2 a b := ⟨y 0, y 1, eq_ix2 y⟩
  blk_simp
  rw [after0_17]
  refine (o17 _ _ _ _ _ _ _ _ _ _ _ _ _ _ _ _ a b).trans (Eq.trans (congr (congr (congr (congrArg ad (g0 m c t a b)) (b4 m c t a b)) (b8 m c t a b)) (b12 m c t a b)) ?_)
  have h := idx17 t
  have e : (win0_17.blk t).view.emb (ix2 a b) = ix2 a (r128 t b) := by blk_ext [h]
  rw [e]
  rfl

theorem final18 : (dats m 0 c).arrAt 18 cfg0.N = fun i => am (P0 m c (i 0) (i 1)) (P8 m c (i 0) (i 1)) := by
  refine (dats m 0 c).arrAt_eq_of_covers 18 _ (by decide +kernel) fun t hf y => ?_
  obtain ⟨a, b, rfl⟩ : ∃ (a : Fin 1024) (b : Fin 128), y = ix2 a b := ⟨y 0, y 1, eq_ix2 y⟩
  blk_simp
  rw [after0_18]
  refine (o18 _ _ _ _ _ _ _ _ _ _ _ _ _ _ _ _ a b).trans (Eq.trans (congr (congrArg am (g0 m c t a b)) (b8 m c t a b)) ?_)
  have h := idx18 t
  have e : (win0_18.blk t).view.emb (ix2 a b) = ix2 a (r128 t b) := by blk_ext [h]
  rw [e]
  rfl

theorem final19 : (dats m 0 c).arrAt 19 cfg0.N = fun i => av (P0 m c (i 0) (i 1)) (P12 m c (i 0) (i 1)) := by
  refine (dats m 0 c).arrAt_eq_of_covers 19 _ (by decide +kernel) fun t hf y => ?_
  obtain ⟨a, b, rfl⟩ : ∃ (a : Fin 1024) (b : Fin 128), y = ix2 a b := ⟨y 0, y 1, eq_ix2 y⟩
  blk_simp
  rw [after0_19]
  refine (o19 _ _ _ _ _ _ _ _ _ _ _ _ _ _ _ _ a b).trans (Eq.trans (congr (congrArg av (g0 m c t a b)) (b12 m c t a b)) ?_)
  have h := idx19 t
  have e : (win0_19.blk t).view.emb (ix2 a b) = ix2 a (r128 t b) := by blk_ext [h]
  rw [e]
  rfl

theorem b5 (t : Fin cfg0.N) (a : Fin 32) (b : Fin 1024) : (iblk m c 5 t (ix2 a b) : EReal) = P5 m c (r32 t a) b := by
  have h := idx5 t
  have e : (win0_5.blk t).view.emb (ix2 a b) = ix2 (r32 t a) b := by blk_ext [h]
  refine Eq.trans ?_ (congrFun (V_main_arg5 m c) (ix2 (r32 t a) b))
  show (_ : EReal) = _
  blk_simp [iblk]
  rw [e]

theorem b9 (t : Fin cfg0.N) (a : Fin 32) (b : Fin 1024) : (iblk m c 9 t (ix2 a b) : EReal) = P9 m c (r32 t a) b := by
  have h := idx9 t
  have e : (win0_9.blk t).view.emb (ix2 a b) = ix2 (r32 t a) b := by blk_ext [h]
  refine Eq.trans ?_ (congrFun (V_main_arg9 m c) (ix2 (r32 t a) b))
  show (_ : EReal) = _
  blk_simp [iblk]
  rw [e]

theorem b13 (t : Fin cfg0.N) (a : Fin 32) (b : Fin 1024) : (iblk m c 13 t (ix2 a b) : EReal) = P13 m c (r32 t a) b := by
  have h := idx13 t
  have e : (win0_13.blk t).view.emb (ix2 a b) = ix2 (r32 t a) b := by blk_ext [h]
  refine Eq.trans ?_ (congrFun (V_main_arg13 m c) (ix2 (r32 t a) b))
  show (_ : EReal) = _
  blk_simp [iblk]
  rw [e]

theorem g1 (t : Fin cfg0.N) (a : Fin 32) (b : Fin 1024) : s8 (fun j => (iblk m c 1 t (ix3 j a b) : EReal)) = P1 m c (r32 t a) b :=
  (s8_eq _).trans (Finset.sum_congr rfl fun j _ => (b1 m c t j a b).trans (v1_at m c j _ b))

theorem final20 : (dats m 0 c).arrAt 20 cfg0.N = fun i => P1 m c (i 0) (i 1) := by
  refine (dats m 0 c).arrAt_eq_of_covers 20 _ (by decide +kernel) fun t hf y => ?_
  obtain ⟨a, b, rfl⟩ : ∃ (a : Fin 32) (b : Fin 1024), y = ix2 a b := ⟨y 0, y 1, eq_ix2 y⟩
  blk_simp
  rw [after0_20]
  refine (o20 _ _ _ _ _ _ _ _ _ _ _ _ _ _ _ _ a b).trans (Eq.trans (g1 m c t a b) ?_)
  have h := idx20 t
  have e : (win0_20.blk t).view.emb (ix2 a b) = ix2 (r32 t a) b := by blk_ext [h]
  rw [e]
  rfl

theorem final21 : (dats m 0 c).arrAt 21 cfg0.N = fun i => ad (P1 m c (i 0) (i 1)) (P5 m c (i 0) (i 1)) (P9 m c (i 0) (i 1)) (P13 m c (i 0) (i 1)) := by
  refine (dats m 0 c).arrAt_eq_of_covers 21 _ (by decide +kernel) fun t hf y => ?_
  obtain ⟨a, b, rfl⟩ : ∃ (a : Fin 32) (b : Fin 1024), y = ix2 a b := ⟨y 0, y 1, eq_ix2 y⟩
  blk_simp
  rw [after0_21]
  refine (o21 _ _ _ _ _ _ _ _ _ _ _ _ _ _ _ _ a b).trans (Eq.trans (congr (congr (congr (congrArg ad (g1 m c t a b)) (b5 m c t a b)) (b9 m c t a b)) (b13 m c t a b)) ?_)
  have h := idx21 t
  have e : (win0_21.blk t).view.emb (ix2 a b) = ix2 (r32 t a) b := by blk_ext [h]
  rw [e]
  rfl

theorem final22 : (dats m 0 c).arrAt 22 cfg0.N = fun i => am (P1 m c (i 0) (i 1)) (P9 m c (i 0) (i 1)) := by
  refine (dats m 0 c).arrAt_eq_of_covers 22 _ (by decide +kernel) fun t hf y => ?_
  obtain ⟨a, b, rfl⟩ : ∃ (a : Fin 32) (b : Fin 1024), y = ix2 a b := ⟨y 0, y 1, eq_ix2 y⟩
  blk_simp
  rw [after0_22]
  refine (o22 _ _ _ _ _ _ _ _ _ _ _ _ _ _ _ _ a b).trans (Eq.trans (congr (congrArg am (g1 m c t a b)) (b9 m c t a b)) ?_)
  have h := idx22 t
  have e : (win0_22.blk t).view.emb (ix2 a b) = ix2 (r32 t a) b := by blk_ext [h]
  rw [e]
  rfl

theorem final23 : (dats m 0 c).arrAt 23 cfg0.N = fun i => av (P1 m c (i 0) (i 1)) (P13 m c (i 0) (i 1)) := by
  refine (dats m 0 c).arrAt_eq_of_covers 23 _ (by decide +kernel) fun t hf y => ?_
  obtain ⟨a, b, rfl⟩ : ∃ (a : Fin 32) (b : Fin 1024), y = ix2 a b := ⟨y 0, y 1, eq_ix2 y⟩
  blk_simp
  rw [after0_23]
  refine (o23 _ _ _ _ _ _ _ _ _ _ _ _ _ _ _ _ a b).trans (Eq.trans (congr (congrArg av (g1 m c t a b)) (b13 m c t a b)) ?_)
  have h := idx23 t
  have e : (win0_23.blk t).view.emb (ix2 a b) = ix2 (r32 t a) b := by blk_ext [h]
  rw [e]
  rfl

theorem b6 (t : Fin cfg0.N) (a : Fin 32) (b : Fin 1024) : (iblk m c 6 t (ix2 a b) : EReal) = P6 m c (r32 t a) b := by
  have h := idx6 t
  have e : (win0_6.blk t).view.emb (ix2 a b) = ix2 (r32 t a) b := by blk_ext [h]
  refine Eq.trans ?_ (congrFun (V_main_arg6 m c) (ix2 (r32 t a) b))
  show (_ : EReal) = _
  blk_simp [iblk]
  rw [e]

theorem b10 (t : Fin cfg0.N) (a : Fin 32) (b : Fin 1024) : (iblk m c 10 t (ix2 a b) : EReal) = P10 m c (r32 t a) b := by
  have h := idx10 t
  have e : (win0_10.blk t).view.emb (ix2 a b) = ix2 (r32 t a) b := by blk_ext [h]
  refine Eq.trans ?_ (congrFun (V_main_arg10 m c) (ix2 (r32 t a) b))
  show (_ : EReal) = _
  blk_simp [iblk]
  rw [e]

theorem b14 (t : Fin cfg0.N) (a : Fin 32) (b : Fin 1024) : (iblk m c 14 t (ix2 a b) : EReal) = P14 m c (r32 t a) b := by
  have h := idx14 t
  have e : (win0_14.blk t).view.emb (ix2 a b) = ix2 (r32 t a) b := by blk_ext [h]
  refine Eq.trans ?_ (congrFun (V_main_arg14 m c) (ix2 (r32 t a) b))
  show (_ : EReal) = _
  blk_simp [iblk]
  rw [e]

theorem g2 (t : Fin cfg0.N) (a : Fin 32) (b : Fin 1024) : s8 (fun j => (iblk m c 2 t (ix3 j a b) : EReal)) = P2 m c (r32 t a) b :=
  (s8_eq _).trans (Finset.sum_congr rfl fun j _ => (b2 m c t j a b).trans (v2_at m c j _ b))

theorem final24 : (dats m 0 c).arrAt 24 cfg0.N = fun i => P2 m c (i 0) (i 1) := by
  refine (dats m 0 c).arrAt_eq_of_covers 24 _ (by decide +kernel) fun t hf y => ?_
  obtain ⟨a, b, rfl⟩ : ∃ (a : Fin 32) (b : Fin 1024), y = ix2 a b := ⟨y 0, y 1, eq_ix2 y⟩
  blk_simp
  rw [after0_24]
  refine (o24 _ _ _ _ _ _ _ _ _ _ _ _ _ _ _ _ a b).trans (Eq.trans (g2 m c t a b) ?_)
  have h := idx24 t
  have e : (win0_24.blk t).view.emb (ix2 a b) = ix2 (r32 t a) b := by blk_ext [h]
  rw [e]
  rfl

theorem final25 : (dats m 0 c).arrAt 25 cfg0.N = fun i => ad (P2 m c (i 0) (i 1)) (P6 m c (i 0) (i 1)) (P10 m c (i 0) (i 1)) (P14 m c (i 0) (i 1)) := by
  refine (dats m 0 c).arrAt_eq_of_covers 25 _ (by decide +kernel) fun t hf y => ?_
  obtain ⟨a, b, rfl⟩ : ∃ (a : Fin 32) (b : Fin 1024), y = ix2 a b := ⟨y 0, y 1, eq_ix2 y⟩
  blk_simp
  rw [after0_25]
  refine (o25 _ _ _ _ _ _ _ _ _ _ _ _ _ _ _ _ a b).trans (Eq.trans (congr (congr (congr (congrArg ad (g2 m c t a b)) (b6 m c t a b)) (b10 m c t a b)) (b14 m c t a b)) ?_)
  have h := idx25 t
  have e : (win0_25.blk t).view.emb (ix2 a b) = ix2 (r32 t a) b := by blk_ext [h]
  rw [e]
  rfl

theorem final26 : (dats m 0 c).arrAt 26 cfg0.N = fun i => am (P2 m c (i 0) (i 1)) (P10 m c (i 0) (i 1)) := by
  refine (dats m 0 c).arrAt_eq_of_covers 26 _ (by decide +kernel) fun t hf y => ?_
  obtain ⟨a, b, rfl⟩ : ∃ (a : Fin 32) (b : Fin 1024), y = ix2 a b := ⟨y 0, y 1, eq_ix2 y⟩
  blk_simp
  rw [after0_26]
  refine (o26 _ _ _ _ _ _ _ _ _ _ _ _ _ _ _ _ a b).trans (Eq.trans (congr (congrArg am (g2 m c t a b)) (b10 m c t a b)) ?_)
  have h := idx26 t
  have e : (win0_26.blk t).view.emb (ix2 a b) = ix2 (r32 t a) b := by blk_ext [h]
  rw [e]
  rfl

theorem final27 : (dats m 0 c).arrAt 27 cfg0.N = fun i => av (P2 m c (i 0) (i 1)) (P14 m c (i 0) (i 1)) := by
  refine (dats m 0 c).arrAt_eq_of_covers 27 _ (by decide +kernel) fun t hf y => ?_
  obtain ⟨a, b, rfl⟩ : ∃ (a : Fin 32) (b : Fin 1024), y = ix2 a b := ⟨y 0, y 1, eq_ix2 y⟩
  blk_simp
  rw [after0_27]
  refine (o27 _ _ _ _ _ _ _ _ _ _ _ _ _ _ _ _ a b).trans (Eq.trans (congr (congrArg av (g2 m c t a b)) (b14 m c t a b)) ?_)
  have h := idx27 t
  have e : (win0_27.blk t).view.emb (ix2 a b) = ix2 (r32 t a) b := by blk_ext [h]
  rw [e]
  rfl

theorem b7 (t : Fin cfg0.N) (a : Fin 128) (b : Fin 1024) : (iblk m c 7 t (ix2 a b) : EReal) = P7 m c (r128 t a) b := by
  have h := idx7 t
  have e : (win0_7.blk t).view.emb (ix2 a b) = ix2 (r128 t a) b := by blk_ext [h]
  refine Eq.trans ?_ (congrFun (V_main_arg7 m c) (ix2 (r128 t a) b))
  show (_ : EReal) = _
  blk_simp [iblk]
  rw [e]

theorem b11 (t : Fin cfg0.N) (a : Fin 128) (b : Fin 1024) : (iblk m c 11 t (ix2 a b) : EReal) = P11 m c (r128 t a) b := by
  have h := idx11 t
  have e : (win0_11.blk t).view.emb (ix2 a b) = ix2 (r128 t a) b := by blk_ext [h]
  refine Eq.trans ?_ (congrFun (V_main_arg11 m c) (ix2 (r128 t a) b))
  show (_ : EReal) = _
  blk_simp [iblk]
  rw [e]

theorem b15 (t : Fin cfg0.N) (a : Fin 128) (b : Fin 1024) : (iblk m c 15 t (ix2 a b) : EReal) = P15 m c (r128 t a) b := by
  have h := idx15 t
  have e : (win0_15.blk t).view.emb (ix2 a b) = ix2 (r128 t a) b := by blk_ext [h]
  refine Eq.trans ?_ (congrFun (V_main_arg15 m c) (ix2 (r128 t a) b))
  show (_ : EReal) = _
  blk_simp [iblk]
  rw [e]

theorem g3 (t : Fin cfg0.N) (a : Fin 128) (b : Fin 1024) : s8 (fun j => (iblk m c 3 t (ix3 j a b) : EReal)) = P3 m c (r128 t a) b :=
  (s8_eq _).trans (Finset.sum_congr rfl fun j _ => (b3 m c t j a b).trans (v3_at m c j _ b))

theorem final28 : (dats m 0 c).arrAt 28 cfg0.N = fun i => P3 m c (i 0) (i 1) := by
  refine (dats m 0 c).arrAt_eq_of_covers 28 _ (by decide +kernel) fun t hf y => ?_
  obtain ⟨a, b, rfl⟩ : ∃ (a : Fin 128) (b : Fin 1024), y = ix2 a b := ⟨y 0, y 1, eq_ix2 y⟩
  blk_simp
  rw [after0_28]
  refine (o28 _ _ _ _ _ _ _ _ _ _ _ _ _ _ _ _ a b).trans (Eq.trans (g3 m c t a b) ?_)
  have h := idx28 t
  have e : (win0_28.blk t).view.emb (ix2 a b) = ix2 (r128 t a) b := by blk_ext [h]
  rw [e]
  rfl

theorem final29 : (dats m 0 c).arrAt 29 cfg0.N = fun i => ad (P3 m c (i 0) (i 1)) (P7 m c (i 0) (i 1)) (P11 m c (i 0) (i 1)) (P15 m c (i 0) (i 1)) := by
  refine (dats m 0 c).arrAt_eq_of_covers 29 _ (by decide +kernel) fun t hf y => ?_
  obtain ⟨a, b, rfl⟩ : ∃ (a : Fin 128) (b : Fin 1024), y = ix2 a b := ⟨y 0, y 1, eq_ix2 y⟩
  blk_simp
  rw [after0_29]
  refine (o29 _ _ _ _ _ _ _ _ _ _ _ _ _ _ _ _ a b).trans (Eq.trans (congr (congr (congr (congrArg ad (g3 m c t a b)) (b7 m c t a b)) (b11 m c t a b)) (b15 m c t a b)) ?_)
  have h := idx29 t
  have e : (win0_29.blk t).view.emb (ix2 a b) = ix2 (r128 t a) b := by blk_ext [h]
  rw [e]
  rfl

theorem final30 : (dats m 0 c).arrAt 30 cfg0.N = fun i => am (P3 m c (i 0) (i 1)) (P11 m c (i 0) (i 1)) := by
  refine (dats m 0 c).arrAt_eq_of_covers 30 _ (by decide +kernel) fun t hf y => ?_
  obtain ⟨a, b, rfl⟩ : ∃ (a : Fin 128) (b : Fin 1024), y = ix2 a b := ⟨y 0, y 1, eq_ix2 y⟩
  blk_simp
  rw [after0_30]
  refine (o30 _ _ _ _ _ _ _ _ _ _ _ _ _ _ _ _ a b).trans (Eq.trans (congr (congrArg am (g3 m c t a b)) (b11 m c t a b)) ?_)
  have h := idx30 t
  have e : (win0_30.blk t).view.emb (ix2 a b) = ix2 (r128 t a) b := by blk_ext [h]
  rw [e]
  rfl

theorem final31 : (dats m 0 c).arrAt 31 cfg0.N = fun i => av (P3 m c (i 0) (i 1)) (P15 m c (i 0) (i 1)) := by
  refine (dats m 0 c).arrAt_eq_of_covers 31 _ (by decide +kernel) fun t hf y => ?_
  obtain ⟨a, b, rfl⟩ : ∃ (a : Fin 128) (b : Fin 1024), y = ix2 a b := ⟨y 0, y 1, eq_ix2 y⟩
  blk_simp
  rw [after0_31]
  refine (o31 _ _ _ _ _ _ _ _ _ _ _ _ _ _ _ _ a b).trans (Eq.trans (congr (congrArg av (g3 m c t a b)) (b15 m c t a b)) ?_)
  have h := idx31 t
  have e : (win0_31.blk t).view.emb (ix2 a b) = ix2 (r128 t a) b := by blk_ext [h]
  rw [e]
  rfl

end Cert.Kernel9Ideal.Val
end
-- ==== Proof.AdamAlg.lean ====
module

public import proofs.«01_k».proof.Defs
public import proofs.«01_k».proof.Proof.AdamVal
public import proofs.«01_k».proof.Proof.Gen.Reference9Ideal.Run
public import Idealize.ShloMosaic.Adequacy
public import Idealize.ShloMosaic.Init

@[expose] public section

set_option maxRecDepth 16384

noncomputable section

/-! The sums and the optimiser's step of four weights and their reference leave the same results. -/

namespace Cert.Adam4
open Idealize.ShloMosaic Idealize.ShloMosaic.TcCoe Idealize.SL.Sem
open Cert.Kernel9Ideal.Val Cert.Kernel9Ideal.Gen Cert.Opt
open scoped BigOperators

set_option maxHeartbeats 8000000 in
theorem algebraic : Cert.algebraic_Kernel9Ideal_Reference9Ideal := by
  pair_intro
  · run_from Cert.Kernel9Ideal.Val.run_blocks m g
  · run_from Cert.Reference9Ideal.Value.run m' g'
    · refine Eq.trans ?_ (Cert.Kernel9Ideal.Val.final16 m c).symm
      funext y
      obtain ⟨a, b, rfl⟩ : ∃ (a : Fin 1024) (b : Fin 512), y = ix2 a b := ⟨y 0, y 1, eq_ix2 y⟩
      show (_ : EReal) = _
      pointwise [P0, ad, am, av]
      all_goals rfl
    · refine Eq.trans ?_ (Cert.Kernel9Ideal.Val.final17 m c).symm
      funext y
      obtain ⟨a, b, rfl⟩ : ∃ (a : Fin 1024) (b : Fin 512), y = ix2 a b := ⟨y 0, y 1, eq_ix2 y⟩
      show (_ : EReal) = _
      pointwise [P0, ad, am, av]
      all_goals rfl
    · refine Eq.trans ?_ (Cert.Kernel9Ideal.Val.final18 m c).symm
      funext y
      obtain ⟨a, b, rfl⟩ : ∃ (a : Fin 1024) (b : Fin 512), y = ix2 a b := ⟨y 0, y 1, eq_ix2 y⟩
      show (_ : EReal) = _
      pointwise [P0, ad, am, av]
      all_goals rfl
    · refine Eq.trans ?_ (Cert.Kernel9Ideal.Val.final19 m c).symm
      funext y
      obtain ⟨a, b, rfl⟩ : ∃ (a : Fin 1024) (b : Fin 512), y = ix2 a b := ⟨y 0, y 1, eq_ix2 y⟩
      show (_ : EReal) = _
      pointwise [P0, ad, am, av]
      all_goals rfl
    · refine Eq.trans ?_ (Cert.Kernel9Ideal.Val.final20 m c).symm
      funext y
      obtain ⟨a, b, rfl⟩ : ∃ (a : Fin 128) (b : Fin 1024), y = ix2 a b := ⟨y 0, y 1, eq_ix2 y⟩
      show (_ : EReal) = _
      pointwise [P1, ad, am, av]
      all_goals rfl
    · refine Eq.trans ?_ (Cert.Kernel9Ideal.Val.final21 m c).symm
      funext y
      obtain ⟨a, b, rfl⟩ : ∃ (a : Fin 128) (b : Fin 1024), y = ix2 a b := ⟨y 0, y 1, eq_ix2 y⟩
      show (_ : EReal) = _
      pointwise [P1, ad, am, av]
      all_goals rfl
    · refine Eq.trans ?_ (Cert.Kernel9Ideal.Val.final22 m c).symm
      funext y
      obtain ⟨a, b, rfl⟩ : ∃ (a : Fin 128) (b : Fin 1024), y = ix2 a b := ⟨y 0, y 1, eq_ix2 y⟩
      show (_ : EReal) = _
      pointwise [P1, ad, am, av]
      all_goals rfl
    · refine Eq.trans ?_ (Cert.Kernel9Ideal.Val.final23 m c).symm
      funext y
      obtain ⟨a, b, rfl⟩ : ∃ (a : Fin 128) (b : Fin 1024), y = ix2 a b := ⟨y 0, y 1, eq_ix2 y⟩
      show (_ : EReal) = _
      pointwise [P1, ad, am, av]
      all_goals rfl
    · refine Eq.trans ?_ (Cert.Kernel9Ideal.Val.final24 m c).symm
      funext y
      obtain ⟨a, b, rfl⟩ : ∃ (a : Fin 128) (b : Fin 1024), y = ix2 a b := ⟨y 0, y 1, eq_ix2 y⟩
      show (_ : EReal) = _
      pointwise [P2, ad, am, av]
      all_goals rfl
    · refine Eq.trans ?_ (Cert.Kernel9Ideal.Val.final25 m c).symm
      funext y
      obtain ⟨a, b, rfl⟩ : ∃ (a : Fin 128) (b : Fin 1024), y = ix2 a b := ⟨y 0, y 1, eq_ix2 y⟩
      show (_ : EReal) = _
      pointwise [P2, ad, am, av]
      all_goals rfl
    · refine Eq.trans ?_ (Cert.Kernel9Ideal.Val.final26 m c).symm
      funext y
      obtain ⟨a, b, rfl⟩ : ∃ (a : Fin 128) (b : Fin 1024), y = ix2 a b := ⟨y 0, y 1, eq_ix2 y⟩
      show (_ : EReal) = _
      pointwise [P2, ad, am, av]
      all_goals rfl
    · refine Eq.trans ?_ (Cert.Kernel9Ideal.Val.final27 m c).symm
      funext y
      obtain ⟨a, b, rfl⟩ : ∃ (a : Fin 128) (b : Fin 1024), y = ix2 a b := ⟨y 0, y 1, eq_ix2 y⟩
      show (_ : EReal) = _
      pointwise [P2, ad, am, av]
      all_goals rfl
    · refine Eq.trans ?_ (Cert.Kernel9Ideal.Val.final28 m c).symm
      funext y
      obtain ⟨a, b, rfl⟩ : ∃ (a : Fin 512) (b : Fin 1024), y = ix2 a b := ⟨y 0, y 1, eq_ix2 y⟩
      show (_ : EReal) = _
      pointwise [P3, ad, am, av]
      all_goals rfl
    · refine Eq.trans ?_ (Cert.Kernel9Ideal.Val.final29 m c).symm
      funext y
      obtain ⟨a, b, rfl⟩ : ∃ (a : Fin 512) (b : Fin 1024), y = ix2 a b := ⟨y 0, y 1, eq_ix2 y⟩
      show (_ : EReal) = _
      pointwise [P3, ad, am, av]
      all_goals rfl
    · refine Eq.trans ?_ (Cert.Kernel9Ideal.Val.final30 m c).symm
      funext y
      obtain ⟨a, b, rfl⟩ : ∃ (a : Fin 512) (b : Fin 1024), y = ix2 a b := ⟨y 0, y 1, eq_ix2 y⟩
      show (_ : EReal) = _
      pointwise [P3, ad, am, av]
      all_goals rfl
    · refine Eq.trans ?_ (Cert.Kernel9Ideal.Val.final31 m c).symm
      funext y
      obtain ⟨a, b, rfl⟩ : ∃ (a : Fin 512) (b : Fin 1024), y = ix2 a b := ⟨y 0, y 1, eq_ix2 y⟩
      show (_ : EReal) = _
      pointwise [P3, ad, am, av]
      all_goals rfl

end Cert.Adam4
end
-- ==== Proof.lean ====
module

public import proofs.«01_k».proof.Defs
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Reference9Ideal.Run
public import proofs.«01_k».proof.Proof.MlpAlg
public import proofs.«01_k».proof.Proof.WgradAlg
public import proofs.«01_k».proof.Proof.InprojAlg
public import proofs.«01_k».proof.Proof.InbwdAlg
public import proofs.«01_k».proof.Proof.InwgAlg
public import proofs.«01_k».proof.Proof.MixAlg
public import proofs.«01_k».proof.Proof.SumAdam
public import proofs.«01_k».proof.Proof.AdamFrame
public import proofs.«01_k».proof.Proof.AdamFrameB
public import proofs.«01_k».proof.Proof.AdamAlg
public import Idealize.ShloMosaic.Adequacy
public import Idealize.ShloMosaic.Init
public import Idealize.ShloMosaic.Lib.Quiescent

@[expose] public section

noncomputable section

namespace Cert.Proof

open Idealize.ShloMosaic Idealize.SL.Sem

/-- The reference of the feed-forward call terminates, leaves its arguments unchanged, and has no counter. -/
theorem frame_Reference2Ideal : Cert.quiescent_Reference2Ideal := fun m ρ _ =>
  (θ_run _ _ _).mono (fun r h => ⟨fun c => (h c).2.2.2.2.2.2.2.2.2, sem_eq_zero_of_no_sems rfl _⟩)
    (Cert.Reference2Ideal.Value.run m ρ)

/-- The reference of the weights' gradients of the feed-forward call terminates, leaves its arguments unchanged, and
has no counter. -/
theorem frame_Reference3Ideal : Cert.quiescent_Reference3Ideal := fun m ρ _ =>
  (θ_run _ _ _).mono (fun r h => ⟨fun c => (h c).2.2, sem_eq_zero_of_no_sems rfl _⟩)
    (Cert.Reference3Ideal.Value.run m ρ)

/-- The reference of the gradient of the norm and the input projection terminates, leaves its arguments unchanged, and
has no counter. -/
theorem frame_Reference4Ideal : Cert.quiescent_Reference4Ideal := fun m ρ _ =>
  (θ_run _ _ _).mono (fun r h => ⟨fun c => (h c).2.2, sem_eq_zero_of_no_sems rfl _⟩)
    (Cert.Reference4Ideal.Value.run m ρ)

/-- The reference of the gradient of the input projection's weight terminates, leaves its arguments unchanged, and has no
counter. -/
theorem frame_Reference5Ideal : Cert.quiescent_Reference5Ideal := fun m ρ _ =>
  (θ_run _ _ _).mono (fun r h => ⟨fun c => (h c).2, sem_eq_zero_of_no_sems rfl _⟩)
    (Cert.Reference5Ideal.Value.run m ρ)

/-- The reference of the norm and the input projection terminates, leaves its arguments unchanged, and has no counter. -/
theorem frame_Reference6Ideal : Cert.quiescent_Reference6Ideal := fun m ρ _ =>
  (θ_run _ _ _).mono (fun r h => ⟨fun c => (h c).2.2.2, sem_eq_zero_of_no_sems rfl _⟩)
    (Cert.Reference6Ideal.Value.run m ρ)

/-- The reference of the gated mixer terminates, leaves its arguments unchanged, and has no counter. -/
theorem frame_Reference7Ideal : Cert.quiescent_Reference7Ideal := fun m ρ _ =>
  (θ_run _ _ _).mono (fun r h => ⟨fun c => (h c).2.2.2.2, sem_eq_zero_of_no_sems rfl _⟩)
    (Cert.Reference7Ideal.Value.run m ρ)

/-- The reference of the sums over the devices and the optimiser's step terminates, leaves its arguments unchanged, and
has no counter. -/
theorem frame_Reference8Ideal : Cert.quiescent_Reference8Ideal := fun m ρ _ =>
  (θ_run _ _ _).mono (fun r h => ⟨fun c => (h c).2.2.2.2.2.2.2.2, sem_eq_zero_of_no_sems rfl _⟩)
    (Cert.Reference8Ideal.Value.run m ρ)

/-- The reference of the sums over the devices and the optimiser's step of four weights terminates, leaves its arguments
unchanged, and has no counter. -/
theorem frame_Reference9Ideal : Cert.quiescent_Reference9Ideal := fun m ρ _ =>
  (θ_run _ _ _).mono (fun r h => ⟨fun c => (h c).2.2.2.2.2.2.2.2.2.2.2.2.2.2.2.2, sem_eq_zero_of_no_sems rfl _⟩)
    (Cert.Reference9Ideal.Value.run m ρ)

/-- Every claim of `Defs.lean`. -/
theorem claim : Cert.Claim :=
  ⟨Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Pre_finite2.Gen.facts, Cert.Pre_finite4.Gen.facts,
    fun m ρ _ => Cert.Kernel2.Gen.frame m ρ, fun m ρ _ => Cert.Kernel2Ideal.Gen.frame m ρ,
    fun m ρ _ => Cert.Kernel2Ideal.Gen.frame m ρ, frame_Reference2Ideal,
    fun m ρ _ => frame_Reference2Ideal m ρ trivial,
    fun m ρ _ => Cert.Kernel3.Gen.frame m ρ, fun m ρ _ => Cert.Kernel3Ideal.Gen.frame m ρ, frame_Reference3Ideal,
    fun m ρ _ => Cert.Kernel4.Gen.frame m ρ, fun m ρ _ => Cert.Kernel4Ideal.Gen.frame m ρ,
    fun m ρ _ => Cert.Kernel4Ideal.Gen.frame m ρ, frame_Reference4Ideal,
    fun m ρ _ => frame_Reference4Ideal m ρ trivial,
    fun m ρ _ => Cert.Kernel5.Gen.frame m ρ, fun m ρ _ => Cert.Kernel5Ideal.Gen.frame m ρ, frame_Reference5Ideal,
    fun m ρ _ => Cert.Kernel6.Gen.frame m ρ, fun m ρ _ => Cert.Kernel6Ideal.Gen.frame m ρ, frame_Reference6Ideal,
    fun m ρ _ => Cert.Kernel7.Gen.frame m ρ, fun m ρ _ => Cert.Kernel7Ideal.Gen.frame m ρ, frame_Reference7Ideal,
    fun m ρ _ => Cert.Kernel8.Gen.frame m ρ, fun m ρ _ => Cert.Kernel8Ideal.Gen.frame m ρ, frame_Reference8Ideal,
    fun m ρ _ => Cert.Kernel9.Gen.frame m ρ, fun m ρ _ => Cert.Kernel9Ideal.Gen.frame m ρ, frame_Reference9Ideal,
    trivial, Cert.Mlp.algebraic, trivial, Cert.Wgrad.algebraic, trivial, Cert.Inbwd.algebraic,
    trivial, Cert.Inwg.algebraic, trivial, Cert.Inproj.algebraic,
    trivial, Cert.Mix.algebraic, trivial, Cert.Adam.algebraic, trivial, Cert.Adam4.algebraic⟩

end Cert.Proof

end
